-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_scores [hPre_real_scores : Cert.Pre_real_scores.Facts] (m : (ℓ : Loc Cert.KernelIdeal.nD Cert.KernelIdeal.τ Cert.KernelIdeal.sig) → Buf (Elt Ideal) ℓ) : Prop :=
  ∀ c : Dev Cert.KernelIdeal.nD,
    (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_real_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_scores [hPre_real_scores : Cert.Pre_real_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_real_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_real_ba_weights [hPre_real_ba_weights : Cert.Pre_real_ba_weights.Facts] (m : (ℓ : Loc Cert.InprojIdeal.nD Cert.InprojIdeal.τ Cert.InprojIdeal.sig) → Buf (Elt Ideal) ℓ) : Prop :=
  ∀ c : Dev Cert.InprojIdeal.nD,
    (Cert.Pre_real_ba_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).1 = (fun _ => 1#1)
    ∧ (Cert.Pre_real_ba_weights.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3))).2 = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_real_ba_weights [hPre_real_ba_weights : Cert.Pre_real_ba_weights.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_real_ba_weights.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))).1 = (fun _ => 1#1)
    ∧ (Cert.Pre_real_ba_weights.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3))).2 = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_real_qk_weights [hPre_real_qk_weights : Cert.Pre_real_qk_weights.Facts] (m : (ℓ : Loc Cert.MidIdeal.nD Cert.MidIdeal.τ Cert.MidIdeal.sig) → Buf (Elt Ideal) ℓ) : Prop :=
  ∀ c : Dev Cert.MidIdeal.nD,
    (Cert.Pre_real_qk_weights.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).1 = (fun _ => 1#1)
    ∧ (Cert.Pre_real_qk_weights.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3)) (m ((c.tc : Thread Cert.MidIdeal.nD Cert.MidIdeal.τ).loc Cert.MidIdeal.main_arg4)) (m ((c.tc : Thread Cert.MidIdeal.nD Cert.MidIdeal.τ).loc Cert.MidIdeal.main_arg5)) (m ((c.tc : Thread Cert.MidIdeal.nD Cert.MidIdeal.τ).loc Cert.MidIdeal.main_arg6)) (m ((c.tc : Thread Cert.MidIdeal.nD Cert.MidIdeal.τ).loc Cert.MidIdeal.main_arg7))).2 = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_real_qk_weights [hPre_real_qk_weights : Cert.Pre_real_qk_weights.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_real_qk_weights.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).1 = (fun _ => 1#1)
    ∧ (Cert.Pre_real_qk_weights.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3)) (m ((c.tc : Thread Cert.MidRefIdeal.nD Cert.MidRefIdeal.τ).loc Cert.MidRefIdeal.main_arg4)) (m ((c.tc : Thread Cert.MidRefIdeal.nD Cert.MidRefIdeal.τ).loc Cert.MidRefIdeal.main_arg5)) (m ((c.tc : Thread Cert.MidRefIdeal.nD Cert.MidRefIdeal.τ).loc Cert.MidRefIdeal.main_arg6)) (m ((c.tc : Thread Cert.MidRefIdeal.nD Cert.MidRefIdeal.τ).loc Cert.MidRefIdeal.main_arg7))).2 = (fun _ => 1#1)

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleIdeal_real_ba_weights_sample [hPre_real_ba_weights_sample : Cert.Pre_real_ba_weights_sample.Facts] (m : (ℓ : Loc Cert.InprojSampleIdeal.nD Cert.InprojSampleIdeal.τ Cert.InprojSampleIdeal.sig) → Buf (Elt Ideal) ℓ) : Prop :=
  ∀ c : Dev Cert.InprojSampleIdeal.nD,
    (Cert.Pre_real_ba_weights_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3))).1 = (fun _ => 1#1)
    ∧ (Cert.Pre_real_ba_weights_sample.fn (F := Ideal) (m ((c.tc : Thread Cert.InprojSampleIdeal.nD Cert.InprojSampleIdeal.τ).loc Cert.InprojSampleIdeal.main_arg0)) (m ((c.tc : Thread Cert.InprojSampleIdeal.nD Cert.InprojSampleIdeal.τ).loc Cert.InprojSampleIdeal.main_arg1)) (m ((c.tc : Thread Cert.InprojSampleIdeal.nD Cert.InprojSampleIdeal.τ).loc Cert.InprojSampleIdeal.main_arg2)) (m ((c.tc : Thread Cert.InprojSampleIdeal.nD Cert.InprojSampleIdeal.τ).loc Cert.InprojSampleIdeal.main_arg3))).2 = (fun _ => 1#1)

def Pre_InprojSampleRefIdeal (m : (ℓ : Loc Cert.InprojSampleRefIdeal.nD Cert.InprojSampleRefIdeal.τ Cert.InprojSampleRefIdeal.sig) → Buf (Elt Ideal) ℓ) : Prop :=
  True

def Pre_InprojSampleRefIdeal_real_ba_weights_sample [hPre_real_ba_weights_sample : Cert.Pre_real_ba_weights_sample.Facts] (m : (ℓ : Loc Cert.InprojSampleRefIdeal.nD Cert.InprojSampleRefIdeal.τ Cert.InprojSampleRefIdeal.sig) → Buf (Elt Ideal) ℓ) : Prop :=
  ∀ c : Dev Cert.InprojSampleRefIdeal.nD,
    (Cert.Pre_real_ba_weights_sample.fn (F := Ideal) (m ((c.tc : Thread Cert.InprojSampleRefIdeal.nD Cert.InprojSampleRefIdeal.τ).loc Cert.InprojSampleRefIdeal.main_arg0)) (m ((c.tc : Thread Cert.InprojSampleRefIdeal.nD Cert.InprojSampleRefIdeal.τ).loc Cert.InprojSampleRefIdeal.main_arg1)) (m ((c.tc : Thread Cert.InprojSampleRefIdeal.nD Cert.InprojSampleRefIdeal.τ).loc Cert.InprojSampleRefIdeal.main_arg2)) (m ((c.tc : Thread Cert.InprojSampleRefIdeal.nD Cert.InprojSampleRefIdeal.τ).loc Cert.InprojSampleRefIdeal.main_arg3))).1 = (fun _ => 1#1)
    ∧ (Cert.Pre_real_ba_weights_sample.fn (F := Ideal) (m ((c.tc : Thread Cert.InprojSampleRefIdeal.nD Cert.InprojSampleRefIdeal.τ).loc Cert.InprojSampleRefIdeal.main_arg0)) (m ((c.tc : Thread Cert.InprojSampleRefIdeal.nD Cert.InprojSampleRefIdeal.τ).loc Cert.InprojSampleRefIdeal.main_arg1)) (m ((c.tc : Thread Cert.InprojSampleRefIdeal.nD Cert.InprojSampleRefIdeal.τ).loc Cert.InprojSampleRefIdeal.main_arg2)) (m ((c.tc : Thread Cert.InprojSampleRefIdeal.nD Cert.InprojSampleRefIdeal.τ).loc Cert.InprojSampleRefIdeal.main_arg3))).2 = (fun _ => 1#1)

def Pre_OutprojSample (m : (ℓ : Loc Cert.OutprojSample.nD Cert.OutprojSample.τ Cert.OutprojSample.sig) → Buf (Elt Bits) ℓ) : Prop :=
  True

def Pre_OutprojSampleIdeal (m : (ℓ : Loc Cert.OutprojSampleIdeal.nD Cert.OutprojSampleIdeal.τ Cert.OutprojSampleIdeal.sig) → Buf (Elt Ideal) ℓ) : Prop :=
  True

def Pre_OutprojSampleRefIdeal (m : (ℓ : Loc Cert.OutprojSampleRefIdeal.nD Cert.OutprojSampleRefIdeal.τ Cert.OutprojSampleRefIdeal.sig) → Buf (Elt Ideal) ℓ) : Prop :=
  True

def Pre_MidSample (m : (ℓ : Loc Cert.MidSample.nD Cert.MidSample.τ Cert.MidSample.sig) → Buf (Elt Bits) ℓ) : Prop :=
  True

def Pre_MidSampleIdeal (m : (ℓ : Loc Cert.MidSampleIdeal.nD Cert.MidSampleIdeal.τ Cert.MidSampleIdeal.sig) → Buf (Elt Ideal) ℓ) : Prop :=
  True

def Pre_MidSampleIdeal_real_qk_weights_sample [hPre_real_qk_weights_sample : Cert.Pre_real_qk_weights_sample.Facts] (m : (ℓ : Loc Cert.MidSampleIdeal.nD Cert.MidSampleIdeal.τ Cert.MidSampleIdeal.sig) → Buf (Elt Ideal) ℓ) : Prop :=
  ∀ c : Dev Cert.MidSampleIdeal.nD,
    (Cert.Pre_real_qk_weights_sample.fn (F := Ideal) (m ((c.tc : Thread Cert.MidSampleIdeal.nD Cert.MidSampleIdeal.τ).loc Cert.MidSampleIdeal.main_arg0)) (m ((c.tc : Thread Cert.MidSampleIdeal.nD Cert.MidSampleIdeal.τ).loc Cert.MidSampleIdeal.main_arg1)) (m ((c.tc : Thread Cert.MidSampleIdeal.nD Cert.MidSampleIdeal.τ).loc Cert.MidSampleIdeal.main_arg2)) (m ((c.tc : Thread Cert.MidSampleIdeal.nD Cert.MidSampleIdeal.τ).loc Cert.MidSampleIdeal.main_arg3)) (m ((c.tc : Thread Cert.MidSampleIdeal.nD Cert.MidSampleIdeal.τ).loc Cert.MidSampleIdeal.main_arg4)) (m ((c.tc : Thread Cert.MidSampleIdeal.nD Cert.MidSampleIdeal.τ).loc Cert.MidSampleIdeal.main_arg5)) (m ((c.tc : Thread Cert.MidSampleIdeal.nD Cert.MidSampleIdeal.τ).loc Cert.MidSampleIdeal.main_arg6)) (m ((c.tc : Thread Cert.MidSampleIdeal.nD Cert.MidSampleIdeal.τ).loc Cert.MidSampleIdeal.main_arg7)) (m ((c.tc : Thread Cert.MidSampleIdeal.nD Cert.MidSampleIdeal.τ).loc Cert.MidSampleIdeal.main_arg8)) (m ((c.tc : Thread Cert.MidSampleIdeal.nD Cert.MidSampleIdeal.τ).loc Cert.MidSampleIdeal.main_arg9))).1 = (fun _ => 1#1)
    ∧ (Cert.Pre_real_qk_weights_sample.fn (F := Ideal) (m ((c.tc : Thread Cert.MidSampleIdeal.nD Cert.MidSampleIdeal.τ).loc Cert.MidSampleIdeal.main_arg0)) (m ((c.tc : Thread Cert.MidSampleIdeal.nD Cert.MidSampleIdeal.τ).loc Cert.MidSampleIdeal.main_arg1)) (m ((c.tc : Thread Cert.MidSampleIdeal.nD Cert.MidSampleIdeal.τ).loc Cert.MidSampleIdeal.main_arg2)) (m ((c.tc : Thread Cert.MidSampleIdeal.nD Cert.MidSampleIdeal.τ).loc Cert.MidSampleIdeal.main_arg3)) (m ((c.tc : Thread Cert.MidSampleIdeal.nD Cert.MidSampleIdeal.τ).loc Cert.MidSampleIdeal.main_arg4)) (m ((c.tc : Thread Cert.MidSampleIdeal.nD Cert.MidSampleIdeal.τ).loc Cert.MidSampleIdeal.main_arg5)) (m ((c.tc : Thread Cert.MidSampleIdeal.nD Cert.MidSampleIdeal.τ).loc Cert.MidSampleIdeal.main_arg6)) (m ((c.tc : Thread Cert.MidSampleIdeal.nD Cert.MidSampleIdeal.τ).loc Cert.MidSampleIdeal.main_arg7)) (m ((c.tc : Thread Cert.MidSampleIdeal.nD Cert.MidSampleIdeal.τ).loc Cert.MidSampleIdeal.main_arg8)) (m ((c.tc : Thread Cert.MidSampleIdeal.nD Cert.MidSampleIdeal.τ).loc Cert.MidSampleIdeal.main_arg9))).2 = (fun _ => 1#1)

def Pre_MidSampleRefIdeal (m : (ℓ : Loc Cert.MidSampleRefIdeal.nD Cert.MidSampleRefIdeal.τ Cert.MidSampleRefIdeal.sig) → Buf (Elt Ideal) ℓ) : Prop :=
  True

def Pre_MidSampleRefIdeal_real_qk_weights_sample [hPre_real_qk_weights_sample : Cert.Pre_real_qk_weights_sample.Facts] (m : (ℓ : Loc Cert.MidSampleRefIdeal.nD Cert.MidSampleRefIdeal.τ Cert.MidSampleRefIdeal.sig) → Buf (Elt Ideal) ℓ) : Prop :=
  ∀ c : Dev Cert.MidSampleRefIdeal.nD,
    (Cert.Pre_real_qk_weights_sample.fn (F := Ideal) (m ((c.tc : Thread Cert.MidSampleRefIdeal.nD Cert.MidSampleRefIdeal.τ).loc Cert.MidSampleRefIdeal.main_arg0)) (m ((c.tc : Thread Cert.MidSampleRefIdeal.nD Cert.MidSampleRefIdeal.τ).loc Cert.MidSampleRefIdeal.main_arg1)) (m ((c.tc : Thread Cert.MidSampleRefIdeal.nD Cert.MidSampleRefIdeal.τ).loc Cert.MidSampleRefIdeal.main_arg2)) (m ((c.tc : Thread Cert.MidSampleRefIdeal.nD Cert.MidSampleRefIdeal.τ).loc Cert.MidSampleRefIdeal.main_arg3)) (m ((c.tc : Thread Cert.MidSampleRefIdeal.nD Cert.MidSampleRefIdeal.τ).loc Cert.MidSampleRefIdeal.main_arg4)) (m ((c.tc : Thread Cert.MidSampleRefIdeal.nD Cert.MidSampleRefIdeal.τ).loc Cert.MidSampleRefIdeal.main_arg5)) (m ((c.tc : Thread Cert.MidSampleRefIdeal.nD Cert.MidSampleRefIdeal.τ).loc Cert.MidSampleRefIdeal.main_arg6)) (m ((c.tc : Thread Cert.MidSampleRefIdeal.nD Cert.MidSampleRefIdeal.τ).loc Cert.MidSampleRefIdeal.main_arg7)) (m ((c.tc : Thread Cert.MidSampleRefIdeal.nD Cert.MidSampleRefIdeal.τ).loc Cert.MidSampleRefIdeal.main_arg8)) (m ((c.tc : Thread Cert.MidSampleRefIdeal.nD Cert.MidSampleRefIdeal.τ).loc Cert.MidSampleRefIdeal.main_arg9))).1 = (fun _ => 1#1)
    ∧ (Cert.Pre_real_qk_weights_sample.fn (F := Ideal) (m ((c.tc : Thread Cert.MidSampleRefIdeal.nD Cert.MidSampleRefIdeal.τ).loc Cert.MidSampleRefIdeal.main_arg0)) (m ((c.tc : Thread Cert.MidSampleRefIdeal.nD Cert.MidSampleRefIdeal.τ).loc Cert.MidSampleRefIdeal.main_arg1)) (m ((c.tc : Thread Cert.MidSampleRefIdeal.nD Cert.MidSampleRefIdeal.τ).loc Cert.MidSampleRefIdeal.main_arg2)) (m ((c.tc : Thread Cert.MidSampleRefIdeal.nD Cert.MidSampleRefIdeal.τ).loc Cert.MidSampleRefIdeal.main_arg3)) (m ((c.tc : Thread Cert.MidSampleRefIdeal.nD Cert.MidSampleRefIdeal.τ).loc Cert.MidSampleRefIdeal.main_arg4)) (m ((c.tc : Thread Cert.MidSampleRefIdeal.nD Cert.MidSampleRefIdeal.τ).loc Cert.MidSampleRefIdeal.main_arg5)) (m ((c.tc : Thread Cert.MidSampleRefIdeal.nD Cert.MidSampleRefIdeal.τ).loc Cert.MidSampleRefIdeal.main_arg6)) (m ((c.tc : Thread Cert.MidSampleRefIdeal.nD Cert.MidSampleRefIdeal.τ).loc Cert.MidSampleRefIdeal.main_arg7)) (m ((c.tc : Thread Cert.MidSampleRefIdeal.nD Cert.MidSampleRefIdeal.τ).loc Cert.MidSampleRefIdeal.main_arg8)) (m ((c.tc : Thread Cert.MidSampleRefIdeal.nD Cert.MidSampleRefIdeal.τ).loc Cert.MidSampleRefIdeal.main_arg9))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_real_scores [hKernelIdeal : Cert.KernelIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_real_scores [hReferenceIdeal : Cert.ReferenceIdeal.Facts] [hPre_real_scores : Cert.Pre_real_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojIdeal_pre_real_ba_weights [hInprojIdeal : Cert.InprojIdeal.Facts] [hPre_real_ba_weights : Cert.Pre_real_ba_weights.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_real_ba_weights m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_InprojRefIdeal_pre_real_ba_weights [hInprojRefIdeal : Cert.InprojRefIdeal.Facts] [hPre_real_ba_weights : Cert.Pre_real_ba_weights.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_real_ba_weights m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidIdeal_pre_real_qk_weights [hMidIdeal : Cert.MidIdeal.Facts] [hPre_real_qk_weights : Cert.Pre_real_qk_weights.Facts] : Prop :=
  ∀ (m : (ℓ : Loc Cert.MidIdeal.nD Cert.MidIdeal.τ Cert.MidIdeal.sig) → Buf (Elt Ideal) ℓ) (g : Dev Cert.MidIdeal.nD → PrngReg), Pre_MidIdeal_real_qk_weights m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_MidRefIdeal_pre_real_qk_weights [hMidRefIdeal : Cert.MidRefIdeal.Facts] [hPre_real_qk_weights : Cert.Pre_real_qk_weights.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_real_qk_weights m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3))
      ∧ r.2.sem = fun _ => 0)

def quiescent_InprojSampleIdeal_pre_real_ba_weights_sample [hInprojSampleIdeal : Cert.InprojSampleIdeal.Facts] [hPre_real_ba_weights_sample : Cert.Pre_real_ba_weights_sample.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal_real_ba_weights_sample m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3))
      ∧ r.2.sem = fun _ => 0)

def quiescent_InprojSampleRefIdeal_pre_real_ba_weights_sample [hInprojSampleRefIdeal : Cert.InprojSampleRefIdeal.Facts] [hPre_real_ba_weights_sample : Cert.Pre_real_ba_weights_sample.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal_real_ba_weights_sample m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3))
      ∧ r.2.sem = fun _ => 0)

def quiescent_OutprojSample [hOutprojSample : Cert.OutprojSample.Facts] : Prop :=
  ∀ (m : (ℓ : Loc Cert.OutprojSample.nD Cert.OutprojSample.τ Cert.OutprojSample.sig) → Buf (Elt Bits) ℓ) (g : Dev Cert.OutprojSample.nD → PrngReg), Pre_OutprojSample m →
    θ_run (Cert.OutprojSample.defs (F := Bits)) (onTc (τ := Cert.OutprojSample.τ) (Cert.OutprojSample.main (F := Bits))) ⟨m, fun _ => 0, g⟩ (fun r => (∀ c : Dev Cert.OutprojSample.nD,
      r.2.mem ((c.tc : Thread Cert.OutprojSample.nD Cert.OutprojSample.τ).loc Cert.OutprojSample.main_arg0) = m ((c.tc : Thread Cert.OutprojSample.nD Cert.OutprojSample.τ).loc Cert.OutprojSample.main_arg0)
      ∧ r.2.mem ((c.tc : Thread Cert.OutprojSample.nD Cert.OutprojSample.τ).loc Cert.OutprojSample.main_arg1) = m ((c.tc : Thread Cert.OutprojSample.nD Cert.OutprojSample.τ).loc Cert.OutprojSample.main_arg1)
      ∧ r.2.mem ((c.tc : Thread Cert.OutprojSample.nD Cert.OutprojSample.τ).loc Cert.OutprojSample.main_arg2) = m ((c.tc : Thread Cert.OutprojSample.nD Cert.OutprojSample.τ).loc Cert.OutprojSample.main_arg2))
      ∧ r.2.sem = fun _ => 0)

def quiescent_OutprojSampleIdeal [hOutprojSampleIdeal : Cert.OutprojSampleIdeal.Facts] : Prop :=
  ∀ (m : (ℓ : Loc Cert.OutprojSampleIdeal.nD Cert.OutprojSampleIdeal.τ Cert.OutprojSampleIdeal.sig) → Buf (Elt Ideal) ℓ) (g : Dev Cert.OutprojSampleIdeal.nD → PrngReg), Pre_OutprojSampleIdeal m →
    θ_run (Cert.OutprojSampleIdeal.defs (F := Ideal)) (onTc (τ := Cert.OutprojSampleIdeal.τ) (Cert.OutprojSampleIdeal.main (F := Ideal))) ⟨m, fun _ => 0, g⟩ (fun r => (∀ c : Dev Cert.OutprojSampleIdeal.nD,
      r.2.mem ((c.tc : Thread Cert.OutprojSampleIdeal.nD Cert.OutprojSampleIdeal.τ).loc Cert.OutprojSampleIdeal.main_arg0) = m ((c.tc : Thread Cert.OutprojSampleIdeal.nD Cert.OutprojSampleIdeal.τ).loc Cert.OutprojSampleIdeal.main_arg0)
      ∧ r.2.mem ((c.tc : Thread Cert.OutprojSampleIdeal.nD Cert.OutprojSampleIdeal.τ).loc Cert.OutprojSampleIdeal.main_arg1) = m ((c.tc : Thread Cert.OutprojSampleIdeal.nD Cert.OutprojSampleIdeal.τ).loc Cert.OutprojSampleIdeal.main_arg1)
      ∧ r.2.mem ((c.tc : Thread Cert.OutprojSampleIdeal.nD Cert.OutprojSampleIdeal.τ).loc Cert.OutprojSampleIdeal.main_arg2) = m ((c.tc : Thread Cert.OutprojSampleIdeal.nD Cert.OutprojSampleIdeal.τ).loc Cert.OutprojSampleIdeal.main_arg2))
      ∧ r.2.sem = fun _ => 0)

def quiescent_OutprojSampleRefIdeal [hOutprojSampleRefIdeal : Cert.OutprojSampleRefIdeal.Facts] : Prop :=
  ∀ (m : (ℓ : Loc Cert.OutprojSampleRefIdeal.nD Cert.OutprojSampleRefIdeal.τ Cert.OutprojSampleRefIdeal.sig) → Buf (Elt Ideal) ℓ) (g : Dev Cert.OutprojSampleRefIdeal.nD → PrngReg), Pre_OutprojSampleRefIdeal m →
    θ_run (Cert.OutprojSampleRefIdeal.defs (F := Ideal)) (onTc (τ := Cert.OutprojSampleRefIdeal.τ) (Cert.OutprojSampleRefIdeal.main (F := Ideal))) ⟨m, fun _ => 0, g⟩ (fun r => (∀ c : Dev Cert.OutprojSampleRefIdeal.nD,
      r.2.mem ((c.tc : Thread Cert.OutprojSampleRefIdeal.nD Cert.OutprojSampleRefIdeal.τ).loc Cert.OutprojSampleRefIdeal.main_arg0) = m ((c.tc : Thread Cert.OutprojSampleRefIdeal.nD Cert.OutprojSampleRefIdeal.τ).loc Cert.OutprojSampleRefIdeal.main_arg0)
      ∧ r.2.mem ((c.tc : Thread Cert.OutprojSampleRefIdeal.nD Cert.OutprojSampleRefIdeal.τ).loc Cert.OutprojSampleRefIdeal.main_arg1) = m ((c.tc : Thread Cert.OutprojSampleRefIdeal.nD Cert.OutprojSampleRefIdeal.τ).loc Cert.OutprojSampleRefIdeal.main_arg1)
      ∧ r.2.mem ((c.tc : Thread Cert.OutprojSampleRefIdeal.nD Cert.OutprojSampleRefIdeal.τ).loc Cert.OutprojSampleRefIdeal.main_arg2) = m ((c.tc : Thread Cert.OutprojSampleRefIdeal.nD Cert.OutprojSampleRefIdeal.τ).loc Cert.OutprojSampleRefIdeal.main_arg2))
      ∧ r.2.sem = fun _ => 0)

def quiescent_MidSample [hMidSample : Cert.MidSample.Facts] : Prop :=
  ∀ (m : (ℓ : Loc Cert.MidSample.nD Cert.MidSample.τ Cert.MidSample.sig) → Buf (Elt Bits) ℓ) (g : Dev Cert.MidSample.nD → PrngReg), Pre_MidSample m →
    θ_run (Cert.MidSample.defs (F := Bits)) (onTc (τ := Cert.MidSample.τ) (Cert.MidSample.main (F := Bits))) ⟨m, fun _ => 0, g⟩ (fun r => (∀ c : Dev Cert.MidSample.nD,
      r.2.mem ((c.tc : Thread Cert.MidSample.nD Cert.MidSample.τ).loc Cert.MidSample.main_arg0) = m ((c.tc : Thread Cert.MidSample.nD Cert.MidSample.τ).loc Cert.MidSample.main_arg0)
      ∧ r.2.mem ((c.tc : Thread Cert.MidSample.nD Cert.MidSample.τ).loc Cert.MidSample.main_arg1) = m ((c.tc : Thread Cert.MidSample.nD Cert.MidSample.τ).loc Cert.MidSample.main_arg1)
      ∧ r.2.mem ((c.tc : Thread Cert.MidSample.nD Cert.MidSample.τ).loc Cert.MidSample.main_arg2) = m ((c.tc : Thread Cert.MidSample.nD Cert.MidSample.τ).loc Cert.MidSample.main_arg2)
      ∧ r.2.mem ((c.tc : Thread Cert.MidSample.nD Cert.MidSample.τ).loc Cert.MidSample.main_arg3) = m ((c.tc : Thread Cert.MidSample.nD Cert.MidSample.τ).loc Cert.MidSample.main_arg3)
      ∧ r.2.mem ((c.tc : Thread Cert.MidSample.nD Cert.MidSample.τ).loc Cert.MidSample.main_arg4) = m ((c.tc : Thread Cert.MidSample.nD Cert.MidSample.τ).loc Cert.MidSample.main_arg4)
      ∧ r.2.mem ((c.tc : Thread Cert.MidSample.nD Cert.MidSample.τ).loc Cert.MidSample.main_arg5) = m ((c.tc : Thread Cert.MidSample.nD Cert.MidSample.τ).loc Cert.MidSample.main_arg5)
      ∧ r.2.mem ((c.tc : Thread Cert.MidSample.nD Cert.MidSample.τ).loc Cert.MidSample.main_arg6) = m ((c.tc : Thread Cert.MidSample.nD Cert.MidSample.τ).loc Cert.MidSample.main_arg6)
      ∧ r.2.mem ((c.tc : Thread Cert.MidSample.nD Cert.MidSample.τ).loc Cert.MidSample.main_arg7) = m ((c.tc : Thread Cert.MidSample.nD Cert.MidSample.τ).loc Cert.MidSample.main_arg7)
      ∧ r.2.mem ((c.tc : Thread Cert.MidSample.nD Cert.MidSample.τ).loc Cert.MidSample.main_arg8) = m ((c.tc : Thread Cert.MidSample.nD Cert.MidSample.τ).loc Cert.MidSample.main_arg8)
      ∧ r.2.mem ((c.tc : Thread Cert.MidSample.nD Cert.MidSample.τ).loc Cert.MidSample.main_arg9) = m ((c.tc : Thread Cert.MidSample.nD Cert.MidSample.τ).loc Cert.MidSample.main_arg9))
      ∧ r.2.sem = fun _ => 0)

def quiescent_MidSampleIdeal [hMidSampleIdeal : Cert.MidSampleIdeal.Facts] : Prop :=
  ∀ (m : (ℓ : Loc Cert.MidSampleIdeal.nD Cert.MidSampleIdeal.τ Cert.MidSampleIdeal.sig) → Buf (Elt Ideal) ℓ) (g : Dev Cert.MidSampleIdeal.nD → PrngReg), Pre_MidSampleIdeal m →
    θ_run (Cert.MidSampleIdeal.defs (F := Ideal)) (onTc (τ := Cert.MidSampleIdeal.τ) (Cert.MidSampleIdeal.main (F := Ideal))) ⟨m, fun _ => 0, g⟩ (fun r => (∀ c : Dev Cert.MidSampleIdeal.nD,
      r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
      ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
      ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
      ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
      ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
      ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
      ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
      ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
      ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
      ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ r.2.sem = fun _ => 0)

def quiescent_MidSampleIdeal_pre_real_qk_weights_sample [hMidSampleIdeal : Cert.MidSampleIdeal.Facts] [hPre_real_qk_weights_sample : Cert.Pre_real_qk_weights_sample.Facts] : Prop :=
  ∀ (m : (ℓ : Loc Cert.MidSampleIdeal.nD Cert.MidSampleIdeal.τ Cert.MidSampleIdeal.sig) → Buf (Elt Ideal) ℓ) (g : Dev Cert.MidSampleIdeal.nD → PrngReg), Pre_MidSampleIdeal_real_qk_weights_sample m →
    θ_run (Cert.MidSampleIdeal.defs (F := Ideal)) (onTc (τ := Cert.MidSampleIdeal.τ) (Cert.MidSampleIdeal.main (F := Ideal))) ⟨m, fun _ => 0, g⟩ (fun r => (∀ c : Dev Cert.MidSampleIdeal.nD,
      r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
      ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
      ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
      ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
      ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
      ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
      ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
      ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
      ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
      ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ r.2.sem = fun _ => 0)

def quiescent_MidSampleRefIdeal [hMidSampleRefIdeal : Cert.MidSampleRefIdeal.Facts] : Prop :=
  ∀ (m : (ℓ : Loc Cert.MidSampleRefIdeal.nD Cert.MidSampleRefIdeal.τ Cert.MidSampleRefIdeal.sig) → Buf (Elt Ideal) ℓ) (g : Dev Cert.MidSampleRefIdeal.nD → PrngReg), Pre_MidSampleRefIdeal m →
    θ_run (Cert.MidSampleRefIdeal.defs (F := Ideal)) (onTc (τ := Cert.MidSampleRefIdeal.τ) (Cert.MidSampleRefIdeal.main (F := Ideal))) ⟨m, fun _ => 0, g⟩ (fun r => (∀ c : Dev Cert.MidSampleRefIdeal.nD,
      r.2.mem ((c.tc : Thread Cert.MidSampleRefIdeal.nD Cert.MidSampleRefIdeal.τ).loc Cert.MidSampleRefIdeal.main_arg0) = m ((c.tc : Thread Cert.MidSampleRefIdeal.nD Cert.MidSampleRefIdeal.τ).loc Cert.MidSampleRefIdeal.main_arg0)
      ∧ r.2.mem ((c.tc : Thread Cert.MidSampleRefIdeal.nD Cert.MidSampleRefIdeal.τ).loc Cert.MidSampleRefIdeal.main_arg1) = m ((c.tc : Thread Cert.MidSampleRefIdeal.nD Cert.MidSampleRefIdeal.τ).loc Cert.MidSampleRefIdeal.main_arg1)
      ∧ r.2.mem ((c.tc : Thread Cert.MidSampleRefIdeal.nD Cert.MidSampleRefIdeal.τ).loc Cert.MidSampleRefIdeal.main_arg2) = m ((c.tc : Thread Cert.MidSampleRefIdeal.nD Cert.MidSampleRefIdeal.τ).loc Cert.MidSampleRefIdeal.main_arg2)
      ∧ r.2.mem ((c.tc : Thread Cert.MidSampleRefIdeal.nD Cert.MidSampleRefIdeal.τ).loc Cert.MidSampleRefIdeal.main_arg3) = m ((c.tc : Thread Cert.MidSampleRefIdeal.nD Cert.MidSampleRefIdeal.τ).loc Cert.MidSampleRefIdeal.main_arg3)
      ∧ r.2.mem ((c.tc : Thread Cert.MidSampleRefIdeal.nD Cert.MidSampleRefIdeal.τ).loc Cert.MidSampleRefIdeal.main_arg4) = m ((c.tc : Thread Cert.MidSampleRefIdeal.nD Cert.MidSampleRefIdeal.τ).loc Cert.MidSampleRefIdeal.main_arg4)
      ∧ r.2.mem ((c.tc : Thread Cert.MidSampleRefIdeal.nD Cert.MidSampleRefIdeal.τ).loc Cert.MidSampleRefIdeal.main_arg5) = m ((c.tc : Thread Cert.MidSampleRefIdeal.nD Cert.MidSampleRefIdeal.τ).loc Cert.MidSampleRefIdeal.main_arg5)
      ∧ r.2.mem ((c.tc : Thread Cert.MidSampleRefIdeal.nD Cert.MidSampleRefIdeal.τ).loc Cert.MidSampleRefIdeal.main_arg6) = m ((c.tc : Thread Cert.MidSampleRefIdeal.nD Cert.MidSampleRefIdeal.τ).loc Cert.MidSampleRefIdeal.main_arg6)
      ∧ r.2.mem ((c.tc : Thread Cert.MidSampleRefIdeal.nD Cert.MidSampleRefIdeal.τ).loc Cert.MidSampleRefIdeal.main_arg7) = m ((c.tc : Thread Cert.MidSampleRefIdeal.nD Cert.MidSampleRefIdeal.τ).loc Cert.MidSampleRefIdeal.main_arg7)
      ∧ r.2.mem ((c.tc : Thread Cert.MidSampleRefIdeal.nD Cert.MidSampleRefIdeal.τ).loc Cert.MidSampleRefIdeal.main_arg8) = m ((c.tc : Thread Cert.MidSampleRefIdeal.nD Cert.MidSampleRefIdeal.τ).loc Cert.MidSampleRefIdeal.main_arg8)
      ∧ r.2.mem ((c.tc : Thread Cert.MidSampleRefIdeal.nD Cert.MidSampleRefIdeal.τ).loc Cert.MidSampleRefIdeal.main_arg9) = m ((c.tc : Thread Cert.MidSampleRefIdeal.nD Cert.MidSampleRefIdeal.τ).loc Cert.MidSampleRefIdeal.main_arg9))
      ∧ r.2.sem = fun _ => 0)

def quiescent_MidSampleRefIdeal_pre_real_qk_weights_sample [hMidSampleRefIdeal : Cert.MidSampleRefIdeal.Facts] [hPre_real_qk_weights_sample : Cert.Pre_real_qk_weights_sample.Facts] : Prop :=
  ∀ (m : (ℓ : Loc Cert.MidSampleRefIdeal.nD Cert.MidSampleRefIdeal.τ Cert.MidSampleRefIdeal.sig) → Buf (Elt Ideal) ℓ) (g : Dev Cert.MidSampleRefIdeal.nD → PrngReg), Pre_MidSampleRefIdeal_real_qk_weights_sample m →
    θ_run (Cert.MidSampleRefIdeal.defs (F := Ideal)) (onTc (τ := Cert.MidSampleRefIdeal.τ) (Cert.MidSampleRefIdeal.main (F := Ideal))) ⟨m, fun _ => 0, g⟩ (fun r => (∀ c : Dev Cert.MidSampleRefIdeal.nD,
      r.2.mem ((c.tc : Thread Cert.MidSampleRefIdeal.nD Cert.MidSampleRefIdeal.τ).loc Cert.MidSampleRefIdeal.main_arg0) = m ((c.tc : Thread Cert.MidSampleRefIdeal.nD Cert.MidSampleRefIdeal.τ).loc Cert.MidSampleRefIdeal.main_arg0)
      ∧ r.2.mem ((c.tc : Thread Cert.MidSampleRefIdeal.nD Cert.MidSampleRefIdeal.τ).loc Cert.MidSampleRefIdeal.main_arg1) = m ((c.tc : Thread Cert.MidSampleRefIdeal.nD Cert.MidSampleRefIdeal.τ).loc Cert.MidSampleRefIdeal.main_arg1)
      ∧ r.2.mem ((c.tc : Thread Cert.MidSampleRefIdeal.nD Cert.MidSampleRefIdeal.τ).loc Cert.MidSampleRefIdeal.main_arg2) = m ((c.tc : Thread Cert.MidSampleRefIdeal.nD Cert.MidSampleRefIdeal.τ).loc Cert.MidSampleRefIdeal.main_arg2)
      ∧ r.2.mem ((c.tc : Thread Cert.MidSampleRefIdeal.nD Cert.MidSampleRefIdeal.τ).loc Cert.MidSampleRefIdeal.main_arg3) = m ((c.tc : Thread Cert.MidSampleRefIdeal.nD Cert.MidSampleRefIdeal.τ).loc Cert.MidSampleRefIdeal.main_arg3)
      ∧ r.2.mem ((c.tc : Thread Cert.MidSampleRefIdeal.nD Cert.MidSampleRefIdeal.τ).loc Cert.MidSampleRefIdeal.main_arg4) = m ((c.tc : Thread Cert.MidSampleRefIdeal.nD Cert.MidSampleRefIdeal.τ).loc Cert.MidSampleRefIdeal.main_arg4)
      ∧ r.2.mem ((c.tc : Thread Cert.MidSampleRefIdeal.nD Cert.MidSampleRefIdeal.τ).loc Cert.MidSampleRefIdeal.main_arg5) = m ((c.tc : Thread Cert.MidSampleRefIdeal.nD Cert.MidSampleRefIdeal.τ).loc Cert.MidSampleRefIdeal.main_arg5)
      ∧ r.2.mem ((c.tc : Thread Cert.MidSampleRefIdeal.nD Cert.MidSampleRefIdeal.τ).loc Cert.MidSampleRefIdeal.main_arg6) = m ((c.tc : Thread Cert.MidSampleRefIdeal.nD Cert.MidSampleRefIdeal.τ).loc Cert.MidSampleRefIdeal.main_arg6)
      ∧ r.2.mem ((c.tc : Thread Cert.MidSampleRefIdeal.nD Cert.MidSampleRefIdeal.τ).loc Cert.MidSampleRefIdeal.main_arg7) = m ((c.tc : Thread Cert.MidSampleRefIdeal.nD Cert.MidSampleRefIdeal.τ).loc Cert.MidSampleRefIdeal.main_arg7)
      ∧ r.2.mem ((c.tc : Thread Cert.MidSampleRefIdeal.nD Cert.MidSampleRefIdeal.τ).loc Cert.MidSampleRefIdeal.main_arg8) = m ((c.tc : Thread Cert.MidSampleRefIdeal.nD Cert.MidSampleRefIdeal.τ).loc Cert.MidSampleRefIdeal.main_arg8)
      ∧ r.2.mem ((c.tc : Thread Cert.MidSampleRefIdeal.nD Cert.MidSampleRefIdeal.τ).loc Cert.MidSampleRefIdeal.main_arg9) = m ((c.tc : Thread Cert.MidSampleRefIdeal.nD Cert.MidSampleRefIdeal.τ).loc Cert.MidSampleRefIdeal.main_arg9))
      ∧ r.2.sem = fun _ => 0)

def preserves_Kernel_KernelIdeal : Prop :=
  IdealRules.named_const.Statement Cert.KernelIdeal.κ "qscale" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_real_scores [hKernelIdeal : Cert.KernelIdeal.Facts] [hReferenceIdeal : Cert.ReferenceIdeal.Facts] [hPre_real_scores : Cert.Pre_real_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Inproj_InprojIdeal : Prop :=
  True

def algebraic_InprojIdeal_InprojRefIdeal_pre_real_ba_weights [hInprojIdeal : Cert.InprojIdeal.Facts] [hInprojRefIdeal : Cert.InprojRefIdeal.Facts] [hPre_real_ba_weights : Cert.Pre_real_ba_weights.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_real_ba_weights m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v13_0)) (v1 : (c : Dev Cert.InprojIdeal.nD) → Buf (Elt Ideal) ((c.tc : Thread Cert.InprojIdeal.nD Cert.InprojIdeal.τ).loc Cert.InprojIdeal.main_v13_1)) (v2 : (c : Dev Cert.InprojIdeal.nD) → Buf (Elt Ideal) ((c.tc : Thread Cert.InprojIdeal.nD Cert.InprojIdeal.τ).loc Cert.InprojIdeal.main_v13_2)) (v3 : (c : Dev Cert.InprojIdeal.nD) → Buf (Elt Ideal) ((c.tc : Thread Cert.InprojIdeal.nD Cert.InprojIdeal.τ).loc Cert.InprojIdeal.main_v13_3)) (v4 : (c : Dev Cert.InprojIdeal.nD) → Buf (Elt Ideal) ((c.tc : Thread Cert.InprojIdeal.nD Cert.InprojIdeal.τ).loc Cert.InprojIdeal.main_v13_4)) (v5 : (c : Dev Cert.InprojIdeal.nD) → Buf (Elt Ideal) ((c.tc : Thread Cert.InprojIdeal.nD Cert.InprojIdeal.τ).loc Cert.InprojIdeal.main_v13_5)) (v6 : (c : Dev Cert.InprojIdeal.nD) → Buf (Elt Ideal) ((c.tc : Thread Cert.InprojIdeal.nD Cert.InprojIdeal.τ).loc Cert.InprojIdeal.main_v13_6)) (v7 : (c : Dev Cert.InprojIdeal.nD) → Buf (Elt Ideal) ((c.tc : Thread Cert.InprojIdeal.nD Cert.InprojIdeal.τ).loc Cert.InprojIdeal.main_v13_7)) (v8 : (c : Dev Cert.InprojIdeal.nD) → Buf (Elt Ideal) ((c.tc : Thread Cert.InprojIdeal.nD Cert.InprojIdeal.τ).loc Cert.InprojIdeal.main_v13_8)) (v9 : (c : Dev Cert.InprojIdeal.nD) → Buf (Elt Ideal) ((c.tc : Thread Cert.InprojIdeal.nD Cert.InprojIdeal.τ).loc Cert.InprojIdeal.main_v16)) (v10 : (c : Dev Cert.InprojIdeal.nD) → Buf (Elt Ideal) ((c.tc : Thread Cert.InprojIdeal.nD Cert.InprojIdeal.τ).loc Cert.InprojIdeal.main_v19)) (v11 : (c : Dev Cert.InprojIdeal.nD) → Buf (Elt Ideal) ((c.tc : Thread Cert.InprojIdeal.nD Cert.InprojIdeal.τ).loc Cert.InprojIdeal.main_v21)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v13_0) = v0 c
          ∧ r.2.mem ((c.tc : Thread Cert.InprojIdeal.nD Cert.InprojIdeal.τ).loc Cert.InprojIdeal.main_v13_1) = v1 c
          ∧ r.2.mem ((c.tc : Thread Cert.InprojIdeal.nD Cert.InprojIdeal.τ).loc Cert.InprojIdeal.main_v13_2) = v2 c
          ∧ r.2.mem ((c.tc : Thread Cert.InprojIdeal.nD Cert.InprojIdeal.τ).loc Cert.InprojIdeal.main_v13_3) = v3 c
          ∧ r.2.mem ((c.tc : Thread Cert.InprojIdeal.nD Cert.InprojIdeal.τ).loc Cert.InprojIdeal.main_v13_4) = v4 c
          ∧ r.2.mem ((c.tc : Thread Cert.InprojIdeal.nD Cert.InprojIdeal.τ).loc Cert.InprojIdeal.main_v13_5) = v5 c
          ∧ r.2.mem ((c.tc : Thread Cert.InprojIdeal.nD Cert.InprojIdeal.τ).loc Cert.InprojIdeal.main_v13_6) = v6 c
          ∧ r.2.mem ((c.tc : Thread Cert.InprojIdeal.nD Cert.InprojIdeal.τ).loc Cert.InprojIdeal.main_v13_7) = v7 c
          ∧ r.2.mem ((c.tc : Thread Cert.InprojIdeal.nD Cert.InprojIdeal.τ).loc Cert.InprojIdeal.main_v13_8) = v8 c
          ∧ r.2.mem ((c.tc : Thread Cert.InprojIdeal.nD Cert.InprojIdeal.τ).loc Cert.InprojIdeal.main_v16) = v9 c
          ∧ r.2.mem ((c.tc : Thread Cert.InprojIdeal.nD Cert.InprojIdeal.τ).loc Cert.InprojIdeal.main_v19) = v10 c
          ∧ r.2.mem ((c.tc : Thread Cert.InprojIdeal.nD Cert.InprojIdeal.τ).loc Cert.InprojIdeal.main_v21) = v11 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v30) = v0 c
          ∧ r.2.mem ((c.tc : Thread Cert.InprojRefIdeal.nD Cert.InprojRefIdeal.τ).loc Cert.InprojRefIdeal.main_v32) = v1 c
          ∧ r.2.mem ((c.tc : Thread Cert.InprojRefIdeal.nD Cert.InprojRefIdeal.τ).loc Cert.InprojRefIdeal.main_v43) = v2 c
          ∧ r.2.mem ((c.tc : Thread Cert.InprojRefIdeal.nD Cert.InprojRefIdeal.τ).loc Cert.InprojRefIdeal.main_v36) = v3 c
          ∧ r.2.mem ((c.tc : Thread Cert.InprojRefIdeal.nD Cert.InprojRefIdeal.τ).loc Cert.InprojRefIdeal.main_v38) = v4 c
          ∧ r.2.mem ((c.tc : Thread Cert.InprojRefIdeal.nD Cert.InprojRefIdeal.τ).loc Cert.InprojRefIdeal.main_v40) = v5 c
          ∧ r.2.mem ((c.tc : Thread Cert.InprojRefIdeal.nD Cert.InprojRefIdeal.τ).loc Cert.InprojRefIdeal.main_v42) = v6 c
          ∧ r.2.mem ((c.tc : Thread Cert.InprojRefIdeal.nD Cert.InprojRefIdeal.τ).loc Cert.InprojRefIdeal.main_v44) = v7 c
          ∧ r.2.mem ((c.tc : Thread Cert.InprojRefIdeal.nD Cert.InprojRefIdeal.τ).loc Cert.InprojRefIdeal.main_v45) = v8 c
          ∧ r.2.mem ((c.tc : Thread Cert.InprojRefIdeal.nD Cert.InprojRefIdeal.τ).loc Cert.InprojRefIdeal.main_v46) = v9 c
          ∧ r.2.mem ((c.tc : Thread Cert.InprojRefIdeal.nD Cert.InprojRefIdeal.τ).loc Cert.InprojRefIdeal.main_v47) = v10 c
          ∧ r.2.mem ((c.tc : Thread Cert.InprojRefIdeal.nD Cert.InprojRefIdeal.τ).loc Cert.InprojRefIdeal.main_v50) = v11 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v6)) (v1 : (c : Dev Cert.OutprojIdeal.nD) → Buf (Elt Ideal) ((c.tc : Thread Cert.OutprojIdeal.nD Cert.OutprojIdeal.τ).loc Cert.OutprojIdeal.main_v8)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v6) = v0 c
          ∧ r.2.mem ((c.tc : Thread Cert.OutprojIdeal.nD Cert.OutprojIdeal.τ).loc Cert.OutprojIdeal.main_v8) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v3) = v0 c
          ∧ r.2.mem ((c.tc : Thread Cert.OutprojRefIdeal.nD Cert.OutprojRefIdeal.τ).loc Cert.OutprojRefIdeal.main_v4) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2))

def preserves_Mid_MidIdeal : Prop :=
  True

def algebraic_MidIdeal_MidRefIdeal_pre_real_qk_weights [hMidIdeal : Cert.MidIdeal.Facts] [hMidRefIdeal : Cert.MidRefIdeal.Facts] [hPre_real_qk_weights : Cert.Pre_real_qk_weights.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_real_qk_weights m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)) →
    ∃ (v0 : (c : Dev Cert.MidIdeal.nD) → Buf (Elt Ideal) ((c.tc : Thread Cert.MidIdeal.nD Cert.MidIdeal.τ).loc Cert.MidIdeal.main_v30_0)) (v1 : (c : Dev Cert.MidIdeal.nD) → Buf (Elt Ideal) ((c.tc : Thread Cert.MidIdeal.nD Cert.MidIdeal.τ).loc Cert.MidIdeal.main_v30_1)) (v2 : (c : Dev Cert.MidIdeal.nD) → Buf (Elt Ideal) ((c.tc : Thread Cert.MidIdeal.nD Cert.MidIdeal.τ).loc Cert.MidIdeal.main_v30_2)) (v3 : (c : Dev Cert.MidIdeal.nD) → Buf (Elt Ideal) ((c.tc : Thread Cert.MidIdeal.nD Cert.MidIdeal.τ).loc Cert.MidIdeal.main_v30_3)) (v4 : (c : Dev Cert.MidIdeal.nD) → Buf (Elt Ideal) ((c.tc : Thread Cert.MidIdeal.nD Cert.MidIdeal.τ).loc Cert.MidIdeal.main_v30_4)) (v5 : (c : Dev Cert.MidIdeal.nD) → Buf (Elt Ideal) ((c.tc : Thread Cert.MidIdeal.nD Cert.MidIdeal.τ).loc Cert.MidIdeal.main_v30_5)) (v6 : (c : Dev Cert.MidIdeal.nD) → Buf (Elt Ideal) ((c.tc : Thread Cert.MidIdeal.nD Cert.MidIdeal.τ).loc Cert.MidIdeal.main_v30_6)) (v7 : (c : Dev Cert.MidIdeal.nD) → Buf (Elt Ideal) ((c.tc : Thread Cert.MidIdeal.nD Cert.MidIdeal.τ).loc Cert.MidIdeal.main_v34)) (v8 : (c : Dev Cert.MidIdeal.nD) → Buf (Elt Ideal) ((c.tc : Thread Cert.MidIdeal.nD Cert.MidIdeal.τ).loc Cert.MidIdeal.main_v36)) (v9 : (c : Dev Cert.MidIdeal.nD) → Buf (Elt Ideal) ((c.tc : Thread Cert.MidIdeal.nD Cert.MidIdeal.τ).loc Cert.MidIdeal.main_v38)) (v10 : (c : Dev Cert.MidIdeal.nD) → Buf (Elt Ideal) ((c.tc : Thread Cert.MidIdeal.nD Cert.MidIdeal.τ).loc Cert.MidIdeal.main_v40)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v30_0) = v0 c
          ∧ r.2.mem ((c.tc : Thread Cert.MidIdeal.nD Cert.MidIdeal.τ).loc Cert.MidIdeal.main_v30_1) = v1 c
          ∧ r.2.mem ((c.tc : Thread Cert.MidIdeal.nD Cert.MidIdeal.τ).loc Cert.MidIdeal.main_v30_2) = v2 c
          ∧ r.2.mem ((c.tc : Thread Cert.MidIdeal.nD Cert.MidIdeal.τ).loc Cert.MidIdeal.main_v30_3) = v3 c
          ∧ r.2.mem ((c.tc : Thread Cert.MidIdeal.nD Cert.MidIdeal.τ).loc Cert.MidIdeal.main_v30_4) = v4 c
          ∧ r.2.mem ((c.tc : Thread Cert.MidIdeal.nD Cert.MidIdeal.τ).loc Cert.MidIdeal.main_v30_5) = v5 c
          ∧ r.2.mem ((c.tc : Thread Cert.MidIdeal.nD Cert.MidIdeal.τ).loc Cert.MidIdeal.main_v30_6) = v6 c
          ∧ r.2.mem ((c.tc : Thread Cert.MidIdeal.nD Cert.MidIdeal.τ).loc Cert.MidIdeal.main_v34) = v7 c
          ∧ r.2.mem ((c.tc : Thread Cert.MidIdeal.nD Cert.MidIdeal.τ).loc Cert.MidIdeal.main_v36) = v8 c
          ∧ r.2.mem ((c.tc : Thread Cert.MidIdeal.nD Cert.MidIdeal.τ).loc Cert.MidIdeal.main_v38) = v9 c
          ∧ r.2.mem ((c.tc : Thread Cert.MidIdeal.nD Cert.MidIdeal.τ).loc Cert.MidIdeal.main_v40) = v10 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v53) = v0 c
          ∧ r.2.mem ((c.tc : Thread Cert.MidRefIdeal.nD Cert.MidRefIdeal.τ).loc Cert.MidRefIdeal.main_v62) = v1 c
          ∧ r.2.mem ((c.tc : Thread Cert.MidRefIdeal.nD Cert.MidRefIdeal.τ).loc Cert.MidRefIdeal.main_v57) = v2 c
          ∧ r.2.mem ((c.tc : Thread Cert.MidRefIdeal.nD Cert.MidRefIdeal.τ).loc Cert.MidRefIdeal.main_v59) = v3 c
          ∧ r.2.mem ((c.tc : Thread Cert.MidRefIdeal.nD Cert.MidRefIdeal.τ).loc Cert.MidRefIdeal.main_v61) = v4 c
          ∧ r.2.mem ((c.tc : Thread Cert.MidRefIdeal.nD Cert.MidRefIdeal.τ).loc Cert.MidRefIdeal.main_v63) = v5 c
          ∧ r.2.mem ((c.tc : Thread Cert.MidRefIdeal.nD Cert.MidRefIdeal.τ).loc Cert.MidRefIdeal.main_v64) = v6 c
          ∧ r.2.mem ((c.tc : Thread Cert.MidRefIdeal.nD Cert.MidRefIdeal.τ).loc Cert.MidRefIdeal.main_v67) = v7 c
          ∧ r.2.mem ((c.tc : Thread Cert.MidRefIdeal.nD Cert.MidRefIdeal.τ).loc Cert.MidRefIdeal.main_v68) = v8 c
          ∧ r.2.mem ((c.tc : Thread Cert.MidRefIdeal.nD Cert.MidRefIdeal.τ).loc Cert.MidRefIdeal.main_v69) = v9 c
          ∧ r.2.mem ((c.tc : Thread Cert.MidRefIdeal.nD Cert.MidRefIdeal.τ).loc Cert.MidRefIdeal.main_v70) = v10 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7))

def preserves_InprojSample_InprojSampleIdeal : Prop :=
  True

def algebraic_InprojSampleIdeal_InprojSampleRefIdeal_pre_real_ba_weights_sample [hInprojSampleIdeal : Cert.InprojSampleIdeal.Facts] [hInprojSampleRefIdeal : Cert.InprojSampleRefIdeal.Facts] [hPre_real_ba_weights_sample : Cert.Pre_real_ba_weights_sample.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal_real_ba_weights_sample m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)
      ∧ m' ((c.tc : Thread Cert.InprojSampleRefIdeal.nD Cert.InprojSampleRefIdeal.τ).loc Cert.InprojSampleRefIdeal.main_arg3) = m ((c.tc : Thread Cert.InprojSampleIdeal.nD Cert.InprojSampleIdeal.τ).loc Cert.InprojSampleIdeal.main_arg3)) →
    ∃ (v0 : (c : Dev Cert.InprojSampleIdeal.nD) → Buf (Elt Ideal) ((c.tc : Thread Cert.InprojSampleIdeal.nD Cert.InprojSampleIdeal.τ).loc Cert.InprojSampleIdeal.main_v8_0)) (v1 : (c : Dev Cert.InprojSampleIdeal.nD) → Buf (Elt Ideal) ((c.tc : Thread Cert.InprojSampleIdeal.nD Cert.InprojSampleIdeal.τ).loc Cert.InprojSampleIdeal.main_v8_1)) (v2 : (c : Dev Cert.InprojSampleIdeal.nD) → Buf (Elt Ideal) ((c.tc : Thread Cert.InprojSampleIdeal.nD Cert.InprojSampleIdeal.τ).loc Cert.InprojSampleIdeal.main_v8_2)) (v3 : (c : Dev Cert.InprojSampleIdeal.nD) → Buf (Elt Ideal) ((c.tc : Thread Cert.InprojSampleIdeal.nD Cert.InprojSampleIdeal.τ).loc Cert.InprojSampleIdeal.main_v8_3)) (v4 : (c : Dev Cert.InprojSampleIdeal.nD) → Buf (Elt Ideal) ((c.tc : Thread Cert.InprojSampleIdeal.nD Cert.InprojSampleIdeal.τ).loc Cert.InprojSampleIdeal.main_v8_4)) (v5 : (c : Dev Cert.InprojSampleIdeal.nD) → Buf (Elt Ideal) ((c.tc : Thread Cert.InprojSampleIdeal.nD Cert.InprojSampleIdeal.τ).loc Cert.InprojSampleIdeal.main_v8_5)) (v6 : (c : Dev Cert.InprojSampleIdeal.nD) → Buf (Elt Ideal) ((c.tc : Thread Cert.InprojSampleIdeal.nD Cert.InprojSampleIdeal.τ).loc Cert.InprojSampleIdeal.main_v8_6)) (v7 : (c : Dev Cert.InprojSampleIdeal.nD) → Buf (Elt Ideal) ((c.tc : Thread Cert.InprojSampleIdeal.nD Cert.InprojSampleIdeal.τ).loc Cert.InprojSampleIdeal.main_v8_7)) (v8 : (c : Dev Cert.InprojSampleIdeal.nD) → Buf (Elt Ideal) ((c.tc : Thread Cert.InprojSampleIdeal.nD Cert.InprojSampleIdeal.τ).loc Cert.InprojSampleIdeal.main_v8_8)) (v9 : (c : Dev Cert.InprojSampleIdeal.nD) → Buf (Elt Ideal) ((c.tc : Thread Cert.InprojSampleIdeal.nD Cert.InprojSampleIdeal.τ).loc Cert.InprojSampleIdeal.main_v10)) (v10 : (c : Dev Cert.InprojSampleIdeal.nD) → Buf (Elt Ideal) ((c.tc : Thread Cert.InprojSampleIdeal.nD Cert.InprojSampleIdeal.τ).loc Cert.InprojSampleIdeal.main_v12)) (v11 : (c : Dev Cert.InprojSampleIdeal.nD) → Buf (Elt Ideal) ((c.tc : Thread Cert.InprojSampleIdeal.nD Cert.InprojSampleIdeal.τ).loc Cert.InprojSampleIdeal.main_v15)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v8_0) = v0 c
          ∧ r.2.mem ((c.tc : Thread Cert.InprojSampleIdeal.nD Cert.InprojSampleIdeal.τ).loc Cert.InprojSampleIdeal.main_v8_1) = v1 c
          ∧ r.2.mem ((c.tc : Thread Cert.InprojSampleIdeal.nD Cert.InprojSampleIdeal.τ).loc Cert.InprojSampleIdeal.main_v8_2) = v2 c
          ∧ r.2.mem ((c.tc : Thread Cert.InprojSampleIdeal.nD Cert.InprojSampleIdeal.τ).loc Cert.InprojSampleIdeal.main_v8_3) = v3 c
          ∧ r.2.mem ((c.tc : Thread Cert.InprojSampleIdeal.nD Cert.InprojSampleIdeal.τ).loc Cert.InprojSampleIdeal.main_v8_4) = v4 c
          ∧ r.2.mem ((c.tc : Thread Cert.InprojSampleIdeal.nD Cert.InprojSampleIdeal.τ).loc Cert.InprojSampleIdeal.main_v8_5) = v5 c
          ∧ r.2.mem ((c.tc : Thread Cert.InprojSampleIdeal.nD Cert.InprojSampleIdeal.τ).loc Cert.InprojSampleIdeal.main_v8_6) = v6 c
          ∧ r.2.mem ((c.tc : Thread Cert.InprojSampleIdeal.nD Cert.InprojSampleIdeal.τ).loc Cert.InprojSampleIdeal.main_v8_7) = v7 c
          ∧ r.2.mem ((c.tc : Thread Cert.InprojSampleIdeal.nD Cert.InprojSampleIdeal.τ).loc Cert.InprojSampleIdeal.main_v8_8) = v8 c
          ∧ r.2.mem ((c.tc : Thread Cert.InprojSampleIdeal.nD Cert.InprojSampleIdeal.τ).loc Cert.InprojSampleIdeal.main_v10) = v9 c
          ∧ r.2.mem ((c.tc : Thread Cert.InprojSampleIdeal.nD Cert.InprojSampleIdeal.τ).loc Cert.InprojSampleIdeal.main_v12) = v10 c
          ∧ r.2.mem ((c.tc : Thread Cert.InprojSampleIdeal.nD Cert.InprojSampleIdeal.τ).loc Cert.InprojSampleIdeal.main_v15) = v11 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v26) = v0 c
          ∧ r.2.mem ((c.tc : Thread Cert.InprojSampleRefIdeal.nD Cert.InprojSampleRefIdeal.τ).loc Cert.InprojSampleRefIdeal.main_v27) = v1 c
          ∧ r.2.mem ((c.tc : Thread Cert.InprojSampleRefIdeal.nD Cert.InprojSampleRefIdeal.τ).loc Cert.InprojSampleRefIdeal.main_v33) = v2 c
          ∧ r.2.mem ((c.tc : Thread Cert.InprojSampleRefIdeal.nD Cert.InprojSampleRefIdeal.τ).loc Cert.InprojSampleRefIdeal.main_v29) = v3 c
          ∧ r.2.mem ((c.tc : Thread Cert.InprojSampleRefIdeal.nD Cert.InprojSampleRefIdeal.τ).loc Cert.InprojSampleRefIdeal.main_v30) = v4 c
          ∧ r.2.mem ((c.tc : Thread Cert.InprojSampleRefIdeal.nD Cert.InprojSampleRefIdeal.τ).loc Cert.InprojSampleRefIdeal.main_v31) = v5 c
          ∧ r.2.mem ((c.tc : Thread Cert.InprojSampleRefIdeal.nD Cert.InprojSampleRefIdeal.τ).loc Cert.InprojSampleRefIdeal.main_v32) = v6 c
          ∧ r.2.mem ((c.tc : Thread Cert.InprojSampleRefIdeal.nD Cert.InprojSampleRefIdeal.τ).loc Cert.InprojSampleRefIdeal.main_v34) = v7 c
          ∧ r.2.mem ((c.tc : Thread Cert.InprojSampleRefIdeal.nD Cert.InprojSampleRefIdeal.τ).loc Cert.InprojSampleRefIdeal.main_v35) = v8 c
          ∧ r.2.mem ((c.tc : Thread Cert.InprojSampleRefIdeal.nD Cert.InprojSampleRefIdeal.τ).loc Cert.InprojSampleRefIdeal.main_v36) = v9 c
          ∧ r.2.mem ((c.tc : Thread Cert.InprojSampleRefIdeal.nD Cert.InprojSampleRefIdeal.τ).loc Cert.InprojSampleRefIdeal.main_v37) = v10 c
          ∧ r.2.mem ((c.tc : Thread Cert.InprojSampleRefIdeal.nD Cert.InprojSampleRefIdeal.τ).loc Cert.InprojSampleRefIdeal.main_v40) = v11 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2)
          ∧ r.2.mem ((c.tc : Thread Cert.InprojSampleRefIdeal.nD Cert.InprojSampleRefIdeal.τ).loc Cert.InprojSampleRefIdeal.main_arg3) = m' ((c.tc : Thread Cert.InprojSampleRefIdeal.nD Cert.InprojSampleRefIdeal.τ).loc Cert.InprojSampleRefIdeal.main_arg3))

def preserves_OutprojSample_OutprojSampleIdeal : Prop :=
  True

def algebraic_OutprojSampleIdeal_OutprojSampleRefIdeal [hOutprojSampleIdeal : Cert.OutprojSampleIdeal.Facts] [hOutprojSampleRefIdeal : Cert.OutprojSampleRefIdeal.Facts] : Prop :=
  ∀ (m : (ℓ : Loc Cert.OutprojSampleIdeal.nD Cert.OutprojSampleIdeal.τ Cert.OutprojSampleIdeal.sig) → Buf (Elt Ideal) ℓ) (g : Dev Cert.OutprojSampleIdeal.nD → PrngReg)
    (m' : (ℓ : Loc Cert.OutprojSampleRefIdeal.nD Cert.OutprojSampleRefIdeal.τ Cert.OutprojSampleRefIdeal.sig) → Buf (Elt Ideal) ℓ) (g' : Dev Cert.OutprojSampleRefIdeal.nD → PrngReg), Pre_OutprojSampleIdeal m →
    (∀ c : Dev Cert.OutprojSampleIdeal.nD,
      m' ((c.tc : Thread Cert.OutprojSampleRefIdeal.nD Cert.OutprojSampleRefIdeal.τ).loc Cert.OutprojSampleRefIdeal.main_arg0) = m ((c.tc : Thread Cert.OutprojSampleIdeal.nD Cert.OutprojSampleIdeal.τ).loc Cert.OutprojSampleIdeal.main_arg0)
      ∧ m' ((c.tc : Thread Cert.OutprojSampleRefIdeal.nD Cert.OutprojSampleRefIdeal.τ).loc Cert.OutprojSampleRefIdeal.main_arg1) = m ((c.tc : Thread Cert.OutprojSampleIdeal.nD Cert.OutprojSampleIdeal.τ).loc Cert.OutprojSampleIdeal.main_arg1)
      ∧ m' ((c.tc : Thread Cert.OutprojSampleRefIdeal.nD Cert.OutprojSampleRefIdeal.τ).loc Cert.OutprojSampleRefIdeal.main_arg2) = m ((c.tc : Thread Cert.OutprojSampleIdeal.nD Cert.OutprojSampleIdeal.τ).loc Cert.OutprojSampleIdeal.main_arg2)) →
    ∃ (v0 : (c : Dev Cert.OutprojSampleIdeal.nD) → Buf (Elt Ideal) ((c.tc : Thread Cert.OutprojSampleIdeal.nD Cert.OutprojSampleIdeal.τ).loc Cert.OutprojSampleIdeal.main_v4)) (v1 : (c : Dev Cert.OutprojSampleIdeal.nD) → Buf (Elt Ideal) ((c.tc : Thread Cert.OutprojSampleIdeal.nD Cert.OutprojSampleIdeal.τ).loc Cert.OutprojSampleIdeal.main_v5)),
      θ_run (Cert.OutprojSampleIdeal.defs (F := Ideal)) (onTc (τ := Cert.OutprojSampleIdeal.τ) (Cert.OutprojSampleIdeal.main (F := Ideal))) ⟨m, fun _ => 0, g⟩ (fun r => ∀ c : Dev Cert.OutprojSampleIdeal.nD,
          r.2.mem ((c.tc : Thread Cert.OutprojSampleIdeal.nD Cert.OutprojSampleIdeal.τ).loc Cert.OutprojSampleIdeal.main_v4) = v0 c
          ∧ r.2.mem ((c.tc : Thread Cert.OutprojSampleIdeal.nD Cert.OutprojSampleIdeal.τ).loc Cert.OutprojSampleIdeal.main_v5) = v1 c
          ∧ r.2.mem ((c.tc : Thread Cert.OutprojSampleIdeal.nD Cert.OutprojSampleIdeal.τ).loc Cert.OutprojSampleIdeal.main_arg0) = m ((c.tc : Thread Cert.OutprojSampleIdeal.nD Cert.OutprojSampleIdeal.τ).loc Cert.OutprojSampleIdeal.main_arg0)
          ∧ r.2.mem ((c.tc : Thread Cert.OutprojSampleIdeal.nD Cert.OutprojSampleIdeal.τ).loc Cert.OutprojSampleIdeal.main_arg1) = m ((c.tc : Thread Cert.OutprojSampleIdeal.nD Cert.OutprojSampleIdeal.τ).loc Cert.OutprojSampleIdeal.main_arg1)
          ∧ r.2.mem ((c.tc : Thread Cert.OutprojSampleIdeal.nD Cert.OutprojSampleIdeal.τ).loc Cert.OutprojSampleIdeal.main_arg2) = m ((c.tc : Thread Cert.OutprojSampleIdeal.nD Cert.OutprojSampleIdeal.τ).loc Cert.OutprojSampleIdeal.main_arg2))
      ∧ θ_run (Cert.OutprojSampleRefIdeal.defs (F := Ideal)) (onTc (τ := Cert.OutprojSampleRefIdeal.τ) (Cert.OutprojSampleRefIdeal.main (F := Ideal))) ⟨m', fun _ => 0, g'⟩ (fun r => ∀ c : Dev Cert.OutprojSampleRefIdeal.nD,
          r.2.mem ((c.tc : Thread Cert.OutprojSampleRefIdeal.nD Cert.OutprojSampleRefIdeal.τ).loc Cert.OutprojSampleRefIdeal.main_v2) = v0 c
          ∧ r.2.mem ((c.tc : Thread Cert.OutprojSampleRefIdeal.nD Cert.OutprojSampleRefIdeal.τ).loc Cert.OutprojSampleRefIdeal.main_v1) = v1 c
          ∧ r.2.mem ((c.tc : Thread Cert.OutprojSampleRefIdeal.nD Cert.OutprojSampleRefIdeal.τ).loc Cert.OutprojSampleRefIdeal.main_arg0) = m' ((c.tc : Thread Cert.OutprojSampleRefIdeal.nD Cert.OutprojSampleRefIdeal.τ).loc Cert.OutprojSampleRefIdeal.main_arg0)
          ∧ r.2.mem ((c.tc : Thread Cert.OutprojSampleRefIdeal.nD Cert.OutprojSampleRefIdeal.τ).loc Cert.OutprojSampleRefIdeal.main_arg1) = m' ((c.tc : Thread Cert.OutprojSampleRefIdeal.nD Cert.OutprojSampleRefIdeal.τ).loc Cert.OutprojSampleRefIdeal.main_arg1)
          ∧ r.2.mem ((c.tc : Thread Cert.OutprojSampleRefIdeal.nD Cert.OutprojSampleRefIdeal.τ).loc Cert.OutprojSampleRefIdeal.main_arg2) = m' ((c.tc : Thread Cert.OutprojSampleRefIdeal.nD Cert.OutprojSampleRefIdeal.τ).loc Cert.OutprojSampleRefIdeal.main_arg2))

def preserves_MidSample_MidSampleIdeal : Prop :=
  True

def algebraic_MidSampleIdeal_MidSampleRefIdeal_pre_real_qk_weights_sample [hMidSampleIdeal : Cert.MidSampleIdeal.Facts] [hMidSampleRefIdeal : Cert.MidSampleRefIdeal.Facts] [hPre_real_qk_weights_sample : Cert.Pre_real_qk_weights_sample.Facts] : Prop :=
  ∀ (m : (ℓ : Loc Cert.MidSampleIdeal.nD Cert.MidSampleIdeal.τ Cert.MidSampleIdeal.sig) → Buf (Elt Ideal) ℓ) (g : Dev Cert.MidSampleIdeal.nD → PrngReg)
    (m' : (ℓ : Loc Cert.MidSampleRefIdeal.nD Cert.MidSampleRefIdeal.τ Cert.MidSampleRefIdeal.sig) → Buf (Elt Ideal) ℓ) (g' : Dev Cert.MidSampleRefIdeal.nD → PrngReg), Pre_MidSampleIdeal_real_qk_weights_sample m →
    (∀ c : Dev Cert.MidSampleIdeal.nD,
      m' ((c.tc : Thread Cert.MidSampleRefIdeal.nD Cert.MidSampleRefIdeal.τ).loc Cert.MidSampleRefIdeal.main_arg0) = m ((c.tc : Thread Cert.MidSampleIdeal.nD Cert.MidSampleIdeal.τ).loc Cert.MidSampleIdeal.main_arg0)
      ∧ m' ((c.tc : Thread Cert.MidSampleRefIdeal.nD Cert.MidSampleRefIdeal.τ).loc Cert.MidSampleRefIdeal.main_arg1) = m ((c.tc : Thread Cert.MidSampleIdeal.nD Cert.MidSampleIdeal.τ).loc Cert.MidSampleIdeal.main_arg1)
      ∧ m' ((c.tc : Thread Cert.MidSampleRefIdeal.nD Cert.MidSampleRefIdeal.τ).loc Cert.MidSampleRefIdeal.main_arg2) = m ((c.tc : Thread Cert.MidSampleIdeal.nD Cert.MidSampleIdeal.τ).loc Cert.MidSampleIdeal.main_arg2)
      ∧ m' ((c.tc : Thread Cert.MidSampleRefIdeal.nD Cert.MidSampleRefIdeal.τ).loc Cert.MidSampleRefIdeal.main_arg3) = m ((c.tc : Thread Cert.MidSampleIdeal.nD Cert.MidSampleIdeal.τ).loc Cert.MidSampleIdeal.main_arg3)
      ∧ m' ((c.tc : Thread Cert.MidSampleRefIdeal.nD Cert.MidSampleRefIdeal.τ).loc Cert.MidSampleRefIdeal.main_arg4) = m ((c.tc : Thread Cert.MidSampleIdeal.nD Cert.MidSampleIdeal.τ).loc Cert.MidSampleIdeal.main_arg4)
      ∧ m' ((c.tc : Thread Cert.MidSampleRefIdeal.nD Cert.MidSampleRefIdeal.τ).loc Cert.MidSampleRefIdeal.main_arg5) = m ((c.tc : Thread Cert.MidSampleIdeal.nD Cert.MidSampleIdeal.τ).loc Cert.MidSampleIdeal.main_arg5)
      ∧ m' ((c.tc : Thread Cert.MidSampleRefIdeal.nD Cert.MidSampleRefIdeal.τ).loc Cert.MidSampleRefIdeal.main_arg6) = m ((c.tc : Thread Cert.MidSampleIdeal.nD Cert.MidSampleIdeal.τ).loc Cert.MidSampleIdeal.main_arg6)
      ∧ m' ((c.tc : Thread Cert.MidSampleRefIdeal.nD Cert.MidSampleRefIdeal.τ).loc Cert.MidSampleRefIdeal.main_arg7) = m ((c.tc : Thread Cert.MidSampleIdeal.nD Cert.MidSampleIdeal.τ).loc Cert.MidSampleIdeal.main_arg7)
      ∧ m' ((c.tc : Thread Cert.MidSampleRefIdeal.nD Cert.MidSampleRefIdeal.τ).loc Cert.MidSampleRefIdeal.main_arg8) = m ((c.tc : Thread Cert.MidSampleIdeal.nD Cert.MidSampleIdeal.τ).loc Cert.MidSampleIdeal.main_arg8)
      ∧ m' ((c.tc : Thread Cert.MidSampleRefIdeal.nD Cert.MidSampleRefIdeal.τ).loc Cert.MidSampleRefIdeal.main_arg9) = m ((c.tc : Thread Cert.MidSampleIdeal.nD Cert.MidSampleIdeal.τ).loc Cert.MidSampleIdeal.main_arg9)) →
    ∃ (v0 : (c : Dev Cert.MidSampleIdeal.nD) → Buf (Elt Ideal) ((c.tc : Thread Cert.MidSampleIdeal.nD Cert.MidSampleIdeal.τ).loc Cert.MidSampleIdeal.main_v27_0)) (v1 : (c : Dev Cert.MidSampleIdeal.nD) → Buf (Elt Ideal) ((c.tc : Thread Cert.MidSampleIdeal.nD Cert.MidSampleIdeal.τ).loc Cert.MidSampleIdeal.main_v27_1)) (v2 : (c : Dev Cert.MidSampleIdeal.nD) → Buf (Elt Ideal) ((c.tc : Thread Cert.MidSampleIdeal.nD Cert.MidSampleIdeal.τ).loc Cert.MidSampleIdeal.main_v27_2)) (v3 : (c : Dev Cert.MidSampleIdeal.nD) → Buf (Elt Ideal) ((c.tc : Thread Cert.MidSampleIdeal.nD Cert.MidSampleIdeal.τ).loc Cert.MidSampleIdeal.main_v27_3)) (v4 : (c : Dev Cert.MidSampleIdeal.nD) → Buf (Elt Ideal) ((c.tc : Thread Cert.MidSampleIdeal.nD Cert.MidSampleIdeal.τ).loc Cert.MidSampleIdeal.main_v27_4)) (v5 : (c : Dev Cert.MidSampleIdeal.nD) → Buf (Elt Ideal) ((c.tc : Thread Cert.MidSampleIdeal.nD Cert.MidSampleIdeal.τ).loc Cert.MidSampleIdeal.main_v27_5)) (v6 : (c : Dev Cert.MidSampleIdeal.nD) → Buf (Elt Ideal) ((c.tc : Thread Cert.MidSampleIdeal.nD Cert.MidSampleIdeal.τ).loc Cert.MidSampleIdeal.main_v27_6)) (v7 : (c : Dev Cert.MidSampleIdeal.nD) → Buf (Elt Ideal) ((c.tc : Thread Cert.MidSampleIdeal.nD Cert.MidSampleIdeal.τ).loc Cert.MidSampleIdeal.main_v31)) (v8 : (c : Dev Cert.MidSampleIdeal.nD) → Buf (Elt Ideal) ((c.tc : Thread Cert.MidSampleIdeal.nD Cert.MidSampleIdeal.τ).loc Cert.MidSampleIdeal.main_v35)),
      θ_run (Cert.MidSampleIdeal.defs (F := Ideal)) (onTc (τ := Cert.MidSampleIdeal.τ) (Cert.MidSampleIdeal.main (F := Ideal))) ⟨m, fun _ => 0, g⟩ (fun r => ∀ c : Dev Cert.MidSampleIdeal.nD,
          r.2.mem ((c.tc : Thread Cert.MidSampleIdeal.nD Cert.MidSampleIdeal.τ).loc Cert.MidSampleIdeal.main_v27_0) = v0 c
          ∧ r.2.mem ((c.tc : Thread Cert.MidSampleIdeal.nD Cert.MidSampleIdeal.τ).loc Cert.MidSampleIdeal.main_v27_1) = v1 c
          ∧ r.2.mem ((c.tc : Thread Cert.MidSampleIdeal.nD Cert.MidSampleIdeal.τ).loc Cert.MidSampleIdeal.main_v27_2) = v2 c
          ∧ r.2.mem ((c.tc : Thread Cert.MidSampleIdeal.nD Cert.MidSampleIdeal.τ).loc Cert.MidSampleIdeal.main_v27_3) = v3 c
          ∧ r.2.mem ((c.tc : Thread Cert.MidSampleIdeal.nD Cert.MidSampleIdeal.τ).loc Cert.MidSampleIdeal.main_v27_4) = v4 c
          ∧ r.2.mem ((c.tc : Thread Cert.MidSampleIdeal.nD Cert.MidSampleIdeal.τ).loc Cert.MidSampleIdeal.main_v27_5) = v5 c
          ∧ r.2.mem ((c.tc : Thread Cert.MidSampleIdeal.nD Cert.MidSampleIdeal.τ).loc Cert.MidSampleIdeal.main_v27_6) = v6 c
          ∧ r.2.mem ((c.tc : Thread Cert.MidSampleIdeal.nD Cert.MidSampleIdeal.τ).loc Cert.MidSampleIdeal.main_v31) = v7 c
          ∧ r.2.mem ((c.tc : Thread Cert.MidSampleIdeal.nD Cert.MidSampleIdeal.τ).loc Cert.MidSampleIdeal.main_v35) = v8 c
          ∧ r.2.mem ((c.tc : Thread Cert.MidSampleIdeal.nD Cert.MidSampleIdeal.τ).loc Cert.MidSampleIdeal.main_arg0) = m ((c.tc : Thread Cert.MidSampleIdeal.nD Cert.MidSampleIdeal.τ).loc Cert.MidSampleIdeal.main_arg0)
          ∧ r.2.mem ((c.tc : Thread Cert.MidSampleIdeal.nD Cert.MidSampleIdeal.τ).loc Cert.MidSampleIdeal.main_arg1) = m ((c.tc : Thread Cert.MidSampleIdeal.nD Cert.MidSampleIdeal.τ).loc Cert.MidSampleIdeal.main_arg1)
          ∧ r.2.mem ((c.tc : Thread Cert.MidSampleIdeal.nD Cert.MidSampleIdeal.τ).loc Cert.MidSampleIdeal.main_arg2) = m ((c.tc : Thread Cert.MidSampleIdeal.nD Cert.MidSampleIdeal.τ).loc Cert.MidSampleIdeal.main_arg2)
          ∧ r.2.mem ((c.tc : Thread Cert.MidSampleIdeal.nD Cert.MidSampleIdeal.τ).loc Cert.MidSampleIdeal.main_arg3) = m ((c.tc : Thread Cert.MidSampleIdeal.nD Cert.MidSampleIdeal.τ).loc Cert.MidSampleIdeal.main_arg3)
          ∧ r.2.mem ((c.tc : Thread Cert.MidSampleIdeal.nD Cert.MidSampleIdeal.τ).loc Cert.MidSampleIdeal.main_arg4) = m ((c.tc : Thread Cert.MidSampleIdeal.nD Cert.MidSampleIdeal.τ).loc Cert.MidSampleIdeal.main_arg4)
          ∧ r.2.mem ((c.tc : Thread Cert.MidSampleIdeal.nD Cert.MidSampleIdeal.τ).loc Cert.MidSampleIdeal.main_arg5) = m ((c.tc : Thread Cert.MidSampleIdeal.nD Cert.MidSampleIdeal.τ).loc Cert.MidSampleIdeal.main_arg5)
          ∧ r.2.mem ((c.tc : Thread Cert.MidSampleIdeal.nD Cert.MidSampleIdeal.τ).loc Cert.MidSampleIdeal.main_arg6) = m ((c.tc : Thread Cert.MidSampleIdeal.nD Cert.MidSampleIdeal.τ).loc Cert.MidSampleIdeal.main_arg6)
          ∧ r.2.mem ((c.tc : Thread Cert.MidSampleIdeal.nD Cert.MidSampleIdeal.τ).loc Cert.MidSampleIdeal.main_arg7) = m ((c.tc : Thread Cert.MidSampleIdeal.nD Cert.MidSampleIdeal.τ).loc Cert.MidSampleIdeal.main_arg7)
          ∧ r.2.mem ((c.tc : Thread Cert.MidSampleIdeal.nD Cert.MidSampleIdeal.τ).loc Cert.MidSampleIdeal.main_arg8) = m ((c.tc : Thread Cert.MidSampleIdeal.nD Cert.MidSampleIdeal.τ).loc Cert.MidSampleIdeal.main_arg8)
          ∧ r.2.mem ((c.tc : Thread Cert.MidSampleIdeal.nD Cert.MidSampleIdeal.τ).loc Cert.MidSampleIdeal.main_arg9) = m ((c.tc : Thread Cert.MidSampleIdeal.nD Cert.MidSampleIdeal.τ).loc Cert.MidSampleIdeal.main_arg9))
      ∧ θ_run (Cert.MidSampleRefIdeal.defs (F := Ideal)) (onTc (τ := Cert.MidSampleRefIdeal.τ) (Cert.MidSampleRefIdeal.main (F := Ideal))) ⟨m', fun _ => 0, g'⟩ (fun r => ∀ c : Dev Cert.MidSampleRefIdeal.nD,
          r.2.mem ((c.tc : Thread Cert.MidSampleRefIdeal.nD Cert.MidSampleRefIdeal.τ).loc Cert.MidSampleRefIdeal.main_v52) = v0 c
          ∧ r.2.mem ((c.tc : Thread Cert.MidSampleRefIdeal.nD Cert.MidSampleRefIdeal.τ).loc Cert.MidSampleRefIdeal.main_v57) = v1 c
          ∧ r.2.mem ((c.tc : Thread Cert.MidSampleRefIdeal.nD Cert.MidSampleRefIdeal.τ).loc Cert.MidSampleRefIdeal.main_v54) = v2 c
          ∧ r.2.mem ((c.tc : Thread Cert.MidSampleRefIdeal.nD Cert.MidSampleRefIdeal.τ).loc Cert.MidSampleRefIdeal.main_v55) = v3 c
          ∧ r.2.mem ((c.tc : Thread Cert.MidSampleRefIdeal.nD Cert.MidSampleRefIdeal.τ).loc Cert.MidSampleRefIdeal.main_v56) = v4 c
          ∧ r.2.mem ((c.tc : Thread Cert.MidSampleRefIdeal.nD Cert.MidSampleRefIdeal.τ).loc Cert.MidSampleRefIdeal.main_v58) = v5 c
          ∧ r.2.mem ((c.tc : Thread Cert.MidSampleRefIdeal.nD Cert.MidSampleRefIdeal.τ).loc Cert.MidSampleRefIdeal.main_v59) = v6 c
          ∧ r.2.mem ((c.tc : Thread Cert.MidSampleRefIdeal.nD Cert.MidSampleRefIdeal.τ).loc Cert.MidSampleRefIdeal.main_v63) = v7 c
          ∧ r.2.mem ((c.tc : Thread Cert.MidSampleRefIdeal.nD Cert.MidSampleRefIdeal.τ).loc Cert.MidSampleRefIdeal.main_v65) = v8 c
          ∧ r.2.mem ((c.tc : Thread Cert.MidSampleRefIdeal.nD Cert.MidSampleRefIdeal.τ).loc Cert.MidSampleRefIdeal.main_arg0) = m' ((c.tc : Thread Cert.MidSampleRefIdeal.nD Cert.MidSampleRefIdeal.τ).loc Cert.MidSampleRefIdeal.main_arg0)
          ∧ r.2.mem ((c.tc : Thread Cert.MidSampleRefIdeal.nD Cert.MidSampleRefIdeal.τ).loc Cert.MidSampleRefIdeal.main_arg1) = m' ((c.tc : Thread Cert.MidSampleRefIdeal.nD Cert.MidSampleRefIdeal.τ).loc Cert.MidSampleRefIdeal.main_arg1)
          ∧ r.2.mem ((c.tc : Thread Cert.MidSampleRefIdeal.nD Cert.MidSampleRefIdeal.τ).loc Cert.MidSampleRefIdeal.main_arg2) = m' ((c.tc : Thread Cert.MidSampleRefIdeal.nD Cert.MidSampleRefIdeal.τ).loc Cert.MidSampleRefIdeal.main_arg2)
          ∧ r.2.mem ((c.tc : Thread Cert.MidSampleRefIdeal.nD Cert.MidSampleRefIdeal.τ).loc Cert.MidSampleRefIdeal.main_arg3) = m' ((c.tc : Thread Cert.MidSampleRefIdeal.nD Cert.MidSampleRefIdeal.τ).loc Cert.MidSampleRefIdeal.main_arg3)
          ∧ r.2.mem ((c.tc : Thread Cert.MidSampleRefIdeal.nD Cert.MidSampleRefIdeal.τ).loc Cert.MidSampleRefIdeal.main_arg4) = m' ((c.tc : Thread Cert.MidSampleRefIdeal.nD Cert.MidSampleRefIdeal.τ).loc Cert.MidSampleRefIdeal.main_arg4)
          ∧ r.2.mem ((c.tc : Thread Cert.MidSampleRefIdeal.nD Cert.MidSampleRefIdeal.τ).loc Cert.MidSampleRefIdeal.main_arg5) = m' ((c.tc : Thread Cert.MidSampleRefIdeal.nD Cert.MidSampleRefIdeal.τ).loc Cert.MidSampleRefIdeal.main_arg5)
          ∧ r.2.mem ((c.tc : Thread Cert.MidSampleRefIdeal.nD Cert.MidSampleRefIdeal.τ).loc Cert.MidSampleRefIdeal.main_arg6) = m' ((c.tc : Thread Cert.MidSampleRefIdeal.nD Cert.MidSampleRefIdeal.τ).loc Cert.MidSampleRefIdeal.main_arg6)
          ∧ r.2.mem ((c.tc : Thread Cert.MidSampleRefIdeal.nD Cert.MidSampleRefIdeal.τ).loc Cert.MidSampleRefIdeal.main_arg7) = m' ((c.tc : Thread Cert.MidSampleRefIdeal.nD Cert.MidSampleRefIdeal.τ).loc Cert.MidSampleRefIdeal.main_arg7)
          ∧ r.2.mem ((c.tc : Thread Cert.MidSampleRefIdeal.nD Cert.MidSampleRefIdeal.τ).loc Cert.MidSampleRefIdeal.main_arg8) = m' ((c.tc : Thread Cert.MidSampleRefIdeal.nD Cert.MidSampleRefIdeal.τ).loc Cert.MidSampleRefIdeal.main_arg8)
          ∧ r.2.mem ((c.tc : Thread Cert.MidSampleRefIdeal.nD Cert.MidSampleRefIdeal.τ).loc Cert.MidSampleRefIdeal.main_arg9) = m' ((c.tc : Thread Cert.MidSampleRefIdeal.nD Cert.MidSampleRefIdeal.τ).loc Cert.MidSampleRefIdeal.main_arg9))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hMid : Cert.Mid.Facts) (hMidIdeal : Cert.MidIdeal.Facts) (hMidRefIdeal : Cert.MidRefIdeal.Facts) (hInprojSample : Cert.InprojSample.Facts) (hInprojSampleIdeal : Cert.InprojSampleIdeal.Facts) (hInprojSampleRefIdeal : Cert.InprojSampleRefIdeal.Facts) (hOutprojSample : Cert.OutprojSample.Facts) (hOutprojSampleIdeal : Cert.OutprojSampleIdeal.Facts) (hOutprojSampleRefIdeal : Cert.OutprojSampleRefIdeal.Facts) (hMidSample : Cert.MidSample.Facts) (hMidSampleIdeal : Cert.MidSampleIdeal.Facts) (hMidSampleRefIdeal : Cert.MidSampleRefIdeal.Facts) (hPre_real_scores : Cert.Pre_real_scores.Facts) (hPre_real_ba_weights : Cert.Pre_real_ba_weights.Facts) (hPre_real_qk_weights : Cert.Pre_real_qk_weights.Facts) (hPre_real_ba_weights_sample : Cert.Pre_real_ba_weights_sample.Facts) (hPre_real_qk_weights_sample : Cert.Pre_real_qk_weights_sample.Facts),
    quiescent_Kernel (hKernel := hKernel)
    ∧ quiescent_KernelIdeal (hKernelIdeal := hKernelIdeal)
    ∧ quiescent_KernelIdeal_pre_real_scores (hKernelIdeal := hKernelIdeal) (hPre_real_scores := hPre_real_scores)
    ∧ quiescent_ReferenceIdeal (hReferenceIdeal := hReferenceIdeal)
    ∧ quiescent_ReferenceIdeal_pre_real_scores (hReferenceIdeal := hReferenceIdeal) (hPre_real_scores := hPre_real_scores)
    ∧ quiescent_Inproj (hInproj := hInproj)
    ∧ quiescent_InprojIdeal (hInprojIdeal := hInprojIdeal)
    ∧ quiescent_InprojIdeal_pre_real_ba_weights (hInprojIdeal := hInprojIdeal) (hPre_real_ba_weights := hPre_real_ba_weights)
    ∧ quiescent_InprojRefIdeal (hInprojRefIdeal := hInprojRefIdeal)
    ∧ quiescent_InprojRefIdeal_pre_real_ba_weights (hInprojRefIdeal := hInprojRefIdeal) (hPre_real_ba_weights := hPre_real_ba_weights)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Mid (hMid := hMid)
    ∧ quiescent_MidIdeal (hMidIdeal := hMidIdeal)
    ∧ quiescent_MidIdeal_pre_real_qk_weights (hMidIdeal := hMidIdeal) (hPre_real_qk_weights := hPre_real_qk_weights)
    ∧ quiescent_MidRefIdeal (hMidRefIdeal := hMidRefIdeal)
    ∧ quiescent_MidRefIdeal_pre_real_qk_weights (hMidRefIdeal := hMidRefIdeal) (hPre_real_qk_weights := hPre_real_qk_weights)
    ∧ quiescent_InprojSample (hInprojSample := hInprojSample)
    ∧ quiescent_InprojSampleIdeal (hInprojSampleIdeal := hInprojSampleIdeal)
    ∧ quiescent_InprojSampleIdeal_pre_real_ba_weights_sample (hInprojSampleIdeal := hInprojSampleIdeal) (hPre_real_ba_weights_sample := hPre_real_ba_weights_sample)
    ∧ quiescent_InprojSampleRefIdeal (hInprojSampleRefIdeal := hInprojSampleRefIdeal)
    ∧ quiescent_InprojSampleRefIdeal_pre_real_ba_weights_sample (hInprojSampleRefIdeal := hInprojSampleRefIdeal) (hPre_real_ba_weights_sample := hPre_real_ba_weights_sample)
    ∧ quiescent_OutprojSample (hOutprojSample := hOutprojSample)
    ∧ quiescent_OutprojSampleIdeal (hOutprojSampleIdeal := hOutprojSampleIdeal)
    ∧ quiescent_OutprojSampleRefIdeal (hOutprojSampleRefIdeal := hOutprojSampleRefIdeal)
    ∧ quiescent_MidSample (hMidSample := hMidSample)
    ∧ quiescent_MidSampleIdeal (hMidSampleIdeal := hMidSampleIdeal)
    ∧ quiescent_MidSampleIdeal_pre_real_qk_weights_sample (hMidSampleIdeal := hMidSampleIdeal) (hPre_real_qk_weights_sample := hPre_real_qk_weights_sample)
    ∧ quiescent_MidSampleRefIdeal (hMidSampleRefIdeal := hMidSampleRefIdeal)
    ∧ quiescent_MidSampleRefIdeal_pre_real_qk_weights_sample (hMidSampleRefIdeal := hMidSampleRefIdeal) (hPre_real_qk_weights_sample := hPre_real_qk_weights_sample)
    ∧ preserves_Kernel_KernelIdeal
    ∧ algebraic_KernelIdeal_ReferenceIdeal_pre_real_scores (hKernelIdeal := hKernelIdeal) (hReferenceIdeal := hReferenceIdeal) (hPre_real_scores := hPre_real_scores)
    ∧ preserves_Inproj_InprojIdeal
    ∧ algebraic_InprojIdeal_InprojRefIdeal_pre_real_ba_weights (hInprojIdeal := hInprojIdeal) (hInprojRefIdeal := hInprojRefIdeal) (hPre_real_ba_weights := hPre_real_ba_weights)
    ∧ preserves_Outproj_OutprojIdeal
    ∧ algebraic_OutprojIdeal_OutprojRefIdeal (hOutprojIdeal := hOutprojIdeal) (hOutprojRefIdeal := hOutprojRefIdeal)
    ∧ preserves_Mid_MidIdeal
    ∧ algebraic_MidIdeal_MidRefIdeal_pre_real_qk_weights (hMidIdeal := hMidIdeal) (hMidRefIdeal := hMidRefIdeal) (hPre_real_qk_weights := hPre_real_qk_weights)
    ∧ preserves_InprojSample_InprojSampleIdeal
    ∧ algebraic_InprojSampleIdeal_InprojSampleRefIdeal_pre_real_ba_weights_sample (hInprojSampleIdeal := hInprojSampleIdeal) (hInprojSampleRefIdeal := hInprojSampleRefIdeal) (hPre_real_ba_weights_sample := hPre_real_ba_weights_sample)
    ∧ preserves_OutprojSample_OutprojSampleIdeal
    ∧ algebraic_OutprojSampleIdeal_OutprojSampleRefIdeal (hOutprojSampleIdeal := hOutprojSampleIdeal) (hOutprojSampleRefIdeal := hOutprojSampleRefIdeal)
    ∧ preserves_MidSample_MidSampleIdeal
    ∧ algebraic_MidSampleIdeal_MidSampleRefIdeal_pre_real_qk_weights_sample (hMidSampleIdeal := hMidSampleIdeal) (hMidSampleRefIdeal := hMidSampleRefIdeal) (hPre_real_qk_weights_sample := hPre_real_qk_weights_sample)
-- ==== Pre_real_ba_weights.lean ====
abbrev S2x8192x1024 : Shape := ⟨3, ![2, 8192, 1024]⟩
abbrev S16x1024 : Shape := ⟨2, ![16, 1024]⟩
abbrev S1024 : Shape := ⟨1, ![1024]⟩
abbrev S1024x4104 : Shape := ⟨2, ![1024, 4104]⟩
abbrev S_ : Shape := ⟨0, ![]⟩
abbrev S1024x8 : Shape := ⟨2, ![1024, 8]⟩

class Facts : Prop where
  bcast_S_S1024 : S_.BroadcastsInDim S1024 (![] : Fin 0 → Fin S1024.rank)
  slices_S1024x4104_S1024x8_0_2048 : S1024x4104.Slices ![0, 2048] S1024x8
  bcast_S_S1024x8 : S_.BroadcastsInDim S1024x8 (![] : Fin 0 → Fin S1024x8.rank)

variable [Facts]

def fn {F : FTy → Type} [FloatOps F] (main_arg0 : FVec F S2x8192x1024 .f32) (main_arg1 : FVec F S16x1024 .f32) (main_arg2 : FVec F S1024 .f32) (main_arg3 : FVec F S1024x4104 .f32) : IVec S1024 1 × IVec S1024x8 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x8 .f32 := (extractStridedSlice S1024x8 ![0, 2048] · slices_S1024x4104_S1024x8_0_2048) main_arg3
  let main_v4 : FVec F S1024x8 .f32 := Host.absf main_v3
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  (main_v2, main_v6)
-- ==== Pre_real_ba_weights_sample.lean ====
abbrev S128x8x1024 : Shape := ⟨3, ![128, 8, 1024]⟩
abbrev S1024 : Shape := ⟨1, ![1024]⟩
abbrev S1024x4104 : Shape := ⟨2, ![1024, 4104]⟩
abbrev S128x3x1536 : Shape := ⟨3, ![128, 3, 1536]⟩
abbrev S_ : Shape := ⟨0, ![]⟩
abbrev S1024x8 : Shape := ⟨2, ![1024, 8]⟩

class Facts : Prop where
  bcast_S_S1024 : S_.BroadcastsInDim S1024 (![] : Fin 0 → Fin S1024.rank)
  slices_S1024x4104_S1024x8_0_2048 : S1024x4104.Slices ![0, 2048] S1024x8
  bcast_S_S1024x8 : S_.BroadcastsInDim S1024x8 (![] : Fin 0 → Fin S1024x8.rank)

variable [Facts]

def fn {F : FTy → Type} [FloatOps F] (main_arg0 : FVec F S128x8x1024 .f32) (main_arg1 : FVec F S1024 .f32) (main_arg2 : FVec F S1024x4104 .f32) (main_arg3 : FVec F S128x3x1536 .f32) : IVec S1024 1 × IVec S1024x8 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x8 .f32 := (extractStridedSlice S1024x8 ![0, 2048] · slices_S1024x4104_S1024x8_0_2048) main_arg2
  let main_v4 : FVec F S1024x8 .f32 := Host.absf main_v3
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  (main_v2, main_v6)
-- ==== Pre_real_qk_weights.lean ====
abbrev S2x8208x1024 : Shape := ⟨3, ![2, 8208, 1024]⟩
abbrev S2x8208x512 : Shape := ⟨3, ![2, 8208, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S1024x1280 : Shape := ⟨2, ![1024, 1280]⟩

class Facts : Prop where
  bcast_S_S1024 : S_.BroadcastsInDim S1024 (![] : Fin 0 → Fin S1024.rank)
  slices_S1024x2560_S1024x1280_0_0 : S1024x2560.Slices ![0, 0] S1024x1280
  bcast_S_S1024x1280 : S_.BroadcastsInDim S1024x1280 (![] : Fin 0 → Fin S1024x1280.rank)

variable [Facts]

def fn {F : FTy → Type} [FloatOps F] (main_arg0 : FVec F S2x8208x1024 .f32) (main_arg1 : FVec F S2x8208x512 .f32) (main_arg2 : FVec F S2x8208x512 .f32) (main_arg3 : FVec F S1024x1024 .f32) (main_arg4 : FVec F S1024 .f32) (main_arg5 : FVec F S1024x2560 .f32) (main_arg6 : FVec F S64 .f32) (main_arg7 : FVec F S64 .f32) : IVec S1024 1 × IVec S1024x1280 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1280 .f32 := (extractStridedSlice S1024x1280 ![0, 0] · slices_S1024x2560_S1024x1280_0_0) main_arg5
  let main_v4 : FVec F S1024x1280 .f32 := Host.absf main_v3
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  (main_v2, main_v6)
-- ==== Pre_real_qk_weights_sample.lean ====
abbrev S128x8x1024 : Shape := ⟨3, ![128, 8, 1024]⟩
abbrev S128x8x512 : Shape := ⟨3, ![128, 8, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S128x128x4x64 : Shape := ⟨4, ![128, 128, 4, 64]⟩
abbrev S_ : Shape := ⟨0, ![]⟩
abbrev S1024x1280 : Shape := ⟨2, ![1024, 1280]⟩

class Facts : Prop where
  bcast_S_S1024 : S_.BroadcastsInDim S1024 (![] : Fin 0 → Fin S1024.rank)
  slices_S1024x2560_S1024x1280_0_0 : S1024x2560.Slices ![0, 0] S1024x1280
  bcast_S_S1024x1280 : S_.BroadcastsInDim S1024x1280 (![] : Fin 0 → Fin S1024x1280.rank)

variable [Facts]

def fn {F : FTy → Type} [FloatOps F] (main_arg0 : FVec F S128x8x1024 .f32) (main_arg1 : FVec F S128x8x512 .f32) (main_arg2 : FVec F S128x8x512 .f32) (main_arg3 : FVec F S1024x1024 .f32) (main_arg4 : FVec F S1024 .f32) (main_arg5 : FVec F S1024x2560 .f32) (main_arg6 : FVec F S64 .f32) (main_arg7 : FVec F S64 .f32) (main_arg8 : FVec F S128x128x4x64 .f32) (main_arg9 : FVec F S128x128x4x64 .f32) : IVec S1024 1 × IVec S1024x1280 1 :=
  let main_v0 : FVec F S1024 .f32 := Host.absf main_arg4
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x1280 .f32 := (extractStridedSlice S1024x1280 ![0, 0] · slices_S1024x2560_S1024x1280_0_0) main_arg5
  let main_v4 : FVec F S1024x1280 .f32 := Host.absf main_v3
  let main_cst_0 : FVec F S_ .f32 := constant S_ .f32 0x7F800000#32
  let main_v5 : FVec F S1024x1280 .f32 := broadcastInDim S1024x1280 ![] bcast_S_S1024x1280 main_cst_0
  let main_v6 : IVec S1024x1280 1 := cmpf .olt main_v4 main_v5
  (main_v2, main_v6)
-- ==== Pre_real_scores.lean ====
abbrev S2x8208x512 : Shape := ⟨3, ![2, 8208, 512]⟩
abbrev S4 : Shape := ⟨1, ![4]⟩
abbrev S_ : Shape := ⟨0, ![]⟩

class Facts : Prop where
  bcast_S_S2x8208x512 : S_.BroadcastsInDim S2x8208x512 (![] : Fin 0 → Fin S2x8208x512.rank)
  bcast_S_S4 : S_.BroadcastsInDim S4 (![] : Fin 0 → Fin S4.rank)

variable [Facts]

def fn {F : FTy → Type} [FloatOps F] (main_arg0 : FVec F S2x8208x512 .f32) (main_arg1 : FVec F S2x8208x512 .f32) (main_arg2 : FVec F S2x8208x512 .f32) (main_arg3 : FVec F S2x8208x512 .f32) (main_arg4 : FVec F S4 .f32) : IVec S2x8208x512 1 × IVec S4 1 :=
  let main_v0 : FVec F S2x8208x512 .f32 := Host.absf main_arg0
  let main_cst : FVec F S_ .f32 := constant S_ .f32 0x7F800000#32
  let main_v1 : FVec F S2x8208x512 .f32 := broadcastInDim S2x8208x512 ![] bcast_S_S2x8208x512 main_cst
  let main_v2 : IVec S2x8208x512 1 := cmpf .olt main_v0 main_v1
  let main_v3 : FVec F S2x8208x512 .f32 := Host.absf main_arg1
  let main_cst_0 : FVec F S_ .f32 := constant S_ .f32 0x7F800000#32
  let main_v4 : FVec F S2x8208x512 .f32 := broadcastInDim S2x8208x512 ![] bcast_S_S2x8208x512 main_cst_0
  let main_v5 : IVec S2x8208x512 1 := cmpf .olt main_v3 main_v4
  let main_v6 : IVec S2x8208x512 1 := andi main_v2 main_v5
  let main_v7 : FVec F S4 .f32 := Host.absf main_arg4
  let main_cst_1 : FVec F S_ .f32 := constant S_ .f32 0x7F800000#32
  let main_v8 : FVec F S4 .f32 := broadcastInDim S4 ![] bcast_S_S4 main_cst_1
  let main_v9 : IVec S4 1 := cmpf .olt main_v7 main_v8
  (main_v6, main_v9)
-- ==== Kernel.lean ====
abbrev S2x8208x512 : Shape := ⟨3, ![2, 8208, 512]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2x8448x512 : Shape := ⟨3, ![2, 8448, 512]⟩
abbrev S1x256x512 : Shape := ⟨3, ![1, 256, 512]⟩
abbrev S1x8448x512 : Shape := ⟨3, ![1, 8448, 512]⟩
abbrev S1x256x128 : Shape := ⟨3, ![1, 256, 128]⟩
abbrev S256x128 : Shape := ⟨2, ![256, 128]⟩
abbrev S1 : Shape := ⟨1, ![1]⟩
abbrev S1024x256 : Shape := ⟨2, ![1024, 256]⟩
abbrev S2048x256 : Shape := ⟨2, ![2048, 256]⟩

abbrev nBuf : Space → Nat
  | .hbm => 28
  | .vmem => 11
  | .smem => 1
  | _ => 0

abbrev bufTy : (tb : Table) → Fin (tcTables nBuf tb) → BufTy
  | .hbm, ⟨0, _⟩ => ⟨S2x8208x512, .f32⟩
  | .hbm, ⟨1, _⟩ => ⟨S2x8208x512, .f32⟩
  | .hbm, ⟨2, _⟩ => ⟨S2x8208x512, .f32⟩
  | .hbm, ⟨3, _⟩ => ⟨S2x8208x512, .f32⟩
  | .hbm, ⟨4, _⟩ => ⟨S4, .f32⟩
  | .hbm, ⟨5, _⟩ => ⟨S256, .i32⟩
  | .hbm, ⟨6, _⟩ => ⟨S256x1, .i32⟩
  | .hbm, ⟨7, _⟩ => ⟨S256, .i32⟩
  | .hbm, ⟨8, _⟩ => ⟨S1x256, .i32⟩
  | .hbm, ⟨9, _⟩ => ⟨S256x256, .i32⟩
  | .hbm, ⟨10, _⟩ => ⟨S256x256, .i32⟩
  | .hbm, ⟨11, _⟩ => ⟨S256x256, .i1⟩
  | .hbm, ⟨12, _⟩ => ⟨S256x256, .bf16⟩
  | .hbm, ⟨13, _⟩ => ⟨S_, .i32⟩
  | .hbm, ⟨14, _⟩ => ⟨S_, .f32⟩
  | .hbm, ⟨15, _⟩ => ⟨S2x8448x512, .f32⟩
  | .hbm, ⟨16, _⟩ => ⟨S_, .i32⟩
  | .hbm, ⟨17, _⟩ => ⟨S_, .f32⟩
  | .hbm, ⟨18, _⟩ => ⟨S2x8448x512, .f32⟩
  | .hbm, ⟨19, _⟩ => ⟨S2x8448x512, .bf16⟩
  | .hbm, ⟨20, _⟩ => ⟨S_, .i32⟩
  | .hbm, ⟨21, _⟩ => ⟨S_, .f32⟩
  | .hbm, ⟨22, _⟩ => ⟨S2x8448x512, .f32⟩
  | .hbm, ⟨23, _⟩ => ⟨S2x8448x512, .bf16⟩
  | .hbm, ⟨24, _⟩ => ⟨S_, .i32⟩
  | .hbm, ⟨25, _⟩ => ⟨S_, .f32⟩
  | .hbm, ⟨26, _⟩ => ⟨S2x8448x512, .f32⟩
  | .hbm, ⟨27, _⟩ => ⟨S2x8448x512, .f32⟩
  | .local _ .vmem, ⟨0, _⟩ => ⟨S1x256x512, .f32⟩
  | .local _ .vmem, ⟨1, _⟩ => ⟨S1x256x512, .f32⟩
  | .local _ .vmem, ⟨2, _⟩ => ⟨S1x8448x512, .bf16⟩
  | .local _ .vmem, ⟨3, _⟩ => ⟨S1x8448x512, .bf16⟩
  | .local _ .vmem, ⟨4, _⟩ => ⟨S1x8448x512, .bf16⟩
  | .local _ .vmem, ⟨5, _⟩ => ⟨S1x8448x512, .bf16⟩
  | .local _ .vmem, ⟨6, _⟩ => ⟨S1x256x512, .f32⟩
  | .local _ .vmem, ⟨7, _⟩ => ⟨S1x256x512, .f32⟩
  | .local _ .vmem, ⟨8, _⟩ => ⟨S256x256, .bf16⟩
  | .local _ .vmem, ⟨9, _⟩ => ⟨S1x256x512, .f32⟩
  | .local _ .vmem, ⟨10, _⟩ => ⟨S1x256x512, .f32⟩
  | .local _ .smem, ⟨0, _⟩ => ⟨S4, .f32⟩
  | _, _ => ⟨S2x8208x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_c_0 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_call2_v0 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_call3_v0 : Ref sig .tc := ⟨.hbm, 25, rfl⟩
abbrev main_v13 : Ref sig .tc := ⟨.hbm, 26, rfl⟩
abbrev main_v14 : Ref sig .tc := ⟨.hbm, 27, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 33], ![false, false]⟩

def k0_mult1 (i : grid0.Coords) : BitVec 32 :=
  let arg1 : BitVec 32 := BitVec.ofNat 32 (i 1).val
  let c256_i32 : BitVec 32 := 256#32
  let v41 : BitVec 32 := Scalar.muli arg1 c256_i32
  v41
def k0_off1 (i : grid0.Coords) : Fin 3 → Nat :=
  let c0_26 : Index := 0#32
  let arg1 : BitVec 32 := BitVec.ofNat 32 (i 1).val
  let c256_i32 : BitVec 32 := 256#32
  let v41 : BitVec 32 := Scalar.muli arg1 c256_i32
  let v42 : BitVec 32 := v41
  let v43 : Index := Scalar.indexCast v42
  let c0_27 : Index := 0#32
  ![0, v43.toNat, 0]
def k0_off2 (i : grid0.Coords) : Fin 3 → Nat :=
  let c0_29 : Index := 0#32
  let arg1 : BitVec 32 := BitVec.ofNat 32 (i 1).val
  let c256_i32 : BitVec 32 := 256#32
  let v41 : BitVec 32 := Scalar.muli arg1 c256_i32
  let v42 : BitVec 32 := v41
  let v49 : Index := Scalar.indexCast v42
  let c128_30 : Index := 128#32
  ![0, v49.toNat, 128]
def k0_off3 (i : grid0.Coords) : Fin 3 → Nat :=
  let c0_32 : Index := 0#32
  let arg1 : BitVec 32 := BitVec.ofNat 32 (i 1).val
  let c256_i32 : BitVec 32 := 256#32
  let v41 : BitVec 32 := Scalar.muli arg1 c256_i32
  let v42 : BitVec 32 := v41
  let v55 : Index := Scalar.indexCast v42
  let c256_33 : Index := 256#32
  ![0, v55.toNat, 256]
def k0_off4 (i : grid0.Coords) : Fin 3 → Nat :=
  let c0_35 : Index := 0#32
  let arg1 : BitVec 32 := BitVec.ofNat 32 (i 1).val
  let c256_i32 : BitVec 32 := 256#32
  let v41 : BitVec 32 := Scalar.muli arg1 c256_i32
  let v42 : BitVec 32 := v41
  let v61 : Index := Scalar.indexCast v42
  let c384_36 : Index := 384#32
  ![0, v61.toNat, 384]
@[reducible] def k0_t1_loop (i : grid0.Coords) : Scf.Loop 32 :=
  let c0_i32_83 : BitVec 32 := 0#32
  let arg1 : BitVec 32 := BitVec.ofNat 32 (i 1).val
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v222 : BitVec 32 := Scalar.subi v221 c0_i32_83
  let c1_i32_84 : BitVec 32 := 1#32
  let v224 : BitVec 32 := Scalar.divsi v222 c1_i32_84
  let v225 : BitVec 32 := Scalar.muli v224 c1_i32_84
  let v226 : BitVec 32 := Scalar.addi c0_i32_83 v225
  let c1_i32_85 : BitVec 32 := 1#32
  ⟨c0_i32_83, v226, c1_i32_85⟩
def k0_mult2 (i : grid0.Coords) : BitVec 32 :=
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  v312
def k0_off5 (i : grid0.Coords) : Fin 3 → Nat :=
  let c0_137 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v314 : Index := Scalar.indexCast v313
  let c0_138 : Index := 0#32
  ![0, v314.toNat, 0]
def k0_off6 (i : grid0.Coords) : Fin 3 → Nat :=
  let c0_140 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v320 : Index := Scalar.indexCast v313
  let c128_141 : Index := 128#32
  ![0, v320.toNat, 128]
def k0_off7 (i : grid0.Coords) : Fin 3 → Nat :=
  let c0_143 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v326 : Index := Scalar.indexCast v313
  let c256_144 : Index := 256#32
  ![0, v326.toNat, 256]
def k0_off8 (i : grid0.Coords) : Fin 3 → Nat :=
  let c0_146 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v332 : Index := Scalar.indexCast v313
  let c384_147 : Index := 384#32
  ![0, v332.toNat, 384]
@[reducible] def k0_t2_loop (i : grid0.Coords) : Scf.Loop 32 :=
  let c0_i32_83 : BitVec 32 := 0#32
  let arg1 : BitVec 32 := BitVec.ofNat 32 (i 1).val
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v222 : BitVec 32 := Scalar.subi v221 c0_i32_83
  let c1_i32_84 : BitVec 32 := 1#32
  let v224 : BitVec 32 := Scalar.divsi v222 c1_i32_84
  let v225 : BitVec 32 := Scalar.muli v224 c1_i32_84
  let v226 : BitVec 32 := Scalar.addi c0_i32_83 v225
  let v223 : BitVec 32 := Scalar.addi c0_i32_83 v222
  let c1_i32_86 : BitVec 32 := 1#32
  ⟨v226, v223, c1_i32_86⟩
def k0_mult3 (i : grid0.Coords) : BitVec 32 :=
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  v312
def k0_off9 (i : grid0.Coords) : Fin 3 → Nat :=
  let c0_137 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v314 : Index := Scalar.indexCast v313
  let c0_138 : Index := 0#32
  ![0, v314.toNat, 0]
def k0_off10 (i : grid0.Coords) : Fin 3 → Nat :=
  let c0_140 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v320 : Index := Scalar.indexCast v313
  let c128_141 : Index := 128#32
  ![0, v320.toNat, 128]
def k0_off11 (i : grid0.Coords) : Fin 3 → Nat :=
  let c0_143 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v326 : Index := Scalar.indexCast v313
  let c256_144 : Index := 256#32
  ![0, v326.toNat, 256]
def k0_off12 (i : grid0.Coords) : Fin 3 → Nat :=
  let c0_146 : Index := 0#32
  let arg1 : BitVec 32 := BitVec.ofNat 32 (i 1).val
  let c1_i32_135 : BitVec 32 := 1#32
  let v311 : BitVec 32 := Scalar.subi arg1 c1_i32_135
  let c256_i32_136 : BitVec 32 := 256#32
  let v312 : BitVec 32 := Scalar.muli v311 c256_i32_136
  let v313 : BitVec 32 := v312
  let v332 : Index := Scalar.indexCast v313
  let c384_147 : Index := 384#32
  ![0, v332.toNat, 384]
@[reducible] def k0_t3_loop (i : grid0.Coords) : Scf.Loop 32 :=
  let c0_i32_95 : BitVec 32 := 0#32
  let arg1 : BitVec 32 := BitVec.ofNat 32 (i 1).val
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_97 : BitVec 32 := 1#32
  ⟨c0_i32_95, v252, c1_i32_97⟩
def k0_mult4 (i : grid0.Coords) (k0_t3 : Fin (k0_t3_loop i).trips) : BitVec 32 :=
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c1_i32_97 : BitVec 32 := 1#32
  let arg9 : BitVec 32 := Scf.iv c0_i32_95 c1_i32_97 k0_t3
  let v311 : BitVec 32 := Scalar.muli c2_i32_135 arg9
  let v312 : BitVec 32 := Scalar.subi v230 v311
  let c256_i32_138 : BitVec 32 := 256#32
  let v316 : BitVec 32 := Scalar.muli v312 c256_i32_138
  v316
def k0_mult5 (i : grid0.Coords) (k0_t3 : Fin (k0_t3_loop i).trips) : BitVec 32 :=
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c1_i32_97 : BitVec 32 := 1#32
  let arg9 : BitVec 32 := Scf.iv c0_i32_95 c1_i32_97 k0_t3
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  v318
def k0_off13 (i : grid0.Coords) (k0_t3 : Fin (k0_t3_loop i).trips) : Fin 3 → Nat :=
  let c0_140 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c1_i32_97 : BitVec 32 := 1#32
  let arg9 : BitVec 32 := Scf.iv c0_i32_95 c1_i32_97 k0_t3
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v320 : Index := Scalar.indexCast v317
  let c0_141 : Index := 0#32
  ![0, v320.toNat, 0]
def k0_off14 (i : grid0.Coords) (k0_t3 : Fin (k0_t3_loop i).trips) : Fin 3 → Nat :=
  let c0_143 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c1_i32_97 : BitVec 32 := 1#32
  let arg9 : BitVec 32 := Scf.iv c0_i32_95 c1_i32_97 k0_t3
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v326 : Index := Scalar.indexCast v317
  let c128_144 : Index := 128#32
  ![0, v326.toNat, 128]
def k0_off15 (i : grid0.Coords) (k0_t3 : Fin (k0_t3_loop i).trips) : Fin 3 → Nat :=
  let c0_146 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c1_i32_97 : BitVec 32 := 1#32
  let arg9 : BitVec 32 := Scf.iv c0_i32_95 c1_i32_97 k0_t3
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v332 : Index := Scalar.indexCast v317
  let c256_147 : Index := 256#32
  ![0, v332.toNat, 256]
def k0_off16 (i : grid0.Coords) (k0_t3 : Fin (k0_t3_loop i).trips) : Fin 3 → Nat :=
  let c0_149 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c1_i32_97 : BitVec 32 := 1#32
  let arg9 : BitVec 32 := Scf.iv c0_i32_95 c1_i32_97 k0_t3
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v338 : Index := Scalar.indexCast v317
  let c384_150 : Index := 384#32
  ![0, v338.toNat, 384]
def k0_off17 (i : grid0.Coords) (k0_t3 : Fin (k0_t3_loop i).trips) : Fin 3 → Nat :=
  let c0_152 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c1_i32_97 : BitVec 32 := 1#32
  let arg9 : BitVec 32 := Scf.iv c0_i32_95 c1_i32_97 k0_t3
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v344 : Index := Scalar.indexCast v319
  let c0_153 : Index := 0#32
  ![0, v344.toNat, 0]
def k0_off18 (i : grid0.Coords) (k0_t3 : Fin (k0_t3_loop i).trips) : Fin 3 → Nat :=
  let c0_155 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c1_i32_97 : BitVec 32 := 1#32
  let arg9 : BitVec 32 := Scf.iv c0_i32_95 c1_i32_97 k0_t3
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v350 : Index := Scalar.indexCast v319
  let c128_156 : Index := 128#32
  ![0, v350.toNat, 128]
def k0_off19 (i : grid0.Coords) (k0_t3 : Fin (k0_t3_loop i).trips) : Fin 3 → Nat :=
  let c0_158 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c1_i32_97 : BitVec 32 := 1#32
  let arg9 : BitVec 32 := Scf.iv c0_i32_95 c1_i32_97 k0_t3
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v356 : Index := Scalar.indexCast v319
  let c256_159 : Index := 256#32
  ![0, v356.toNat, 256]
def k0_off20 (i : grid0.Coords) (k0_t3 : Fin (k0_t3_loop i).trips) : Fin 3 → Nat :=
  let c0_161 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c1_i32_97 : BitVec 32 := 1#32
  let arg9 : BitVec 32 := Scf.iv c0_i32_95 c1_i32_97 k0_t3
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v362 : Index := Scalar.indexCast v319
  let c384_162 : Index := 384#32
  ![0, v362.toNat, 384]
@[reducible] def k0_t4_loop (i : grid0.Coords) : Scf.Loop 32 :=
  let c0_i32_95 : BitVec 32 := 0#32
  let arg1 : BitVec 32 := BitVec.ofNat 32 (i 1).val
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let v249 : BitVec 32 := Scalar.addi c0_i32_95 v248
  let c1_i32_98 : BitVec 32 := 1#32
  ⟨v252, v249, c1_i32_98⟩
def k0_mult6 (i : grid0.Coords) (k0_t4 : Fin (k0_t4_loop i).trips) : BitVec 32 :=
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v311 : BitVec 32 := Scalar.muli c2_i32_135 arg9
  let v312 : BitVec 32 := Scalar.subi v230 v311
  let c256_i32_138 : BitVec 32 := 256#32
  let v316 : BitVec 32 := Scalar.muli v312 c256_i32_138
  v316
def k0_mult7 (i : grid0.Coords) (k0_t4 : Fin (k0_t4_loop i).trips) : BitVec 32 :=
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  v318
def k0_off21 (i : grid0.Coords) (k0_t4 : Fin (k0_t4_loop i).trips) : Fin 3 → Nat :=
  let c0_140 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v320 : Index := Scalar.indexCast v317
  let c0_141 : Index := 0#32
  ![0, v320.toNat, 0]
def k0_off22 (i : grid0.Coords) (k0_t4 : Fin (k0_t4_loop i).trips) : Fin 3 → Nat :=
  let c0_143 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v326 : Index := Scalar.indexCast v317
  let c128_144 : Index := 128#32
  ![0, v326.toNat, 128]
def k0_off23 (i : grid0.Coords) (k0_t4 : Fin (k0_t4_loop i).trips) : Fin 3 → Nat :=
  let c0_146 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v332 : Index := Scalar.indexCast v317
  let c256_147 : Index := 256#32
  ![0, v332.toNat, 256]
def k0_off24 (i : grid0.Coords) (k0_t4 : Fin (k0_t4_loop i).trips) : Fin 3 → Nat :=
  let c0_149 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_135 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v311 : BitVec 32 := Scalar.muli c2_i32_135 arg9
  let v312 : BitVec 32 := Scalar.subi v230 v311
  let c256_i32_138 : BitVec 32 := 256#32
  let v316 : BitVec 32 := Scalar.muli v312 c256_i32_138
  let v317 : BitVec 32 := v316
  let v338 : Index := Scalar.indexCast v317
  let c384_150 : Index := 384#32
  ![0, v338.toNat, 384]
def k0_off25 (i : grid0.Coords) (k0_t4 : Fin (k0_t4_loop i).trips) : Fin 3 → Nat :=
  let c0_152 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v344 : Index := Scalar.indexCast v319
  let c0_153 : Index := 0#32
  ![0, v344.toNat, 0]
def k0_off26 (i : grid0.Coords) (k0_t4 : Fin (k0_t4_loop i).trips) : Fin 3 → Nat :=
  let c0_155 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v350 : Index := Scalar.indexCast v319
  let c128_156 : Index := 128#32
  ![0, v350.toNat, 128]
def k0_off27 (i : grid0.Coords) (k0_t4 : Fin (k0_t4_loop i).trips) : Fin 3 → Nat :=
  let c0_158 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v356 : Index := Scalar.indexCast v319
  let c256_159 : Index := 256#32
  ![0, v356.toNat, 256]
def k0_off28 (i : grid0.Coords) (k0_t4 : Fin (k0_t4_loop i).trips) : Fin 3 → Nat :=
  let c0_161 : Index := 0#32
  let arg1 : BitVec 32 := BitVec.ofNat 32 (i 1).val
  let c1_i32_87 : BitVec 32 := 1#32
  let v229 : BitVec 32 := Scalar.subi arg1 c1_i32_87
  let c2_i32 : BitVec 32 := 2#32
  let c0_i32 : BitVec 32 := 0#32
  let v212 : BitVec 1 := Scalar.cmpi .eq c2_i32 c0_i32
  let c1_i32 : BitVec 32 := 1#32
  let v213 : BitVec 32 := Scalar.select v212 c1_i32 c2_i32
  let v214 : BitVec 32 := Scalar.remsi arg1 v213
  let c0_i32_81 : BitVec 32 := 0#32
  let v216 : BitVec 1 := Scalar.cmpi .slt v214 c0_i32_81
  let c0_i32_82 : BitVec 32 := 0#32
  let v217 : BitVec 1 := Scalar.cmpi .slt v213 c0_i32_82
  let v218 : BitVec 1 := Scalar.xori v216 v217
  let c0_i32_80 : BitVec 32 := 0#32
  let v215 : BitVec 1 := Scalar.cmpi .ne v214 c0_i32_80
  let v219 : BitVec 1 := Scalar.andi v218 v215
  let v220 : BitVec 32 := Scalar.addi v214 v213
  let v221 : BitVec 32 := Scalar.select v219 v220 v214
  let v230 : BitVec 32 := Scalar.subi v229 v221
  let c2_i32_136 : BitVec 32 := 2#32
  let c0_i32_95 : BitVec 32 := 0#32
  let c0_i32_89 : BitVec 32 := 0#32
  let v232 : BitVec 1 := Scalar.cmpi .sgt arg1 c0_i32_89
  let v233 : BitVec 32 := Scalar.extui v232
  let c0_i32_90 : BitVec 32 := 0#32
  let v234 : BitVec 1 := Scalar.cmpi .slt arg1 c0_i32_90
  let v235 : BitVec 32 := Scalar.extui v234
  let v236 : BitVec 32 := Scalar.subi v233 v235
  let c2_i32_88 : BitVec 32 := 2#32
  let c0_i32_91 : BitVec 32 := 0#32
  let v237 : BitVec 1 := Scalar.cmpi .sgt c2_i32_88 c0_i32_91
  let v238 : BitVec 32 := Scalar.extui v237
  let c0_i32_92 : BitVec 32 := 0#32
  let v239 : BitVec 1 := Scalar.cmpi .slt c2_i32_88 c0_i32_92
  let v240 : BitVec 32 := Scalar.extui v239
  let v241 : BitVec 32 := Scalar.subi v238 v240
  let v242 : BitVec 1 := Scalar.cmpi .ne v236 v241
  let v243 : BitVec 32 := Scalar.remsi arg1 c2_i32_88
  let c0_i32_93 : BitVec 32 := 0#32
  let v244 : BitVec 1 := Scalar.cmpi .ne v243 c0_i32_93
  let v245 : BitVec 1 := Scalar.andi v242 v244
  let v231 : BitVec 32 := Scalar.divsi arg1 c2_i32_88
  let c1_i32_94 : BitVec 32 := 1#32
  let v246 : BitVec 32 := Scalar.subi v231 c1_i32_94
  let v247 : BitVec 32 := Scalar.select v245 v246 v231
  let v248 : BitVec 32 := Scalar.subi v247 c0_i32_95
  let c1_i32_96 : BitVec 32 := 1#32
  let v250 : BitVec 32 := Scalar.divsi v248 c1_i32_96
  let v251 : BitVec 32 := Scalar.muli v250 c1_i32_96
  let v252 : BitVec 32 := Scalar.addi c0_i32_95 v251
  let c1_i32_98 : BitVec 32 := 1#32
  let arg9 : BitVec 32 := Scf.iv v252 c1_i32_98 k0_t4
  let v313 : BitVec 32 := Scalar.muli c2_i32_136 arg9
  let v314 : BitVec 32 := Scalar.subi v230 v313
  let c1_i32_137 : BitVec 32 := 1#32
  let v315 : BitVec 32 := Scalar.subi v314 c1_i32_137
  let c256_i32_139 : BitVec 32 := 256#32
  let v318 : BitVec 32 := Scalar.muli v315 c256_i32_139
  let v319 : BitVec 32 := v318
  let v362 : Index := Scalar.indexCast v319
  let c384_162 : Index := 384#32
  ![0, v362.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8448x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8448x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "qscale" => some (((11863283 / 134217728) * (Real.log 2)⁻¹ : ℝ) : EReal)
  | _ => none
-- ==== ReferenceIdeal.lean ====
abbrev S2x8208x512 : Shape := ⟨3, ![2, 8208, 512]⟩
abbrev S4 : Shape := ⟨1, ![4]⟩
abbrev S2x8208x4x128 : Shape := ⟨4, ![2, 8208, 4, 128]⟩
abbrev S8208 : Shape := ⟨1, ![8208]⟩
abbrev S1x8208 : Shape := ⟨2, ![1, 8208]⟩
abbrev S8208x1 : Shape := ⟨2, ![8208, 1]⟩
abbrev S8208x8208 : Shape := ⟨2, ![8208, 8208]⟩
abbrev S2x4x8208x8208 : Shape := ⟨4, ![2, 4, 8208, 8208]⟩
abbrev S_ : Shape := ⟨0, ![]⟩
abbrev S4x1x1 : Shape := ⟨3, ![4, 1, 1]⟩
abbrev S1x4x1x1 : Shape := ⟨4, ![1, 4, 1, 1]⟩
abbrev S2x4x128x8208 : Shape := ⟨4, ![2, 4, 128, 8208]⟩
abbrev S2x8448x512 : Shape := ⟨3, ![2, 8448, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x8208x512, .f32⟩
  | .hbm, ⟨1, _⟩ => ⟨S2x8208x512, .f32⟩
  | .hbm, ⟨2, _⟩ => ⟨S2x8208x512, .f32⟩
  | .hbm, ⟨3, _⟩ => ⟨S2x8208x512, .f32⟩
  | .hbm, ⟨4, _⟩ => ⟨S4, .f32⟩
  | .hbm, ⟨5, _⟩ => ⟨S2x8208x4x128, .f32⟩
  | .hbm, ⟨6, _⟩ => ⟨S2x8208x4x128, .f32⟩
  | .hbm, ⟨7, _⟩ => ⟨S2x8208x4x128, .f32⟩
  | .hbm, ⟨8, _⟩ => ⟨S8208, .i32⟩
  | .hbm, ⟨9, _⟩ => ⟨S1x8208, .i32⟩
  | .hbm, ⟨10, _⟩ => ⟨S8208x1, .i32⟩
  | .hbm, ⟨11, _⟩ => ⟨S8208x8208, .i32⟩
  | .hbm, ⟨12, _⟩ => ⟨S8208x8208, .i32⟩
  | .hbm, ⟨13, _⟩ => ⟨S8208x8208, .i1⟩
  | .hbm, ⟨14, _⟩ => ⟨S2x4x8208x8208, .f32⟩
  | .hbm, ⟨15, _⟩ => ⟨S_, .f32⟩
  | .hbm, ⟨16, _⟩ => ⟨S2x4x8208x8208, .f32⟩
  | .hbm, ⟨17, _⟩ => ⟨S2x4x8208x8208, .f32⟩
  | .hbm, ⟨18, _⟩ => ⟨S4x1x1, .f32⟩
  | .hbm, ⟨19, _⟩ => ⟨S1x4x1x1, .f32⟩
  | .hbm, ⟨20, _⟩ => ⟨S2x4x8208x8208, .f32⟩
  | .hbm, ⟨21, _⟩ => ⟨S2x4x8208x8208, .f32⟩
  | .hbm, ⟨22, _⟩ => ⟨S2x4x8208x8208, .f32⟩
  | .hbm, ⟨23, _⟩ => ⟨S_, .f32⟩
  | .hbm, ⟨24, _⟩ => ⟨S2x4x8208x8208, .f32⟩
  | .hbm, ⟨25, _⟩ => ⟨S2x4x8208x8208, .f32⟩
  | .hbm, ⟨26, _⟩ => ⟨S2x4x8208x8208, .f32⟩
  | .hbm, ⟨27, _⟩ => ⟨S2x4x8208x8208, .f32⟩
  | .hbm, ⟨28, _⟩ => ⟨S2x4x8208x8208, .i1⟩
  | .hbm, ⟨29, _⟩ => ⟨S2x4x8208x8208, .f32⟩
  | .hbm, ⟨30, _⟩ => ⟨S2x4x8208x8208, .f32⟩
  | .hbm, ⟨31, _⟩ => ⟨S2x4x8208x8208, .f32⟩
  | .hbm, ⟨32, _⟩ => ⟨S2x4x8208x8208, .f32⟩
  | .hbm, ⟨33, _⟩ => ⟨S2x4x8208x8208, .f32⟩
  | .hbm, ⟨34, _⟩ => ⟨S2x4x8208x8208, .f32⟩
  | .hbm, ⟨35, _⟩ => ⟨S2x4x8208x8208, .f32⟩
  | .hbm, ⟨36, _⟩ => ⟨S2x4x8208x8208, .f32⟩
  | .hbm, ⟨37, _⟩ => ⟨S2x4x8208x8208, .f32⟩
  | .hbm, ⟨38, _⟩ => ⟨S2x4x8208x8208, .f32⟩
  | .hbm, ⟨39, _⟩ => ⟨S2x4x8208x8208, .f32⟩
  | .hbm, ⟨40, _⟩ => ⟨S_, .f32⟩
  | .hbm, ⟨41, _⟩ => ⟨S2x4x8208x8208, .f32⟩
  | .hbm, ⟨42, _⟩ => ⟨S2x4x8208x8208, .f32⟩
  | .hbm, ⟨43, _⟩ => ⟨S2x4x8208x8208, .f32⟩
  | .hbm, ⟨44, _⟩ => ⟨S2x4x8208x8208, .f32⟩
  | .hbm, ⟨45, _⟩ => ⟨S2x4x8208x8208, .i1⟩
  | .hbm, ⟨46, _⟩ => ⟨S2x4x8208x8208, .f32⟩
  | .hbm, ⟨47, _⟩ => ⟨S2x4x8208x8208, .f32⟩
  | .hbm, ⟨48, _⟩ => ⟨S2x4x8208x8208, .f32⟩
  | .hbm, ⟨49, _⟩ => ⟨S2x4x8208x8208, .f32⟩
  | .hbm, ⟨50, _⟩ => ⟨S2x4x8208x8208, .f32⟩
  | .hbm, ⟨51, _⟩ => ⟨S2x4x8208x8208, .f32⟩
  | .hbm, ⟨52, _⟩ => ⟨S2x4x8208x8208, .f32⟩
  | .hbm, ⟨53, _⟩ => ⟨S2x4x8208x8208, .f32⟩
  | .hbm, ⟨54, _⟩ => ⟨S2x4x8208x8208, .f32⟩
  | .hbm, ⟨55, _⟩ => ⟨S_, .f32⟩
  | .hbm, ⟨56, _⟩ => ⟨S_, .f32⟩
  | .hbm, ⟨57, _⟩ => ⟨S2x4x8208x8208, .i1⟩
  | .hbm, ⟨58, _⟩ => ⟨S2x4x8208x8208, .f32⟩
  | .hbm, ⟨59, _⟩ => ⟨S2x4x8208x8208, .f32⟩
  | .hbm, ⟨60, _⟩ => ⟨S_, .f32⟩
  | .hbm, ⟨61, _⟩ => ⟨S_, .f32⟩
  | .hbm, ⟨62, _⟩ => ⟨S2x4x8208x8208, .f32⟩
  | .hbm, ⟨63, _⟩ => ⟨S2x4x8208x8208, .f32⟩
  | .hbm, ⟨64, _⟩ => ⟨S2x4x8208x8208, .f32⟩
  | .hbm, ⟨65, _⟩ => ⟨S2x4x8208x8208, .f32⟩
  | .hbm, ⟨66, _⟩ => ⟨S_, .f32⟩
  | .hbm, ⟨67, _⟩ => ⟨S_, .f32⟩
  | .hbm, ⟨68, _⟩ => ⟨S2x4x8208x8208, .i1⟩
  | .hbm, ⟨69, _⟩ => ⟨S2x4x8208x8208, .f32⟩
  | .hbm, ⟨70, _⟩ => ⟨S2x4x8208x8208, .f32⟩
  | .hbm, ⟨71, _⟩ => ⟨S2x4x128x8208, .f32⟩
  | .hbm, ⟨72, _⟩ => ⟨S2x8208x4x128, .f32⟩
  | .hbm, ⟨73, _⟩ => ⟨S2x8208x512, .f32⟩
  | .hbm, ⟨74, _⟩ => ⟨S2x8208x512, .f32⟩
  | .hbm, ⟨75, _⟩ => ⟨S2x8208x512, .f32⟩
  | .hbm, ⟨76, _⟩ => ⟨S_, .f32⟩
  | .hbm, ⟨77, _⟩ => ⟨S2x8208x512, .f32⟩
  | .hbm, ⟨78, _⟩ => ⟨S2x8208x512, .f32⟩
  | .hbm, ⟨79, _⟩ => ⟨S_, .f32⟩
  | .hbm, ⟨80, _⟩ => ⟨S2x8208x512, .f32⟩
  | .hbm, ⟨81, _⟩ => ⟨S2x8208x512, .f32⟩
  | .hbm, ⟨82, _⟩ => ⟨S2x8208x512, .f32⟩
  | .hbm, ⟨83, _⟩ => ⟨S2x8208x512, .f32⟩
  | .hbm, ⟨84, _⟩ => ⟨S_, .i32⟩
  | .hbm, ⟨85, _⟩ => ⟨S_, .f32⟩
  | .hbm, ⟨86, _⟩ => ⟨S2x8448x512, .f32⟩
  | _, _ => ⟨S2x8208x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v16 : Ref sig .tc := ⟨.hbm, 37, rfl⟩
abbrev main_v17 : Ref sig .tc := ⟨.hbm, 38, rfl⟩
abbrev main_call1_v0 : Ref sig .tc := ⟨.hbm, 39, rfl⟩
abbrev main_call1_call0_cst : Ref sig .tc := ⟨.hbm, 40, rfl⟩
abbrev main_call1_call0_v0 : Ref sig .tc := ⟨.hbm, 41, rfl⟩
abbrev main_call1_call0_v1 : Ref sig .tc := ⟨.hbm, 42, rfl⟩
abbrev main_call1_call0_v2 : Ref sig .tc := ⟨.hbm, 43, rfl⟩
abbrev main_call1_call0_v3 : Ref sig .tc := ⟨.hbm, 44, rfl⟩
abbrev main_call1_call0_v4 : Ref sig .tc := ⟨.hbm, 45, rfl⟩
abbrev main_call1_call0_v5 : Ref sig .tc := ⟨.hbm, 46, rfl⟩
abbrev main_call1_call0_v6 : Ref sig .tc := ⟨.hbm, 47, rfl⟩
abbrev main_call1_call0_v7 : Ref sig .tc := ⟨.hbm, 48, rfl⟩
abbrev main_call1_call0_v8 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_v11 : Ref sig .tc := ⟨.hbm, 52, rfl⟩
abbrev main_call1_v1 : Ref sig .tc := ⟨.hbm, 53, rfl⟩
abbrev main_v18 : Ref sig .tc := ⟨.hbm, 54, rfl⟩
abbrev main_cst_0 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v19 : Ref sig .tc := ⟨.hbm, 59, rfl⟩
abbrev main_call3_cst : Ref sig .tc := ⟨.hbm, 60, rfl⟩
abbrev main_call3_v0 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_1 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_call5_v0 : Ref sig .tc := ⟨.hbm, 74, rfl⟩
abbrev main_call5_v1 : Ref sig .tc := ⟨.hbm, 75, rfl⟩
abbrev main_call5_cst : Ref sig .tc := ⟨.hbm, 76, rfl⟩
abbrev main_call5_v2 : Ref sig .tc := ⟨.hbm, 77, rfl⟩
abbrev main_call5_v3 : Ref sig .tc := ⟨.hbm, 78, rfl⟩
abbrev main_call5_cst_0 : Ref sig .tc := ⟨.hbm, 79, rfl⟩
abbrev main_call5_v4 : Ref sig .tc := ⟨.hbm, 80, rfl⟩
abbrev main_call5_v5 : Ref sig .tc := ⟨.hbm, 81, rfl⟩
abbrev main_v28 : Ref sig .tc := ⟨.hbm, 82, rfl⟩
abbrev main_v29 : Ref sig .tc := ⟨.hbm, 83, rfl⟩
abbrev main_c : Ref sig .tc := ⟨.hbm, 84, rfl⟩
abbrev main_call6_v0 : Ref sig .tc := ⟨.hbm, 85, rfl⟩
abbrev main_v30 : Ref sig .tc := ⟨.hbm, 86, rfl⟩

abbrev nD : Nat := 1
abbrev τ : Topo := Topo.v7x

variable {F : FTy → Type} [FloatOps F]
-- ==== Inproj.lean ====
abbrev S2x8192x1024 : Shape := ⟨3, ![2, 8192, 1024]⟩
abbrev S16x1024 : Shape := ⟨2, ![16, 1024]⟩
abbrev S1024 : Shape := ⟨1, ![1024]⟩
abbrev S1024x4104 : Shape := ⟨2, ![1024, 4104]⟩
abbrev S1024x2048 : Shape := ⟨2, ![1024, 2048]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S2x48x1024 : Shape := ⟨3, ![2, 48, 1024]⟩
abbrev S1x16x1024 : Shape := ⟨3, ![1, 16, 1024]⟩
abbrev S2x16x1024 : Shape := ⟨3, ![2, 16, 1024]⟩
abbrev S2x192x1024 : Shape := ⟨3, ![2, 192, 1024]⟩
abbrev S2x8448x1024 : Shape := ⟨3, ![2, 8448, 1024]⟩
abbrev S16896x1024 : Shape := ⟨2, ![16896, 1024]⟩
abbrev S16896x1536 : Shape := ⟨2, ![16896, 1536]⟩
abbrev S16896x512 : Shape := ⟨2, ![16896, 512]⟩
abbrev S16896x128 : Shape := ⟨2, ![16896, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1024x1536 : Shape := ⟨2, ![1024, 1536]⟩
abbrev S1024x512 : Shape := ⟨2, ![1024, 512]⟩
abbrev S2x8448x512 : Shape := ⟨3, ![2, 8448, 512]⟩
abbrev S2x8208x512 : Shape := ⟨3, ![2, 8208, 512]⟩
abbrev S2x8208x4x128 : Shape := ⟨4, ![2, 8208, 4, 128]⟩
abbrev S2x8448x1536 : Shape := ⟨3, ![2, 8448, 1536]⟩
abbrev S2x3x1536 : Shape := ⟨3, ![2, 3, 1536]⟩

abbrev nBuf : Space → Nat
  | .hbm => 38
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S1024x2048, .f32⟩
  | .hbm, ⟨5, _⟩ => ⟨S1024x2048, .f32⟩
  | .hbm, ⟨6, _⟩ => ⟨S1024x4096, .f32⟩
  | .hbm, ⟨7, _⟩ => ⟨S1024x4096, .bf16⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1x1024, .f32⟩
  | .hbm, ⟨13, _⟩ => ⟨S_, .f32⟩
  | .hbm, ⟨14, _⟩ => ⟨S2x48x1024, .f32⟩
  | .hbm, ⟨15, _⟩ => ⟨S1x16x1024, .f32⟩
  | .hbm, ⟨16, _⟩ => ⟨S2x16x1024, .f32⟩
  | .hbm, ⟨17, _⟩ => ⟨S_, .f32⟩
  | .hbm, ⟨18, _⟩ => ⟨S2x192x1024, .f32⟩
  | .hbm, ⟨19, _⟩ => ⟨S2x8448x1024, .f32⟩
  | .hbm, ⟨20, _⟩ => ⟨S16896x1024, .f32⟩
  | .hbm, ⟨21, _⟩ => ⟨S16896x1536, .f32⟩
  | .hbm, ⟨22, _⟩ => ⟨S16896x512, .f32⟩
  | .hbm, ⟨23, _⟩ => ⟨S16896x512, .bf16⟩
  | .hbm, ⟨24, _⟩ => ⟨S16896x512, .f32⟩
  | .hbm, ⟨25, _⟩ => ⟨S16896x512, .f32⟩
  | .hbm, ⟨26, _⟩ => ⟨S16896x512, .f32⟩
  | .hbm, ⟨27, _⟩ => ⟨S16896x128, .f32⟩
  | .hbm, ⟨28, _⟩ => ⟨S16896x512, .bf16⟩
  | .hbm, ⟨29, _⟩ => ⟨S16896x512, .bf16⟩
  | .hbm, ⟨30, _⟩ => ⟨S2x8448x512, .f32⟩
  | .hbm, ⟨31, _⟩ => ⟨S2x8208x512, .f32⟩
  | .hbm, ⟨32, _⟩ => ⟨S2x8208x4x128, .f32⟩
  | .hbm, ⟨33, _⟩ => ⟨S2x8448x512, .f32⟩
  | .hbm, ⟨34, _⟩ => ⟨S2x8208x512, .f32⟩
  | .hbm, ⟨35, _⟩ => ⟨S2x8208x4x128, .f32⟩
  | .hbm, ⟨36, _⟩ => ⟨S2x8448x1536, .f32⟩
  | .hbm, ⟨37, _⟩ => ⟨S2x3x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .f32⟩
  | .local _ .vmem, ⟨5, _⟩ => ⟨S512x1536, .f32⟩
  | .local _ .vmem, ⟨6, _⟩ => ⟨S512x1536, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev main_v13_8 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojRefIdeal.lean ====
abbrev S2x8192x1024 : Shape := ⟨3, ![2, 8192, 1024]⟩
abbrev S16x1024 : Shape := ⟨2, ![16, 1024]⟩
abbrev S1024 : Shape := ⟨1, ![1024]⟩
abbrev S1024x4104 : Shape := ⟨2, ![1024, 4104]⟩
abbrev S1x16x1024 : Shape := ⟨3, ![1, 16, 1024]⟩
abbrev S2x16x1024 : Shape := ⟨3, ![2, 16, 1024]⟩
abbrev S2x8208x1024 : Shape := ⟨3, ![2, 8208, 1024]⟩
abbrev S_ : Shape := ⟨0, ![]⟩
abbrev S2x8208 : Shape := ⟨2, ![2, 8208]⟩
abbrev S2x8208x1 : Shape := ⟨3, ![2, 8208, 1]⟩
abbrev S1x1x1024 : Shape := ⟨3, ![1, 1, 1024]⟩
abbrev S2x8208x4104 : Shape := ⟨3, ![2, 8208, 4104]⟩
abbrev S2x8208x1536 : Shape := ⟨3, ![2, 8208, 1536]⟩
abbrev S2x8208x512 : Shape := ⟨3, ![2, 8208, 512]⟩
abbrev S2x8208x4 : Shape := ⟨3, ![2, 8208, 4]⟩
abbrev S2x8208x8 : Shape := ⟨3, ![2, 8208, 8]⟩
abbrev S2x8208x128 : Shape := ⟨3, ![2, 8208, 128]⟩
abbrev S2x8448x1536 : Shape := ⟨3, ![2, 8448, 1536]⟩
abbrev S16896x1536 : Shape := ⟨2, ![16896, 1536]⟩
abbrev S2x8448x512 : Shape := ⟨3, ![2, 8448, 512]⟩
abbrev S16896x512 : Shape := ⟨2, ![16896, 512]⟩
abbrev S2x8448x128 : Shape := ⟨3, ![2, 8448, 128]⟩
abbrev S16896x128 : Shape := ⟨2, ![16896, 128]⟩
abbrev S2x8208x4x128 : Shape := ⟨4, ![2, 8208, 4, 128]⟩
abbrev S2x3x1536 : Shape := ⟨3, ![2, 3, 1536]⟩
abbrev S2x8211x1536 : Shape := ⟨3, ![2, 8211, 1536]⟩

abbrev nBuf : Space → Nat
  | .hbm => 76
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S1x16x1024, .f32⟩
  | .hbm, ⟨5, _⟩ => ⟨S2x16x1024, .f32⟩
  | .hbm, ⟨6, _⟩ => ⟨S2x8208x1024, .f32⟩
  | .hbm, ⟨7, _⟩ => ⟨S2x8208x1024, .f32⟩
  | .hbm, ⟨8, _⟩ => ⟨S_, .f32⟩
  | .hbm, ⟨9, _⟩ => ⟨S2x8208, .f32⟩
  | .hbm, ⟨10, _⟩ => ⟨S2x8208x1, .f32⟩
  | .hbm, ⟨11, _⟩ => ⟨S_, .f32⟩
  | .hbm, ⟨12, _⟩ => ⟨S2x8208x1, .f32⟩
  | .hbm, ⟨13, _⟩ => ⟨S2x8208x1, .f32⟩
  | .hbm, ⟨14, _⟩ => ⟨S_, .f32⟩
  | .hbm, ⟨15, _⟩ => ⟨S2x8208x1, .f32⟩
  | .hbm, ⟨16, _⟩ => ⟨S2x8208x1, .f32⟩
  | .hbm, ⟨17, _⟩ => ⟨S2x8208x1, .f32⟩
  | .hbm, ⟨18, _⟩ => ⟨S2x8208x1024, .f32⟩
  | .hbm, ⟨19, _⟩ => ⟨S2x8208x1024, .f32⟩
  | .hbm, ⟨20, _⟩ => ⟨S1x1x1024, .f32⟩
  | .hbm, ⟨21, _⟩ => ⟨S2x8208x1024, .f32⟩
  | .hbm, ⟨22, _⟩ => ⟨S2x8208x1024, .f32⟩
  | .hbm, ⟨23, _⟩ => ⟨S2x8208x4104, .f32⟩
  | .hbm, ⟨24, _⟩ => ⟨S2x8208x1536, .f32⟩
  | .hbm, ⟨25, _⟩ => ⟨S2x8208x512, .f32⟩
  | .hbm, ⟨26, _⟩ => ⟨S2x8208x4, .f32⟩
  | .hbm, ⟨27, _⟩ => ⟨S2x8208x4, .f32⟩
  | .hbm, ⟨28, _⟩ => ⟨S2x8208x512, .f32⟩
  | .hbm, ⟨29, _⟩ => ⟨S2x8208x512, .f32⟩
  | .hbm, ⟨30, _⟩ => ⟨S2x8208x512, .f32⟩
  | .hbm, ⟨31, _⟩ => ⟨S2x8208x512, .f32⟩
  | .hbm, ⟨32, _⟩ => ⟨S_, .f32⟩
  | .hbm, ⟨33, _⟩ => ⟨S2x8208x512, .f32⟩
  | .hbm, ⟨34, _⟩ => ⟨S2x8208x512, .f32⟩
  | .hbm, ⟨35, _⟩ => ⟨S2x8208x8, .f32⟩
  | .hbm, ⟨36, _⟩ => ⟨S_, .i32⟩
  | .hbm, ⟨37, _⟩ => ⟨S_, .f32⟩
  | .hbm, ⟨38, _⟩ => ⟨S2x8208x128, .f32⟩
  | .hbm, ⟨39, _⟩ => ⟨S_, .i32⟩
  | .hbm, ⟨40, _⟩ => ⟨S_, .f32⟩
  | .hbm, ⟨41, _⟩ => ⟨S2x8448x1536, .f32⟩
  | .hbm, ⟨42, _⟩ => ⟨S16896x1536, .f32⟩
  | .hbm, ⟨43, _⟩ => ⟨S_, .i32⟩
  | .hbm, ⟨44, _⟩ => ⟨S_, .f32⟩
  | .hbm, ⟨45, _⟩ => ⟨S2x8448x512, .f32⟩
  | .hbm, ⟨46, _⟩ => ⟨S16896x512, .f32⟩
  | .hbm, ⟨47, _⟩ => ⟨S_, .i32⟩
  | .hbm, ⟨48, _⟩ => ⟨S_, .f32⟩
  | .hbm, ⟨49, _⟩ => ⟨S2x8448x512, .f32⟩
  | .hbm, ⟨50, _⟩ => ⟨S16896x512, .f32⟩
  | .hbm, ⟨51, _⟩ => ⟨S_, .i32⟩
  | .hbm, ⟨52, _⟩ => ⟨S_, .f32⟩
  | .hbm, ⟨53, _⟩ => ⟨S2x8448x512, .f32⟩
  | .hbm, ⟨54, _⟩ => ⟨S16896x512, .f32⟩
  | .hbm, ⟨55, _⟩ => ⟨S_, .i32⟩
  | .hbm, ⟨56, _⟩ => ⟨S_, .f32⟩
  | .hbm, ⟨57, _⟩ => ⟨S2x8448x512, .f32⟩
  | .hbm, ⟨58, _⟩ => ⟨S16896x512, .f32⟩
  | .hbm, ⟨59, _⟩ => ⟨S_, .i32⟩
  | .hbm, ⟨60, _⟩ => ⟨S_, .f32⟩
  | .hbm, ⟨61, _⟩ => ⟨S2x8448x512, .f32⟩
  | .hbm, ⟨62, _⟩ => ⟨S16896x512, .f32⟩
  | .hbm, ⟨63, _⟩ => ⟨S_, .i32⟩
  | .hbm, ⟨64, _⟩ => ⟨S_, .f32⟩
  | .hbm, ⟨65, _⟩ => ⟨S2x8448x128, .f32⟩
  | .hbm, ⟨66, _⟩ => ⟨S16896x128, .f32⟩
  | .hbm, ⟨67, _⟩ => ⟨S16896x512, .bf16⟩
  | .hbm, ⟨68, _⟩ => ⟨S16896x512, .bf16⟩
  | .hbm, ⟨69, _⟩ => ⟨S16896x512, .bf16⟩
  | .hbm, ⟨70, _⟩ => ⟨S2x8208x4x128, .f32⟩
  | .hbm, ⟨71, _⟩ => ⟨S2x8208x4x128, .f32⟩
  | .hbm, ⟨72, _⟩ => ⟨S_, .f32⟩
  | .hbm, ⟨73, _⟩ => ⟨S2x3x1536, .f32⟩
  | .hbm, ⟨74, _⟩ => ⟨S2x8211x1536, .f32⟩
  | .hbm, ⟨75, _⟩ => ⟨S2x3x1536, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_call0_v0 : Ref sig .tc := ⟨.hbm, 37, rfl⟩
abbrev main_v28 : Ref sig .tc := ⟨.hbm, 38, rfl⟩
abbrev main_c_3 : Ref sig .tc := ⟨.hbm, 39, rfl⟩
abbrev main_call1_v0 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_call2_v0 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_call3_v0 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_call4_v0 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_call5_v0 : Ref sig .tc := ⟨.hbm, 56, rfl⟩
abbrev main_v37 : Ref sig .tc := ⟨.hbm, 57, rfl⟩
abbrev main_v38 : Ref sig .tc := ⟨.hbm, 58, rfl⟩
abbrev main_c_8 : Ref sig .tc := ⟨.hbm, 59, rfl⟩
abbrev main_call6_v0 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_call7_v0 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]
-- ==== Outproj.lean ====
abbrev S2x8208x1024 : Shape := ⟨3, ![2, 8208, 1024]⟩
abbrev S1024x1024 : Shape := ⟨2, ![1024, 1024]⟩
abbrev S_ : Shape := ⟨0, ![]⟩
abbrev S2x8448x1024 : Shape := ⟨3, ![2, 8448, 1024]⟩
abbrev S16896x1024 : Shape := ⟨2, ![16896, 1024]⟩
abbrev S512x1024 : Shape := ⟨2, ![512, 1024]⟩
abbrev S2x8192x1024 : Shape := ⟨3, ![2, 8192, 1024]⟩

abbrev nBuf : Space → Nat
  | .hbm => 16
  | .vmem => 7
  | .smem => 0
  | _ => 0

abbrev bufTy : (tb : Table) → Fin (tcTables nBuf tb) → BufTy
  | .hbm, ⟨0, _⟩ => ⟨S2x8208x1024, .f32⟩
  | .hbm, ⟨1, _⟩ => ⟨S2x8208x1024, .f32⟩
  | .hbm, ⟨2, _⟩ => ⟨S1024x1024, .f32⟩
  | .hbm, ⟨3, _⟩ => ⟨S_, .i32⟩
  | .hbm, ⟨4, _⟩ => ⟨S_, .f32⟩
  | .hbm, ⟨5, _⟩ => ⟨S2x8448x1024, .f32⟩
  | .hbm, ⟨6, _⟩ => ⟨S16896x1024, .f32⟩
  | .hbm, ⟨7, _⟩ => ⟨S_, .i32⟩
  | .hbm, ⟨8, _⟩ => ⟨S_, .f32⟩
  | .hbm, ⟨9, _⟩ => ⟨S2x8448x1024, .f32⟩
  | .hbm, ⟨10, _⟩ => ⟨S16896x1024, .f32⟩
  | .hbm, ⟨11, _⟩ => ⟨S16896x1024, .bf16⟩
  | .hbm, ⟨12, _⟩ => ⟨S1024x1024, .bf16⟩
  | .hbm, ⟨13, _⟩ => ⟨S16896x1024, .f32⟩
  | .hbm, ⟨14, _⟩ => ⟨S2x8448x1024, .f32⟩
  | .hbm, ⟨15, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S2x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojRefIdeal.lean ====
abbrev S2x8208x1024 : Shape := ⟨3, ![2, 8208, 1024]⟩
abbrev S1024x1024 : Shape := ⟨2, ![1024, 1024]⟩
abbrev S_ : Shape := ⟨0, ![]⟩
abbrev S2x8448x1024 : Shape := ⟨3, ![2, 8448, 1024]⟩
abbrev S16896x1024 : Shape := ⟨2, ![16896, 1024]⟩
abbrev S2x8192x1024 : Shape := ⟨3, ![2, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x8208x1024, .f32⟩
  | .hbm, ⟨1, _⟩ => ⟨S2x8208x1024, .f32⟩
  | .hbm, ⟨2, _⟩ => ⟨S1024x1024, .f32⟩
  | .hbm, ⟨3, _⟩ => ⟨S2x8208x1024, .f32⟩
  | .hbm, ⟨4, _⟩ => ⟨S2x8208x1024, .f32⟩
  | .hbm, ⟨5, _⟩ => ⟨S_, .i32⟩
  | .hbm, ⟨6, _⟩ => ⟨S_, .f32⟩
  | .hbm, ⟨7, _⟩ => ⟨S2x8448x1024, .f32⟩
  | .hbm, ⟨8, _⟩ => ⟨S16896x1024, .f32⟩
  | .hbm, ⟨9, _⟩ => ⟨S2x8192x1024, .f32⟩
  | _, _ => ⟨S2x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Mid.lean ====
abbrev S2x8208x1024 : Shape := ⟨3, ![2, 8208, 1024]⟩
abbrev S2x8208x512 : Shape := ⟨3, ![2, 8208, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S512x1024 : Shape := ⟨2, ![512, 1024]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S_ : Shape := ⟨0, ![]⟩
abbrev S256x256 : Shape := ⟨2, ![256, 256]⟩
abbrev S2x8448x1024 : Shape := ⟨3, ![2, 8448, 1024]⟩
abbrev S16896x1024 : Shape := ⟨2, ![16896, 1024]⟩
abbrev S2x8448x512 : Shape := ⟨3, ![2, 8448, 512]⟩
abbrev S16896x512 : Shape := ⟨2, ![16896, 512]⟩
abbrev S16896x256 : Shape := ⟨2, ![16896, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩
abbrev S2x8448x256 : Shape := ⟨3, ![2, 8448, 256]⟩
abbrev S2x128x256 : Shape := ⟨3, ![2, 128, 256]⟩
abbrev S2x128x4x64 : Shape := ⟨4, ![2, 128, 4, 64]⟩
abbrev S2x16x256 : Shape := ⟨3, ![2, 16, 256]⟩
abbrev S2x16x4x64 : Shape := ⟨4, ![2, 16, 4, 64]⟩

abbrev nBuf : Space → Nat
  | .hbm => 95
  | .vmem => 27
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x512, .f32⟩
  | .hbm, ⟨3, _⟩ => ⟨S1024x1024, .f32⟩
  | .hbm, ⟨4, _⟩ => ⟨S1024, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S512x1024, .f32⟩
  | .hbm, ⟨9, _⟩ => ⟨S512x1024, .bf16⟩
  | .hbm, ⟨10, _⟩ => ⟨S512x1024, .f32⟩
  | .hbm, ⟨11, _⟩ => ⟨S512x1024, .bf16⟩
  | .hbm, ⟨12, _⟩ => ⟨S1x1024, .f32⟩
  | .hbm, ⟨13, _⟩ => ⟨S1024x2560, .bf16⟩
  | .hbm, ⟨14, _⟩ => ⟨S1x64, .f32⟩
  | .hbm, ⟨15, _⟩ => ⟨S16x64, .f32⟩
  | .hbm, ⟨16, _⟩ => ⟨S1024, .f32⟩
  | .hbm, ⟨17, _⟩ => ⟨S1x1024, .f32⟩
  | .hbm, ⟨18, _⟩ => ⟨S1x64, .f32⟩
  | .hbm, ⟨19, _⟩ => ⟨S4x64, .f32⟩
  | .hbm, ⟨20, _⟩ => ⟨S256, .f32⟩
  | .hbm, ⟨21, _⟩ => ⟨S1x256, .f32⟩
  | .hbm, ⟨22, _⟩ => ⟨S256, .i32⟩
  | .hbm, ⟨23, _⟩ => ⟨S256x1, .i32⟩
  | .hbm, ⟨24, _⟩ => ⟨S_, .i32⟩
  | .hbm, ⟨25, _⟩ => ⟨S_, .i32⟩
  | .hbm, ⟨26, _⟩ => ⟨S256x1, .i32⟩
  | .hbm, ⟨27, _⟩ => ⟨S256x1, .i32⟩
  | .hbm, ⟨28, _⟩ => ⟨S256x1, .i32⟩
  | .hbm, ⟨29, _⟩ => ⟨S_, .i32⟩
  | .hbm, ⟨30, _⟩ => ⟨S256x1, .i32⟩
  | .hbm, ⟨31, _⟩ => ⟨S256x1, .i1⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i1⟩
  | .hbm, ⟨38, _⟩ => ⟨S_, .i32⟩
  | .hbm, ⟨39, _⟩ => ⟨S256x1, .i32⟩
  | .hbm, ⟨40, _⟩ => ⟨S256x1, .i32⟩
  | .hbm, ⟨41, _⟩ => ⟨S256x1, .i32⟩
  | .hbm, ⟨42, _⟩ => ⟨S256, .i32⟩
  | .hbm, ⟨43, _⟩ => ⟨S1x256, .i32⟩
  | .hbm, ⟨44, _⟩ => ⟨S_, .i32⟩
  | .hbm, ⟨45, _⟩ => ⟨S_, .i32⟩
  | .hbm, ⟨46, _⟩ => ⟨S1x256, .i32⟩
  | .hbm, ⟨47, _⟩ => ⟨S1x256, .i32⟩
  | .hbm, ⟨48, _⟩ => ⟨S1x256, .i32⟩
  | .hbm, ⟨49, _⟩ => ⟨S_, .i32⟩
  | .hbm, ⟨50, _⟩ => ⟨S1x256, .i32⟩
  | .hbm, ⟨51, _⟩ => ⟨S1x256, .i1⟩
  | .hbm, ⟨52, _⟩ => ⟨S1x256, .i32⟩
  | .hbm, ⟨53, _⟩ => ⟨S1x256, .i32⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x256, .i1⟩
  | .hbm, ⟨58, _⟩ => ⟨S_, .i32⟩
  | .hbm, ⟨59, _⟩ => ⟨S1x256, .i32⟩
  | .hbm, ⟨60, _⟩ => ⟨S1x256, .i32⟩
  | .hbm, ⟨61, _⟩ => ⟨S1x256, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S256x256, .bf16⟩
  | .hbm, ⟨66, _⟩ => ⟨S_, .i32⟩
  | .hbm, ⟨67, _⟩ => ⟨S_, .f32⟩
  | .hbm, ⟨68, _⟩ => ⟨S2x8448x1024, .f32⟩
  | .hbm, ⟨69, _⟩ => ⟨S16896x1024, .f32⟩
  | .hbm, ⟨70, _⟩ => ⟨S_, .i32⟩
  | .hbm, ⟨71, _⟩ => ⟨S_, .f32⟩
  | .hbm, ⟨72, _⟩ => ⟨S2x8448x512, .f32⟩
  | .hbm, ⟨73, _⟩ => ⟨S16896x512, .f32⟩
  | .hbm, ⟨74, _⟩ => ⟨S_, .i32⟩
  | .hbm, ⟨75, _⟩ => ⟨S_, .f32⟩
  | .hbm, ⟨76, _⟩ => ⟨S2x8448x512, .f32⟩
  | .hbm, ⟨77, _⟩ => ⟨S16896x512, .f32⟩
  | .hbm, ⟨78, _⟩ => ⟨S16896x1024, .f32⟩
  | .hbm, ⟨79, _⟩ => ⟨S16896x1024, .bf16⟩
  | .hbm, ⟨80, _⟩ => ⟨S16896x256, .f32⟩
  | .hbm, ⟨81, _⟩ => ⟨S16896x256, .f32⟩
  | .hbm, ⟨82, _⟩ => ⟨S16896x1024, .f32⟩
  | .hbm, ⟨83, _⟩ => ⟨S16896x256, .bf16⟩
  | .hbm, ⟨84, _⟩ => ⟨S16896x256, .bf16⟩
  | .hbm, ⟨85, _⟩ => ⟨S2x8448x256, .f32⟩
  | .hbm, ⟨86, _⟩ => ⟨S2x8448x256, .f32⟩
  | .hbm, ⟨87, _⟩ => ⟨S2x128x256, .f32⟩
  | .hbm, ⟨88, _⟩ => ⟨S2x128x4x64, .f32⟩
  | .hbm, ⟨89, _⟩ => ⟨S2x128x256, .f32⟩
  | .hbm, ⟨90, _⟩ => ⟨S2x128x4x64, .f32⟩
  | .hbm, ⟨91, _⟩ => ⟨S2x16x256, .f32⟩
  | .hbm, ⟨92, _⟩ => ⟨S2x16x4x64, .f32⟩
  | .hbm, ⟨93, _⟩ => ⟨S2x16x256, .f32⟩
  | .hbm, ⟨94, _⟩ => ⟨S2x16x4x64, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2560, .bf16⟩
  | .local _ .vmem, ⟨10, _⟩ => ⟨S1x1024, .f32⟩
  | .local _ .vmem, ⟨11, _⟩ => ⟨S1x256, .f32⟩
  | .local _ .vmem, ⟨12, _⟩ => ⟨S256x256, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .f32⟩
  | .local _ .vmem, ⟨22, _⟩ => ⟨S512x1024, .f32⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | _, _ => ⟨S2x8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_0 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_c_1 : Ref sig .tc := ⟨.hbm, 66, rfl⟩
abbrev main_call2_v0 : Ref sig .tc := ⟨.hbm, 67, rfl⟩
abbrev main_v24 : Ref sig .tc := ⟨.hbm, 68, rfl⟩
abbrev main_v25 : Ref sig .tc := ⟨.hbm, 69, rfl⟩
abbrev main_c_2 : Ref sig .tc := ⟨.hbm, 70, rfl⟩
abbrev main_call3_v0 : Ref sig .tc := ⟨.hbm, 71, rfl⟩
abbrev main_v26 : Ref sig .tc := ⟨.hbm, 72, rfl⟩
abbrev main_v27 : Ref sig .tc := ⟨.hbm, 73, rfl⟩
abbrev main_c_3 : Ref sig .tc := ⟨.hbm, 74, rfl⟩
abbrev main_call4_v0 : Ref sig .tc := ⟨.hbm, 75, rfl⟩
abbrev main_v28 : Ref sig .tc := ⟨.hbm, 76, rfl⟩
abbrev main_v29 : Ref sig .tc := ⟨.hbm, 77, rfl⟩
abbrev main_v30_0 : Ref sig .tc := ⟨.hbm, 78, rfl⟩
abbrev main_v30_1 : Ref sig .tc := ⟨.hbm, 79, rfl⟩
abbrev main_v30_2 : Ref sig .tc := ⟨.hbm, 80, rfl⟩
abbrev main_v30_3 : Ref sig .tc := ⟨.hbm, 81, rfl⟩
abbrev main_v30_4 : Ref sig .tc := ⟨.hbm, 82, rfl⟩
abbrev main_v30_5 : Ref sig .tc := ⟨.hbm, 83, rfl⟩
abbrev main_v30_6 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MidRefIdeal.lean ====
abbrev S2x8208x1024 : Shape := ⟨3, ![2, 8208, 1024]⟩
abbrev S2x8208x512 : Shape := ⟨3, ![2, 8208, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S_ : Shape := ⟨0, ![]⟩
abbrev S2x8208 : Shape := ⟨2, ![2, 8208]⟩
abbrev S2x8208x1 : Shape := ⟨3, ![2, 8208, 1]⟩
abbrev S1x1x1024 : Shape := ⟨3, ![1, 1, 1024]⟩
abbrev S2x8208x2560 : Shape := ⟨3, ![2, 8208, 2560]⟩
abbrev S2x8208x256 : Shape := ⟨3, ![2, 8208, 256]⟩
abbrev S2x8208x16x64 : Shape := ⟨4, ![2, 8208, 16, 64]⟩
abbrev S2x8208x16 : Shape := ⟨3, ![2, 8208, 16]⟩
abbrev S2x8208x16x1 : Shape := ⟨4, ![2, 8208, 16, 1]⟩
abbrev S1x1x1x64 : Shape := ⟨4, ![1, 1, 1, 64]⟩
abbrev S2x8208x4x64 : Shape := ⟨4, ![2, 8208, 4, 64]⟩
abbrev S2x8208x4 : Shape := ⟨3, ![2, 8208, 4]⟩
abbrev S2x8208x4x1 : Shape := ⟨4, ![2, 8208, 4, 1]⟩
abbrev S2x8448x1024 : Shape := ⟨3, ![2, 8448, 1024]⟩
abbrev S16896x1024 : Shape := ⟨2, ![16896, 1024]⟩
abbrev S2x8448x256 : Shape := ⟨3, ![2, 8448, 256]⟩
abbrev S16896x256 : Shape := ⟨2, ![16896, 256]⟩
abbrev S2x128x4x64 : Shape := ⟨4, ![2, 128, 4, 64]⟩
abbrev S2x16x4x64 : Shape := ⟨4, ![2, 16, 4, 64]⟩

abbrev nBuf : Space → Nat
  | .hbm => 106
  | .vmem => 0
  | .smem => 0
  | _ => 0

abbrev bufTy : (tb : Table) → Fin (tcTables nBuf tb) → BufTy
  | .hbm, ⟨0, _⟩ => ⟨S2x8208x1024, .f32⟩
  | .hbm, ⟨1, _⟩ => ⟨S2x8208x512, .f32⟩
  | .hbm, ⟨2, _⟩ => ⟨S2x8208x512, .f32⟩
  | .hbm, ⟨3, _⟩ => ⟨S1024x1024, .f32⟩
  | .hbm, ⟨4, _⟩ => ⟨S1024, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S2x8208x1024, .f32⟩
  | .hbm, ⟨9, _⟩ => ⟨S2x8208x1024, .f32⟩
  | .hbm, ⟨10, _⟩ => ⟨S2x8208x1024, .f32⟩
  | .hbm, ⟨11, _⟩ => ⟨S2x8208x1024, .f32⟩
  | .hbm, ⟨12, _⟩ => ⟨S_, .f32⟩
  | .hbm, ⟨13, _⟩ => ⟨S2x8208, .f32⟩
  | .hbm, ⟨14, _⟩ => ⟨S2x8208x1, .f32⟩
  | .hbm, ⟨15, _⟩ => ⟨S_, .f32⟩
  | .hbm, ⟨16, _⟩ => ⟨S2x8208x1, .f32⟩
  | .hbm, ⟨17, _⟩ => ⟨S2x8208x1, .f32⟩
  | .hbm, ⟨18, _⟩ => ⟨S_, .f32⟩
  | .hbm, ⟨19, _⟩ => ⟨S2x8208x1, .f32⟩
  | .hbm, ⟨20, _⟩ => ⟨S2x8208x1, .f32⟩
  | .hbm, ⟨21, _⟩ => ⟨S2x8208x1, .f32⟩
  | .hbm, ⟨22, _⟩ => ⟨S2x8208x1024, .f32⟩
  | .hbm, ⟨23, _⟩ => ⟨S2x8208x1024, .f32⟩
  | .hbm, ⟨24, _⟩ => ⟨S1x1x1024, .f32⟩
  | .hbm, ⟨25, _⟩ => ⟨S2x8208x1024, .f32⟩
  | .hbm, ⟨26, _⟩ => ⟨S2x8208x1024, .f32⟩
  | .hbm, ⟨27, _⟩ => ⟨S2x8208x2560, .f32⟩
  | .hbm, ⟨28, _⟩ => ⟨S2x8208x1024, .f32⟩
  | .hbm, ⟨29, _⟩ => ⟨S2x8208x256, .f32⟩
  | .hbm, ⟨30, _⟩ => ⟨S2x8208x256, .f32⟩
  | .hbm, ⟨31, _⟩ => ⟨S2x8208x1024, .f32⟩
  | .hbm, ⟨32, _⟩ => ⟨S2x8208x16x64, .f32⟩
  | .hbm, ⟨33, _⟩ => ⟨S2x8208x16x64, .f32⟩
  | .hbm, ⟨34, _⟩ => ⟨S_, .f32⟩
  | .hbm, ⟨35, _⟩ => ⟨S2x8208x16, .f32⟩
  | .hbm, ⟨36, _⟩ => ⟨S2x8208x16x1, .f32⟩
  | .hbm, ⟨37, _⟩ => ⟨S_, .f32⟩
  | .hbm, ⟨38, _⟩ => ⟨S2x8208x16x1, .f32⟩
  | .hbm, ⟨39, _⟩ => ⟨S2x8208x16x1, .f32⟩
  | .hbm, ⟨40, _⟩ => ⟨S_, .f32⟩
  | .hbm, ⟨41, _⟩ => ⟨S2x8208x16x1, .f32⟩
  | .hbm, ⟨42, _⟩ => ⟨S2x8208x16x1, .f32⟩
  | .hbm, ⟨43, _⟩ => ⟨S2x8208x16x1, .f32⟩
  | .hbm, ⟨44, _⟩ => ⟨S2x8208x16x64, .f32⟩
  | .hbm, ⟨45, _⟩ => ⟨S2x8208x16x64, .f32⟩
  | .hbm, ⟨46, _⟩ => ⟨S1x1x1x64, .f32⟩
  | .hbm, ⟨47, _⟩ => ⟨S2x8208x16x64, .f32⟩
  | .hbm, ⟨48, _⟩ => ⟨S2x8208x16x64, .f32⟩
  | .hbm, ⟨49, _⟩ => ⟨S2x8208x1024, .f32⟩
  | .hbm, ⟨50, _⟩ => ⟨S2x8208x4x64, .f32⟩
  | .hbm, ⟨51, _⟩ => ⟨S2x8208x4x64, .f32⟩
  | .hbm, ⟨52, _⟩ => ⟨S_, .f32⟩
  | .hbm, ⟨53, _⟩ => ⟨S2x8208x4, .f32⟩
  | .hbm, ⟨54, _⟩ => ⟨S2x8208x4x1, .f32⟩
  | .hbm, ⟨55, _⟩ => ⟨S_, .f32⟩
  | .hbm, ⟨56, _⟩ => ⟨S2x8208x4x1, .f32⟩
  | .hbm, ⟨57, _⟩ => ⟨S2x8208x4x1, .f32⟩
  | .hbm, ⟨58, _⟩ => ⟨S_, .f32⟩
  | .hbm, ⟨59, _⟩ => ⟨S2x8208x4x1, .f32⟩
  | .hbm, ⟨60, _⟩ => ⟨S2x8208x4x1, .f32⟩
  | .hbm, ⟨61, _⟩ => ⟨S2x8208x4x1, .f32⟩
  | .hbm, ⟨62, _⟩ => ⟨S2x8208x4x64, .f32⟩
  | .hbm, ⟨63, _⟩ => ⟨S2x8208x4x64, .f32⟩
  | .hbm, ⟨64, _⟩ => ⟨S1x1x1x64, .f32⟩
  | .hbm, ⟨65, _⟩ => ⟨S2x8208x4x64, .f32⟩
  | .hbm, ⟨66, _⟩ => ⟨S2x8208x4x64, .f32⟩
  | .hbm, ⟨67, _⟩ => ⟨S2x8208x256, .f32⟩
  | .hbm, ⟨68, _⟩ => ⟨S2x8208x1024, .f32⟩
  | .hbm, ⟨69, _⟩ => ⟨S2x8208x1024, .f32⟩
  | .hbm, ⟨70, _⟩ => ⟨S_, .f32⟩
  | .hbm, ⟨71, _⟩ => ⟨S2x8208x1024, .f32⟩
  | .hbm, ⟨72, _⟩ => ⟨S2x8208x1024, .f32⟩
  | .hbm, ⟨73, _⟩ => ⟨S_, .f32⟩
  | .hbm, ⟨74, _⟩ => ⟨S2x8208x1024, .f32⟩
  | .hbm, ⟨75, _⟩ => ⟨S2x8208x1024, .f32⟩
  | .hbm, ⟨76, _⟩ => ⟨S2x8208x1024, .f32⟩
  | .hbm, ⟨77, _⟩ => ⟨S_, .i32⟩
  | .hbm, ⟨78, _⟩ => ⟨S_, .f32⟩
  | .hbm, ⟨79, _⟩ => ⟨S2x8448x1024, .f32⟩
  | .hbm, ⟨80, _⟩ => ⟨S16896x1024, .f32⟩
  | .hbm, ⟨81, _⟩ => ⟨S_, .i32⟩
  | .hbm, ⟨82, _⟩ => ⟨S_, .f32⟩
  | .hbm, ⟨83, _⟩ => ⟨S2x8448x1024, .f32⟩
  | .hbm, ⟨84, _⟩ => ⟨S16896x1024, .f32⟩
  | .hbm, ⟨85, _⟩ => ⟨S_, .i32⟩
  | .hbm, ⟨86, _⟩ => ⟨S_, .f32⟩
  | .hbm, ⟨87, _⟩ => ⟨S2x8448x256, .f32⟩
  | .hbm, ⟨88, _⟩ => ⟨S16896x256, .f32⟩
  | .hbm, ⟨89, _⟩ => ⟨S_, .i32⟩
  | .hbm, ⟨90, _⟩ => ⟨S_, .f32⟩
  | .hbm, ⟨91, _⟩ => ⟨S2x8448x256, .f32⟩
  | .hbm, ⟨92, _⟩ => ⟨S16896x256, .f32⟩
  | .hbm, ⟨93, _⟩ => ⟨S_, .i32⟩
  | .hbm, ⟨94, _⟩ => ⟨S_, .f32⟩
  | .hbm, ⟨95, _⟩ => ⟨S2x8448x1024, .f32⟩
  | .hbm, ⟨96, _⟩ => ⟨S16896x1024, .f32⟩
  | .hbm, ⟨97, _⟩ => ⟨S16896x1024, .bf16⟩
  | .hbm, ⟨98, _⟩ => ⟨S16896x256, .bf16⟩
  | .hbm, ⟨99, _⟩ => ⟨S16896x256, .bf16⟩
  | .hbm, ⟨100, _⟩ => ⟨S2x8208x4x64, .f32⟩
  | .hbm, ⟨101, _⟩ => ⟨S2x8208x4x64, .f32⟩
  | .hbm, ⟨102, _⟩ => ⟨S2x128x4x64, .f32⟩
  | .hbm, ⟨103, _⟩ => ⟨S2x128x4x64, .f32⟩
  | .hbm, ⟨104, _⟩ => ⟨S2x16x4x64, .f32⟩
  | .hbm, ⟨105, _⟩ => ⟨S2x16x4x64, .f32⟩
  | _, _ => ⟨S2x8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v51 : Ref sig .tc := ⟨.hbm, 76, rfl⟩
abbrev main_c : Ref sig .tc := ⟨.hbm, 77, rfl⟩
abbrev main_call1_v0 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_call2_v0 : Ref sig .tc := ⟨.hbm, 82, rfl⟩
abbrev main_v54 : Ref sig .tc := ⟨.hbm, 83, rfl⟩
abbrev main_v55 : Ref sig .tc := ⟨.hbm, 84, rfl⟩
abbrev main_c_9 : Ref sig .tc := ⟨.hbm, 85, rfl⟩
abbrev main_call3_v0 : Ref sig .tc := ⟨.hbm, 86, rfl⟩
abbrev main_v56 : Ref sig .tc := ⟨.hbm, 87, rfl⟩
abbrev main_v57 : Ref sig .tc := ⟨.hbm, 88, rfl⟩
abbrev main_c_10 : Ref sig .tc := ⟨.hbm, 89, rfl⟩
abbrev main_call4_v0 : Ref sig .tc := ⟨.hbm, 90, rfl⟩
abbrev main_v58 : Ref sig .tc := ⟨.hbm, 91, rfl⟩
abbrev main_v59 : Ref sig .tc := ⟨.hbm, 92, rfl⟩
abbrev main_c_11 : Ref sig .tc := ⟨.hbm, 93, rfl⟩
abbrev main_call5_v0 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]
-- ==== InprojSample.lean ====
abbrev S128x8x1024 : Shape := ⟨3, ![128, 8, 1024]⟩
abbrev S1024 : Shape := ⟨1, ![1024]⟩
abbrev S1024x4104 : Shape := ⟨2, ![1024, 4104]⟩
abbrev S128x3x1536 : Shape := ⟨3, ![128, 3, 1536]⟩
abbrev S1024x1024 : Shape := ⟨2, ![1024, 1024]⟩
abbrev S1024x2048 : Shape := ⟨2, ![1024, 2048]⟩
abbrev S1024x4096 : Shape := ⟨2, ![1024, 4096]⟩
abbrev S1024x8 : Shape := ⟨2, ![1024, 8]⟩
abbrev S_ : Shape := ⟨0, ![]⟩
abbrev S1024x128 : Shape := ⟨2, ![1024, 128]⟩
abbrev S1x1024 : Shape := ⟨2, ![1, 1024]⟩
abbrev S1024x1536 : Shape := ⟨2, ![1024, 1536]⟩
abbrev S1024x512 : Shape := ⟨2, ![1024, 512]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S128x8x512 : Shape := ⟨3, ![128, 8, 512]⟩
abbrev S128x8x4x128 : Shape := ⟨4, ![128, 8, 4, 128]⟩
abbrev S128x8x1536 : Shape := ⟨3, ![128, 8, 1536]⟩
abbrev S128x11x1536 : Shape := ⟨3, ![128, 11, 1536]⟩

abbrev nBuf : Space → Nat
  | .hbm => 30
  | .vmem => 23
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x4104, .f32⟩
  | .hbm, ⟨3, _⟩ => ⟨S128x3x1536, .f32⟩
  | .hbm, ⟨4, _⟩ => ⟨S1024x1024, .f32⟩
  | .hbm, ⟨5, _⟩ => ⟨S1024x2048, .f32⟩
  | .hbm, ⟨6, _⟩ => ⟨S1024x2048, .f32⟩
  | .hbm, ⟨7, _⟩ => ⟨S1024x4096, .f32⟩
  | .hbm, ⟨8, _⟩ => ⟨S1024x4096, .bf16⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1x1024, .f32⟩
  | .hbm, ⟨14, _⟩ => ⟨S1024x1536, .f32⟩
  | .hbm, ⟨15, _⟩ => ⟨S1024x512, .f32⟩
  | .hbm, ⟨16, _⟩ => ⟨S1024x512, .bf16⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x128, .f32⟩
  | .hbm, ⟨21, _⟩ => ⟨S1024x512, .bf16⟩
  | .hbm, ⟨22, _⟩ => ⟨S1024x512, .bf16⟩
  | .hbm, ⟨23, _⟩ => ⟨S128x8x512, .f32⟩
  | .hbm, ⟨24, _⟩ => ⟨S128x8x4x128, .f32⟩
  | .hbm, ⟨25, _⟩ => ⟨S128x8x512, .f32⟩
  | .hbm, ⟨26, _⟩ => ⟨S128x8x4x128, .f32⟩
  | .hbm, ⟨27, _⟩ => ⟨S128x8x1536, .f32⟩
  | .hbm, ⟨28, _⟩ => ⟨S128x11x1536, .f32⟩
  | .hbm, ⟨29, _⟩ => ⟨S128x3x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1024x128, .f32⟩
  | .local _ .vmem, ⟨5, _⟩ => ⟨S512x1536, .f32⟩
  | .local _ .vmem, ⟨6, _⟩ => ⟨S512x1536, .f32⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev main_v8_7 : Ref sig .tc := ⟨.hbm, 21, rfl⟩
abbrev main_v8_8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InprojSampleRefIdeal.lean ====
abbrev S128x8x1024 : Shape := ⟨3, ![128, 8, 1024]⟩
abbrev S1024 : Shape := ⟨1, ![1024]⟩
abbrev S1024x4104 : Shape := ⟨2, ![1024, 4104]⟩
abbrev S128x3x1536 : Shape := ⟨3, ![128, 3, 1536]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x4104 : Shape := ⟨3, ![128, 8, 4104]⟩
abbrev S128x8x1536 : Shape := ⟨3, ![128, 8, 1536]⟩
abbrev S128x8x512 : Shape := ⟨3, ![128, 8, 512]⟩
abbrev S128x8x4 : Shape := ⟨3, ![128, 8, 4]⟩
abbrev S128x8x8 : Shape := ⟨3, ![128, 8, 8]⟩
abbrev S128x8x128 : Shape := ⟨3, ![128, 8, 128]⟩
abbrev S1024x1536 : Shape := ⟨2, ![1024, 1536]⟩
abbrev S1024x512 : Shape := ⟨2, ![1024, 512]⟩
abbrev S1024x128 : Shape := ⟨2, ![1024, 128]⟩
abbrev S128x8x4x128 : Shape := ⟨4, ![128, 8, 4, 128]⟩
abbrev S128x11x1536 : Shape := ⟨3, ![128, 11, 1536]⟩

abbrev nBuf : Space → Nat
  | .hbm => 51
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x4104, .f32⟩
  | .hbm, ⟨3, _⟩ => ⟨S128x3x1536, .f32⟩
  | .hbm, ⟨4, _⟩ => ⟨S128x8x1024, .f32⟩
  | .hbm, ⟨5, _⟩ => ⟨S_, .f32⟩
  | .hbm, ⟨6, _⟩ => ⟨S128x8, .f32⟩
  | .hbm, ⟨7, _⟩ => ⟨S128x8x1, .f32⟩
  | .hbm, ⟨8, _⟩ => ⟨S_, .f32⟩
  | .hbm, ⟨9, _⟩ => ⟨S128x8x1, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S128x8x1, .f32⟩
  | .hbm, ⟨15, _⟩ => ⟨S128x8x1024, .f32⟩
  | .hbm, ⟨16, _⟩ => ⟨S128x8x1024, .f32⟩
  | .hbm, ⟨17, _⟩ => ⟨S1x1x1024, .f32⟩
  | .hbm, ⟨18, _⟩ => ⟨S128x8x1024, .f32⟩
  | .hbm, ⟨19, _⟩ => ⟨S128x8x1024, .f32⟩
  | .hbm, ⟨20, _⟩ => ⟨S128x8x4104, .f32⟩
  | .hbm, ⟨21, _⟩ => ⟨S128x8x1536, .f32⟩
  | .hbm, ⟨22, _⟩ => ⟨S128x8x512, .f32⟩
  | .hbm, ⟨23, _⟩ => ⟨S128x8x4, .f32⟩
  | .hbm, ⟨24, _⟩ => ⟨S128x8x4, .f32⟩
  | .hbm, ⟨25, _⟩ => ⟨S128x8x512, .f32⟩
  | .hbm, ⟨26, _⟩ => ⟨S128x8x512, .f32⟩
  | .hbm, ⟨27, _⟩ => ⟨S128x8x512, .f32⟩
  | .hbm, ⟨28, _⟩ => ⟨S128x8x512, .f32⟩
  | .hbm, ⟨29, _⟩ => ⟨S_, .f32⟩
  | .hbm, ⟨30, _⟩ => ⟨S128x8x512, .f32⟩
  | .hbm, ⟨31, _⟩ => ⟨S128x8x512, .f32⟩
  | .hbm, ⟨32, _⟩ => ⟨S128x8x8, .f32⟩
  | .hbm, ⟨33, _⟩ => ⟨S_, .i32⟩
  | .hbm, ⟨34, _⟩ => ⟨S_, .f32⟩
  | .hbm, ⟨35, _⟩ => ⟨S128x8x128, .f32⟩
  | .hbm, ⟨36, _⟩ => ⟨S1024x1536, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x128, .f32⟩
  | .hbm, ⟨43, _⟩ => ⟨S1024x512, .bf16⟩
  | .hbm, ⟨44, _⟩ => ⟨S1024x512, .bf16⟩
  | .hbm, ⟨45, _⟩ => ⟨S1024x512, .bf16⟩
  | .hbm, ⟨46, _⟩ => ⟨S128x8x4x128, .f32⟩
  | .hbm, ⟨47, _⟩ => ⟨S128x8x4x128, .f32⟩
  | .hbm, ⟨48, _⟩ => ⟨S128x8x1536, .f32⟩
  | .hbm, ⟨49, _⟩ => ⟨S128x11x1536, .f32⟩
  | .hbm, ⟨50, _⟩ => ⟨S128x3x1536, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_call0_v0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== OutprojSample.lean ====
abbrev S128x8x1024 : Shape := ⟨3, ![128, 8, 1024]⟩
abbrev S1024x1024 : Shape := ⟨2, ![1024, 1024]⟩
abbrev S512x1024 : Shape := ⟨2, ![512, 1024]⟩

abbrev nBuf : Space → Nat
  | .hbm => 9
  | .vmem => 7
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S1024x1024, .f32⟩
  | .hbm, ⟨8, _⟩ => ⟨S128x8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutprojSampleRefIdeal.lean ====
abbrev S128x8x1024 : Shape := ⟨3, ![128, 8, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x1024, .f32⟩
  | .hbm, ⟨2, _⟩ => ⟨S1024x1024, .f32⟩
  | .hbm, ⟨3, _⟩ => ⟨S128x8x1024, .f32⟩
  | .hbm, ⟨4, _⟩ => ⟨S128x8x1024, .f32⟩
  | .hbm, ⟨5, _⟩ => ⟨S1024x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MidSample.lean ====
abbrev S128x8x1024 : Shape := ⟨3, ![128, 8, 1024]⟩
abbrev S128x8x512 : Shape := ⟨3, ![128, 8, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S128x128x4x64 : Shape := ⟨4, ![128, 128, 4, 64]⟩
abbrev S512x1024 : Shape := ⟨2, ![512, 1024]⟩
abbrev S1x1024 : Shape := ⟨2, ![1, 1024]⟩
abbrev S1x64 : Shape := ⟨2, ![1, 64]⟩
abbrev S16x64 : Shape := ⟨2, ![16, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S_ : Shape := ⟨0, ![]⟩
abbrev S256x256 : Shape := ⟨2, ![256, 256]⟩
abbrev S1024x512 : Shape := ⟨2, ![1024, 512]⟩
abbrev S1024x256 : Shape := ⟨2, ![1024, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S128x8x256 : Shape := ⟨3, ![128, 8, 256]⟩
abbrev S128x8x4x64 : Shape := ⟨4, ![128, 8, 4, 64]⟩
abbrev S128x136x4x64 : Shape := ⟨4, ![128, 136, 4, 64]⟩

abbrev nBuf : Space → Nat
  | .hbm => 86
  | .vmem => 27
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1024x1024, .f32⟩
  | .hbm, ⟨4, _⟩ => ⟨S1024, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S128x128x4x64, .f32⟩
  | .hbm, ⟨9, _⟩ => ⟨S128x128x4x64, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1024x2560, .bf16⟩
  | .hbm, ⟨16, _⟩ => ⟨S1x64, .f32⟩
  | .hbm, ⟨17, _⟩ => ⟨S16x64, .f32⟩
  | .hbm, ⟨18, _⟩ => ⟨S1024, .f32⟩
  | .hbm, ⟨19, _⟩ => ⟨S1x1024, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S256, .i32⟩
  | .hbm, ⟨25, _⟩ => ⟨S256x1, .i32⟩
  | .hbm, ⟨26, _⟩ => ⟨S_, .i32⟩
  | .hbm, ⟨27, _⟩ => ⟨S_, .i32⟩
  | .hbm, ⟨28, _⟩ => ⟨S256x1, .i32⟩
  | .hbm, ⟨29, _⟩ => ⟨S256x1, .i32⟩
  | .hbm, ⟨30, _⟩ => ⟨S256x1, .i32⟩
  | .hbm, ⟨31, _⟩ => ⟨S_, .i32⟩
  | .hbm, ⟨32, _⟩ => ⟨S256x1, .i32⟩
  | .hbm, ⟨33, _⟩ => ⟨S256x1, .i1⟩
  | .hbm, ⟨34, _⟩ => ⟨S256x1, .i32⟩
  | .hbm, ⟨35, _⟩ => ⟨S256x1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S256x1, .i1⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x256, .i32⟩
  | .hbm, ⟨55, _⟩ => ⟨S1x256, .i32⟩
  | .hbm, ⟨56, _⟩ => ⟨S_, .i32⟩
  | .hbm, ⟨57, _⟩ => ⟨S1x256, .i32⟩
  | .hbm, ⟨58, _⟩ => ⟨S1x256, .i1⟩
  | .hbm, ⟨59, _⟩ => ⟨S1x256, .i1⟩
  | .hbm, ⟨60, _⟩ => ⟨S_, .i32⟩
  | .hbm, ⟨61, _⟩ => ⟨S1x256, .i32⟩
  | .hbm, ⟨62, _⟩ => ⟨S1x256, .i32⟩
  | .hbm, ⟨63, _⟩ => ⟨S1x256, .i32⟩
  | .hbm, ⟨64, _⟩ => ⟨S256x256, .i32⟩
  | .hbm, ⟨65, _⟩ => ⟨S256x256, .i32⟩
  | .hbm, ⟨66, _⟩ => ⟨S256x256, .i1⟩
  | .hbm, ⟨67, _⟩ => ⟨S256x256, .bf16⟩
  | .hbm, ⟨68, _⟩ => ⟨S1024x1024, .f32⟩
  | .hbm, ⟨69, _⟩ => ⟨S1024x512, .f32⟩
  | .hbm, ⟨70, _⟩ => ⟨S1024x512, .f32⟩
  | .hbm, ⟨71, _⟩ => ⟨S1024x1024, .f32⟩
  | .hbm, ⟨72, _⟩ => ⟨S1024x1024, .bf16⟩
  | .hbm, ⟨73, _⟩ => ⟨S1024x256, .f32⟩
  | .hbm, ⟨74, _⟩ => ⟨S1024x256, .f32⟩
  | .hbm, ⟨75, _⟩ => ⟨S1024x1024, .f32⟩
  | .hbm, ⟨76, _⟩ => ⟨S1024x256, .bf16⟩
  | .hbm, ⟨77, _⟩ => ⟨S1024x256, .bf16⟩
  | .hbm, ⟨78, _⟩ => ⟨S128x8x256, .f32⟩
  | .hbm, ⟨79, _⟩ => ⟨S128x8x4x64, .f32⟩
  | .hbm, ⟨80, _⟩ => ⟨S128x136x4x64, .f32⟩
  | .hbm, ⟨81, _⟩ => ⟨S128x128x4x64, .f32⟩
  | .hbm, ⟨82, _⟩ => ⟨S128x8x256, .f32⟩
  | .hbm, ⟨83, _⟩ => ⟨S128x8x4x64, .f32⟩
  | .hbm, ⟨84, _⟩ => ⟨S128x136x4x64, .f32⟩
  | .hbm, ⟨85, _⟩ => ⟨S128x128x4x64, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x2560, .bf16⟩
  | .local _ .vmem, ⟨10, _⟩ => ⟨S1x1024, .f32⟩
  | .local _ .vmem, ⟨11, _⟩ => ⟨S1x256, .f32⟩
  | .local _ .vmem, ⟨12, _⟩ => ⟨S256x256, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x1024, .f32⟩
  | .local _ .vmem, ⟨22, _⟩ => ⟨S512x1024, .f32⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27_0 : Ref sig .tc := ⟨.hbm, 71, rfl⟩
abbrev main_v27_1 : Ref sig .tc := ⟨.hbm, 72, rfl⟩
abbrev main_v27_2 : Ref sig .tc := ⟨.hbm, 73, rfl⟩
abbrev main_v27_3 : Ref sig .tc := ⟨.hbm, 74, rfl⟩
abbrev main_v27_4 : Ref sig .tc := ⟨.hbm, 75, rfl⟩
abbrev main_v27_5 : Ref sig .tc := ⟨.hbm, 76, rfl⟩
abbrev main_v27_6 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2560 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MidSampleRefIdeal.lean ====
abbrev S128x8x1024 : Shape := ⟨3, ![128, 8, 1024]⟩
abbrev S128x8x512 : Shape := ⟨3, ![128, 8, 512]⟩
abbrev S1024x1024 : Shape := ⟨2, ![1024, 1024]⟩
abbrev S1024 : Shape := ⟨1, ![1024]⟩
abbrev S1024x2560 : Shape := ⟨2, ![1024, 2560]⟩
abbrev S64 : Shape := ⟨1, ![64]⟩
abbrev S128x128x4x64 : Shape := ⟨4, ![128, 128, 4, 64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x2560 : Shape := ⟨3, ![128, 8, 2560]⟩
abbrev S128x8x256 : Shape := ⟨3, ![128, 8, 256]⟩
abbrev S128x8x16x64 : Shape := ⟨4, ![128, 8, 16, 64]⟩
abbrev S128x8x16 : Shape := ⟨3, ![128, 8, 16]⟩
abbrev S128x8x16x1 : Shape := ⟨4, ![128, 8, 16, 1]⟩
abbrev S1x1x1x64 : Shape := ⟨4, ![1, 1, 1, 64]⟩
abbrev S128x8x4x64 : Shape := ⟨4, ![128, 8, 4, 64]⟩
abbrev S128x8x4 : Shape := ⟨3, ![128, 8, 4]⟩
abbrev S128x8x4x1 : Shape := ⟨4, ![128, 8, 4, 1]⟩
abbrev S1024x256 : Shape := ⟨2, ![1024, 256]⟩
abbrev S128x136x4x64 : Shape := ⟨4, ![128, 136, 4, 64]⟩

abbrev nBuf : Space → Nat
  | .hbm => 93
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x8x512, .f32⟩
  | .hbm, ⟨2, _⟩ => ⟨S128x8x512, .f32⟩
  | .hbm, ⟨3, _⟩ => ⟨S1024x1024, .f32⟩
  | .hbm, ⟨4, _⟩ => ⟨S1024, .f32⟩
  | .hbm, ⟨5, _⟩ => ⟨S1024x2560, .f32⟩
  | .hbm, ⟨6, _⟩ => ⟨S64, .f32⟩
  | .hbm, ⟨7, _⟩ => ⟨S64, .f32⟩
  | .hbm, ⟨8, _⟩ => ⟨S128x128x4x64, .f32⟩
  | .hbm, ⟨9, _⟩ => ⟨S128x128x4x64, .f32⟩
  | .hbm, ⟨10, _⟩ => ⟨S128x8x1024, .f32⟩
  | .hbm, ⟨11, _⟩ => ⟨S128x8x1024, .f32⟩
  | .hbm, ⟨12, _⟩ => ⟨S128x8x1024, .f32⟩
  | .hbm, ⟨13, _⟩ => ⟨S128x8x1024, .f32⟩
  | .hbm, ⟨14, _⟩ => ⟨S_, .f32⟩
  | .hbm, ⟨15, _⟩ => ⟨S128x8, .f32⟩
  | .hbm, ⟨16, _⟩ => ⟨S128x8x1, .f32⟩
  | .hbm, ⟨17, _⟩ => ⟨S_, .f32⟩
  | .hbm, ⟨18, _⟩ => ⟨S128x8x1, .f32⟩
  | .hbm, ⟨19, _⟩ => ⟨S128x8x1, .f32⟩
  | .hbm, ⟨20, _⟩ => ⟨S_, .f32⟩
  | .hbm, ⟨21, _⟩ => ⟨S128x8x1, .f32⟩
  | .hbm, ⟨22, _⟩ => ⟨S128x8x1, .f32⟩
  | .hbm, ⟨23, _⟩ => ⟨S128x8x1, .f32⟩
  | .hbm, ⟨24, _⟩ => ⟨S128x8x1024, .f32⟩
  | .hbm, ⟨25, _⟩ => ⟨S128x8x1024, .f32⟩
  | .hbm, ⟨26, _⟩ => ⟨S1x1x1024, .f32⟩
  | .hbm, ⟨27, _⟩ => ⟨S128x8x1024, .f32⟩
  | .hbm, ⟨28, _⟩ => ⟨S128x8x1024, .f32⟩
  | .hbm, ⟨29, _⟩ => ⟨S128x8x2560, .f32⟩
  | .hbm, ⟨30, _⟩ => ⟨S128x8x1024, .f32⟩
  | .hbm, ⟨31, _⟩ => ⟨S128x8x256, .f32⟩
  | .hbm, ⟨32, _⟩ => ⟨S128x8x256, .f32⟩
  | .hbm, ⟨33, _⟩ => ⟨S128x8x1024, .f32⟩
  | .hbm, ⟨34, _⟩ => ⟨S128x8x16x64, .f32⟩
  | .hbm, ⟨35, _⟩ => ⟨S128x8x16x64, .f32⟩
  | .hbm, ⟨36, _⟩ => ⟨S_, .f32⟩
  | .hbm, ⟨37, _⟩ => ⟨S128x8x16, .f32⟩
  | .hbm, ⟨38, _⟩ => ⟨S128x8x16x1, .f32⟩
  | .hbm, ⟨39, _⟩ => ⟨S_, .f32⟩
  | .hbm, ⟨40, _⟩ => ⟨S128x8x16x1, .f32⟩
  | .hbm, ⟨41, _⟩ => ⟨S128x8x16x1, .f32⟩
  | .hbm, ⟨42, _⟩ => ⟨S_, .f32⟩
  | .hbm, ⟨43, _⟩ => ⟨S128x8x16x1, .f32⟩
  | .hbm, ⟨44, _⟩ => ⟨S128x8x16x1, .f32⟩
  | .hbm, ⟨45, _⟩ => ⟨S128x8x16x1, .f32⟩
  | .hbm, ⟨46, _⟩ => ⟨S128x8x16x64, .f32⟩
  | .hbm, ⟨47, _⟩ => ⟨S128x8x16x64, .f32⟩
  | .hbm, ⟨48, _⟩ => ⟨S1x1x1x64, .f32⟩
  | .hbm, ⟨49, _⟩ => ⟨S128x8x16x64, .f32⟩
  | .hbm, ⟨50, _⟩ => ⟨S128x8x16x64, .f32⟩
  | .hbm, ⟨51, _⟩ => ⟨S128x8x1024, .f32⟩
  | .hbm, ⟨52, _⟩ => ⟨S128x8x4x64, .f32⟩
  | .hbm, ⟨53, _⟩ => ⟨S128x8x4x64, .f32⟩
  | .hbm, ⟨54, _⟩ => ⟨S_, .f32⟩
  | .hbm, ⟨55, _⟩ => ⟨S128x8x4, .f32⟩
  | .hbm, ⟨56, _⟩ => ⟨S128x8x4x1, .f32⟩
  | .hbm, ⟨57, _⟩ => ⟨S_, .f32⟩
  | .hbm, ⟨58, _⟩ => ⟨S128x8x4x1, .f32⟩
  | .hbm, ⟨59, _⟩ => ⟨S128x8x4x1, .f32⟩
  | .hbm, ⟨60, _⟩ => ⟨S_, .f32⟩
  | .hbm, ⟨61, _⟩ => ⟨S128x8x4x1, .f32⟩
  | .hbm, ⟨62, _⟩ => ⟨S128x8x4x1, .f32⟩
  | .hbm, ⟨63, _⟩ => ⟨S128x8x4x1, .f32⟩
  | .hbm, ⟨64, _⟩ => ⟨S128x8x4x64, .f32⟩
  | .hbm, ⟨65, _⟩ => ⟨S128x8x4x64, .f32⟩
  | .hbm, ⟨66, _⟩ => ⟨S1x1x1x64, .f32⟩
  | .hbm, ⟨67, _⟩ => ⟨S128x8x4x64, .f32⟩
  | .hbm, ⟨68, _⟩ => ⟨S128x8x4x64, .f32⟩
  | .hbm, ⟨69, _⟩ => ⟨S128x8x256, .f32⟩
  | .hbm, ⟨70, _⟩ => ⟨S128x8x1024, .f32⟩
  | .hbm, ⟨71, _⟩ => ⟨S128x8x1024, .f32⟩
  | .hbm, ⟨72, _⟩ => ⟨S_, .f32⟩
  | .hbm, ⟨73, _⟩ => ⟨S128x8x1024, .f32⟩
  | .hbm, ⟨74, _⟩ => ⟨S128x8x1024, .f32⟩
  | .hbm, ⟨75, _⟩ => ⟨S_, .f32⟩
  | .hbm, ⟨76, _⟩ => ⟨S128x8x1024, .f32⟩
  | .hbm, ⟨77, _⟩ => ⟨S128x8x1024, .f32⟩
  | .hbm, ⟨78, _⟩ => ⟨S128x8x1024, .f32⟩
  | .hbm, ⟨79, _⟩ => ⟨S1024x1024, .f32⟩
  | .hbm, ⟨80, _⟩ => ⟨S1024x1024, .f32⟩
  | .hbm, ⟨81, _⟩ => ⟨S1024x256, .f32⟩
  | .hbm, ⟨82, _⟩ => ⟨S1024x256, .f32⟩
  | .hbm, ⟨83, _⟩ => ⟨S1024x1024, .f32⟩
  | .hbm, ⟨84, _⟩ => ⟨S1024x1024, .bf16⟩
  | .hbm, ⟨85, _⟩ => ⟨S1024x256, .bf16⟩
  | .hbm, ⟨86, _⟩ => ⟨S1024x256, .bf16⟩
  | .hbm, ⟨87, _⟩ => ⟨S128x8x4x64, .f32⟩
  | .hbm, ⟨88, _⟩ => ⟨S128x8x4x64, .f32⟩
  | .hbm, ⟨89, _⟩ => ⟨S128x136x4x64, .f32⟩
  | .hbm, ⟨90, _⟩ => ⟨S128x128x4x64, .f32⟩
  | .hbm, ⟨91, _⟩ => ⟨S128x136x4x64, .f32⟩
  | .hbm, ⟨92, _⟩ => ⟨S128x128x4x64, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩

abbrev nD : Nat := 1
abbrev τ : Topo := Topo.v7x

variable {F : FTy → Type} [FloatOps F]
-- ==== Proof.Sb.WindowSum.lean ====
module

public import proofs.«01_k».proof.Proof.Gen.ReferenceIdeal.Read
public import Idealize.ShloMosaic.Lib.Pointwise

/-! A running sum from the right along the last axis, as the window sum it prints as. -/

@[expose] public section
noncomputable section
namespace Cert.Proof.Sb
open Idealize.ShloMosaic Idealize.ShloMosaic.Pointwise Idealize.SL.Sem

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- Entry `j` is the sum of the entries from `j` on. -/
theorem revsum {A B R C Cm1 : ℕ} {u : Shape} (x : FVec Ideal ⟨4, ![A, B, R, C]⟩ .f32) (init : u.Idx → Ideal .f32) (hinit : ∀ i, init i = (0 : EReal))
    (h : (⟨4, ![A, B, R, C]⟩ : Shape).ReduceWindows (![1, 1, 1, C] : Fin 4 → ℕ) ![1, 1, 1, 1] ![0, 0, 0, 0] ![0, 0, 0, Cm1] ⟨4, ![A, B, R, C]⟩) (hu : 0 < u.numel)
    (a : Fin A) (b : Fin B) (r : Fin R) (j : Fin C) (f : ℕ → EReal) (hf : ∀ k : Fin C, x (ix4 a b r k) = f k.val) :
    Host.reduceWindowAdd (F := Ideal) ![1, 1, 1, C] ![1, 1, 1, 1] ![0, 0, 0, 0] ![0, 0, 0, Cm1] x init h hu (ix4 a b r j) = ∑ k ∈ Finset.Ico j.val C, f k := by
  have hj := j.isLt
  unfold Host.reduceWindowAdd
  rw [Ideal.hostReduceWindowAdd_def]
  unfold Ideal.hostReduceWindowAdd Host.reduceWindow
  rw [foldl_add, hinit, zero_add, ← Fin.sum_univ_def]
  refine (Finset.sum_congr (g := fun n => if j.val + ((⟨4, ![1, 1, 1, C]⟩ : Shape).rowMajor.symm n 3).val < C then
    f (j.val + ((⟨4, ![1, 1, 1, C]⟩ : Shape).rowMajor.symm n 3).val) else 0) rfl fun n _ => ?_).trans ?_
  · have w0 : ((⟨4, ![1, 1, 1, C]⟩ : Shape).rowMajor.symm n 0).val < 1 := ((⟨4, ![1, 1, 1, C]⟩ : Shape).rowMajor.symm n 0).isLt
    have w1 : ((⟨4, ![1, 1, 1, C]⟩ : Shape).rowMajor.symm n 1).val < 1 := ((⟨4, ![1, 1, 1, C]⟩ : Shape).rowMajor.symm n 1).isLt
    have w2 : ((⟨4, ![1, 1, 1, C]⟩ : Shape).rowMajor.symm n 2).val < 1 := ((⟨4, ![1, 1, 1, C]⟩ : Shape).rowMajor.symm n 2).isLt
    beta_reduce
    split
    · rename_i hin
      have h3 : j.val * 1 + ((⟨4, ![1, 1, 1, C]⟩ : Shape).rowMajor.symm n 3).val - 0 < C := (hin 3).2
      rw [if_pos (by omega)]
      refine (congrArg x ?_).trans (hf ⟨j.val + ((⟨4, ![1, 1, 1, C]⟩ : Shape).rowMajor.symm n 3).val, by omega⟩)
      funext q
      refine Fin.ext ?_
      match q with
      | 0 => show a.val * 1 + ((⟨4, ![1, 1, 1, C]⟩ : Shape).rowMajor.symm n 0).val - 0 = a.val; omega
      | 1 => show b.val * 1 + ((⟨4, ![1, 1, 1, C]⟩ : Shape).rowMajor.symm n 1).val - 0 = b.val; omega
      | 2 => show r.val * 1 + ((⟨4, ![1, 1, 1, C]⟩ : Shape).rowMajor.symm n 2).val - 0 = r.val; omega
      | 3 => show j.val * 1 + ((⟨4, ![1, 1, 1, C]⟩ : Shape).rowMajor.symm n 3).val - 0 = j.val + _; omega
    · rename_i hin
      refine (if_neg fun h3 => hin fun q => ?_).symm
      match q with
      | 0 => exact ⟨Nat.zero_le _, by show a.val * 1 + ((⟨4, ![1, 1, 1, C]⟩ : Shape).rowMajor.symm n 0).val - 0 < A; have := a.isLt; omega⟩
      | 1 => exact ⟨Nat.zero_le _, by show b.val * 1 + ((⟨4, ![1, 1, 1, C]⟩ : Shape).rowMajor.symm n 1).val - 0 < B; have := b.isLt; omega⟩
      | 2 => exact ⟨Nat.zero_le _, by show r.val * 1 + ((⟨4, ![1, 1, 1, C]⟩ : Shape).rowMajor.symm n 2).val - 0 < R; have := r.isLt; omega⟩
      | 3 => exact ⟨Nat.zero_le _, by show j.val * 1 + ((⟨4, ![1, 1, 1, C]⟩ : Shape).rowMajor.symm n 3).val - 0 < C; omega⟩
  refine (Equiv.sum_comp (⟨4, ![1, 1, 1, C]⟩ : Shape).rowMajor.symm (fun w => if j.val + (w 3).val < C then f (j.val + (w 3).val) else 0)).trans ?_
  rw [sum_idx4, Fin.sum_univ_one, Fin.sum_univ_one, Fin.sum_univ_one]
  refine (Fin.sum_univ_eq_sum_range (fun k => if j.val + k < C then f (j.val + k) else 0) C).trans ?_
  rw [← Finset.sum_filter]
  have e : (Finset.range C).filter (fun k => j.val + k < C) = Finset.Ico 0 (C - j.val) := by
    ext k
    simp only [Finset.mem_filter, Finset.mem_range, Finset.mem_Ico]
    omega
  rw [e, Finset.sum_Ico_add f 0 (C - j.val) j.val, Nat.zero_add, Nat.sub_add_cancel hj.le]

end Cert.Proof.Sb
-- ==== Proof.Sb.Tile.lean ====
module

public import proofs.«01_k».proof.Proof.Gen.KernelIdeal.Value
public import Idealize.ShloMosaic.PureOps.Ideal

/-! One tile of one head, as a function of the head's queries, offset, keys and values and of the running pair
(what the later tiles have used up, what they have gathered). The kernel multiplies the four or eight heads' tiles
with the table of suffix sums at once; Trip1.lean and Trip3.lean show that every head only sees its own rows. -/

@[expose] public section
noncomputable section
namespace Cert.Proof.Sb
open Idealize.ShloMosaic Idealize.SL.Sem Cert.KernelIdeal Cert.KernelIdeal.Gen

/-- The four heads' running pairs as the loops carry them: what the later tiles have used up, and what they have gathered. -/
abbrev St := FVec Ideal S256x1 .f32 × FVec Ideal S256x128 .f32 × FVec Ideal S256x1 .f32 × FVec Ideal S256x128 .f32 ×
  FVec Ideal S256x1 .f32 × FVec Ideal S256x128 .f32 × FVec Ideal S256x1 .f32 × FVec Ideal S256x128 .f32
/-- A tile of scores. -/
abbrev Sq := FVec Ideal S256x256 .f32
/-- A column: one number per row of the tile. -/
abbrev Col := FVec Ideal S256x1 .f32
/-- A head's output tile. -/
abbrev Acc := FVec Ideal S256x128 .f32
/-- A head's tile of the queries, cast. -/
abbrev Qh := FVec Ideal S256x128 .bf16
/-- A head's block of the keys or of the values. -/
abbrev Blk := Vec Ideal S1x256x128 .bf16

/-- The logits, in units of log 2. -/
def zt (q : Qh) (b : Ideal .f32) (kb : Blk) : Sq :=
  addf (matmul dot_S256x128_S256x128_S256x256_1_1_0_0_n_n none q (shapeCast S256x128 kb shapeCasts_S1x256x128_S256x128 : FVec Ideal S256x128 .bf16)
    (constant S256x256 .f32 0x00000000#32)) (broadcast S256x256 b)

/-- The softplus of the logits, in units of log 2. -/
def spt (z : Sq) : Sq :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 (Named.named κ "log2e" 0x3FB8AA3B#32)))

/-- The rounded part of a tile. -/
def hit (s : Sq) : FVec Ideal S256x256 .bf16 := truncf .bf16 s bitsLt_bf16_f32
/-- What the rounding left. -/
def lot (s : Sq) : FVec Ideal S256x256 .bf16 := truncf .bf16 (subf s (extf .f32 (hit s) bitsLt_bf16_f32)) bitsLt_bf16_f32

/-- The four heads' tiles times the table. -/
def rs4 (u : FVec Ideal S256x256 .bf16) (s0 s1 s2 s3 : Sq) : FVec Ideal S1024x256 .f32 :=
  addf (matmul dot_S1024x256_S256x256_S1024x256_1_0_0_1_n_n none
      (concatenate S1024x256 0 [⟨S256x256, hit s0⟩, ⟨S256x256, hit s1⟩, ⟨S256x256, hit s2⟩, ⟨S256x256, hit s3⟩]
        concatenates_S256x256_S256x256_S256x256_S256x256_S1024x256_d0) u (constant S1024x256 .f32 0x00000000#32))
    (matmul dot_S1024x256_S256x256_S1024x256_1_0_0_1_n_n none
      (concatenate S1024x256 0 [⟨S256x256, lot s0⟩, ⟨S256x256, lot s1⟩, ⟨S256x256, lot s2⟩, ⟨S256x256, lot s3⟩]
        concatenates_S256x256_S256x256_S256x256_S256x256_S1024x256_d0) u (constant S1024x256 .f32 0x00000000#32))

/-- Two tiles of the four heads times the table. -/
def rs8 (u : FVec Ideal S256x256 .bf16) (s0 s1 s2 s3 s4 s5 s6 s7 : Sq) : FVec Ideal S2048x256 .f32 :=
  addf (matmul dot_S2048x256_S256x256_S2048x256_1_0_0_1_n_n none
      (concatenate S2048x256 0 [⟨S256x256, hit s0⟩, ⟨S256x256, hit s1⟩, ⟨S256x256, hit s2⟩, ⟨S256x256, hit s3⟩, ⟨S256x256, hit s4⟩, ⟨S256x256, hit s5⟩, ⟨S256x256, hit s6⟩, ⟨S256x256, hit s7⟩]
        concatenates_S256x256_S256x256_S256x256_S256x256_S256x256_S256x256_S256x256_S256x256_S2048x256_d0) u (constant S2048x256 .f32 0x00000000#32))
    (matmul dot_S2048x256_S256x256_S2048x256_1_0_0_1_n_n none
      (concatenate S2048x256 0 [⟨S256x256, lot s0⟩, ⟨S256x256, lot s1⟩, ⟨S256x256, lot s2⟩, ⟨S256x256, lot s3⟩, ⟨S256x256, lot s4⟩, ⟨S256x256, lot s5⟩, ⟨S256x256, lot s6⟩, ⟨S256x256, lot s7⟩]
        concatenates_S256x256_S256x256_S256x256_S256x256_S256x256_S256x256_S256x256_S256x256_S2048x256_d0) u (constant S2048x256 .f32 0x00000000#32))

/-- The row sums of a tile. -/
def sumt (s : Sq) : Col :=
  shapeCast S256x1 (multiReduction .add [1] S256 s 0x00000000#32 reduces_S256x256_S256 (.inl rfl) rfl) shapeCasts_S256_S256x1

/-- The weights of a tile, from its log weights, its suffix sums and what the later tiles have used up. -/
def wt (lb r : Sq) (c : Col) : Sq := exp2 (subf (subf lb r) (broadcastTo S256x256 c broadcasts_S256x1_S256x256))

/-- The gathered values. -/
def acct (a : Acc) (w : Sq) (vb : Blk) : Acc :=
  addf a (matmul dot_S256x256_S256x128_S256x128_1_0_0_1_n_n none (truncf .bf16 w bitsLt_bf16_f32)
    (shapeCast S256x128 vb shapeCasts_S1x256x128_S256x128 : FVec Ideal S256x128 .bf16) (constant S256x128 .f32 0x00000000#32))

/-- A head's block of the keys or the values as the kernel loads it. -/
abbrev ld (m : Memref sig .tc .vmem S1x8448x512 .bf16) (X : BufTy.Contents (Elt Ideal) m.view.ty) (off : Fin 3 → ℕ)
    (inb : ∀ a, off a + S1x256x128.size a ≤ S1x8448x512.size a) : Blk :=
  View.readAt (Elt Ideal) m.view (Rect.unit (s := S1x8448x512) off S1x256x128.size inb).toLoadRect X

end Cert.Proof.Sb
-- ==== Proof.Sb.Head.lean ====
module

public import proofs.«01_k».proof.Proof.Sb.Tile
public import Idealize.ShloMosaic.Lib.Pointwise

/-! One head's tile, and the products with the table of suffix sums cut into the heads' rows. -/

@[expose] public section
noncomputable section
namespace Cert.Proof.Sb
open Idealize.ShloMosaic Idealize.SL.Sem Cert.KernelIdeal Cert.KernelIdeal.Gen
open Idealize.ShloMosaic.Pointwise

/-- Two tiles are equal where their entries are. -/
theorem sq_ext {x y : Sq} (h : ∀ i j : Fin 256, x (ix2 i j) = y (ix2 i j)) : x = y := by
  funext j
  have e : (ix2 (j 0) (j 1) : S256x256.Idx) = j := by
    funext a
    match a with
    | 0 => rfl
    | 1 => rfl
  have := h (j 0) (j 1)
  rwa [e] at this

/-- A head's tile times the table of suffix sums: the rounded part's product and the rest's. -/
def rsq (u : FVec Ideal S256x256 .bf16) (s : Sq) : Sq := fun j =>
  ∑ k : Fin 256, s (ix2 (j 0) k) * u (ix2 k (j 1)) + ∑ k : Fin 256, (s (ix2 (j 0) k) - s (ix2 (j 0) k)) * u (ix2 k (j 1))

theorem slice4_0 (u : FVec Ideal S256x256 .bf16) (s0 s1 s2 s3 : Sq) :
    extractStridedSlice S256x256 ![0, 0] (rs4 u s0 s1 s2 s3) slices_S1024x256_o0_0_S256x256 = rsq u s0 := by
  refine sq_ext fun i j => ?_
  pointwise [rs4, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice4_1 (u : FVec Ideal S256x256 .bf16) (s0 s1 s2 s3 : Sq) :
    extractStridedSlice S256x256 ![256, 0] (rs4 u s0 s1 s2 s3) slices_S1024x256_o256_0_S256x256 = rsq u s1 := by
  refine sq_ext fun i j => ?_
  pointwise [rs4, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice4_2 (u : FVec Ideal S256x256 .bf16) (s0 s1 s2 s3 : Sq) :
    extractStridedSlice S256x256 ![512, 0] (rs4 u s0 s1 s2 s3) slices_S1024x256_o512_0_S256x256 = rsq u s2 := by
  refine sq_ext fun i j => ?_
  pointwise [rs4, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice4_3 (u : FVec Ideal S256x256 .bf16) (s0 s1 s2 s3 : Sq) :
    extractStridedSlice S256x256 ![768, 0] (rs4 u s0 s1 s2 s3) slices_S1024x256_o768_0_S256x256 = rsq u s3 := by
  refine sq_ext fun i j => ?_
  pointwise [rs4, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_0 (u : FVec Ideal S256x256 .bf16) (s0 s1 s2 s3 s4 s5 s6 s7 : Sq) :
    extractStridedSlice S256x256 ![0, 0] (rs8 u s0 s1 s2 s3 s4 s5 s6 s7) slices_S2048x256_o0_0_S256x256 = rsq u s0 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_1 (u : FVec Ideal S256x256 .bf16) (s0 s1 s2 s3 s4 s5 s6 s7 : Sq) :
    extractStridedSlice S256x256 ![256, 0] (rs8 u s0 s1 s2 s3 s4 s5 s6 s7) slices_S2048x256_o256_0_S256x256 = rsq u s1 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_2 (u : FVec Ideal S256x256 .bf16) (s0 s1 s2 s3 s4 s5 s6 s7 : Sq) :
    extractStridedSlice S256x256 ![512, 0] (rs8 u s0 s1 s2 s3 s4 s5 s6 s7) slices_S2048x256_o512_0_S256x256 = rsq u s2 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_3 (u : FVec Ideal S256x256 .bf16) (s0 s1 s2 s3 s4 s5 s6 s7 : Sq) :
    extractStridedSlice S256x256 ![768, 0] (rs8 u s0 s1 s2 s3 s4 s5 s6 s7) slices_S2048x256_o768_0_S256x256 = rsq u s3 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_4 (u : FVec Ideal S256x256 .bf16) (s0 s1 s2 s3 s4 s5 s6 s7 : Sq) :
    extractStridedSlice S256x256 ![1024, 0] (rs8 u s0 s1 s2 s3 s4 s5 s6 s7) slices_S2048x256_o1024_0_S256x256 = rsq u s4 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_5 (u : FVec Ideal S256x256 .bf16) (s0 s1 s2 s3 s4 s5 s6 s7 : Sq) :
    extractStridedSlice S256x256 ![1280, 0] (rs8 u s0 s1 s2 s3 s4 s5 s6 s7) slices_S2048x256_o1280_0_S256x256 = rsq u s5 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_6 (u : FVec Ideal S256x256 .bf16) (s0 s1 s2 s3 s4 s5 s6 s7 : Sq) :
    extractStridedSlice S256x256 ![1536, 0] (rs8 u s0 s1 s2 s3 s4 s5 s6 s7) slices_S2048x256_o1536_0_S256x256 = rsq u s6 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

theorem slice8_7 (u : FVec Ideal S256x256 .bf16) (s0 s1 s2 s3 s4 s5 s6 s7 : Sq) :
    extractStridedSlice S256x256 ![1792, 0] (rs8 u s0 s1 s2 s3 s4 s5 s6 s7) slices_S2048x256_o1792_0_S256x256 = rsq u s7 := by
  refine sq_ext fun i j => ?_
  pointwise [rs8, hit, lot, rsq]
  all_goals
    have hi := i.isLt
    simp (disch := omega) only [dif_neg, dif_pos]
    have e : ∀ (n : ℕ) (hn : n < 256), n = i.val → (⟨n, hn⟩ : Fin 256) = i := fun n hn h => Fin.ext h
    simp (disch := omega) only [e]

/-- One head's pair after a tile that lies before the queries' own. -/
def tile1 (u : FVec Ideal S256x256 .bf16) (q : Qh) (b : Ideal .f32) (kb vb : Blk) (p : Col × Acc) : Col × Acc :=
  (addf p.1 (sumt (spt (zt q b kb))),
   acct p.2 (wt (subf (zt q b kb) (spt (zt q b kb))) (rsq u (spt (zt q b kb))) p.1) vb)

/-- The keys before the query within the queries' own tile. -/
def mask0 : IVec S256x256 1 := cmpi .slt (iota .tc S256x256 32 [1] iota_S256x256_d1_w32) (iota .tc S256x256 32 [0] iota_S256x256_d0_w32)

/-- The masked softplus of the queries' own tile. -/
def spm (z : Sq) : Sq := select mask0 (spt z) (broadcast S256x256 (Scalar.ofBits .f32 0x00000000#32))

/-- One head's pair after the queries' own tile. -/
def tile0 (u : FVec Ideal S256x256 .bf16) (q : Qh) (b : Ideal .f32) (kb vb : Blk) : Col × Acc :=
  (addf (broadcast S256x1 (Scalar.ofBits .f32 0x00000000#32)) (sumt (spm (zt q b kb))),
   acct (broadcast S256x128 (Scalar.ofBits .f32 0x00000000#32))
    (select mask0 (wt (subf (zt q b kb) (spt (zt q b kb))) (rsq u (spm (zt q b kb)))
      (broadcast S256x1 (Scalar.ofBits .f32 0x00000000#32))) (broadcast S256x256 (Scalar.ofBits .f32 0x00000000#32))) vb)

/-- A head's pair out of the four the loops carry. -/
def hd (st : St) : Fin 4 → Col × Acc
  | 0 => (st.1, st.2.1)
  | 1 => (st.2.2.1, st.2.2.2.1)
  | 2 => (st.2.2.2.2.1, st.2.2.2.2.2.1)
  | 3 => (st.2.2.2.2.2.2.1, st.2.2.2.2.2.2.2)

/-- One of four. -/
def sel4 {α : Type} (a b c d : α) : Fin 4 → α
  | 0 => a
  | 1 => b
  | 2 => c
  | 3 => d

/-- A head's block of the padded keys or values: rows `256 n …`, columns `128 h …`. -/
def kblk (x : FVec Ideal S1x8448x512 .bf16) (n : ℕ) (h : Fin 4) : Blk := fun j =>
  x (ix3 0 ⟨(256 * n + (j 1).val) % 8448, Nat.mod_lt _ (by decide)⟩
    ⟨128 * h.val + (j 2).val, by have := (j 2).isLt; have : (j 2).val < 128 := this; omega⟩)

/-- A load at the rows `256 n` and the columns `128 h` reads the block. -/
theorem ld_eq (m : Memref sig .tc .vmem S1x8448x512 .bf16) (hm : m.IsWhole) (x : FVec Ideal S1x8448x512 .bf16)
    (off : Fin 3 → ℕ) (inb : ∀ a, off a + S1x256x128.size a ≤ S1x8448x512.size a) (n : ℕ) (h : Fin 4)
    (ho : off = ![0, 256 * n, 128 * h.val]) : ld m (hm.unread x) off inb = kblk x n h := by
  subst ho
  rw [ld, View.readAt_eq_ld, hm.read_unread]
  funext j
  unfold kblk
  have h1 : 256 * n + (j 1).val < 8448 := by
    have := inb 1
    have h2 : 256 * n + 256 ≤ 8448 := this
    have h3 : (j 1).val < 256 := (j 1).isLt
    omega
  show x _ = x _
  congr 1
  funext a
  apply Fin.ext
  have h0 : (j 0).val < 1 := (j 0).isLt
  match a with
  | 0 => show 0 + 1 * (j 0).val = 0; omega
  | 1 => show 256 * n + 1 * (j 1).val = (256 * n + (j 1).val) % 8448; rw [Nat.mod_eq_of_lt h1]; omega
  | 2 => show 128 * h.val + 1 * (j 2).val = 128 * h.val + (j 2).val; omega

end Cert.Proof.Sb
-- ==== Proof.Sb.Offsets.lean ====
module

public import proofs.«01_k».proof.Proof.Sb.Head

/-! Where the loops' trips load, and how many trips there are. -/

@[expose] public section
noncomputable section
namespace Cert.Proof.Sb
open Idealize.ShloMosaic Idealize.SL.Sem Cert.KernelIdeal Cert.KernelIdeal.Gen

/-- A grid point with the query tile `n`. -/
def pt (n : Fin 33) : grid0.Coords := fun a => match a with
  | 0 => (0 : Fin 2)
  | 1 => n

/-- The query tile of a grid point. -/
abbrev qt (i : grid0.Coords) : ℕ := (i 1).val

theorem trips1 (i : grid0.Coords) : (k0_t1_loop i).trips = qt i % 2 :=
  (show ∀ n : Fin 33, (k0_t1_loop (pt n)).trips = n.val % 2 by decide +kernel) (i 1)
theorem trips2 (i : grid0.Coords) : (k0_t2_loop i).trips = 0 :=
  (show ∀ n : Fin 33, (k0_t2_loop (pt n)).trips = 0 by decide +kernel) (i 1)
theorem trips3 (i : grid0.Coords) : (k0_t3_loop i).trips = qt i / 2 :=
  (show ∀ n : Fin 33, (k0_t3_loop (pt n)).trips = n.val / 2 by decide +kernel) (i 1)
theorem trips4 (i : grid0.Coords) : (k0_t4_loop i).trips = 0 :=
  (show ∀ n : Fin 33, (k0_t4_loop (pt n)).trips = 0 by decide +kernel) (i 1)

theorem off0 (i : grid0.Coords) : k0_off1 i = ![0, 256 * qt i, 0] ∧ k0_off2 i = ![0, 256 * qt i, 128] ∧
    k0_off3 i = ![0, 256 * qt i, 256] ∧ k0_off4 i = ![0, 256 * qt i, 384] :=
  (show ∀ n : Fin 33, k0_off1 (pt n) = ![0, 256 * n.val, 0] ∧ k0_off2 (pt n) = ![0, 256 * n.val, 128] ∧
    k0_off3 (pt n) = ![0, 256 * n.val, 256] ∧ k0_off4 (pt n) = ![0, 256 * n.val, 384] by decide +kernel) (i 1)

theorem off1 (i : grid0.Coords) (h : 0 < qt i) : k0_off5 i = ![0, 256 * (qt i - 1), 0] ∧
    k0_off6 i = ![0, 256 * (qt i - 1), 128] ∧ k0_off7 i = ![0, 256 * (qt i - 1), 256] ∧ k0_off8 i = ![0, 256 * (qt i - 1), 384] :=
  (show ∀ n : Fin 33, 0 < n.val → k0_off5 (pt n) = ![0, 256 * (n.val - 1), 0] ∧ k0_off6 (pt n) = ![0, 256 * (n.val - 1), 128] ∧
    k0_off7 (pt n) = ![0, 256 * (n.val - 1), 256] ∧ k0_off8 (pt n) = ![0, 256 * (n.val - 1), 384] by decide +kernel) (i 1) h

/-- The first tile of the trip `k` of the loop over pairs. -/
abbrev kA (n k : ℕ) : ℕ := n - 1 - n % 2 - 2 * k

theorem off3 (i : grid0.Coords) (k : Fin (k0_t3_loop i).trips) :
    (k0_off13 i k = ![0, 256 * kA (qt i) k.val, 0] ∧ k0_off14 i k = ![0, 256 * kA (qt i) k.val, 128] ∧
    k0_off15 i k = ![0, 256 * kA (qt i) k.val, 256] ∧ k0_off16 i k = ![0, 256 * kA (qt i) k.val, 384]) ∧
    (k0_off17 i k = ![0, 256 * (kA (qt i) k.val - 1), 0] ∧ k0_off18 i k = ![0, 256 * (kA (qt i) k.val - 1), 128] ∧
    k0_off19 i k = ![0, 256 * (kA (qt i) k.val - 1), 256] ∧ k0_off20 i k = ![0, 256 * (kA (qt i) k.val - 1), 384]) :=
  (show ∀ n : Fin 33, ∀ k : Fin (k0_t3_loop (pt n)).trips,
    (k0_off13 (pt n) k = ![0, 256 * kA n.val k.val, 0] ∧ k0_off14 (pt n) k = ![0, 256 * kA n.val k.val, 128] ∧
    k0_off15 (pt n) k = ![0, 256 * kA n.val k.val, 256] ∧ k0_off16 (pt n) k = ![0, 256 * kA n.val k.val, 384]) ∧
    (k0_off17 (pt n) k = ![0, 256 * (kA n.val k.val - 1), 0] ∧ k0_off18 (pt n) k = ![0, 256 * (kA n.val k.val - 1), 128] ∧
    k0_off19 (pt n) k = ![0, 256 * (kA n.val k.val - 1), 256] ∧ k0_off20 (pt n) k = ![0, 256 * (kA n.val k.val - 1), 384])
    by decide +kernel) (i 1) k

end Cert.Proof.Sb
-- ==== Proof.Sb.Trip1.lean ====
module

public import proofs.«01_k».proof.Proof.Sb.Tile

/-! The trip of the loop that takes one tile, in the tile's functions. -/

@[expose] public section
noncomputable section
namespace Cert.Proof.Sb
open Idealize.ShloMosaic Idealize.SL.Sem Cert.KernelIdeal Cert.KernelIdeal.Gen

set_option maxRecDepth 100000 in
theorem trip1 (𝒱 : Variants) (c : Dev nD) (bd : Option 𝒱.V) (i : grid0.Coords) (arg2) (harg2) (arg3) (harg3) (arg4) (harg4) (arg5) (harg5) (arg6) (harg6) (arg7) (harg7) (arg8) (harg8) (arg1) (v1 v9 v14 v19 v24 v26 v28 v30 v32 v39 v40 v155 v168 v169 v182 v183 v196 v197 a b d) (X4 X5) (k) (st : St) :
    (trip_k0_t1 (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d X4 X5 k).1 st =
    (let z0 := zt v9 v26 (ld arg4 X4 (k0_off5 i) (k0_off5_inb i k))
     let z1 := zt v14 v28 (ld arg4 X4 (k0_off6 i) (k0_off6_inb i k))
     let z2 := zt v19 v30 (ld arg4 X4 (k0_off7 i) (k0_off7_inb i k))
     let z3 := zt v24 v32 (ld arg4 X4 (k0_off8 i) (k0_off8_inb i k))
     let r := rs4 v1 (spt z0) (spt z1) (spt z2) (spt z3)
     (addf st.1 (sumt (spt z0)),
      acct st.2.1 (wt (subf z0 (spt z0)) (extractStridedSlice S256x256 ![0, 0] r slices_S1024x256_o0_0_S256x256) st.1) (ld arg5 X5 (k0_off5 i) (k0_off5_inb i k)),
      addf st.2.2.1 (sumt (spt z1)),
      acct st.2.2.2.1 (wt (subf z1 (spt z1)) (extractStridedSlice S256x256 ![256, 0] r slices_S1024x256_o256_0_S256x256) st.2.2.1) (ld arg5 X5 (k0_off6 i) (k0_off6_inb i k)),
      addf st.2.2.2.2.1 (sumt (spt z2)),
      acct st.2.2.2.2.2.1 (wt (subf z2 (spt z2)) (extractStridedSlice S256x256 ![512, 0] r slices_S1024x256_o512_0_S256x256) st.2.2.2.2.1) (ld arg5 X5 (k0_off7 i) (k0_off7_inb i k)),
      addf st.2.2.2.2.2.2.1 (sumt (spt z3)),
      acct st.2.2.2.2.2.2.2 (wt (subf z3 (spt z3)) (extractStridedSlice S256x256 ![768, 0] r slices_S1024x256_o768_0_S256x256) st.2.2.2.2.2.2.1) (ld arg5 X5 (k0_off8 i) (k0_off8_inb i k)))) := by
  unfold trip_k0_t1
  dsimp only
  rfl

end Cert.Proof.Sb
-- ==== Proof.Sb.Trip3.lean ====
module

public import proofs.«01_k».proof.Proof.Sb.Tile

/-! The trip of the loop that takes two tiles, in the tile's functions. -/

@[expose] public section
noncomputable section
namespace Cert.Proof.Sb
open Idealize.ShloMosaic Idealize.SL.Sem Cert.KernelIdeal Cert.KernelIdeal.Gen

set_option maxRecDepth 100000 in
theorem trip3 (𝒱 : Variants) (c : Dev nD) (bd : Option 𝒱.V) (i : grid0.Coords) (arg2) (harg2) (arg3) (harg3) (arg4) (harg4) (arg5) (harg5) (arg6) (harg6) (arg7) (harg7) (arg8) (harg8) (v1 v9 v14 v19 v24 v26 v28 v30 v32 w0 w1 w2 w3 w4 w5 w6 w7 v230 e f) (X4 X5) (k) (st : St) :
    (trip_k0_t3 (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f X4 X5 k).1 st =
    (let z0 := zt v9 v26 (ld arg4 X4 (k0_off13 i k) (k0_off13_inb i k))
     let z1 := zt v14 v28 (ld arg4 X4 (k0_off14 i k) (k0_off14_inb i k))
     let z2 := zt v19 v30 (ld arg4 X4 (k0_off15 i k) (k0_off15_inb i k))
     let z3 := zt v24 v32 (ld arg4 X4 (k0_off16 i k) (k0_off16_inb i k))
     let y0 := zt v9 v26 (ld arg4 X4 (k0_off17 i k) (k0_off17_inb i k))
     let y1 := zt v14 v28 (ld arg4 X4 (k0_off18 i k) (k0_off18_inb i k))
     let y2 := zt v19 v30 (ld arg4 X4 (k0_off19 i k) (k0_off19_inb i k))
     let y3 := zt v24 v32 (ld arg4 X4 (k0_off20 i k) (k0_off20_inb i k))
     let r := rs8 v1 (spt z0) (spt z1) (spt z2) (spt z3) (spt y0) (spt y1) (spt y2) (spt y3)
     (addf (addf st.1 (sumt (spt z0))) (sumt (spt y0)),
      acct (acct st.2.1 (wt (subf z0 (spt z0)) (extractStridedSlice S256x256 ![0, 0] r slices_S2048x256_o0_0_S256x256) st.1) (ld arg5 X5 (k0_off13 i k) (k0_off13_inb i k))) (wt (subf y0 (spt y0)) (extractStridedSlice S256x256 ![1024, 0] r slices_S2048x256_o1024_0_S256x256) (addf st.1 (sumt (spt z0)))) (ld arg5 X5 (k0_off17 i k) (k0_off17_inb i k)),
      addf (addf st.2.2.1 (sumt (spt z1))) (sumt (spt y1)),
      acct (acct st.2.2.2.1 (wt (subf z1 (spt z1)) (extractStridedSlice S256x256 ![256, 0] r slices_S2048x256_o256_0_S256x256) st.2.2.1) (ld arg5 X5 (k0_off14 i k) (k0_off14_inb i k))) (wt (subf y1 (spt y1)) (extractStridedSlice S256x256 ![1280, 0] r slices_S2048x256_o1280_0_S256x256) (addf st.2.2.1 (sumt (spt z1)))) (ld arg5 X5 (k0_off18 i k) (k0_off18_inb i k)),
      addf (addf st.2.2.2.2.1 (sumt (spt z2))) (sumt (spt y2)),
      acct (acct st.2.2.2.2.2.1 (wt (subf z2 (spt z2)) (extractStridedSlice S256x256 ![512, 0] r slices_S2048x256_o512_0_S256x256) st.2.2.2.2.1) (ld arg5 X5 (k0_off15 i k) (k0_off15_inb i k))) (wt (subf y2 (spt y2)) (extractStridedSlice S256x256 ![1536, 0] r slices_S2048x256_o1536_0_S256x256) (addf st.2.2.2.2.1 (sumt (spt z2)))) (ld arg5 X5 (k0_off19 i k) (k0_off19_inb i k)),
      addf (addf st.2.2.2.2.2.2.1 (sumt (spt z3))) (sumt (spt y3)),
      acct (acct st.2.2.2.2.2.2.2 (wt (subf z3 (spt z3)) (extractStridedSlice S256x256 ![768, 0] r slices_S2048x256_o768_0_S256x256) st.2.2.2.2.2.2.1) (ld arg5 X5 (k0_off16 i k) (k0_off16_inb i k))) (wt (subf y3 (spt y3)) (extractStridedSlice S256x256 ![1792, 0] r slices_S2048x256_o1792_0_S256x256) (addf st.2.2.2.2.2.2.1 (sumt (spt z3)))) (ld arg5 X5 (k0_off20 i k) (k0_off20_inb i k)))) := by
  unfold trip_k0_t3
  dsimp only
  rfl

end Cert.Proof.Sb
-- ==== Proof.Sb.Loop.lean ====
module

public import proofs.«01_k».proof.Proof.Sb.Offsets
public import proofs.«01_k».proof.Proof.Sb.Trip1
public import proofs.«01_k».proof.Proof.Sb.Trip3

/-! The loops, head by head: every head's pair after the queries' own tile and the `n` tiles before it. -/

@[expose] public section
noncomputable section
namespace Cert.Proof.Sb
open Idealize.ShloMosaic Idealize.SL.Sem Cert.KernelIdeal Cert.KernelIdeal.Gen

theorem trip1_hd (𝒱 : Variants) (c : Dev nD) (bd : Option 𝒱.V) (i : grid0.Coords) (arg2) (harg2) (arg3) (harg3) (arg4) (harg4) (arg5) (harg5) (arg6) (harg6) (arg7) (harg7) (arg8) (harg8) (arg1 v1 v9 v14 v19 v24 v26 v28 v30 v32 v39 v40 v155 v168 v169 v182 v183 v196 v197 a b d) (x2 x3 : FVec Ideal S1x8448x512 .bf16) (k) (st : St) (hq : 0 < qt i) (h : Fin 4) :
    hd ((trip_k0_t1 (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d (harg4.unread x2) (harg5.unread x3) k).1 st) h =
      tile1 v1 (sel4 v9 v14 v19 v24 h) (sel4 v26 v28 v30 v32 h) (kblk x2 (qt i - 1) h) (kblk x3 (qt i - 1) h) (hd st h) := by
  rw [trip1]
  obtain ⟨o0, o1, o2, o3⟩ := off1 i hq
  rw [ld_eq arg4 harg4 x2 _ _ _ 0 o0, ld_eq arg4 harg4 x2 _ _ _ 1 o1, ld_eq arg4 harg4 x2 _ _ _ 2 o2, ld_eq arg4 harg4 x2 _ _ _ 3 o3,
    ld_eq arg5 harg5 x3 _ _ _ 0 o0, ld_eq arg5 harg5 x3 _ _ _ 1 o1, ld_eq arg5 harg5 x3 _ _ _ 2 o2, ld_eq arg5 harg5 x3 _ _ _ 3 o3]
  dsimp only
  rw [slice4_0, slice4_1, slice4_2, slice4_3]
  fin_cases h <;> rfl

theorem trip3_hd (𝒱 : Variants) (c : Dev nD) (bd : Option 𝒱.V) (i : grid0.Coords) (arg2) (harg2) (arg3) (harg3) (arg4) (harg4) (arg5) (harg5) (arg6) (harg6) (arg7) (harg7) (arg8) (harg8) (v1 v9 v14 v19 v24 v26 v28 v30 v32 w0 w1 w2 w3 w4 w5 w6 w7 v230 e f) (x2 x3 : FVec Ideal S1x8448x512 .bf16) (k) (st : St) (h : Fin 4) :
    hd ((trip_k0_t3 (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f (harg4.unread x2) (harg5.unread x3) k).1 st) h =
      tile1 v1 (sel4 v9 v14 v19 v24 h) (sel4 v26 v28 v30 v32 h) (kblk x2 (kA (qt i) k.val - 1) h) (kblk x3 (kA (qt i) k.val - 1) h)
        (tile1 v1 (sel4 v9 v14 v19 v24 h) (sel4 v26 v28 v30 v32 h) (kblk x2 (kA (qt i) k.val) h) (kblk x3 (kA (qt i) k.val) h) (hd st h)) := by
  rw [trip3]
  obtain ⟨⟨o0, o1, o2, o3⟩, p0, p1, p2, p3⟩ := off3 i k
  rw [ld_eq arg4 harg4 x2 _ _ _ 0 o0, ld_eq arg4 harg4 x2 _ _ _ 1 o1, ld_eq arg4 harg4 x2 _ _ _ 2 o2, ld_eq arg4 harg4 x2 _ _ _ 3 o3,
    ld_eq arg5 harg5 x3 _ _ _ 0 o0, ld_eq arg5 harg5 x3 _ _ _ 1 o1, ld_eq arg5 harg5 x3 _ _ _ 2 o2, ld_eq arg5 harg5 x3 _ _ _ 3 o3,
    ld_eq arg4 harg4 x2 _ _ _ 0 p0, ld_eq arg4 harg4 x2 _ _ _ 1 p1, ld_eq arg4 harg4 x2 _ _ _ 2 p2, ld_eq arg4 harg4 x2 _ _ _ 3 p3,
    ld_eq arg5 harg5 x3 _ _ _ 0 p0, ld_eq arg5 harg5 x3 _ _ _ 1 p1, ld_eq arg5 harg5 x3 _ _ _ 2 p2, ld_eq arg5 harg5 x3 _ _ _ 3 p3]
  dsimp only
  rw [slice8_0, slice8_1, slice8_2, slice8_3, slice8_4, slice8_5, slice8_6, slice8_7]
  fin_cases h <;> rfl

/-- A head's pair after the queries' own tile `m` and the `n` tiles before it. -/
def gat (u : FVec Ideal S256x256 .bf16) (q : Qh) (b : Ideal .f32) (x2 x3 : FVec Ideal S1x8448x512 .bf16) (m : ℕ) (h : Fin 4) : ℕ → Col × Acc
  | 0 => tile0 u q b (kblk x2 m h) (kblk x3 m h)
  | n + 1 => tile1 u q b (kblk x2 (m - (n + 1)) h) (kblk x3 (m - (n + 1)) h) (gat u q b x2 x3 m h n)

theorem loop1 (𝒱 : Variants) (c : Dev nD) (bd : Option 𝒱.V) (i : grid0.Coords) (arg2) (harg2) (arg3) (harg3) (arg4) (harg4) (arg5) (harg5) (arg6) (harg6) (arg7) (harg7) (arg8) (harg8) (arg1 v1 v9 v14 v19 v24 v26 v28 v30 v32 v39 v40 v155 v168 v169 v182 v183 v196 v197 a b d) (x2 x3 : FVec Ideal S1x8448x512 .bf16) (st : St)
    (hs : ∀ h, hd st h = gat v1 (sel4 v9 v14 v19 v24 h) (sel4 v26 v28 v30 v32 h) x2 x3 (qt i) h 0) (n : ℕ) (hn : n ≤ (k0_t1_loop i).trips) (h : Fin 4) :
    hd (st_k0_t1 (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d (harg4.unread x2) (harg5.unread x3) st n) h =
      gat v1 (sel4 v9 v14 v19 v24 h) (sel4 v26 v28 v30 v32 h) x2 x3 (qt i) h n := by
  induction n with
  | zero => exact hs h
  | succ n ih =>
    have es := st_k0_t1_succ (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d (harg4.unread x2) (harg5.unread x3) st ⟨n, hn⟩
    have ht := trips1 i
    have hn0 : n = 0 := by omega
    subst hn0
    show hd (st_k0_t1 (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d (harg4.unread x2) (harg5.unread x3) st ((⟨0, hn⟩ : Fin (k0_t1_loop i).trips).val + 1)) h = _
    rw [es, trip1_hd _ _ _ _ _ _ _ _ _ _ _ _ _ _ _ _ _ _ _ _ _ _ _ _ _ _ _ _ _ _ _ _ _ _ _ _ _ _ _ _ _ _ _ _ (by omega), ih (by omega)]
    rfl

theorem loop3 (𝒱 : Variants) (c : Dev nD) (bd : Option 𝒱.V) (i : grid0.Coords) (arg2) (harg2) (arg3) (harg3) (arg4) (harg4) (arg5) (harg5) (arg6) (harg6) (arg7) (harg7) (arg8) (harg8) (v1 v9 v14 v19 v24 v26 v28 v30 v32 w0 w1 w2 w3 w4 w5 w6 w7 v230 e f) (x2 x3 : FVec Ideal S1x8448x512 .bf16) (st : St)
    (hs : ∀ h, hd st h = gat v1 (sel4 v9 v14 v19 v24 h) (sel4 v26 v28 v30 v32 h) x2 x3 (qt i) h (qt i % 2)) (n : ℕ) (hn : n ≤ (k0_t3_loop i).trips) (h : Fin 4) :
    hd (st_k0_t3 (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f (harg4.unread x2) (harg5.unread x3) st n) h =
      gat v1 (sel4 v9 v14 v19 v24 h) (sel4 v26 v28 v30 v32 h) x2 x3 (qt i) h (qt i % 2 + 2 * n) := by
  induction n with
  | zero => exact hs h
  | succ n ih =>
    have es := st_k0_t3_succ (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f (harg4.unread x2) (harg5.unread x3) st ⟨n, hn⟩
    have ht := trips3 i
    show hd (st_k0_t3 (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f (harg4.unread x2) (harg5.unread x3) st ((⟨n, hn⟩ : Fin (k0_t3_loop i).trips).val + 1)) h = _
    rw [es, trip3_hd, ih (by omega)]
    have e1 : kA (qt i) n = qt i - (qt i % 2 + 2 * n + 1) := by unfold kA; omega
    have e2 : qt i - (qt i % 2 + 2 * n + 1) - 1 = qt i - (qt i % 2 + 2 * n + 1 + 1) := by omega
    rw [show qt i % 2 + 2 * (n + 1) = qt i % 2 + 2 * n + 1 + 1 by omega]
    show tile1 _ _ _ (kblk x2 (kA (qt i) n - 1) h) (kblk x3 (kA (qt i) n - 1) h) (tile1 _ _ _ (kblk x2 (kA (qt i) n) h) (kblk x3 (kA (qt i) n) h) _) = _
    rw [e1, e2]
    rfl

theorem loop2 (𝒱 : Variants) (c : Dev nD) (bd : Option 𝒱.V) (i : grid0.Coords) (arg2) (harg2) (arg3) (harg3) (arg4) (harg4) (arg5) (harg5) (arg6) (harg6) (arg7) (harg7) (arg8) (harg8) (arg1 v1 v9 v14 v19 v24 v26 v28 v30 v32 v39 v40 v155 v168 v169 v182 v183 v196 v197 a b d v226) (X4 X5) (st : St) :
    st_k0_t2 (F := Ideal) 𝒱 c bd i arg2 harg2 arg3 harg3 arg4 harg4 arg5 harg5 arg6 harg6 arg7 harg7 arg8 harg8 arg1 v1 v9 v14 v19 v24 v26 v28 v30 v32 v39 v40 v155 v168 v169 v182 v183 v196 v197 a b d v226 X4 X5 st (k0_t2_loop i).trips = st := by
  rw [trips2]; rfl

theorem loop4 (𝒱 : Variants) (c : Dev nD) (bd : Option 𝒱.V) (i : grid0.Coords) (arg2) (harg2) (arg3) (harg3) (arg4) (harg4) (arg5) (harg5) (arg6) (harg6) (arg7) (harg7) (arg8) (harg8) (v1 v9 v14 v19 v24 v26 v28 v30 v32 w0 w1 w2 w3 w4 w5 w6 w7 v230 e f v252) (X4 X5) (st : St) :
    st_k0_t4 (F := Ideal) 𝒱 c bd i arg2 harg2 arg3 harg3 arg4 harg4 arg5 harg5 arg6 harg6 arg7 harg7 arg8 harg8 v1 v9 v14 v19 v24 v26 v28 v30 v32 w0 w1 w2 w3 w4 w5 w6 w7 v230 e f v252 X4 X5 st (k0_t4_loop i).trips = st := by
  rw [trips4]; rfl

end Cert.Proof.Sb
-- ==== Proof.Sb.Elem.lean ====
module

public import proofs.«01_k».proof.Proof.Sb.Loop
public import Idealize.ShloMosaic.Lib.Pointwise
public import Idealize.ShloMosaic.PureOps.IdealRules

/-! The operations of a tile, entry by entry, on real logits. -/

@[expose] public section
noncomputable section
namespace Cert.Proof.Sb
open Idealize.ShloMosaic Idealize.SL.Sem Cert.KernelIdeal Cert.KernelIdeal.Gen
open Idealize.ShloMosaic.Pointwise

theorem log2e_eq : (Named.named κ "log2e" 0x3FB8AA3B#32 : Ideal .f32) = (((Real.log 2)⁻¹ : ℝ) : EReal) :=
  IdealRules.named_const.ideal_named_scalar κ "log2e" _ _ rfl

theorem qscale_eq : (Named.named κ "qscale" 0x3E0293EE#32 : Ideal .f32) =
    (((11863283 / 134217728) * (Real.log 2)⁻¹ : ℝ) : EReal) :=
  IdealRules.named_const.ideal_named_scalar κ "qscale" _ _ rfl

/-- The softplus in units of log 2. -/
def sp2 (x : ℝ) : ℝ := max x 0 + Real.log (1 + Real.rpow 2 (-|x|)) * (Real.log 2)⁻¹

theorem coe_max' (x y : ℝ) : ((max x y : ℝ) : EReal) = max (x : EReal) (y : EReal) := EReal.coe_strictMono.monotone.map_max

theorem coe_sum' {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem two_pos' (y : ℝ) : 0 < Real.rpow 2 y := Real.rpow_pos_of_pos (by norm_num) y

theorem abs_coe' (x : ℝ) : max (x : EReal) (-(x : EReal)) = ((|x| : ℝ) : EReal) := by
  rw [← EReal.coe_neg, ← coe_max']
  rfl

theorem log_one_add (x : ℝ) (h : 0 < x) : Ideal.log (1 + (x : EReal)) = ((Real.log (1 + x) : ℝ) : EReal) := by
  rw [← EReal.coe_one, ← EReal.coe_add, Ideal.log_coe, if_neg (by linarith)]

theorem spt_real (z : Sq) (i j : Fin 256) (x : ℝ) (h : z (ix2 i j) = (x : EReal)) : spt z (ix2 i j) = ((sp2 x : ℝ) : EReal) := by
  have e : spt z (ix2 i j) = max (z (ix2 i j)) 0 + Ideal.log (1 + Ideal.exp2 (0 - max (z (ix2 i j)) (-(z (ix2 i j))))) *
      (Named.named κ "log2e" 0x3FB8AA3B#32 : Ideal .f32) := by
    pointwise [spt]
    rfl
  rw [e, h, log2e_eq, abs_coe', zero_sub, ← EReal.coe_neg, Ideal.exp2_coe, log_one_add _ (two_pos' _),
    ← EReal.coe_mul, ← EReal.coe_zero, ← coe_max', ← EReal.coe_add]
  rfl

theorem sumt_real (s : Sq) (i : Fin 256) (f : Fin 256 → ℝ) (h : ∀ j, s (ix2 i j) = ((f j : ℝ) : EReal)) :
    sumt s (ix2 i 0) = ((∑ j, f j : ℝ) : EReal) := by
  have e : sumt s (ix2 i 0) = ∑ k : Fin 256, s (ix2 i k) := by pointwise [sumt]
  rw [e, coe_sum']
  exact Finset.sum_congr rfl fun k _ => h k

/-- The table of suffix sums. -/
def IsTable (u : FVec Ideal S256x256 .bf16) : Prop := ∀ a b : Fin 256, u (ix2 a b) = if b.val < a.val then (1 : EReal) else 0

theorem rsq_real (u : FVec Ideal S256x256 .bf16) (hu : IsTable u) (s : Sq) (i j : Fin 256) (f : Fin 256 → ℝ) (h : ∀ j, s (ix2 i j) = ((f j : ℝ) : EReal)) :
    rsq u s (ix2 i j) = ((∑ k : Fin 256, (if j.val < k.val then f k else 0) : ℝ) : EReal) := by
  have e : rsq u s (ix2 i j) = ∑ k : Fin 256, s (ix2 i k) * u (ix2 k j) + ∑ k : Fin 256, (s (ix2 i k) - s (ix2 i k)) * u (ix2 k j) := rfl
  have e2 : ∑ k : Fin 256, (s (ix2 i k) - s (ix2 i k)) * u (ix2 k j) = 0 :=
    Finset.sum_eq_zero fun k _ => by rw [h k, ← EReal.coe_sub, sub_self, EReal.coe_zero, zero_mul]
  rw [e, e2, add_zero, coe_sum']
  refine Finset.sum_congr rfl fun k _ => ?_
  rw [h k, hu k j]
  split
  · rw [mul_one]
  · rw [mul_zero, EReal.coe_zero]

theorem wt_real (lb r : Sq) (c : Col) (i j : Fin 256) (x y z : ℝ) (hx : lb (ix2 i j) = (x : EReal)) (hy : r (ix2 i j) = (y : EReal))
    (hz : c (ix2 i 0) = (z : EReal)) : wt lb r c (ix2 i j) = ((Real.rpow 2 (x - y - z) : ℝ) : EReal) := by
  have e : wt lb r c (ix2 i j) = Ideal.exp2 (lb (ix2 i j) - r (ix2 i j) - c (ix2 i 0)) := by
    pointwise [wt]
    try rfl
  rw [e, hx, hy, hz, ← EReal.coe_sub, ← EReal.coe_sub, Ideal.exp2_coe]

theorem acct_apply (a : Acc) (w : Sq) (vb : Blk) (i : Fin 256) (d : Fin 128) :
    acct a w vb (ix2 i d) = a (ix2 i d) + ∑ k : Fin 256, w (ix2 i k) * vb (ix3 0 k d) := by
  pointwise [acct]

theorem zt_apply (q : Qh) (b : EReal) (kb : Blk) (i j : Fin 256) :
    zt q b kb (ix2 i j) = (∑ k : Fin 128, q (ix2 i k) * kb (ix3 0 j k)) + b := by
  pointwise [zt]

theorem mask_apply (w : Sq) (i j : Fin 256) :
    select mask0 w (broadcast S256x256 (Scalar.ofBits .f32 0x00000000#32)) (ix2 i j) = if j.val < i.val then w (ix2 i j) else (0 : EReal) := by
  have hi := i.isLt
  have hj := j.isLt
  have e : select mask0 w (broadcast S256x256 (Scalar.ofBits .f32 0x00000000#32)) (ix2 i j) =
      if IntOp.cmpi .slt (BitVec.ofNat 32 j.val) (BitVec.ofNat 32 i.val) = 1#1 then w (ix2 i j) else 0 := by
    pointwise [mask0]
    rfl
  rw [e]
  by_cases hlt : j.val < i.val
  · rw [if_pos ((WordCmp.cmpi_slt_ofNat_eq_one_iff (w := 32) (by omega) (by omega)).2 hlt), if_pos hlt]
  · rw [if_neg (fun hh => hlt ((WordCmp.cmpi_slt_ofNat_eq_one_iff (w := 32) (by omega) (by omega)).1 hh)), if_neg hlt]

theorem spm_real (z : Sq) (i j : Fin 256) (x : ℝ) (h : z (ix2 i j) = (x : EReal)) :
    spm z (ix2 i j) = ((if j.val < i.val then sp2 x else 0 : ℝ) : EReal) := by
  refine (mask_apply (spt z) i j).trans ?_
  rw [spt_real z i j x h]
  split
  · rfl
  · rw [EReal.coe_zero]

end Cert.Proof.Sb
-- ==== Proof.Sb.Invariant.lean ====
module

public import proofs.«01_k».proof.Proof.Sb.Elem

/-! What a head's pair holds, in one row of the queries' block, after the tiles it has seen:
the sum of the softplus and the weighted sum of the values over the keys seen so far. -/

@[expose] public section
noncomputable section
namespace Cert.Proof.Sb
open Idealize.ShloMosaic Idealize.SL.Sem Cert.KernelIdeal Cert.KernelIdeal.Gen
open Finset

/-- A sum over a part of a tile is a sum over an interval. -/
theorem sum_part {α : Type} [AddCommMonoid α] (f : ℕ → α) (lo a b : ℕ) (hb : b ≤ 256) :
    ∑ k : Fin 256, (if a ≤ k.val ∧ k.val < b then f (lo + k.val) else 0) = ∑ k ∈ Ico (lo + a) (lo + b), f k := by
  rw [Fin.sum_univ_eq_sum_range (fun k => if a ≤ k ∧ k < b then f (lo + k) else 0) 256, ← Finset.sum_filter]
  have e : (range 256).filter (fun k => a ≤ k ∧ k < b) = Ico a b := by
    ext k
    simp only [mem_filter, mem_range, mem_Ico]
    omega
  rw [e, Finset.sum_Ico_add f a b lo, add_comm a, add_comm b]

theorem sum_tile {α : Type} [AddCommMonoid α] (f : ℕ → α) (lo : ℕ) :
    ∑ k : Fin 256, f (lo + k.val) = ∑ k ∈ Ico lo (lo + 256), f k := by
  have h := sum_part f lo 0 256 le_rfl
  rw [add_zero] at h
  rw [← h]
  exact Finset.sum_congr rfl fun k _ => (if_pos ⟨Nat.zero_le _, k.isLt⟩).symm

/-- The weight of key `j` for the query at `p`. -/
def W (zr : ℕ → ℝ) (p j : ℕ) : ℝ := Real.rpow 2 (zr j - sp2 (zr j) - ∑ k ∈ Ico (j + 1) p, sp2 (zr k))

theorem W_split (zr : ℕ → ℝ) (p j lo : ℕ) (h1 : j + 1 ≤ lo) (h2 : lo ≤ p) :
    Real.rpow 2 (zr j - sp2 (zr j) - (∑ k ∈ Ico (j + 1) lo, sp2 (zr k)) - (∑ k ∈ Ico lo p, sp2 (zr k))) = W zr p j := by
  rw [W, ← Finset.sum_Ico_consecutive (fun k => sp2 (zr k)) h1 h2]
  congr 1
  ring

theorem zero_f32 : (Scalar.ofBits .f32 0x00000000#32 : Ideal .f32) = (0 : EReal) := by
  pointwise []

variable (u : FVec Ideal S256x256 .bf16) (hu : IsTable u) (q : Qh) (b : Ideal .f32)

include hu in
/-- A tile of keys all before the queries. -/
theorem tile1_row (kb vb : Blk) (pr : Col × Acc) (i : Fin 256) (zr : ℕ → ℝ) (v : ℕ → Fin 128 → EReal) (lo p : ℕ) (hp : lo + 256 ≤ p)
    (hz : ∀ j : Fin 256, zt q b kb (ix2 i j) = ((zr (lo + j.val) : ℝ) : EReal))
    (hv : ∀ (j : Fin 256) (d : Fin 128), vb (ix3 0 j d) = v (lo + j.val) d)
    (h1 : pr.1 (ix2 i 0) = ((∑ k ∈ Ico (lo + 256) p, sp2 (zr k) : ℝ) : EReal))
    (h2 : ∀ d : Fin 128, pr.2 (ix2 i d) = ∑ k ∈ Ico (lo + 256) p, ((W zr p k : ℝ) : EReal) * v k d) :
    (tile1 u q b kb vb pr).1 (ix2 i 0) = ((∑ k ∈ Ico lo p, sp2 (zr k) : ℝ) : EReal) ∧
    ∀ d : Fin 128, (tile1 u q b kb vb pr).2 (ix2 i d) = ∑ k ∈ Ico lo p, ((W zr p k : ℝ) : EReal) * v k d := by
  have hs : ∀ j : Fin 256, spt (zt q b kb) (ix2 i j) = ((sp2 (zr (lo + j.val)) : ℝ) : EReal) := fun j => spt_real _ i j _ (hz j)
  constructor
  · show pr.1 (ix2 i 0) + sumt (spt (zt q b kb)) (ix2 i 0) = _
    rw [h1, sumt_real _ i (fun j => sp2 (zr (lo + j.val))) hs, ← EReal.coe_add, sum_tile (fun k => sp2 (zr k)) lo,
      add_comm, Finset.sum_Ico_consecutive _ (by omega) hp]
  · intro d
    refine (acct_apply _ _ _ i d).trans ?_
    have hw : ∀ j : Fin 256, wt (subf (zt q b kb) (spt (zt q b kb))) (rsq u (spt (zt q b kb))) pr.1 (ix2 i j) = ((W zr p (lo + j.val) : ℝ) : EReal) := by
      intro j
      have hr : ∑ k : Fin 256, (if j.val < k.val then sp2 (zr (lo + k.val)) else 0) = ∑ k ∈ Ico (lo + j.val + 1) (lo + 256), sp2 (zr k) := by
        rw [add_assoc, ← sum_part (fun k => sp2 (zr k)) lo (j.val + 1) 256 le_rfl]
        refine Finset.sum_congr rfl fun k _ => ?_
        have hk := k.isLt
        exact if_congr ⟨fun h => ⟨h, hk⟩, fun h => h.1⟩ rfl rfl
      rw [wt_real _ _ pr.1 i j (zr (lo + j.val) - sp2 (zr (lo + j.val))) _ _ ?_ (rsq_real u hu _ i j (fun j => sp2 (zr (lo + j.val))) hs) h1, hr,
        W_split zr p _ _ (by have := j.isLt; omega) hp]
      show zt q b kb (ix2 i j) - spt (zt q b kb) (ix2 i j) = _
      rw [hz, hs, EReal.coe_sub]
    rw [h2, ← Finset.sum_Ico_consecutive (fun k => ((W zr p k : ℝ) : EReal) * v k d) (Nat.le_add_right lo 256) hp,
      ← sum_tile (fun k => ((W zr p k : ℝ) : EReal) * v k d) lo, add_comm]
    exact congrArg (· + _) (Finset.sum_congr rfl fun j _ => by rw [hw, hv])

include hu in
/-- The queries' own tile. -/
theorem tile0_row (kb vb : Blk) (i : Fin 256) (zr : ℕ → ℝ) (v : ℕ → Fin 128 → EReal) (lo : ℕ)
    (hz : ∀ j : Fin 256, zt q b kb (ix2 i j) = ((zr (lo + j.val) : ℝ) : EReal))
    (hv : ∀ (j : Fin 256) (d : Fin 128), vb (ix3 0 j d) = v (lo + j.val) d) :
    (tile0 u q b kb vb).1 (ix2 i 0) = ((∑ k ∈ Ico lo (lo + i.val), sp2 (zr k) : ℝ) : EReal) ∧
    ∀ d : Fin 128, (tile0 u q b kb vb).2 (ix2 i d) = ∑ k ∈ Ico lo (lo + i.val), ((W zr (lo + i.val) k : ℝ) : EReal) * v k d := by
  have hi := i.isLt
  have hs : ∀ j : Fin 256, spm (zt q b kb) (ix2 i j) = ((if j.val < i.val then sp2 (zr (lo + j.val)) else 0 : ℝ) : EReal) := fun j => spm_real _ i j _ (hz j)
  have part : ∀ {α : Type} [AddCommMonoid α] (f : ℕ → α), ∑ k : Fin 256, (if k.val < i.val then f (lo + k.val) else 0) = ∑ k ∈ Ico lo (lo + i.val), f k := by
    intro α _ f
    have h := sum_part f lo 0 i.val hi.le
    rw [add_zero] at h
    rw [← h]
    exact Finset.sum_congr rfl fun k _ => if_congr ⟨fun h => ⟨Nat.zero_le _, h⟩, fun h => h.2⟩ rfl rfl
  constructor
  · show (Scalar.ofBits .f32 0x00000000#32 : Ideal .f32) + sumt (spm (zt q b kb)) (ix2 i 0) = _
    rw [zero_f32]
    refine (zero_add _).trans ?_
    rw [sumt_real _ i _ hs, part (fun k => sp2 (zr k))]
  · intro d
    refine (acct_apply _ _ _ i d).trans ?_
    refine (congrArg (fun x : EReal => x + _) zero_f32).trans ((zero_add _).trans ?_)
    rw [← part (fun k => ((W zr (lo + i.val) k : ℝ) : EReal) * v k d)]
    refine Finset.sum_congr rfl fun j _ => ?_
    rw [mask_apply, hv]
    by_cases hlt : j.val < i.val
    · rw [if_pos hlt, if_pos hlt]
      refine congrArg (· * _) ?_
      have hr : ∑ k : Fin 256, (if j.val < k.val then (if k.val < i.val then sp2 (zr (lo + k.val)) else 0) else 0) = ∑ k ∈ Ico (lo + j.val + 1) (lo + i.val), sp2 (zr k) := by
        rw [add_assoc, ← sum_part (fun k => sp2 (zr k)) lo (j.val + 1) i.val hi.le]
        refine Finset.sum_congr rfl fun k _ => ?_
        by_cases h1 : j.val < k.val
        · rw [if_pos h1]
          exact if_congr ⟨fun h => ⟨h1, h⟩, fun h => h.2⟩ rfl rfl
        · rw [if_neg h1, if_neg (fun h => h1 h.1)]
      rw [wt_real _ _ (broadcast S256x1 (Scalar.ofBits .f32 0x00000000#32)) i j (zr (lo + j.val) - sp2 (zr (lo + j.val))) _ 0 ?_ (rsq_real u hu _ i j _ hs) ?_, hr]
      · rw [W, sub_zero]
      · show zt q b kb (ix2 i j) - spt (zt q b kb) (ix2 i j) = _
        rw [hz, spt_real _ i j _ (hz j), EReal.coe_sub]
      · exact zero_f32.trans EReal.coe_zero.symm
    · rw [if_neg hlt, if_neg hlt, zero_mul]

include hu in
/-- A head's pair after `n` tiles before the queries' own. -/
theorem gat_row (x2 x3 : FVec Ideal S1x8448x512 .bf16) (m : ℕ) (h : Fin 4) (i : Fin 256) (zr : ℕ → ℝ) (v : ℕ → Fin 128 → EReal)
    (hz : ∀ n ≤ m, ∀ j : Fin 256, zt q b (kblk x2 n h) (ix2 i j) = ((zr (256 * n + j.val) : ℝ) : EReal))
    (hv : ∀ n ≤ m, ∀ (j : Fin 256) (d : Fin 128), kblk x3 n h (ix3 0 j d) = v (256 * n + j.val) d) (n : ℕ) (hn : n ≤ m) :
    (gat u q b x2 x3 m h n).1 (ix2 i 0) = ((∑ k ∈ Ico (256 * (m - n)) (256 * m + i.val), sp2 (zr k) : ℝ) : EReal) ∧
    ∀ d : Fin 128, (gat u q b x2 x3 m h n).2 (ix2 i d) =
      ∑ k ∈ Ico (256 * (m - n)) (256 * m + i.val), ((W zr (256 * m + i.val) k : ℝ) : EReal) * v k d := by
  induction n with
  | zero => exact tile0_row u hu q b _ _ i zr v (256 * m) (hz m le_rfl) (hv m le_rfl)
  | succ n ih =>
    obtain ⟨h1, h2⟩ := ih (by omega)
    have e : 256 * (m - n) = 256 * (m - (n + 1)) + 256 := by omega
    rw [e] at h1 h2
    exact tile1_row u hu q b _ _ _ i zr v (256 * (m - (n + 1))) (256 * m + i.val) (by omega) (hz _ (by omega)) (hv _ (by omega)) h1 h2

include hu in
/-- The weighted sum a head ends with. -/
theorem gat_end (x2 x3 : FVec Ideal S1x8448x512 .bf16) (m : ℕ) (h : Fin 4) (i : Fin 256) (zr : ℕ → ℝ) (v : ℕ → Fin 128 → EReal)
    (hz : ∀ n ≤ m, ∀ j : Fin 256, zt q b (kblk x2 n h) (ix2 i j) = ((zr (256 * n + j.val) : ℝ) : EReal))
    (hv : ∀ n ≤ m, ∀ (j : Fin 256) (d : Fin 128), kblk x3 n h (ix3 0 j d) = v (256 * n + j.val) d) (d : Fin 128) :
    (gat u q b x2 x3 m h m).2 (ix2 i d) = ∑ k ∈ range (256 * m + i.val), ((W zr (256 * m + i.val) k : ℝ) : EReal) * v k d := by
  have hh := (gat_row u hu q b x2 x3 m h i zr v hz hv m le_rfl).2 d
  rw [Nat.sub_self, Nat.mul_zero] at hh
  rw [hh, Finset.range_eq_Ico]

end Cert.Proof.Sb
-- ==== Proof.Sb.Body.lean ====
module

public import proofs.«01_k».proof.Proof.Sb.Loop

/-! The body of a grid point: what it writes, head by head. -/

@[expose] public section
noncomputable section
namespace Cert.Proof.Sb
open Idealize.ShloMosaic Idealize.SL.Sem Cert.KernelIdeal Cert.KernelIdeal.Gen

/-- A head's block of the queries or of the gate as the kernel loads it. -/
abbrev ldf (m : Memref sig .tc .vmem S1x256x512 .f32) (X : BufTy.Contents (Elt Ideal) m.view.ty) (off : Fin 3 → ℕ)
    (inb : ∀ a, off a + S1x256x128.size a ≤ S1x256x512.size a) : Vec Ideal S1x256x128 .f32 :=
  View.readAt (Elt Ideal) m.view (Rect.unit (s := S1x256x512) off S1x256x128.size inb).toLoadRect X

/-- A head's output: what it has gathered, times the gate. -/
def outt (a : Acc) (g : Vec Ideal S1x256x128 .f32) : Vec Ideal S1x256x128 .f32 :=
  shapeCast S1x256x128 (mulf a (mulf (shapeCast S256x128 g shapeCasts_S1x256x128_S256x128 : FVec Ideal S256x128 .f32)
    (divf (broadcast S256x128 (Scalar.ofBits .f32 0x3F800000#32)) (addf (broadcast S256x128 (Scalar.ofBits .f32 0x3F800000#32))
      (exp (subf (broadcast S256x128 (Scalar.ofBits .f32 0x00000000#32)) (shapeCast S256x128 g shapeCasts_S1x256x128_S256x128 : FVec Ideal S256x128 .f32)))))) :
      FVec Ideal S256x128 .f32) shapeCasts_S256x128_S1x256x128

/-- A head's scaled queries. -/
def qsc (g : Vec Ideal S1x256x128 .f32) : Qh :=
  truncf .bf16 (mulf (shapeCast S256x128 g shapeCasts_S1x256x128_S256x128 : FVec Ideal S256x128 .f32)
    (broadcast S256x128 (Named.named κ "qscale" 0x3E0293EE#32))) bitsLt_bf16_f32

section
variable (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x5 : Vec Ideal S256x256 .bf16)

/-- The pairs after the queries' own tile. -/
def s0 : St := ((kernelRun0_A.sl.r_33 c i arg2 harg2 arg3 harg3 arg4 harg4 x0 x1 x2), (kernelRun0_A.sl.r_32 c i arg2 harg2 arg3 harg3 arg4 harg4 arg5 harg5 arg7 harg7 x0 x1 x2 x3 x5), (kernelRun0_A.sl.r_35 c i arg2 harg2 arg3 harg3 arg4 harg4 x0 x1 x2), (kernelRun0_A.sl.r_34 c i arg2 harg2 arg3 harg3 arg4 harg4 arg5 harg5 arg7 harg7 x0 x1 x2 x3 x5), (kernelRun0_A.sl.r_37 c i arg2 harg2 arg3 harg3 arg4 harg4 x0 x1 x2), (kernelRun0_A.sl.r_36 c i arg2 harg2 arg3 harg3 arg4 harg4 arg5 harg5 arg7 harg7 x0 x1 x2 x3 x5), k0_pay213 k0_pay179 (kernelRun0_A.sl.r_30 c i arg2 harg2 arg3 harg3 arg4 harg4 x0 x1 x2), k0_pay212 k0_pay180 (kernelRun0_A.sl.r_38 c i arg2 harg2 arg3 harg3 arg4 harg4 arg7 harg7 x0 x1 x2 x5) (kernelRun0_A.sl.r_39 c i arg5 harg5 x3) kernelRun0_A.sl.cst_79)
/-- The pairs after the odd tile. -/
def s1 : St := st_k0_t1 (F := Ideal) Variants.none c none i arg2 harg2 arg3 harg3 arg4 harg4 arg5 harg5 arg6 harg6 arg7 harg7 arg8 harg8 (BitVec.ofNat 32 ↑(i 1)) (kernelRun0_A.sl.r_4 c arg7 harg7 x5) (kernelRun0_A.sl.r_5 c arg3 harg3 x1) (kernelRun0_A.sl.r_6 c arg3 harg3 x1) (kernelRun0_A.sl.r_7 c arg3 harg3 x1) (kernelRun0_A.sl.r_8 c arg3 harg3 x1) (kernelRun0_A.sl.r_9 c arg2 harg2 x0) (kernelRun0_A.sl.r_10 c arg2 harg2 x0) (kernelRun0_A.sl.r_11 c arg2 harg2 x0) (kernelRun0_A.sl.r_12 c arg2 harg2 x0) k0_pay179 k0_pay180 (kernelRun0_A.sl.r_30 c i arg2 harg2 arg3 harg3 arg4 harg4 x0 x1 x2) (kernelRun0_A.sl.r_32 c i arg2 harg2 arg3 harg3 arg4 harg4 arg5 harg5 arg7 harg7 x0 x1 x2 x3 x5) (kernelRun0_A.sl.r_33 c i arg2 harg2 arg3 harg3 arg4 harg4 x0 x1 x2) (kernelRun0_A.sl.r_34 c i arg2 harg2 arg3 harg3 arg4 harg4 arg5 harg5 arg7 harg7 x0 x1 x2 x3 x5) (kernelRun0_A.sl.r_35 c i arg2 harg2 arg3 harg3 arg4 harg4 x0 x1 x2) (kernelRun0_A.sl.r_36 c i arg2 harg2 arg3 harg3 arg4 harg4 arg5 harg5 arg7 harg7 x0 x1 x2 x3 x5) (kernelRun0_A.sl.r_37 c i arg2 harg2 arg3 harg3 arg4 harg4 x0 x1 x2) (kernelRun0_A.sl.r_38 c i arg2 harg2 arg3 harg3 arg4 harg4 arg7 harg7 x0 x1 x2 x5) (kernelRun0_A.sl.r_39 c i arg5 harg5 x3) kernelRun0_A.sl.cst_79 (harg4.unread x2) (harg5.unread x3) (s0 c i arg2 harg2 arg3 harg3 arg4 harg4 arg5 harg5 arg7 harg7 x0 x1 x2 x3 x5) (k0_t1_loop i).trips
/-- The same, past the loop without trips. -/
def s2 : St := st_k0_t2 (F := Ideal) Variants.none c none i arg2 harg2 arg3 harg3 arg4 harg4 arg5 harg5 arg6 harg6 arg7 harg7 arg8 harg8 (BitVec.ofNat 32 ↑(i 1)) (kernelRun0_A.sl.r_4 c arg7 harg7 x5) (kernelRun0_A.sl.r_5 c arg3 harg3 x1) (kernelRun0_A.sl.r_6 c arg3 harg3 x1) (kernelRun0_A.sl.r_7 c arg3 harg3 x1) (kernelRun0_A.sl.r_8 c arg3 harg3 x1) (kernelRun0_A.sl.r_9 c arg2 harg2 x0) (kernelRun0_A.sl.r_10 c arg2 harg2 x0) (kernelRun0_A.sl.r_11 c arg2 harg2 x0) (kernelRun0_A.sl.r_12 c arg2 harg2 x0) k0_pay179 k0_pay180 (kernelRun0_A.sl.r_30 c i arg2 harg2 arg3 harg3 arg4 harg4 x0 x1 x2) (kernelRun0_A.sl.r_32 c i arg2 harg2 arg3 harg3 arg4 harg4 arg5 harg5 arg7 harg7 x0 x1 x2 x3 x5) (kernelRun0_A.sl.r_33 c i arg2 harg2 arg3 harg3 arg4 harg4 x0 x1 x2) (kernelRun0_A.sl.r_34 c i arg2 harg2 arg3 harg3 arg4 harg4 arg5 harg5 arg7 harg7 x0 x1 x2 x3 x5) (kernelRun0_A.sl.r_35 c i arg2 harg2 arg3 harg3 arg4 harg4 x0 x1 x2) (kernelRun0_A.sl.r_36 c i arg2 harg2 arg3 harg3 arg4 harg4 arg5 harg5 arg7 harg7 x0 x1 x2 x3 x5) (kernelRun0_A.sl.r_37 c i arg2 harg2 arg3 harg3 arg4 harg4 x0 x1 x2) (kernelRun0_A.sl.r_38 c i arg2 harg2 arg3 harg3 arg4 harg4 arg7 harg7 x0 x1 x2 x5) (kernelRun0_A.sl.r_39 c i arg5 harg5 x3) kernelRun0_A.sl.cst_79 (kernelRun0_A.sl.v226 i) (harg4.unread x2) (harg5.unread x3) (s1 c i arg2 harg2 arg3 harg3 arg4 harg4 arg5 harg5 arg6 harg6 arg7 harg7 arg8 harg8 x0 x1 x2 x3 x5) (k0_t2_loop i).trips
/-- The pairs after the pairs of tiles. -/
def s3 : St := st_k0_t3 (F := Ideal) Variants.none c none i arg2 harg2 arg3 harg3 arg4 harg4 arg5 harg5 arg6 harg6 arg7 harg7 arg8 harg8 (kernelRun0_A.sl.r_4 c arg7 harg7 x5) (kernelRun0_A.sl.r_5 c arg3 harg3 x1) (kernelRun0_A.sl.r_6 c arg3 harg3 x1) (kernelRun0_A.sl.r_7 c arg3 harg3 x1) (kernelRun0_A.sl.r_8 c arg3 harg3 x1) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_40 c i arg2 harg2 arg3 harg3 arg4 harg4 arg5 harg5 arg6 harg6 arg7 harg7 arg8 harg8 x0 x1 x2 x3 x5) (kernelRun0_A.sl.r_41 c i arg2 harg2 arg3 harg3 arg4 harg4 arg5 harg5 arg6 harg6 arg7 harg7 arg8 harg8 x0 x1 x2 x3 x5) (kernelRun0_A.sl.r_42 c i arg2 harg2 arg3 harg3 arg4 harg4 arg5 harg5 arg6 harg6 arg7 harg7 arg8 harg8 x0 x1 x2 x3 x5) (kernelRun0_A.sl.r_43 c i arg2 harg2 arg3 harg3 arg4 harg4 arg5 harg5 arg6 harg6 arg7 harg7 arg8 harg8 x0 x1 x2 x3 x5) (kernelRun0_A.sl.r_44 c i arg2 harg2 arg3 harg3 arg4 harg4 arg5 harg5 arg6 harg6 arg7 harg7 arg8 harg8 x0 x1 x2 x3 x5) (kernelRun0_A.sl.r_45 c i arg2 harg2 arg3 harg3 arg4 harg4 arg5 harg5 arg6 harg6 arg7 harg7 arg8 harg8 x0 x1 x2 x3 x5) (kernelRun0_A.sl.r_46 c i arg2 harg2 arg3 harg3 arg4 harg4 arg5 harg5 arg6 harg6 arg7 harg7 arg8 harg8 x0 x1 x2 x3 x5) (kernelRun0_A.sl.r_47 c i arg2 harg2 arg3 harg3 arg4 harg4 arg5 harg5 arg6 harg6 arg7 harg7 arg8 harg8 x0 x1 x2 x3 x5) (kernelRun0_A.sl.v230 i) 0#32 (kernelRun0_A.sl.v248 i) (harg4.unread x2) (harg5.unread x3) (s2 c i arg2 harg2 arg3 harg3 arg4 harg4 arg5 harg5 arg6 harg6 arg7 harg7 arg8 harg8 x0 x1 x2 x3 x5) (k0_t3_loop i).trips
/-- The same, past the loop without trips. -/
def s4 : St := st_k0_t4 (F := Ideal) Variants.none c none i arg2 harg2 arg3 harg3 arg4 harg4 arg5 harg5 arg6 harg6 arg7 harg7 arg8 harg8 (kernelRun0_A.sl.r_4 c arg7 harg7 x5) (kernelRun0_A.sl.r_5 c arg3 harg3 x1) (kernelRun0_A.sl.r_6 c arg3 harg3 x1) (kernelRun0_A.sl.r_7 c arg3 harg3 x1) (kernelRun0_A.sl.r_8 c arg3 harg3 x1) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_40 c i arg2 harg2 arg3 harg3 arg4 harg4 arg5 harg5 arg6 harg6 arg7 harg7 arg8 harg8 x0 x1 x2 x3 x5) (kernelRun0_A.sl.r_41 c i arg2 harg2 arg3 harg3 arg4 harg4 arg5 harg5 arg6 harg6 arg7 harg7 arg8 harg8 x0 x1 x2 x3 x5) (kernelRun0_A.sl.r_42 c i arg2 harg2 arg3 harg3 arg4 harg4 arg5 harg5 arg6 harg6 arg7 harg7 arg8 harg8 x0 x1 x2 x3 x5) (kernelRun0_A.sl.r_43 c i arg2 harg2 arg3 harg3 arg4 harg4 arg5 harg5 arg6 harg6 arg7 harg7 arg8 harg8 x0 x1 x2 x3 x5) (kernelRun0_A.sl.r_44 c i arg2 harg2 arg3 harg3 arg4 harg4 arg5 harg5 arg6 harg6 arg7 harg7 arg8 harg8 x0 x1 x2 x3 x5) (kernelRun0_A.sl.r_45 c i arg2 harg2 arg3 harg3 arg4 harg4 arg5 harg5 arg6 harg6 arg7 harg7 arg8 harg8 x0 x1 x2 x3 x5) (kernelRun0_A.sl.r_46 c i arg2 harg2 arg3 harg3 arg4 harg4 arg5 harg5 arg6 harg6 arg7 harg7 arg8 harg8 x0 x1 x2 x3 x5) (kernelRun0_A.sl.r_47 c i arg2 harg2 arg3 harg3 arg4 harg4 arg5 harg5 arg6 harg6 arg7 harg7 arg8 harg8 x0 x1 x2 x3 x5) (kernelRun0_A.sl.v230 i) 0#32 (kernelRun0_A.sl.v248 i) (kernelRun0_A.sl.v252 i) (harg4.unread x2) (harg5.unread x3) (s3 c i arg2 harg2 arg3 harg3 arg4 harg4 arg5 harg5 arg6 harg6 arg7 harg7 arg8 harg8 x0 x1 x2 x3 x5) (k0_t4_loop i).trips
end

attribute [local irreducible] st_k0_t1 st_k0_t2 st_k0_t3 st_k0_t4

set_option maxRecDepth 100000 in
set_option maxHeartbeats 1000000 in
theorem pieces (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x4 : Vec Ideal S1x256x512 .f32) (x5 : Vec Ideal S256x256 .bf16) :
    (kernelRun0_A (F := Ideal) c i arg2 harg2 arg3 harg3 arg4 harg4 arg5 harg5 arg6 harg6 arg7 harg7 arg8 harg8 x0 x1 x2 x3 x4 x5).1 =
     [⟨Rect.unit (s := S1x256x512) ![0, 0, 384] S1x256x128.size inb_S1x256x512_S1x256x128_0_0_384, outt (hd (s4 c i arg2 harg2 arg3 harg3 arg4 harg4 arg5 harg5 arg6 harg6 arg7 harg7 arg8 harg8 x0 x1 x2 x3 x5) 3).2 (ldf arg6 (harg6.unread x4) ![0, 0, 384] inb_S1x256x512_S1x256x128_0_0_384)⟩,
      ⟨Rect.unit (s := S1x256x512) ![0, 0, 256] S1x256x128.size inb_S1x256x512_S1x256x128_0_0_256, outt (hd (s4 c i arg2 harg2 arg3 harg3 arg4 harg4 arg5 harg5 arg6 harg6 arg7 harg7 arg8 harg8 x0 x1 x2 x3 x5) 2).2 (ldf arg6 (harg6.unread x4) ![0, 0, 256] inb_S1x256x512_S1x256x128_0_0_256)⟩,
      ⟨Rect.unit (s := S1x256x512) ![0, 0, 128] S1x256x128.size inb_S1x256x512_S1x256x128_0_0_128, outt (hd (s4 c i arg2 harg2 arg3 harg3 arg4 harg4 arg5 harg5 arg6 harg6 arg7 harg7 arg8 harg8 x0 x1 x2 x3 x5) 1).2 (ldf arg6 (harg6.unread x4) ![0, 0, 128] inb_S1x256x512_S1x256x128_0_0_128)⟩,
      ⟨Rect.unit (s := S1x256x512) ![0, 0, 0] S1x256x128.size inb_S1x256x512_S1x256x128_0_0_0, outt (hd (s4 c i arg2 harg2 arg3 harg3 arg4 harg4 arg5 harg5 arg6 harg6 arg7 harg7 arg8 harg8 x0 x1 x2 x3 x5) 0).2 (ldf arg6 (harg6.unread x4) ![0, 0, 0] inb_S1x256x512_S1x256x128_0_0_0)⟩] := by
  unfold kernelRun0_A
  dsimp only
  rfl

end Cert.Proof.Sb
-- ==== Proof.Sb.Block.lean ====
module

public import proofs.«01_k».proof.Proof.Sb.Body

/-! Every head's pair at the end of a grid point's body. -/

@[expose] public section
noncomputable section
namespace Cert.Proof.Sb
open Idealize.ShloMosaic Idealize.SL.Sem Cert.KernelIdeal Cert.KernelIdeal.Gen

set_option maxRecDepth 100000 in
set_option maxHeartbeats 1000000 in
theorem s0_eq (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x5 : Vec Ideal S256x256 .bf16) : s0 c i arg2 harg2 arg3 harg3 arg4 harg4 arg5 harg5 arg7 harg7 x0 x1 x2 x3 x5 =
    (let z0 := zt (kernelRun0_A.sl.r_5 c arg3 harg3 x1) (kernelRun0_A.sl.r_9 c arg2 harg2 x0) (ld arg4 (harg4.unread x2) (k0_off1 i) (k0_off1_inb i))
     let z1 := zt (kernelRun0_A.sl.r_6 c arg3 harg3 x1) (kernelRun0_A.sl.r_10 c arg2 harg2 x0) (ld arg4 (harg4.unread x2) (k0_off2 i) (k0_off2_inb i))
     let z2 := zt (kernelRun0_A.sl.r_7 c arg3 harg3 x1) (kernelRun0_A.sl.r_11 c arg2 harg2 x0) (ld arg4 (harg4.unread x2) (k0_off3 i) (k0_off3_inb i))
     let z3 := zt (kernelRun0_A.sl.r_8 c arg3 harg3 x1) (kernelRun0_A.sl.r_12 c arg2 harg2 x0) (ld arg4 (harg4.unread x2) (k0_off4 i) (k0_off4_inb i))
     let rr := rs4 (kernelRun0_A.sl.r_4 c arg7 harg7 x5) (spm z0) (spm z1) (spm z2) (spm z3)
     (addf (broadcast S256x1 (Scalar.ofBits .f32 0x00000000#32)) (sumt (spm z0)), acct (broadcast S256x128 (Scalar.ofBits .f32 0x00000000#32)) (select mask0 (wt (subf z0 (spt z0)) (extractStridedSlice S256x256 ![0, 0] rr slices_S1024x256_o0_0_S256x256) (broadcast S256x1 (Scalar.ofBits .f32 0x00000000#32))) (broadcast S256x256 (Scalar.ofBits .f32 0x00000000#32))) (ld arg5 (harg5.unread x3) (k0_off1 i) (k0_off1_inb i)),
      addf (broadcast S256x1 (Scalar.ofBits .f32 0x00000000#32)) (sumt (spm z1)), acct (broadcast S256x128 (Scalar.ofBits .f32 0x00000000#32)) (select mask0 (wt (subf z1 (spt z1)) (extractStridedSlice S256x256 ![256, 0] rr slices_S1024x256_o256_0_S256x256) (broadcast S256x1 (Scalar.ofBits .f32 0x00000000#32))) (broadcast S256x256 (Scalar.ofBits .f32 0x00000000#32))) (ld arg5 (harg5.unread x3) (k0_off2 i) (k0_off2_inb i)),
      addf (broadcast S256x1 (Scalar.ofBits .f32 0x00000000#32)) (sumt (spm z2)), acct (broadcast S256x128 (Scalar.ofBits .f32 0x00000000#32)) (select mask0 (wt (subf z2 (spt z2)) (extractStridedSlice S256x256 ![512, 0] rr slices_S1024x256_o512_0_S256x256) (broadcast S256x1 (Scalar.ofBits .f32 0x00000000#32))) (broadcast S256x256 (Scalar.ofBits .f32 0x00000000#32))) (ld arg5 (harg5.unread x3) (k0_off3 i) (k0_off3_inb i)),
      addf (broadcast S256x1 (Scalar.ofBits .f32 0x00000000#32)) (sumt (spm z3)), acct (broadcast S256x128 (Scalar.ofBits .f32 0x00000000#32)) (select mask0 (wt (subf z3 (spt z3)) (extractStridedSlice S256x256 ![768, 0] rr slices_S1024x256_o768_0_S256x256) (broadcast S256x1 (Scalar.ofBits .f32 0x00000000#32))) (broadcast S256x256 (Scalar.ofBits .f32 0x00000000#32))) (ld arg5 (harg5.unread x3) (k0_off4 i) (k0_off4_inb i)))) := rfl

theorem s0_hd (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x5 : Vec Ideal S256x256 .bf16) (h : Fin 4) : hd (s0 c i arg2 harg2 arg3 harg3 arg4 harg4 arg5 harg5 arg7 harg7 x0 x1 x2 x3 x5) h =
    gat (kernelRun0_A.sl.r_4 c arg7 harg7 x5) (sel4 (kernelRun0_A.sl.r_5 c arg3 harg3 x1) (kernelRun0_A.sl.r_6 c arg3 harg3 x1) (kernelRun0_A.sl.r_7 c arg3 harg3 x1) (kernelRun0_A.sl.r_8 c arg3 harg3 x1) h) (sel4 (kernelRun0_A.sl.r_9 c arg2 harg2 x0) (kernelRun0_A.sl.r_10 c arg2 harg2 x0) (kernelRun0_A.sl.r_11 c arg2 harg2 x0) (kernelRun0_A.sl.r_12 c arg2 harg2 x0) h) x2 x3 (qt i) h 0 := by
  rw [s0_eq c i arg2 harg2 arg3 harg3 arg4 harg4 arg5 harg5 arg6 harg6 arg7 harg7 arg8 harg8 x0 x1 x2 x3 x5]
  obtain ⟨o0, o1, o2, o3⟩ := off0 i
  rw [ld_eq arg4 harg4 x2 _ _ _ 0 o0, ld_eq arg4 harg4 x2 _ _ _ 1 o1, ld_eq arg4 harg4 x2 _ _ _ 2 o2, ld_eq arg4 harg4 x2 _ _ _ 3 o3, ld_eq arg5 harg5 x3 _ _ _ 0 o0, ld_eq arg5 harg5 x3 _ _ _ 1 o1, ld_eq arg5 harg5 x3 _ _ _ 2 o2, ld_eq arg5 harg5 x3 _ _ _ 3 o3]
  dsimp only
  rw [slice4_0, slice4_1, slice4_2, slice4_3]
  fin_cases h <;> rfl

theorem s4_hd (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x5 : Vec Ideal S256x256 .bf16) (h : Fin 4) : hd (s4 c i arg2 harg2 arg3 harg3 arg4 harg4 arg5 harg5 arg6 harg6 arg7 harg7 arg8 harg8 x0 x1 x2 x3 x5) h =
    gat (kernelRun0_A.sl.r_4 c arg7 harg7 x5) (sel4 (kernelRun0_A.sl.r_5 c arg3 harg3 x1) (kernelRun0_A.sl.r_6 c arg3 harg3 x1) (kernelRun0_A.sl.r_7 c arg3 harg3 x1) (kernelRun0_A.sl.r_8 c arg3 harg3 x1) h) (sel4 (kernelRun0_A.sl.r_9 c arg2 harg2 x0) (kernelRun0_A.sl.r_10 c arg2 harg2 x0) (kernelRun0_A.sl.r_11 c arg2 harg2 x0) (kernelRun0_A.sl.r_12 c arg2 harg2 x0) h) x2 x3 (qt i) h (qt i) := by
  unfold s4
  rw [loop4]
  unfold s3
  rw [loop3 _ _ _ _ _ _ _ _ _ _ _ _ _ _ _ _ _ _ _ _ _ _ _ _ _ _ _ _ _ _ _ _ _ _ _ _ _ _ x2 x3 _ ?_ _ le_rfl]
  · rw [trips3]
    congr 1
    omega
  · intro h
    unfold s2
    rw [loop2]
    unfold s1
    rw [loop1 _ _ _ _ _ _ _ _ _ _ _ _ _ _ _ _ _ _ _ _ _ _ _ _ _ _ _ _ _ _ _ _ _ _ _ _ _ _ _ _ x2 x3 _ ?_ _ le_rfl, trips1]
    exact s0_hd c i arg2 harg2 arg3 harg3 arg4 harg4 arg5 harg5 arg6 harg6 arg7 harg7 arg8 harg8 x0 x1 x2 x3 x5

theorem qs_eq (c : Dev nD) (arg3 : Memref sig .tc .vmem S1x256x512 .f32) (harg3 : arg3.IsWhole) (x1 : Vec Ideal S1x256x512 .f32) (h : Fin 4) :
    (sel4 (kernelRun0_A.sl.r_5 c arg3 harg3 x1) (kernelRun0_A.sl.r_6 c arg3 harg3 x1) (kernelRun0_A.sl.r_7 c arg3 harg3 x1) (kernelRun0_A.sl.r_8 c arg3 harg3 x1) h) = qsc (sel4 (ldf arg3 (harg3.unread x1) ![0, 0, 0] inb_S1x256x512_S1x256x128_0_0_0) (ldf arg3 (harg3.unread x1) ![0, 0, 128] inb_S1x256x512_S1x256x128_0_0_128)
      (ldf arg3 (harg3.unread x1) ![0, 0, 256] inb_S1x256x512_S1x256x128_0_0_256) (ldf arg3 (harg3.unread x1) ![0, 0, 384] inb_S1x256x512_S1x256x128_0_0_384) h) := by
  fin_cases h <;> rfl

theorem ld_smem (m : Memref sig .tc .smem S4 .f32) (hm : m.IsWhole) (x0 : Vec Ideal S4 .f32) (n : ℕ) (hn : n < 4)
    (inb : ∀ a, (![n] : Fin 1 → ℕ) a + S1.size a ≤ S4.size a) (j : S1.Idx) :
    View.readAt (Elt Ideal) m.view (Rect.unit (s := S4) ![n] S1.size inb).toLoadRect (hm.unread x0) j = x0 (ix1 ⟨n, hn⟩) := by
  rw [View.readAt_eq_ld, hm.read_unread]
  show x0 _ = x0 _
  congr 1
  funext a
  apply Fin.ext
  match a with
  | 0 =>
    have h0 : (j 0).val < 1 := (j 0).isLt
    show n + 1 * (j 0).val = n
    omega

theorem bs_eq (c : Dev nD) (arg2 : Memref sig .tc .smem S4 .f32) (harg2 : arg2.IsWhole) (x0 : Vec Ideal S4 .f32) (h : Fin 4) :
    (sel4 (kernelRun0_A.sl.r_9 c arg2 harg2 x0) (kernelRun0_A.sl.r_10 c arg2 harg2 x0) (kernelRun0_A.sl.r_11 c arg2 harg2 x0) (kernelRun0_A.sl.r_12 c arg2 harg2 x0) h) = Scalar.mulf (F := Ideal) (x0 (ix1 h)) (Named.named κ "log2e" 0x3FB8AA3B#32) := by
  fin_cases h
  · show k0_pay169 _ = _
    unfold k0_pay169
    exact congrArg (fun y : Ideal .f32 => Scalar.mulf (F := Ideal) y (Named.named κ "log2e" 0x3FB8AA3B#32)) (ld_smem arg2 harg2 x0 0 (by decide) _ _)
  · show k0_pay170 _ = _
    unfold k0_pay170
    exact congrArg (fun y : Ideal .f32 => Scalar.mulf (F := Ideal) y (Named.named κ "log2e" 0x3FB8AA3B#32)) (ld_smem arg2 harg2 x0 1 (by decide) _ _)
  · show k0_pay171 _ = _
    unfold k0_pay171
    exact congrArg (fun y : Ideal .f32 => Scalar.mulf (F := Ideal) y (Named.named κ "log2e" 0x3FB8AA3B#32)) (ld_smem arg2 harg2 x0 2 (by decide) _ _)
  · show k0_pay172 _ _ = _
    unfold k0_pay172
    exact congrArg (fun y : Ideal .f32 => Scalar.mulf (F := Ideal) y (Named.named κ "log2e" 0x3FB8AA3B#32)) (ld_smem arg2 harg2 x0 3 (by decide) _ _)

end Cert.Proof.Sb
-- ==== Proof.Sb.Out.lean ====
module

public import proofs.«01_k».proof.Proof.Sb.Block
public import Idealize.ShloMosaic.Lib.Pipeline.ValueKit

/-! What a grid point leaves in its block of the result, and the result array. -/

@[expose] public section
set_option maxRecDepth 16384
noncomputable section
namespace Cert.Proof.Sb
open Idealize.ShloMosaic Idealize.ShloMosaic.TcCoe Idealize.SL.Sem Cert.KernelIdeal Cert.KernelIdeal.Gen

/-- A head's columns of a block. -/
def hcols (x : FVec Ideal S1x256x512 .f32) (h : Fin 4) : Vec Ideal S1x256x128 .f32 := fun j =>
  x (ix3 0 (j 1) ⟨128 * h.val + (j 2).val, by have : (j 2).val < 128 := (j 2).isLt; omega⟩)

theorem ldf_eq (m : Memref sig .tc .vmem S1x256x512 .f32) (hm : m.IsWhole) (x : FVec Ideal S1x256x512 .f32)
    (n : ℕ) (inb : ∀ a, (![0, 0, n] : Fin 3 → ℕ) a + S1x256x128.size a ≤ S1x256x512.size a) (h : Fin 4)
    (ho : n = 128 * h.val) : ldf m (hm.unread x) ![0, 0, n] inb = hcols x h := by
  subst ho
  rw [ldf, View.readAt_eq_ld, hm.read_unread]
  funext j
  unfold hcols
  show x _ = x _
  congr 1
  funext a
  apply Fin.ext
  have h0 : (j 0).val < 1 := (j 0).isLt
  match a with
  | 0 => show 0 + 1 * (j 0).val = 0; omega
  | 1 => show 0 + 1 * (j 1).val = (j 1).val; omega
  | 2 => show 128 * h.val + 1 * (j 2).val = 128 * h.val + (j 2).val; omega

theorem u_eq (c : Dev nD) (arg7 : Memref sig .tc .vmem S256x256 .bf16) (harg7 : arg7.IsWhole) (x5 : Vec Ideal S256x256 .bf16) :
    (kernelRun0_A.sl.r_4 c arg7 harg7 x5) = x5 := by
  show shapeCast S256x256 (View.readAt (Elt Ideal) arg7.view (Rect.unit (s := S256x256) ![0, 0] S256x256.size inb_S256x256_S256x256_0_0).toLoadRect (harg7.unread x5)) shapeCasts_S256x256_S256x256 = x5
  refine (shapeCast_self (s := S256x256) _ _).trans ?_
  rw [View.readAt_eq_ld, harg7.read_unread]
  funext j
  show x5 _ = x5 _
  congr 1
  funext a
  apply Fin.ext
  match a with
  | 0 => show 0 + 1 * (j 0).val = (j 0).val; omega
  | 1 => show 0 + 1 * (j 1).val = (j 1).val; omega

/-- What a head leaves: gathered over all tiles up to its own, times the gate. -/
def headOut (u : FVec Ideal S256x256 .bf16) (x0 : FVec Ideal S4 .f32) (x1 : FVec Ideal S1x256x512 .f32) (x2 x3 : FVec Ideal S1x8448x512 .bf16)
    (x4 : FVec Ideal S1x256x512 .f32) (m : ℕ) (h : Fin 4) : Vec Ideal S1x256x128 .f32 :=
  outt (gat u (qsc (hcols x1 h)) (Scalar.mulf (F := Ideal) (x0 (ix1 h)) (Named.named κ "log2e" 0x3FB8AA3B#32)) x2 x3 m h m).2 (hcols x4 h)

/-- A grid point's block of the result. -/
def blockOut (u : FVec Ideal S256x256 .bf16) (x0 : FVec Ideal S4 .f32) (x1 : FVec Ideal S1x256x512 .f32) (x2 x3 : FVec Ideal S1x8448x512 .bf16)
    (x4 : FVec Ideal S1x256x512 .f32) (m : ℕ) : Vec Ideal S1x256x512 .f32 := fun y =>
  headOut u x0 x1 x2 x3 x4 m ⟨(y 2).val / 128, by have : (y 2).val < 512 := (y 2).isLt; omega⟩
    (ix3 0 (y 1) ⟨(y 2).val % 128, Nat.mod_lt _ (by decide)⟩)

theorem s4_out (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x4 : Vec Ideal S1x256x512 .f32) (x5 : Vec Ideal S256x256 .bf16) (h : Fin 4) (g : Vec Ideal S1x256x128 .f32) (hg : g = hcols x4 h) :
    outt (hd (s4 c i arg2 harg2 arg3 harg3 arg4 harg4 arg5 harg5 arg6 harg6 arg7 harg7 arg8 harg8 x0 x1 x2 x3 x5) h).2 g = headOut x5 x0 x1 x2 x3 x4 (qt i) h := by
  subst hg
  rw [s4_hd, qs_eq, bs_eq, u_eq]
  unfold headOut
  have e : sel4 (ldf arg3 (harg3.unread x1) ![0, 0, 0] inb_S1x256x512_S1x256x128_0_0_0) (ldf arg3 (harg3.unread x1) ![0, 0, 128] inb_S1x256x512_S1x256x128_0_0_128)
      (ldf arg3 (harg3.unread x1) ![0, 0, 256] inb_S1x256x512_S1x256x128_0_0_256) (ldf arg3 (harg3.unread x1) ![0, 0, 384] inb_S1x256x512_S1x256x128_0_0_384) h = hcols x1 h := by
    fin_cases h
    · exact ldf_eq arg3 harg3 x1 0 _ 0 rfl
    · exact ldf_eq arg3 harg3 x1 128 _ 1 rfl
    · exact ldf_eq arg3 harg3 x1 256 _ 2 rfl
    · exact ldf_eq arg3 harg3 x1 384 _ 3 rfl
  rw [e]

/-- A piece of the block holds the block's values. -/
theorem piece_ok (u : FVec Ideal S256x256 .bf16) (x0 : FVec Ideal S4 .f32) (x1 : FVec Ideal S1x256x512 .f32) (x2 x3 : FVec Ideal S1x8448x512 .bf16)
    (x4 : FVec Ideal S1x256x512 .f32) (m : ℕ) (h : Fin 4) (n : ℕ) (inb : ∀ a, (![0, 0, n] : Fin 3 → ℕ) a + S1x256x128.size a ≤ S1x256x512.size a)
    (ho : n = 128 * h.val) (x : S1x256x128.Idx) :
    headOut u x0 x1 x2 x3 x4 m h x = blockOut u x0 x1 x2 x3 x4 m ((Rect.unit (s := S1x256x512) ![0, 0, n] S1x256x128.size inb).emb x) := by
  subst ho
  unfold blockOut
  have h2 : (((Rect.unit (s := S1x256x512) ![0, 0, 128 * h.val] S1x256x128.size inb).emb x) 2).val = 128 * h.val + 1 * (x 2).val := rfl
  have h1 : (((Rect.unit (s := S1x256x512) ![0, 0, 128 * h.val] S1x256x128.size inb).emb x) 1).val = 0 + 1 * (x 1).val := rfl
  have hx : (x 2).val < 128 := (x 2).isLt
  have h0 : (x 0).val < 1 := (x 0).isLt
  congr 1
  · apply Fin.ext
    show h.val = _ / 128
    rw [h2]
    omega
  · funext a
    apply Fin.ext
    match a with
    | 0 => show (x 0).val = 0; omega
    | 1 => show (x 1).val = 0 + 1 * (x 1).val; omega
    | 2 => show (x 2).val = _ % 128; rw [h2]; omega

theorem body_val (c : Dev nD) (i : grid0.Coords) (arg2 : Memref sig .tc .smem S4 .f32) (harg2 : arg2.IsWhole) (arg3 : Memref sig .tc .vmem S1x256x512 .f32) (harg3 : arg3.IsWhole) (arg4 : Memref sig .tc .vmem S1x8448x512 .bf16) (harg4 : arg4.IsWhole) (arg5 : Memref sig .tc .vmem S1x8448x512 .bf16) (harg5 : arg5.IsWhole) (arg6 : Memref sig .tc .vmem S1x256x512 .f32) (harg6 : arg6.IsWhole) (arg7 : Memref sig .tc .vmem S256x256 .bf16) (harg7 : arg7.IsWhole) (arg8 : Memref sig .tc .vmem S1x256x512 .f32) (harg8 : arg8.IsWhole) (x0 : Vec Ideal S4 .f32) (x1 : Vec Ideal S1x256x512 .f32) (x2 : Vec Ideal S1x8448x512 .bf16) (x3 : Vec Ideal S1x8448x512 .bf16) (x4 : Vec Ideal S1x256x512 .f32) (x5 : Vec Ideal S256x256 .bf16) :
    out0_A_6 (F := Ideal) c i arg2 harg2 arg3 harg3 arg4 harg4 arg5 harg5 arg6 harg6 arg7 harg7 arg8 harg8 x0 x1 x2 x3 x4 x5 = blockOut x5 x0 x1 x2 x3 x4 (qt i) := by
  unfold out0_A_6
  rw [View.read_writes_junk_eq_canon]
  funext y
  refine View.canon_eq_of_allAt _ y _ (cover0_A_6 c i arg2 harg2 arg3 harg3 arg4 harg4 arg5 harg5 arg6 harg6 arg7 harg7 arg8 harg8 x0 x1 x2 x3 x4 x5 y) ?_
  rw [pieces]
  rintro p hp x rfl
  simp only [List.mem_cons, List.not_mem_nil, or_false] at hp
  rcases hp with rfl | rfl | rfl | rfl
  · show outt _ _ x = _
    rw [s4_out c i arg2 harg2 arg3 harg3 arg4 harg4 arg5 harg5 arg6 harg6 arg7 harg7 arg8 harg8 x0 x1 x2 x3 x4 x5 3 _ (ldf_eq arg6 harg6 x4 384 inb_S1x256x512_S1x256x128_0_0_384 3 rfl)]
    exact piece_ok x5 x0 x1 x2 x3 x4 (qt i) 3 384 inb_S1x256x512_S1x256x128_0_0_384 rfl x
  · show outt _ _ x = _
    rw [s4_out c i arg2 harg2 arg3 harg3 arg4 harg4 arg5 harg5 arg6 harg6 arg7 harg7 arg8 harg8 x0 x1 x2 x3 x4 x5 2 _ (ldf_eq arg6 harg6 x4 256 inb_S1x256x512_S1x256x128_0_0_256 2 rfl)]
    exact piece_ok x5 x0 x1 x2 x3 x4 (qt i) 2 256 inb_S1x256x512_S1x256x128_0_0_256 rfl x
  · show outt _ _ x = _
    rw [s4_out c i arg2 harg2 arg3 harg3 arg4 harg4 arg5 harg5 arg6 harg6 arg7 harg7 arg8 harg8 x0 x1 x2 x3 x4 x5 1 _ (ldf_eq arg6 harg6 x4 128 inb_S1x256x512_S1x256x128_0_0_128 1 rfl)]
    exact piece_ok x5 x0 x1 x2 x3 x4 (qt i) 1 128 inb_S1x256x512_S1x256x128_0_0_128 rfl x
  · show outt _ _ x = _
    rw [s4_out c i arg2 harg2 arg3 harg3 arg4 harg4 arg5 harg5 arg6 harg6 arg7 harg7 arg8 harg8 x0 x1 x2 x3 x4 x5 0 _ (ldf_eq arg6 harg6 x4 0 inb_S1x256x512_S1x256x128_0_0_0 0 rfl)]
    exact piece_ok x5 x0 x1 x2 x3 x4 (qt i) 0 0 inb_S1x256x512_S1x256x128_0_0_0 rfl x

end Cert.Proof.Sb
-- ==== Proof.Sb.Array.lean ====
module

public import proofs.«01_k».proof.Proof.Sb.Out
public import Idealize.ShloMosaic.Lib.Pipeline.Covers

/-! The kernel's result array, as a function of the arrays the region finds. -/

@[expose] public section
set_option maxRecDepth 16384
noncomputable section
namespace Cert.Proof.Sb
open Idealize.ShloMosaic Idealize.ShloMosaic.Pointwise Idealize.ShloMosaic.TcCoe Idealize.SL.Sem Cert.KernelIdeal Cert.KernelIdeal.Gen

/-- A block of 256 rows of a batch. -/
def rows (x : FVec Ideal S2x8448x512 .f32) (b : Fin 2) (n : ℕ) : FVec Ideal S1x256x512 .f32 := fun j =>
  x (ix3 b ⟨(256 * n + (j 1).val) % 8448, Nat.mod_lt _ (by decide)⟩ (j 2))

/-- A batch. -/
def slab (x : FVec Ideal S2x8448x512 .bf16) (b : Fin 2) : FVec Ideal S1x8448x512 .bf16 := fun j => x (ix3 b (j 1) (j 2))

/-- The result, entry by entry. -/
def res (u : FVec Ideal S256x256 .bf16) (x0 : FVec Ideal S4 .f32) (q : FVec Ideal S2x8448x512 .f32) (k v : FVec Ideal S2x8448x512 .bf16)
    (g : FVec Ideal S2x8448x512 .f32) : FVec Ideal S2x8448x512 .f32 := fun j =>
  blockOut u x0 (rows q (j 0) ((j 1).val / 256)) (slab k (j 0)) (slab v (j 0)) (rows g (j 0) ((j 1).val / 256)) ((j 1).val / 256)
    (ix3 0 ⟨(j 1).val % 256, Nat.mod_lt _ (by decide)⟩ (j 2))

theorem idx0 : ∀ t : Fin cfg0.N, win0_0.index t = ![0] ∧ win0_1.index t = ![(grid0.coords t 0).val, (grid0.coords t 1).val, 0] ∧
    win0_2.index t = ![(grid0.coords t 0).val, 0, 0] ∧ win0_3.index t = ![(grid0.coords t 0).val, 0, 0] ∧
    win0_4.index t = ![(grid0.coords t 0).val, (grid0.coords t 1).val, 0] ∧ win0_5.index t = ![0, 0] ∧
    win0_6.index t = ![(grid0.coords t 0).val, (grid0.coords t 1).val, 0] :=
  (by decide +kernel : ∀ t : Fin grid0.N, _)

variable (m : (ℓ : Loc nD τ sig) → Buf (Elt Ideal) ℓ)

theorem iblk0 (c : Dev nD) (t : Fin cfg0.N) : iblk m c 0 t = V m c main_arg4 := by
  funext j
  show V m c main_arg4 (((cfg0.win 0).blk t).view.emb j) = V m c main_arg4 j
  congr 1
  funext a
  apply Fin.ext
  match a with
  | 0 => blk_simp [(idx0 t).1]

theorem iblk1 (c : Dev nD) (t : Fin cfg0.N) : iblk m c 1 t = rows (V m c main_v8) (grid0.coords t 0) (grid0.coords t 1).val := by
  funext j
  show V m c main_v8 (((cfg0.win 1).blk t).view.emb j) = V m c main_v8 _
  refine congrArg (V m c main_v8) (funext fun a => Fin.ext ?_)
  have h1 : (grid0.coords t 1).val < 33 := (grid0.coords t 1).isLt
  have j0 : (j 0).val < 1 := (j 0).isLt
  have j1 : (j 1).val < 256 := (j 1).isLt
  match a with
  | 0 => show win0_1.index t 0 * 1 + 1 * (j 0).val = (grid0.coords t 0).val; rw [(idx0 t).2.1]; show (grid0.coords t 0).val * 1 + 1 * (j 0).val = (grid0.coords t 0).val; omega
  | 1 => show win0_1.index t 1 * 256 + 1 * (j 1).val = (256 * (grid0.coords t 1).val + (j 1).val) % 8448; rw [(idx0 t).2.1]; show (grid0.coords t 1).val * 256 + 1 * (j 1).val = (256 * (grid0.coords t 1).val + (j 1).val) % 8448; omega
  | 2 => show win0_1.index t 2 * 512 + 1 * (j 2).val = (j 2).val; rw [(idx0 t).2.1]; show 0 * 512 + 1 * (j 2).val = (j 2).val; omega

theorem iblk4 (c : Dev nD) (t : Fin cfg0.N) : iblk m c 4 t = rows (V m c main_v13) (grid0.coords t 0) (grid0.coords t 1).val := by
  funext j
  show V m c main_v13 (((cfg0.win 4).blk t).view.emb j) = V m c main_v13 _
  refine congrArg (V m c main_v13) (funext fun a => Fin.ext ?_)
  have h1 : (grid0.coords t 1).val < 33 := (grid0.coords t 1).isLt
  have j0 : (j 0).val < 1 := (j 0).isLt
  have j1 : (j 1).val < 256 := (j 1).isLt
  match a with
  | 0 => show win0_4.index t 0 * 1 + 1 * (j 0).val = (grid0.coords t 0).val; rw [(idx0 t).2.2.2.2.1]; show (grid0.coords t 0).val * 1 + 1 * (j 0).val = (grid0.coords t 0).val; omega
  | 1 => show win0_4.index t 1 * 256 + 1 * (j 1).val = (256 * (grid0.coords t 1).val + (j 1).val) % 8448; rw [(idx0 t).2.2.2.2.1]; show (grid0.coords t 1).val * 256 + 1 * (j 1).val = (256 * (grid0.coords t 1).val + (j 1).val) % 8448; omega
  | 2 => show win0_4.index t 2 * 512 + 1 * (j 2).val = (j 2).val; rw [(idx0 t).2.2.2.2.1]; show 0 * 512 + 1 * (j 2).val = (j 2).val; omega

theorem iblk2 (c : Dev nD) (t : Fin cfg0.N) : iblk m c 2 t = slab (V m c main_v10) (grid0.coords t 0) := by
  funext j
  show V m c main_v10 (((cfg0.win 2).blk t).view.emb j) = V m c main_v10 _
  refine congrArg (V m c main_v10) (funext fun a => Fin.ext ?_)
  have j0 : (j 0).val < 1 := (j 0).isLt
  match a with
  | 0 => show win0_2.index t 0 * 1 + 1 * (j 0).val = (grid0.coords t 0).val; rw [(idx0 t).2.2.1]; show (grid0.coords t 0).val * 1 + 1 * (j 0).val = (grid0.coords t 0).val; omega
  | 1 => show win0_2.index t 1 * 8448 + 1 * (j 1).val = (j 1).val; rw [(idx0 t).2.2.1]; show 0 * 8448 + 1 * (j 1).val = (j 1).val; omega
  | 2 => show win0_2.index t 2 * 512 + 1 * (j 2).val = (j 2).val; rw [(idx0 t).2.2.1]; show 0 * 512 + 1 * (j 2).val = (j 2).val; omega

theorem iblk3 (c : Dev nD) (t : Fin cfg0.N) : iblk m c 3 t = slab (V m c main_v12) (grid0.coords t 0) := by
  funext j
  show V m c main_v12 (((cfg0.win 3).blk t).view.emb j) = V m c main_v12 _
  refine congrArg (V m c main_v12) (funext fun a => Fin.ext ?_)
  have j0 : (j 0).val < 1 := (j 0).isLt
  match a with
  | 0 => show win0_3.index t 0 * 1 + 1 * (j 0).val = (grid0.coords t 0).val; rw [(idx0 t).2.2.2.1]; show (grid0.coords t 0).val * 1 + 1 * (j 0).val = (grid0.coords t 0).val; omega
  | 1 => show win0_3.index t 1 * 8448 + 1 * (j 1).val = (j 1).val; rw [(idx0 t).2.2.2.1]; show 0 * 8448 + 1 * (j 1).val = (j 1).val; omega
  | 2 => show win0_3.index t 2 * 512 + 1 * (j 2).val = (j 2).val; rw [(idx0 t).2.2.2.1]; show 0 * 512 + 1 * (j 2).val = (j 2).val; omega

theorem iblk5 (c : Dev nD) (t : Fin cfg0.N) : iblk m c 5 t = V m c main_v7 := by
  funext j
  show V m c main_v7 (((cfg0.win 5).blk t).view.emb j) = V m c main_v7 j
  refine congrArg (V m c main_v7) (funext fun a => Fin.ext ?_)
  match a with
  | 0 => show win0_5.index t 0 * 256 + 1 * (j 0).val = (j 0).val; rw [(idx0 t).2.2.2.2.2.1]; show 0 * 256 + 1 * (j 0).val = (j 0).val; omega
  | 1 => show win0_5.index t 1 * 256 + 1 * (j 1).val = (j 1).val; rw [(idx0 t).2.2.2.2.2.1]; show 0 * 256 + 1 * (j 1).val = (j 1).val; omega

/-- Where the result's entry `y` of a point's block lies. -/
theorem res_emb (u : FVec Ideal S256x256 .bf16) (x0 : FVec Ideal S4 .f32) (q : FVec Ideal S2x8448x512 .f32) (k v : FVec Ideal S2x8448x512 .bf16)
    (g : FVec Ideal S2x8448x512 .f32) (b : Fin 2) (n : Fin 33) (y : S1x256x512.Idx) (z : S2x8448x512.Idx)
    (z0 : (z 0).val = b.val) (z1 : (z 1).val = 256 * n.val + (y 1).val) (z2 : (z 2).val = (y 2).val) :
    blockOut u x0 (rows q b n.val) (slab k b) (slab v b) (rows g b n.val) n.val y = res u x0 q k v g z := by
  have y0 : (y 0).val < 1 := (y 0).isLt
  have y1 : (y 1).val < 256 := (y 1).isLt
  have e0 : z 0 = b := Fin.ext z0
  have e1 : (z 1).val / 256 = n.val := by rw [z1]; omega
  unfold res
  rw [e0, e1]
  congr 1
  funext a
  apply Fin.ext
  match a with
  | 0 => show (y 0).val = 0; omega
  | 1 => show (y 1).val = (z 1).val % 256; rw [z1]; omega
  | 2 => exact z2.symm

theorem arr (c : Dev nD) : (dats m 0 c).arrAt 6 cfg0.N =
    res (V m c main_v7) (V m c main_arg4) (V m c main_v8) (V m c main_v10) (V m c main_v12) (V m c main_v13) := by
  refine (dats m 0 c).arrAt_eq_of_covers 6 _ (by decide +kernel) fun t hf y => ?_
  rw [after0_6]
  unfold outsAt0
  rw [body_val, iblk0, iblk1, iblk2, iblk3, iblk4, iblk5]
  refine res_emb _ _ _ _ _ _ (grid0.coords t 0) (grid0.coords t 1) ((cfg0.win 6).xinj (cfg0.grid.coords t) y) _ ?_ ?_ ?_
  · show win0_6.index t 0 * 1 + 1 * (y 0).val = (grid0.coords t 0).val
    have j0 : (y 0).val < 1 := (y 0).isLt
    rw [(idx0 t).2.2.2.2.2.2]; show (grid0.coords t 0).val * 1 + 1 * (y 0).val = (grid0.coords t 0).val; omega
  · show win0_6.index t 1 * 256 + 1 * (y 1).val = 256 * (grid0.coords t 1).val + (y 1).val
    rw [(idx0 t).2.2.2.2.2.2]; show (grid0.coords t 1).val * 256 + 1 * (y 1).val = 256 * (grid0.coords t 1).val + (y 1).val; omega
  · show win0_6.index t 2 * 512 + 1 * (y 2).val = (y 2).val
    rw [(idx0 t).2.2.2.2.2.2]; show 0 * 512 + 1 * (y 2).val = (y 2).val; omega

/-- An array padded to whole tiles: 48 rows before, 192 after. -/
def pad0 (x : FVec Ideal S2x8208x512 .f32) : FVec Ideal S2x8448x512 .f32 :=
  pad S2x8448x512 ![0, 48, 0] ![0, 192, 0] ![0, 0, 0] x (sitofp .f32 (constantI S_ 32 0#32)) pads_S2x8208x512_S2x8448x512_000_481920_000 h_S_

theorem v8 (c : Dev nD) : V m c main_v8 = pad0 (m ((c : Thread nD τ).loc main_arg0)) := by
  entry_read
  rfl

theorem v10 (c : Dev nD) : V m c main_v10 = pad0 (m ((c : Thread nD τ).loc main_arg1)) := by
  entry_read
  rfl

theorem v12 (c : Dev nD) : V m c main_v12 = pad0 (m ((c : Thread nD τ).loc main_arg2)) := by
  entry_read
  rfl

theorem v13 (c : Dev nD) : V m c main_v13 = pad0 (m ((c : Thread nD τ).loc main_arg3)) := by
  entry_read
  rfl

end Cert.Proof.Sb
-- ==== Proof.Sb.Host.lean ====
module

public import proofs.«01_k».proof.Proof.Sb.Array
public import Idealize.ShloMosaic.Lib.KernelVsHost
public import Idealize.ShloMosaic.Lib.Pointwise

/-! The arrays the host hands the kernel, entry by entry. -/

@[expose] public section
set_option maxRecDepth 16384
noncomputable section
namespace Cert.Proof.Sb
open Idealize.ShloMosaic Idealize.ShloMosaic.Pointwise Idealize.ShloMosaic.TcCoe Idealize.SL.Sem Cert.KernelIdeal Cert.KernelIdeal.Gen

variable (m : (ℓ : Loc nD τ sig) → Buf (Elt Ideal) ℓ)

/-- The table of suffix sums. -/
theorem v7 (c : Dev nD) (a b : Fin 256) : V m c main_v7 (ix2 a b) = if b.val < a.val then (1 : EReal) else 0 := by
  have e : V m c main_v7 = (uitofp .bf16 (cmpi .sgt (broadcastInDim S256x256 ![0, 1] bcast_S256x1_S256x256_0_1 (broadcastInDim S256x1 ![0] bcast_S256_S256x1_0 (iotaInDim S256 32 0)))
      (broadcastInDim S256x256 ![0, 1] bcast_S1x256_S256x256_0_1 (broadcastInDim S1x256 ![1] bcast_S256_S1x256_1 (iotaInDim S256 32 0)))) : FVec Ideal S256x256 .bf16) := by
    entry_read
    rfl
  rw [e]
  pointwise
  have ha : a.val < 256 := a.isLt
  have hb : b.val < 256 := b.isLt
  show (((IntOp.cmpi .sgt (BitVec.ofNat 32 a.val) (BitVec.ofNat 32 b.val)).toNat : ℝ) : EReal) = _
  by_cases h : b.val < a.val
  · rw [(WordCmp.cmpi_sgt_ofNat_eq_one_iff (w := 32) (by omega) (by omega)).2 h, if_pos h]
    simp
  · rw [(WordCmp.cmpi_sgt_ofNat_eq_zero_iff (w := 32) (by omega) (by omega)).2 (by omega), if_neg h]
    simp

theorem pad0_apply (x : FVec Ideal S2x8208x512 .f32) (b : Fin 2) (p : Fin 8448) (k : Fin 512) :
    pad0 x (ix3 b p k) = if h : 48 ≤ p.val ∧ p.val < 8256 then x (ix3 b ⟨p.val - 48, by omega⟩ k) else (0 : EReal) := by
  unfold pad0
  split
  · rename_i h
    refine (pad_apply_of_inside _ _ _ x _ _ _ _ (ix3 b ⟨p.val - 48, by omega⟩ k) fun a => ?_)
    match a with
    | 0 => show b.val = 0 + b.val * 1; omega
    | 1 => show p.val = 48 + (p.val - 48) * 1; omega
    | 2 => show k.val = 0 + k.val * 1; omega
  · rename_i h
    refine (pad_apply_of_not_inside _ _ _ x _ _ _ _ 1 fun hh => h ?_).trans ?_
    · have h1 : 48 ≤ p.val := hh.1
      have h2 : (p.val - 48) / 1 < 8208 := hh.2.2
      omega
    · pointwise
      show (((0#32).toInt : ℝ) : EReal) = 0
      simp

end Cert.Proof.Sb
-- ==== Proof.Sb.Value.lean ====
module

public import proofs.«01_k».proof.Proof.Sb.Invariant
public import proofs.«01_k».proof.Proof.Sb.Host

/-! The kernel's result, entry by entry, on real queries, keys and biases. -/

@[expose] public section
set_option maxRecDepth 16384
noncomputable section
namespace Cert.Proof.Sb
open Idealize.ShloMosaic Idealize.SL.Sem Cert.KernelIdeal Cert.KernelIdeal.Gen Idealize.ShloMosaic.Pointwise
open Finset

theorem one_f32 : (Scalar.ofBits .f32 0x3F800000#32 : Ideal .f32) = (1 : EReal) := by
  pointwise []

/-- The gate's factor. -/
def gate (x : EReal) : EReal := x * Ideal.div 1 (1 + Ideal.exp (0 - x))

theorem gate_zero : gate 0 = 0 := zero_mul _

theorem outt_apply (a : Acc) (g : Vec Ideal S1x256x128 .f32) (i : Fin 256) (d : Fin 128) :
    outt a g (ix3 0 i d) = a (ix2 i d) * gate (g (ix3 0 i d)) := by
  pointwise [outt, gate]
  try rfl

theorem qsc_apply (g : Vec Ideal S1x256x128 .f32) (i : Fin 256) (d : Fin 128) :
    qsc g (ix2 i d) = g (ix3 0 i d) * (((11863283 / 134217728) * (Real.log 2)⁻¹ : ℝ) : EReal) := by
  rw [← qscale_eq]
  pointwise [qsc]
  try rfl

/-- The column `d` of head `h`. -/
def col (h : Fin 4) (d : Fin 128) : Fin 512 := ⟨128 * h.val + d.val, by omega⟩

theorem res_apply (u : FVec Ideal S256x256 .bf16) (x0 : FVec Ideal S4 .f32) (q : FVec Ideal S2x8448x512 .f32) (k v : FVec Ideal S2x8448x512 .bf16)
    (g : FVec Ideal S2x8448x512 .f32) (b : Fin 2) (p : Fin 8448) (h : Fin 4) (d : Fin 128) :
    res u x0 q k v g (ix3 b p (col h d)) =
      (gat u (qsc (hcols (rows q b (p.val / 256)) h)) (x0 (ix1 h) * (((Real.log 2)⁻¹ : ℝ) : EReal)) (slab k b) (slab v b) (p.val / 256) h (p.val / 256)).2
        (ix2 ⟨p.val % 256, Nat.mod_lt _ (by decide)⟩ d) * gate (g (ix3 b p (col h d))) := by
  have hd : (⟨(col h d).val / 128, by have := (col h d).isLt; omega⟩ : Fin 4) = h := Fin.ext (by show (128 * h.val + d.val) / 128 = _; omega)
  have hm : (⟨(col h d).val % 128, Nat.mod_lt _ (by decide)⟩ : Fin 128) = d := Fin.ext (by show (128 * h.val + d.val) % 128 = _; omega)
  have e : res u x0 q k v g (ix3 b p (col h d)) = headOut u x0 (rows q b (p.val / 256)) (slab k b) (slab v b) (rows g b (p.val / 256)) (p.val / 256)
      ⟨(col h d).val / 128, by have := (col h d).isLt; omega⟩ (ix3 0 ⟨p.val % 256, Nat.mod_lt _ (by decide)⟩ ⟨(col h d).val % 128, Nat.mod_lt _ (by decide)⟩) := rfl
  rw [e, hd, hm]
  unfold headOut
  rw [outt_apply, log2e_eq]
  refine congrArg (fun y => _ * gate y) ?_
  show g (ix3 b ⟨(256 * (p.val / 256) + p.val % 256) % 8448, _⟩ (col h d)) = _
  congr 2
  exact Fin.ext (by show (256 * (p.val / 256) + p.val % 256) % 8448 = p.val; have := p.isLt; omega)

/-- The logits' scale. -/
def rsc : ℝ := 11863283 / 134217728

/-- A row padded with zeros. -/
def padr (f : Fin 8208 → ℝ) (p : ℕ) : ℝ := if h : 48 ≤ p ∧ p < 8256 then f ⟨p - 48, by omega⟩ else 0

theorem pad0_real (x : FVec Ideal S2x8208x512 .f32) (r : S2x8208x512.Idx → ℝ) (hx : ∀ j, x j = ((r j : ℝ) : EReal)) (b : Fin 2) (p : Fin 8448) (k : Fin 512) :
    pad0 x (ix3 b p k) = ((padr (fun i => r (ix3 b i k)) p.val : ℝ) : EReal) := by
  rw [pad0_apply, padr]
  split
  · exact hx _
  · exact EReal.coe_zero.symm

/-- The logits of a query's row, padded. -/
def zpad (qr kr : S2x8208x512.Idx → ℝ) (bias : ℝ) (b : Fin 2) (h : Fin 4) (p j : ℕ) : ℝ :=
  (∑ d : Fin 128, padr (fun i => qr (ix3 b i (col h d))) p * (rsc * (Real.log 2)⁻¹) * padr (fun i => kr (ix3 b i (col h d))) j) + bias * (Real.log 2)⁻¹

/-- The values, padded. -/
def vpad (v : FVec Ideal S2x8208x512 .f32) (b : Fin 2) (h : Fin 4) (j : ℕ) (d : Fin 128) : EReal :=
  pad0 v (ix3 b ⟨j % 8448, Nat.mod_lt _ (by decide)⟩ (col h d))

theorem res_pad (u : FVec Ideal S256x256 .bf16) (hu : IsTable u) (x0 : FVec Ideal S4 .f32) (q k v g : FVec Ideal S2x8208x512 .f32)
    (qr kr : S2x8208x512.Idx → ℝ) (br : Fin 4 → ℝ) (hq : ∀ j, q j = ((qr j : ℝ) : EReal)) (hk : ∀ j, k j = ((kr j : ℝ) : EReal)) (hb : ∀ h, x0 (ix1 h) = ((br h : ℝ) : EReal))
    (b : Fin 2) (p : Fin 8448) (h : Fin 4) (d : Fin 128) :
    res u x0 (pad0 q) (pad0 k) (pad0 v) (pad0 g) (ix3 b p (col h d)) =
      (∑ j ∈ range p.val, ((W (zpad qr kr (br h) b h p.val) p.val j : ℝ) : EReal) * vpad v b h j d) * gate (pad0 g (ix3 b p (col h d))) := by
  have hp := p.isLt
  rw [res_apply, gat_end u hu _ _ _ _ (p.val / 256) h ⟨p.val % 256, Nat.mod_lt _ (by decide)⟩ (zpad qr kr (br h) b h p.val) (vpad v b h) ?_ ?_ d]
  · have e : 256 * (p.val / 256) + p.val % 256 = p.val := by omega
    show (∑ j ∈ range (256 * (p.val / 256) + p.val % 256), ((W _ (256 * (p.val / 256) + p.val % 256) j : ℝ) : EReal) * _) * _ = _
    rw [e]
  · intro n hn j
    have hj := j.isLt
    rw [zt_apply, zpad, EReal.coe_add, EReal.coe_mul, hb, coe_sum']
    refine congrArg (· + _) (Finset.sum_congr rfl fun d _ => ?_)
    rw [qsc_apply, EReal.coe_mul, EReal.coe_mul]
    have e1 : hcols (rows (pad0 q) b (p.val / 256)) h (ix3 0 ⟨p.val % 256, Nat.mod_lt _ (by decide)⟩ d) = ((padr (fun i => qr (ix3 b i (col h d))) p.val : ℝ) : EReal) := by
      rw [← pad0_real q qr hq b p (col h d)]
      show pad0 q (ix3 b ⟨(256 * (p.val / 256) + p.val % 256) % 8448, _⟩ (col h d)) = _
      congr 2
      exact Fin.ext (by show (256 * (p.val / 256) + p.val % 256) % 8448 = p.val; omega)
    have e2 : kblk (slab (pad0 k) b) n h (ix3 0 j d) = ((padr (fun i => kr (ix3 b i (col h d))) (256 * n + j.val) : ℝ) : EReal) := by
      show pad0 k (ix3 b ⟨(256 * n + j.val) % 8448, _⟩ (col h d)) = _
      rw [pad0_real k kr hk]
      show ((padr _ ((256 * n + j.val) % 8448) : ℝ) : EReal) = _
      rw [Nat.mod_eq_of_lt (by omega)]
    rw [e1, e2]
    rfl
  · intro n hn j d
    rfl

end Cert.Proof.Sb
-- ==== Proof.Pr.Words.lean ====
module

public import Idealize.ShloMosaic.Lib.KernelVsHost
public import Idealize.ShloMosaic.PureOps.Ideal.Laws

/-! The numbers that the constants' words stand for. -/

@[expose] public section
noncomputable section
namespace Cert.Proof.Pr
open Idealize.ShloMosaic

theorem root_word : (FloatOps.ofBits .f32 0x3DB504F3#32 : Ideal .f32) = ((11863283 / 2 ^ 27 : ℝ) : EReal) := by
  show Ideal.ofBits .f32 0x3DB504F3#32 = _
  simp [Ideal.ofBits, Ideal.ieee, -EReal.coe_mul]
  norm_num

theorem word_1024 : (FloatOps.ofBits .f32 0x44800000#32 : Ideal .f32) = ((1024 : ℝ) : EReal) := by
  show Ideal.ofBits .f32 0x44800000#32 = _
  simp [Ideal.ofBits, Ideal.ieee, -EReal.coe_mul]
  norm_num

theorem word_64 : (FloatOps.ofBits .f32 0x42800000#32 : Ideal .f32) = ((64 : ℝ) : EReal) := by
  show Ideal.ofBits .f32 0x42800000#32 = _
  simp [Ideal.ofBits, Ideal.ieee, -EReal.coe_mul]
  norm_num

theorem word_64th : (FloatOps.ofBits .f32 0x3C800000#32 : Ideal .f32) = ((1 / 64 : ℝ) : EReal) := by
  show Ideal.ofBits .f32 0x3C800000#32 = _
  simp [Ideal.ofBits, Ideal.ieee, -EReal.coe_mul]
  norm_num

/-- The offset under the root. -/
def eps : ℝ := 8796093 / 2 ^ 43

theorem eps_pos : 0 < eps := by
  unfold eps
  norm_num

theorem word_eps : (FloatOps.ofBits .f32 0x358637BD#32 : Ideal .f32) = ((eps : ℝ) : EReal) := by
  show Ideal.ofBits .f32 0x358637BD#32 = _
  rw [eps]
  simp [Ideal.ofBits, Ideal.ieee, -EReal.coe_mul]
  norm_num

end Cert.Proof.Pr
-- ==== Proof.Sb.RefValue.lean ====
module

public import proofs.«01_k».proof.Proof.Sb.WindowSum
public import proofs.«01_k».proof.Proof.Sb.Value
public import proofs.«01_k».proof.Proof.Pr.Words

/-! The reference's attention, entry by entry, on real queries, keys and biases. -/

@[expose] public section
set_option maxRecDepth 16384
noncomputable section
namespace Cert.Proof.Sb
open Cert.ReferenceIdeal Cert.ReferenceIdeal.Gen Cert.ReferenceIdeal.Read Idealize.ShloMosaic Idealize.ShloMosaic.Pointwise Idealize.SL.Sem
open Finset

/-- The softplus. -/
def spl (x : ℝ) : ℝ := max x 0 + Real.log (1 + Real.exp (-|x|))

theorem spl_neg (x : ℝ) : spl (-x) = spl x - x := by
  unfold spl
  rw [abs_neg]
  rcases le_total x 0 with h | h
  · rw [max_eq_right h, max_eq_left (by linarith)]; ring
  · rw [max_eq_left h, max_eq_right (by linarith)]; ring

/-- The reference's softplus of one number. -/
def rsp (y : EReal) : EReal :=
  Scalar.select (FloatOps.cmpf (F := Ideal) (φ := .f32) .une (y - 0) (y - 0)) (y + 0)
    (max y 0 + Ideal.log1p (Ideal.exp (-(max (y - 0) (-(y - 0))))))

theorem rsp_real (x : ℝ) : rsp (x : EReal) = ((spl x : ℝ) : EReal) := by
  have hc : FloatOps.cmpf (F := Ideal) (φ := .f32) .une ((x : EReal) - 0) ((x : EReal) - 0) = 0#1 := by
    show BitVec.ofBool (decide ((x : EReal) - 0 ≠ (x : EReal) - 0)) = 0#1
    simp
  rw [rsp, hc]
  show max (x : EReal) 0 + Ideal.log1p (Ideal.exp (-(max ((x : EReal) - 0) (-((x : EReal) - 0))))) = _
  rw [sub_zero, abs_coe', ← EReal.coe_neg, Ideal.exp_coe]
  show max (x : EReal) 0 + Ideal.log (1 + _) = _
  rw [log_one_add _ (Real.exp_pos _), ← EReal.coe_zero, ← coe_max', ← EReal.coe_add]
  rfl

variable (x0 x1 x2 x3 : FVec Ideal S2x8208x512 .f32) (x4 : FVec Ideal S4 .f32)

theorem split_idx (b : Fin 2) (i : Fin 8208) (h : Fin 4) (d : Fin 128) : idx_main_v0 (ix4 b i h d) = ix3 b i (col h d) := by
  have hb := b.isLt
  have hi := i.isLt
  have hh := h.isLt
  have hd := d.isLt
  funext a
  refine Fin.ext ?_
  match a with
  | 0 => show (((b.val * 8208 + i.val) * 4 + h.val) * 128 + d.val) / 4202496 = b.val; omega
  | 1 => show (((b.val * 8208 + i.val) * 4 + h.val) * 128 + d.val) / 512 % 8208 = i.val; omega
  | 2 => show (((b.val * 8208 + i.val) * 4 + h.val) * 128 + d.val) % 512 = 128 * h.val + d.val; omega

/-- The reference's logits. -/
def zz (qr kr : S2x8208x512.Idx → ℝ) (bias : ℝ) (b : Fin 2) (h : Fin 4) (i : Fin 8208) (j : ℕ) : ℝ :=
  if hj : j < 8208 then (∑ d : Fin 128, qr (ix3 b i (col h d)) * kr (ix3 b ⟨j, hj⟩ (col h d))) * rsc + bias else 0

theorem scale_eq : (FloatOps.ofBits .f32 0x3DB504F3#32 : Ideal .f32) = ((rsc : ℝ) : EReal) := by
  rw [Pr.root_word, rsc]
  norm_num

variable (qr kr : S2x8208x512.Idx → ℝ) (br : Fin 4 → ℝ) (hq : ∀ j, x0 j = ((qr j : ℝ) : EReal)) (hk : ∀ j, x1 j = ((kr j : ℝ) : EReal)) (hb : ∀ h, x4 (ix1 h) = ((br h : ℝ) : EReal))

include hq hk hb in
theorem ref_logits (b : Fin 2) (h : Fin 4) (i j : Fin 8208) :
    val_main_v15 (F := Ideal) x0 x1 x4 (ix4 b h i j) = ((zz qr kr (br h) b h i j.val : ℝ) : EReal) := by
  rw [val_main_v15_apply, val_main_v11_apply, val_main_v9_apply, val_main_v10_apply, val_main_v14_apply, val_main_v13_apply, val_main_v12_apply]
  have e1 : ∀ k : Fin 128, val_main_v0 (F := Ideal) x0 (lidx_main_v9 (ix4 b h i j) k) = ((qr (ix3 b i (col h k)) : ℝ) : EReal) := by
    intro k
    rw [val_main_v0_apply, hq]
    exact congrArg (fun t => ((qr t : ℝ) : EReal)) ((congrArg idx_main_v0 (show lidx_main_v9 (ix4 b h i j) k = ix4 b i h k from eq_ix4 _)).trans (split_idx b i h k))
  have e2 : ∀ k : Fin 128, val_main_v1 (F := Ideal) x1 (ridx_main_v9 (ix4 b h i j) k) = ((kr (ix3 b j (col h k)) : ℝ) : EReal) := by
    intro k
    rw [val_main_v1_apply, hk]
    exact congrArg (fun t => ((kr t : ℝ) : EReal)) ((congrArg idx_main_v0 (show ridx_main_v9 (ix4 b h i j) k = ix4 b j h k from eq_ix4 _)).trans (split_idx b j h k))
  have e3 : idx_main_v12 (idx_main_v13 (idx_main_v14 (ix4 b h i j))) = ix1 h := by
    funext a
    match a with
    | 0 => rfl
  rw [e3, hb, val_main_cst_apply, scale_eq]
  show (∑ k : Fin 128, _) * ((rsc : ℝ) : EReal) + ((br h : ℝ) : EReal) = _
  rw [zz, dif_pos j.isLt, EReal.coe_add, EReal.coe_mul, coe_sum']
  refine congrArg (fun t => t * ((rsc : ℝ) : EReal) + ((br h : ℝ) : EReal)) (Finset.sum_congr rfl fun k _ => ?_)
  rw [e1, e2, EReal.coe_mul]

theorem ref_lsg (J : S2x4x8208x8208.Idx) : val_main_v16 (F := Ideal) x0 x1 x4 J = -(rsp (-(val_main_v15 (F := Ideal) x0 x1 x4 J))) := by
  rw [val_main_v16_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v0_apply, val_main_call0_call0_v2_apply, val_main_call0_call0_v5_apply,
    val_main_call0_call0_cst_apply, val_main_call0_v0_apply, zero_f32]
  rfl

theorem ref_lkeep (J : S2x4x8208x8208.Idx) : val_main_v18 (F := Ideal) x0 x1 x4 J = -(rsp (-(-(val_main_v15 (F := Ideal) x0 x1 x4 J)))) := by
  rw [val_main_v18_apply, val_main_call1_v1_apply, val_main_call1_call0_v4_apply, val_main_call1_call0_v6_apply, val_main_call1_call0_v11_apply,
    val_main_call1_call0_v1_apply, val_main_call1_call0_v10_apply, val_main_call1_call0_v9_apply, val_main_call1_call0_v8_apply, val_main_call1_call0_v7_apply,
    val_main_call1_call0_v3_apply, val_main_call1_call0_v0_apply, val_main_call1_call0_v2_apply, val_main_call1_call0_v5_apply,
    val_main_call1_call0_cst_apply, val_main_call1_v0_apply, val_main_v17_apply, zero_f32]
  rfl

theorem ref_mask (i j : Fin 8208) : val_main_v8 (F := Ideal) (ix2 i j) = BitVec.ofBool (decide (j.val < i.val)) := by
  have hi := i.isLt
  have hj := j.isLt
  rw [val_main_v8_apply, val_main_v6_apply, val_main_v7_apply, val_main_v4_apply, val_main_v5_apply]
  show IntOp.cmpi .slt (BitVec.ofNat 32 j.val) (BitVec.ofNat 32 i.val) = _
  by_cases hlt : j.val < i.val
  · rw [(WordCmp.cmpi_slt_ofNat_eq_one_iff (w := 32) (by omega) (by omega)).2 hlt, decide_eq_true hlt]
    rfl
  · rw [(WordCmp.cmpi_slt_ofNat_eq_zero_iff (w := 32) (by omega) (by omega)).2 hlt, decide_eq_false hlt]
    rfl

theorem select_mask (i j : Fin 8208) (x y : EReal) : Scalar.select (BitVec.ofBool (decide (j.val < i.val))) x y = if j.val < i.val then x else y := by
  by_cases hlt : j.val < i.val
  · rw [decide_eq_true hlt, if_pos hlt]
    rfl
  · rw [decide_eq_false hlt, if_neg hlt]
    rfl

section
include hq hk hb

/-- The masked logarithm of the part that is kept. -/
theorem ref_v19 (b : Fin 2) (h : Fin 4) (i j : Fin 8208) :
    val_main_v19 (F := Ideal) x0 x1 x4 (ix4 b h i j) = ((if j.val < i.val then -spl (zz qr kr (br h) b h i j.val) else 0 : ℝ) : EReal) := by
  have em : idx_main_call2_v1 (ix4 b h i j) = ix2 i j := eq_ix2 _
  rw [val_main_v19_apply, val_main_call2_v1_apply, em, ref_mask, ref_lkeep, ref_logits x0 x1 x4 qr kr br hq hk hb, neg_neg, rsp_real,
    val_main_call2_v2_apply, val_main_call2_v0_apply, val_main_cst_0_apply, zero_f32, select_mask, ← EReal.coe_neg]
  split
  · rfl
  · exact EReal.coe_zero.symm

theorem ref_v20 (b : Fin 2) (h : Fin 4) (i j : Fin 8208) :
    val_main_v20 (F := Ideal) x0 x1 x4 (ix4 b h i j) = ((∑ k ∈ Ico j.val i.val, -spl (zz qr kr (br h) b h i k) : ℝ) : EReal) := by
  have hi := i.isLt
  unfold val_main_v20
  refine (revsum (val_main_v19 (F := Ideal) x0 x1 x4) (val_main_call3_v0 (F := Ideal)) (fun t => ?_) _ _ b h i j
    (fun k => ((if k < i.val then -spl (zz qr kr (br h) b h i k) else 0 : ℝ) : EReal)) fun k => ref_v19 x0 x1 x4 qr kr br hq hk hb b h i k).trans ?_
  · rw [val_main_call3_v0_apply, val_main_call3_cst_apply, zero_f32]
  · rw [← coe_sum', ← Finset.sum_filter]
    have e : (Ico j.val 8208).filter (fun k => k < i.val) = Ico j.val i.val := by
      ext k
      simp only [mem_filter, mem_Ico]
      omega
    rw [e]

/-- The weight of key `j` for query `i`. -/
def wref (z : ℕ → ℝ) (i j : ℕ) : ℝ := Real.exp (z j - spl (z j) - ∑ k ∈ Ico (j + 1) i, spl (z k))

theorem ref_v24 (b : Fin 2) (h : Fin 4) (i j : Fin 8208) :
    val_main_v24 (F := Ideal) x0 x1 x4 (ix4 b h i j) = ((if j.val < i.val then wref (zz qr kr (br h) b h i) i.val j.val else 0 : ℝ) : EReal) := by
  have em : idx_main_call4_v1 (ix4 b h i j) = ix2 i j := eq_ix2 _
  rw [val_main_v24_apply, val_main_call4_v1_apply, em, ref_mask, val_main_v23_apply, val_main_v22_apply, val_main_v21_apply, ref_lsg,
    ref_v20 x0 x1 x4 qr kr br hq hk hb, ref_v19 x0 x1 x4 qr kr br hq hk hb, ref_logits x0 x1 x4 qr kr br hq hk hb, ← EReal.coe_neg, rsp_real,
    val_main_call4_v2_apply, val_main_call4_v0_apply, val_main_cst_1_apply, zero_f32, select_mask]
  by_cases hlt : j.val < i.val
  · rw [if_pos hlt, if_pos hlt, if_pos hlt]
    show Ideal.exp (-((spl (-zz qr kr (br h) b h i j.val) : ℝ) : EReal) + (((∑ k ∈ Ico j.val i.val, -spl (zz qr kr (br h) b h i k) : ℝ) : EReal) - ((-spl (zz qr kr (br h) b h i j.val) : ℝ) : EReal))) = _
    rw [← EReal.coe_neg, ← EReal.coe_sub, ← EReal.coe_add, Ideal.exp_coe, wref]
    refine congrArg (fun t : ℝ => ((Real.exp t : ℝ) : EReal)) ?_
    rw [Finset.sum_eq_sum_Ico_succ_bot hlt, Finset.sum_neg_distrib, spl_neg]
    ring
  · rw [if_neg hlt, if_neg hlt]
    exact EReal.coe_zero.symm

/-- The reference's weighted sum. -/
theorem ref_v27 (b : Fin 2) (h : Fin 4) (i : Fin 8208) (d : Fin 128) :
    val_main_v27 (F := Ideal) x0 x1 x2 x4 (ix3 b i (col h d)) =
      ∑ j ∈ range i.val, ((wref (zz qr kr (br h) b h i) i.val j : ℝ) : EReal) * (if hj : j < 8208 then x2 (ix3 b ⟨j, hj⟩ (col h d)) else 0) := by
  have hb' := b.isLt
  have hi := i.isLt
  have hh := h.isLt
  have hd := d.isLt
  have e27 : idx_main_v27 (ix3 b i (col h d)) = ix4 b i h d := by
    funext a
    refine Fin.ext ?_
    match a with
    | 0 => show ((b.val * 8208 + i.val) * 512 + (128 * h.val + d.val)) / 4202496 = b.val; omega
    | 1 => show ((b.val * 8208 + i.val) * 512 + (128 * h.val + d.val)) / 512 % 8208 = i.val; omega
    | 2 => show ((b.val * 8208 + i.val) * 512 + (128 * h.val + d.val)) / 128 % 4 = h.val; omega
    | 3 => show ((b.val * 8208 + i.val) * 512 + (128 * h.val + d.val)) % 128 = d.val; omega
  have e26 : idx_main_v26 (ix4 b i h d) = ix4 b h d i := eq_ix4 _
  rw [val_main_v27_apply, e27, val_main_v26_apply, e26, val_main_v25_apply]
  have e : ∀ k : Fin 8208, val_main_v2 (F := Ideal) x2 (lidx_main_v25 (ix4 b h d i) k) * val_main_v24 (F := Ideal) x0 x1 x4 (ridx_main_v25 (ix4 b h d i) k) =
      (fun j => if j < i.val then ((wref (zz qr kr (br h) b h i) i.val j : ℝ) : EReal) * (if hj : j < 8208 then x2 (ix3 b ⟨j, hj⟩ (col h d)) else 0) else 0) k.val := by
    intro k
    have er : ridx_main_v25 (ix4 b h d i) k = ix4 b h i k := eq_ix4 _
    have el : idx_main_v2 (lidx_main_v25 (ix4 b h d i) k) = ix3 b k (col h d) :=
      (congrArg idx_main_v0 (show lidx_main_v25 (ix4 b h d i) k = ix4 b k h d from eq_ix4 _)).trans (split_idx b k h d)
    rw [val_main_v2_apply, el, er, ref_v24 x0 x1 x4 qr kr br hq hk hb]
    beta_reduce
    rw [dif_pos k.isLt, mul_comm]
    split
    · rfl
    · rw [EReal.coe_zero, zero_mul]
  refine (Finset.sum_congr rfl fun k _ => e k).trans ((Fin.sum_univ_eq_sum_range (fun j => if j < i.val then ((wref (zz qr kr (br h) b h i) i.val j : ℝ) : EReal) *
    (if hj : j < 8208 then x2 (ix3 b ⟨j, hj⟩ (col h d)) else 0) else 0) 8208).trans ?_)
  rw [← Finset.sum_filter]
  refine Finset.sum_congr ?_ fun _ _ => rfl
  ext k
  simp only [mem_filter, mem_range]
  omega

end

theorem ref_gate (j : S2x8208x512.Idx) : val_main_v28 (F := Ideal) x3 j = gate (x3 j) := by
  rw [val_main_v28_apply, val_main_call5_v5_apply, val_main_call5_v4_apply, val_main_call5_v3_apply, val_main_call5_v2_apply, val_main_call5_v1_apply,
    val_main_call5_v0_apply, val_main_call5_cst_apply, val_main_call5_cst_0_apply, one_f32]
  unfold gate
  rw [zero_sub]
  rfl

end Cert.Proof.Sb
-- ==== Proof.Sb.Equation.lean ====
module

public import proofs.«01_k».proof.Proof.Sb.RefValue

/-! The kernel's result is the reference's. -/

@[expose] public section
set_option maxRecDepth 16384
noncomputable section
namespace Cert.Proof.Sb
open Cert.ReferenceIdeal Cert.ReferenceIdeal.Gen Cert.ReferenceIdeal.Read Idealize.ShloMosaic Idealize.ShloMosaic.Pointwise Idealize.SL.Sem
open Finset

theorem log2_pos : 0 < Real.log 2 := Real.log_pos (by norm_num)

theorem rpow_scaled (y : ℝ) : Real.rpow 2 ((Real.log 2)⁻¹ * y) = Real.exp y := by
  show (2 : ℝ) ^ ((Real.log 2)⁻¹ * y) = _
  rw [Real.rpow_def_of_pos (by norm_num), ← mul_assoc, mul_inv_cancel₀ log2_pos.ne', one_mul]

theorem sp2_scaled (z : ℝ) : sp2 ((Real.log 2)⁻¹ * z) = (Real.log 2)⁻¹ * spl z := by
  have hL : 0 ≤ (Real.log 2)⁻¹ := (inv_pos.2 log2_pos).le
  have e : -|(Real.log 2)⁻¹ * z| = (Real.log 2)⁻¹ * (-|z|) := by rw [abs_mul, abs_of_nonneg hL, mul_neg]
  have em : max ((Real.log 2)⁻¹ * z) 0 = (Real.log 2)⁻¹ * max z 0 := by rw [mul_max_of_nonneg _ _ hL, mul_zero]
  rw [sp2, e, rpow_scaled, em, spl]
  ring

/-- The padded logits are the reference's, in units of log 2. -/
theorem zpad_eq (qr kr : S2x8208x512.Idx → ℝ) (bias : ℝ) (b : Fin 2) (h : Fin 4) (i : Fin 8208) (k : ℕ) (hk : k < 8208) :
    zpad qr kr bias b h (i.val + 48) (k + 48) = (Real.log 2)⁻¹ * zz qr kr bias b h i k := by
  have hi := i.isLt
  unfold zpad zz padr
  rw [dif_pos hk, mul_add, mul_comm _ bias, Finset.sum_mul, Finset.mul_sum]
  refine congrArg (· + _) (Finset.sum_congr rfl fun d _ => ?_)
  rw [dif_pos ⟨by omega, by omega⟩, dif_pos ⟨by omega, by omega⟩]
  have e1 : (⟨i.val + 48 - 48, by omega⟩ : Fin 8208) = i := Fin.ext (by show i.val + 48 - 48 = i.val; omega)
  have e2 : (⟨k + 48 - 48, by omega⟩ : Fin 8208) = ⟨k, hk⟩ := Fin.ext (by show k + 48 - 48 = k; omega)
  rw [e1, e2]
  ring

theorem W_eq (qr kr : S2x8208x512.Idx → ℝ) (bias : ℝ) (b : Fin 2) (h : Fin 4) (i : Fin 8208) (j : ℕ) (hj : j < i.val) :
    W (zpad qr kr bias b h (i.val + 48)) (i.val + 48) (j + 48) = wref (zz qr kr bias b h i) i.val j := by
  have hi := i.isLt
  have es : ∑ k ∈ Ico (j + 48 + 1) (i.val + 48), sp2 (zpad qr kr bias b h (i.val + 48) k) = (Real.log 2)⁻¹ * ∑ k ∈ Ico (j + 1) i.val, spl (zz qr kr bias b h i k) := by
    rw [show j + 48 + 1 = j + 1 + 48 by omega, ← Finset.sum_Ico_add' (fun k => sp2 (zpad qr kr bias b h (i.val + 48) k)), Finset.mul_sum]
    refine Finset.sum_congr rfl fun k hk => ?_
    have hk' := (mem_Ico.1 hk).2
    rw [zpad_eq qr kr bias b h i k (by omega), sp2_scaled]
  rw [W, wref, es, zpad_eq qr kr bias b h i j (by omega), sp2_scaled, ← mul_sub, ← mul_sub, rpow_scaled]

theorem pads_eq (x : FVec Ideal S2x8208x512 .f32) (c : FVec Ideal S_ .f32) (hc : ∀ i, c i = (0 : EReal)) :
    pad S2x8448x512 ![0, 48, 0] ![0, 192, 0] ![0, 0, 0] x c pads_S2x8208x512_S2x8448x512_000_481920_000 h_S_ = pad0 x := by
  have e : c = (sitofp .f32 (constantI S_ 32 0#32) : FVec Ideal S_ .f32) := by
    funext i
    rw [hc]
    show (0 : EReal) = (((0#32).toInt : ℝ) : EReal)
    simp
  subst e
  rfl

theorem equation (u : FVec Ideal Cert.KernelIdeal.S256x256 .bf16) (hu : IsTable u) (x0 x1 x2 x3 : FVec Ideal S2x8208x512 .f32) (x4 : FVec Ideal S4 .f32)
    (qr kr : S2x8208x512.Idx → ℝ) (br : Fin 4 → ℝ) (hq : ∀ j, x0 j = ((qr j : ℝ) : EReal)) (hk : ∀ j, x1 j = ((kr j : ℝ) : EReal)) (hb : ∀ h, x4 (ix1 h) = ((br h : ℝ) : EReal)) :
    res u x4 (pad0 x0) (pad0 x1) (pad0 x2) (pad0 x3) = val_main_v30 (F := Ideal) x0 x1 x2 x3 x4 := by
  unfold val_main_v30
  rw [pads_eq _ _ (fun i => by rw [val_main_call6_v0_apply]; show (((0#32).toInt : ℝ) : EReal) = 0; simp)]
  funext J
  obtain ⟨b, p, c, rfl⟩ : ∃ (b : Fin 2) (p : Fin 8448) (c : Fin 512), J = ix3 b p c := ⟨J 0, J 1, J 2, eq_ix3 _⟩
  obtain ⟨h, d, rfl⟩ : ∃ (h : Fin 4) (d : Fin 128), c = col h d :=
    ⟨⟨c.val / 128, by have := c.isLt; omega⟩, ⟨c.val % 128, Nat.mod_lt _ (by decide)⟩, Fin.ext (by show c.val = 128 * (c.val / 128) + c.val % 128; omega)⟩
  rw [res_pad u hu x4 x0 x1 x2 x3 qr kr br hq hk hb b p h d, pad0_apply, pad0_apply]
  by_cases hp : 48 ≤ p.val ∧ p.val < 8256
  · rw [dif_pos hp, dif_pos hp, val_main_v29_apply, ref_v27 x0 x1 x2 x4 qr kr br hq hk hb, ref_gate]
    refine congrArg (· * _) ?_
    obtain ⟨i, hi⟩ : ∃ i : Fin 8208, p.val = i.val + 48 := ⟨⟨p.val - 48, by omega⟩, by show p.val = p.val - 48 + 48; omega⟩
    have ei : (⟨p.val - 48, by omega⟩ : Fin 8208) = i := Fin.ext (by show p.val - 48 = i.val; omega)
    have hil := i.isLt
    rw [ei, hi, Finset.range_eq_Ico, ← Finset.sum_Ico_consecutive _ (Nat.zero_le 48) (by omega : 48 ≤ i.val + 48)]
    have z : ∑ j ∈ Ico 0 48, ((W (zpad qr kr (br h) b h (i.val + 48)) (i.val + 48) j : ℝ) : EReal) * vpad x2 b h j d = 0 := by
      refine Finset.sum_eq_zero fun j hj => ?_
      have hj' := (mem_Ico.1 hj).2
      have ev : vpad x2 b h j d = 0 := by
        unfold vpad
        rw [pad0_apply, dif_neg]
        show ¬(48 ≤ j % 8448 ∧ j % 8448 < 8256)
        omega
      rw [ev, mul_zero]
    rw [z, zero_add]
    have sh := Finset.sum_Ico_add' (fun j => ((W (zpad qr kr (br h) b h (i.val + 48)) (i.val + 48) j : ℝ) : EReal) * vpad x2 b h j d) 0 i.val 48
    rw [Nat.zero_add] at sh
    rw [← sh, Finset.range_eq_Ico]
    refine Finset.sum_congr rfl fun j hj => ?_
    have hj' := (mem_Ico.1 hj).2
    rw [W_eq qr kr (br h) b h i j hj', dif_pos (by omega : j < 8208)]
    refine congrArg (_ * ·) ?_
    unfold vpad
    have hm : (j + 48) % 8448 = j + 48 := Nat.mod_eq_of_lt (by omega)
    rw [pad0_apply, dif_pos (show 48 ≤ (j + 48) % 8448 ∧ (j + 48) % 8448 < 8256 by omega)]
    have ej : (⟨(j + 48) % 8448 - 48, by omega⟩ : Fin 8208) = ⟨j, by omega⟩ := Fin.ext (by show (j + 48) % 8448 - 48 = j; omega)
    exact congrArg (fun t : Fin 8208 => x2 (ix3 b t (col h d))) ej
  · rw [dif_neg hp, dif_neg hp, gate_zero, mul_zero]

end Cert.Proof.Sb
-- ==== Proof.Sb.Real.lean ====
module

public import proofs.«01_k».proof.Pre_real_scores
public import proofs.«01_k».proof.Proof.Sb.Equation
public import Idealize.ShloMosaic.Lib.KernelVsHost

/-! What the precondition says: the queries, the keys and the biases are real numbers. -/

@[expose] public section
noncomputable section
namespace Cert.Proof.Sb
open Cert.Pre_real_scores Idealize.ShloMosaic Idealize.ShloMosaic.Pointwise

/-- The shape facts of the precondition. -/
theorem preFacts : Cert.Pre_real_scores.Facts where
  bcast_S_S2x8208x512 := Cert.ReferenceIdeal.Gen.bcast_S_S2x8208x512
  bcast_S_S4 := ⟨fun a => a.elim0, fun a => a.elim0⟩

theorem xor_bit (p : Bool) (h : IntOp.xori (BitVec.ofBool p) 1#1 = 1#1) : p = false := by
  cases p
  · rfl
  · exact absurd h (by decide)

theorem and_bit (a b : BitVec 1) (h : a &&& b = 1#1) : a = 1#1 ∧ b = 1#1 := by
  revert a b
  decide

/-- A number whose absolute value is below infinity is real. -/
theorem real_of_lt (x : Ideal .f32)
    (h : FloatOps.cmpf .olt (FloatOps.hostAbsf x) (FloatOps.ofBits (F := Ideal) .f32 0x7F800000#32) = 1#1) :
    x = ((EReal.toReal x : ℝ) : EReal) := by
  rw [← Ideal.xori_weird_eq_hostAbsf_olt_inf] at h
  have hw := of_decide_eq_false (xor_bit (decide ((x : EReal) = ⊤ ∨ (x : EReal) = ⊥)) h)
  rw [not_or] at hw
  exact (EReal.coe_toReal hw.1 hw.2).symm

variable [Cert.Pre_real_scores.Facts]

theorem reals (x0 x1 x2 x3 : FVec Ideal S2x8208x512 .f32) (x4 : FVec Ideal S4 .f32)
    (h : (fn (F := Ideal) x0 x1 x2 x3 x4).1 = (fun _ => 1#1) ∧ (fn (F := Ideal) x0 x1 x2 x3 x4).2 = (fun _ => 1#1)) :
    (∀ j, x0 j = ((EReal.toReal (x0 j) : ℝ) : EReal)) ∧ (∀ j, x1 j = ((EReal.toReal (x1 j) : ℝ) : EReal))
      ∧ ∀ j : S4.Idx, x4 j = ((EReal.toReal (x4 j) : ℝ) : EReal) :=
  ⟨fun j => real_of_lt (x0 j) (and_bit _ _ (congrFun h.1 j)).1, fun j => real_of_lt (x1 j) (and_bit _ _ (congrFun h.1 j)).2,
    fun j => real_of_lt (x4 j) (congrFun h.2 j)⟩

end Cert.Proof.Sb

end
-- ==== Proof.Pr.Rows.lean ====
module

public import Idealize.ShloMosaic.Lib.Pipeline.Value
public import Idealize.ShloMosaic.Lib.KernelVsHost
public import Idealize.ShloMosaic.Lib.Pointwise
public import Idealize.ShloMosaic.PureOps.Ideal.Laws

/-! The projections' arrays: the rows of two sequences of 8208, each between 48 and 192 rows of zeros. -/

@[expose] public section
set_option maxRecDepth 16384
noncomputable section
namespace Cert.Proof.Pr
open Idealize.ShloMosaic Idealize.ShloMosaic.Pointwise

variable {w : ℕ}

/-- A sequence array. -/
abbrev Sq (w : ℕ) := Fin 2 → Fin 8208 → Fin w → EReal

/-- A call's array. -/
abbrev Rw (w : ℕ) := Fin 16896 → Fin w → EReal

/-- The rows of the sequences between rows of zeros. -/
def pr (x : Sq w) : Rw w := fun r c =>
  if h : 48 ≤ r.val % 8448 ∧ r.val % 8448 < 8256 then x ⟨r.val / 8448, by have := r.isLt; omega⟩ ⟨r.val % 8448 - 48, by omega⟩ c else 0

/-- An operation on rows that leaves a row of zeros alone may be done before the rows of zeros are added. -/
theorem pr_map {v : ℕ} (x : Sq v) (y : Sq w) (z : Rw w) (r : Fin 16896) (c : Fin w)
    (h1 : ∀ b i, (∀ k, pr x r k = x b i k) → z r c = y b i c) (h0 : (∀ k, pr x r k = 0) → z r c = 0) : z r c = pr y r c := by
  by_cases h : 48 ≤ r.val % 8448 ∧ r.val % 8448 < 8256
  · have e : pr y r c = y ⟨r.val / 8448, by have := r.isLt; omega⟩ ⟨r.val % 8448 - 48, by omega⟩ c := by rw [pr, dif_pos h]
    rw [e]
    exact h1 _ _ fun k => by rw [pr, dif_pos h]
  · have e : pr y r c = 0 := by rw [pr, dif_neg h]
    rw [e]
    exact h0 fun k => by rw [pr, dif_neg h]

/-- The host's padding and reshaping. -/
theorem padded {t : FTy} {u : Shape} (x : FVec Ideal ⟨3, ![2, 8208, w]⟩ t) (z : FVec Ideal u t) (hz : ∀ i, z i = (0 : EReal))
    (hp : Shape.Pads (⟨3, ![2, 8208, w]⟩ : Shape) ![0, 48, 0] ![0, 192, 0] ![0, 0, 0] ⟨3, ![2, 8448, w]⟩) (hu : 0 < u.numel)
    (hs : (⟨3, ![2, 8448, w]⟩ : Shape).ShapeCasts ⟨2, ![16896, w]⟩) (r : Fin 16896) (c : Fin w) :
    shapeCast (⟨2, ![16896, w]⟩ : Shape) (pad (⟨3, ![2, 8448, w]⟩ : Shape) ![0, 48, 0] ![0, 192, 0] ![0, 0, 0] x z hp hu) hs (ix2 r c) = pr (fun b i k => x (ix3 b i k)) r c := by
  have hr := r.isLt
  rw [shapeCast_apply _ hs (ix2 r c) (ix3 ⟨r.val / 8448, by omega⟩ ⟨r.val % 8448, by omega⟩ c) (by
    rw [Shape.rowMajor_val_three, Shape.rowMajor_val_two]
    show (r.val / 8448 * 8448 + r.val % 8448) * w + c.val = r.val * w + c.val
    rw [Nat.div_add_mod'])]
  unfold pr
  split
  · rename_i h
    refine (pad_apply_of_inside _ _ _ x _ _ _ _ (ix3 ⟨r.val / 8448, by omega⟩ ⟨r.val % 8448 - 48, by omega⟩ c) fun a => ?_)
    match a with
    | 0 => show r.val / 8448 = 0 + r.val / 8448 * 1; omega
    | 1 => show r.val % 8448 = 48 + (r.val % 8448 - 48) * 1; omega
    | 2 => show c.val = 0 + c.val * 1; omega
  · rename_i h
    refine (pad_apply_of_not_inside _ _ _ x _ _ _ _ 1 fun hh => h ?_).trans (hz _)
    have h1 : 48 ≤ r.val % 8448 := hh.1
    have h2 : (r.val % 8448 - 48) / 1 < 8208 := hh.2.2
    omega

/-- The word of the padding is zero. -/
theorem zero_word {u : Shape} {t : FTy} (i : u.Idx) : sitofp (F := Ideal) t (constantI u 32 0#32) i = (0 : EReal) := by
  show (((0#32).toInt : ℝ) : EReal) = 0
  simp

/-- A row of a call's array, in its block of 512 rows. -/
def blk {N : ℕ} [NeZero N] {t : FTy} (x : FVec Ideal ⟨2, ![N, w]⟩ t) (n : ℕ) : FVec Ideal ⟨2, ![512, w]⟩ t := fun j =>
  x (ix2 ⟨(512 * n + (j 0).val) % N, Nat.mod_lt _ (NeZero.pos N)⟩ (j 1))

theorem blk_row {t : FTy} (x : FVec Ideal ⟨2, ![16896, w]⟩ t) (r : Fin 16896) (c : Fin w) :
    blk x (r.val / 512) (ix2 ⟨r.val % 512, Nat.mod_lt _ (by decide)⟩ c) = x (ix2 r c) := by
  have hr := r.isLt
  unfold blk
  refine congrArg (fun q => x (ix2 q c)) (Fin.ext ?_)
  show (512 * (r.val / 512) + r.val % 512) % 16896 = r.val
  omega

/-- An array whose blocks of 512 rows are computed one by one. -/
def unblk {t : FTy} (f : ℕ → FVec Ideal ⟨2, ![512, w]⟩ t) : FVec Ideal ⟨2, ![16896, w]⟩ t := fun j =>
  f ((j 0).val / 512) (ix2 ⟨(j 0).val % 512, Nat.mod_lt _ (by decide)⟩ (j 1))

theorem unblk_at {t : FTy} (f : ℕ → FVec Ideal ⟨2, ![512, w]⟩ t) (n : ℕ) (y : (⟨2, ![512, w]⟩ : Shape).Idx) (z : (⟨2, ![16896, w]⟩ : Shape).Idx)
    (z0 : (z 0).val = 512 * n + (y 0).val) (z1 : (z 1).val = (y 1).val) : f n y = unblk f z := by
  have y0 : (y 0).val < 512 := (y 0).isLt
  have e : (z 0).val / 512 = n := by rw [z0]; omega
  unfold unblk
  rw [e]
  refine congrArg (f n) (funext fun a => Fin.ext ?_)
  match a with
  | 0 => show (y 0).val = (z 0).val % 512; rw [z0]; omega
  | 1 => exact z1.symm

theorem blk_at {N : ℕ} [NeZero N] {t : FTy} (x : FVec Ideal ⟨2, ![N, w]⟩ t) (n : ℕ) (y : (⟨2, ![512, w]⟩ : Shape).Idx) (z : (⟨2, ![N, w]⟩ : Shape).Idx)
    (z0 : (z 0).val = 512 * n + (y 0).val) (z1 : (z 1).val = (y 1).val) : x z = blk x n y := by
  have hz : (z 0).val < N := (z 0).isLt
  unfold blk
  refine congrArg x (funext fun a => Fin.ext ?_)
  match a with
  | 0 => show (z 0).val = (512 * n + (y 0).val) % N; rw [← z0, Nat.mod_eq_of_lt hz]
  | 1 => exact z1

/-- A window of 512 rows that moves down with the step. -/
theorem blk_win {N : ℕ} [NeZero N] {t : FTy} (x : FVec Ideal ⟨2, ![N, w]⟩ t) (n : ℕ) (y : (⟨2, ![512, w]⟩ : Shape).Idx) (z : (⟨2, ![N, w]⟩ : Shape).Idx) {f : Fin 2 → ℕ} (hf : f = ![n, 0])
    (z0 : (z 0).val = f 0 * 512 + 1 * (y 0).val) (z1 : (z 1).val = f 1 * w + 1 * (y 1).val) : x z = blk x n y := by
  subst hf
  refine blk_at x n y z (z0.trans ?_) (z1.trans ?_)
  · show n * 512 + 1 * (y 0).val = 512 * n + (y 0).val; omega
  · show 0 * w + 1 * (y 1).val = (y 1).val; omega

/-- A window that is the whole array. -/
theorem whole_win {a b : ℕ} {t : FTy} (x : FVec Ideal ⟨2, ![a, b]⟩ t) (y z : (⟨2, ![a, b]⟩ : Shape).Idx) {f : Fin 2 → ℕ} (hf : f = ![0, 0])
    (z0 : (z 0).val = f 0 * a + 1 * (y 0).val) (z1 : (z 1).val = f 1 * b + 1 * (y 1).val) : x z = x y := by
  subst hf
  refine congrArg x (funext fun k => Fin.ext ?_)
  match k with
  | 0 => refine z0.trans ?_; show 0 * a + 1 * (y 0).val = (y 0).val; omega
  | 1 => refine z1.trans ?_; show 0 * b + 1 * (y 1).val = (y 1).val; omega

/-- Numbers of the sample group's sequences. -/
abbrev Sm (w : ℕ) := Fin 128 → Fin 8 → Fin w → EReal

/-- The sample group's rows, one after another. -/
def fl (y : Sm w) (r : Fin 1024) (k : Fin w) : EReal := y ⟨r.val / 8, by have := r.isLt; omega⟩ ⟨r.val % 8, Nat.mod_lt _ (by decide)⟩ k

theorem flat_at {t : FTy} (x : FVec Ideal ⟨3, ![128, 8, w]⟩ t) (h : (⟨3, ![128, 8, w]⟩ : Shape).ShapeCasts ⟨2, ![1024, w]⟩) (r : Fin 1024) (k : Fin w) :
    shapeCast ⟨2, ![1024, w]⟩ x h (ix2 r k) = fl (fun b i k => x (ix3 b i k)) r k := by
  unfold fl
  refine shapeCast_apply x h (ix2 r k) (ix3 _ _ k) ?_
  rw [Shape.rowMajor_val_three, Shape.rowMajor_val_two]
  show (r.val / 8 * 8 + r.val % 8) * w + k.val = r.val * w + k.val
  rw [Nat.div_add_mod']

end Cert.Proof.Pr
-- ==== Proof.Pr.Norm.lean ====
module

public import proofs.«01_k».proof.Proof.Pr.Words

/-! The norm of a row, and what a product of two numbers becomes when each is split into itself and a rest. -/

@[expose] public section
noncomputable section
namespace Cert.Proof.Pr
open Idealize.ShloMosaic

/-- One over the root of the mean square. -/
def nrs (f : Fin 1024 → EReal) : EReal :=
  Ideal.rsqrt (Ideal.div (∑ l : Fin 1024, f l * f l) (FloatOps.ofBits (F := Ideal) .f32 0x44800000#32) + FloatOps.ofBits (F := Ideal) .f32 0x358637BD#32)

/-- An entry of a row after the norm. -/
def nrm (f g : Fin 1024 → EReal) (k : Fin 1024) : EReal := f k * nrs f * g k

/-- A row after the norm, times a column. -/
def ncol (f g w : Fin 1024 → EReal) : EReal := ∑ k : Fin 1024, nrm f g k * w k

theorem nrm_zero (f g : Fin 1024 → EReal) (h : ∀ k, f k = 0) (k : Fin 1024) : nrm f g k = 0 := by
  rw [nrm, h, zero_mul, zero_mul]

theorem ncol_zero (f g w : Fin 1024 → EReal) (h : ∀ k, f k = 0) : ncol f g w = 0 :=
  Finset.sum_eq_zero fun k _ => by rw [nrm_zero f g h, zero_mul]

theorem coe_sum1 {n : ℕ} (f : Fin n → ℝ) : ((∑ k : Fin n, f k : ℝ) : EReal) = ∑ k : Fin n, ((f k : ℝ) : EReal) := by
  exact map_sum (⟨⟨fun x : ℝ => (x : EReal), EReal.coe_zero⟩, EReal.coe_add⟩ : ℝ →+ EReal) _ _

theorem rsqrt_real (x : ℝ) (h : 0 < x) : ∃ y : ℝ, Ideal.rsqrt (x : EReal) = (y : EReal) :=
  ⟨(Real.sqrt x)⁻¹, by rw [Ideal.rsqrt_coe, if_neg (not_lt.2 h.le), if_neg h.ne']⟩

theorem sq_cases (x : EReal) : (∃ z : ℝ, x = (z : EReal)) ∨ x * x = ⊤ := by
  induction x with
  | bot => exact .inr EReal.bot_mul_bot
  | coe r => exact .inl ⟨r, rfl⟩
  | top => exact .inr EReal.top_mul_top

theorem sq_nonneg_e (x : EReal) : 0 ≤ x * x := by
  rcases sq_cases x with ⟨z, rfl⟩ | h
  · rw [← EReal.coe_mul, ← EReal.coe_zero, EReal.coe_le_coe_iff]
    exact mul_self_nonneg z
  · rw [h]
    exact le_top

/-- After the norm a row is real, whatever it was before. -/
theorem nrm_real (f g : Fin 1024 → EReal) (k : Fin 1024) (hg : ∃ y : ℝ, g k = (y : EReal)) : ∃ y : ℝ, nrm f g k = (y : EReal) := by
  obtain ⟨y, hy⟩ := hg
  by_cases hf : ∀ l, ∃ z : ℝ, f l = (z : EReal)
  · choose z hz using hf
    have e : (∑ l : Fin 1024, f l * f l) = ((∑ l : Fin 1024, z l * z l : ℝ) : EReal) := by
      rw [coe_sum1]
      exact Finset.sum_congr rfl fun l _ => by rw [hz, EReal.coe_mul]
    have p : 0 < (∑ l : Fin 1024, z l * z l) * (1 / 1024) + eps :=
      add_pos_of_nonneg_of_pos (mul_nonneg (Finset.sum_nonneg fun l _ => mul_self_nonneg _) (by norm_num)) eps_pos
    obtain ⟨u, hu⟩ := rsqrt_real _ p
    refine ⟨z k * u * y, ?_⟩
    rw [nrm, nrs, e, word_1024, word_eps, Ideal.div_coe (by norm_num), ← EReal.coe_mul, ← EReal.coe_add, hu, hz, hy, EReal.coe_mul, EReal.coe_mul]
  · obtain ⟨l, hl⟩ := not_forall.1 hf
    have t : f l * f l = ⊤ := (sq_cases (f l)).resolve_left hl
    have n : ∀ l, 0 ≤ f l * f l := fun l => sq_nonneg_e _
    have s : (∑ l : Fin 1024, f l * f l) = ⊤ := top_le_iff.1 (t ▸ Finset.single_le_sum (fun i _ => n i) (Finset.mem_univ l))
    refine ⟨0, ?_⟩
    rw [nrm, nrs, s, word_1024, word_eps, Ideal.div_coe (by norm_num), EReal.top_mul_coe_of_pos (by norm_num), EReal.top_add_coe, Ideal.rsqrt_top, mul_zero, zero_mul,
      EReal.coe_zero]

/-- A real number has no rest. -/
theorem rest_zero (x : EReal) (h : ∃ y : ℝ, x = (y : EReal)) : x - x = 0 := by
  obtain ⟨y, rfl⟩ := h
  rw [← EReal.coe_sub, sub_self, EReal.coe_zero]

end Cert.Proof.Pr
-- ==== Proof.In.Payload.lean ====
module

public import proofs.«01_k».proof.Proof.Gen.InprojIdeal.Frame
public import proofs.«01_k».proof.Proof.Pr.Rows
public import proofs.«01_k».proof.Proof.Pr.Norm
public import Idealize.ShloMosaic.Lib.Pipeline.ValueKit

/-! What a grid point of the input projection computes, entry by entry. -/

@[expose] public section
set_option maxRecDepth 16384
noncomputable section
namespace Cert.Proof.In
open Idealize.ShloMosaic Idealize.ShloMosaic.Pointwise Idealize.ShloMosaic.TcCoe Idealize.SL.Sem Cert.InprojIdeal Cert.InprojIdeal.Gen Cert.Proof.Pr

variable (x : FVec Ideal S512x1024 .f32) (g : FVec Ideal S1x1024 .f32)

/-- A block's rows after the norm. -/
def xn : FVec Ideal S512x1024 .f32 := fun j => nrm (fun l => x (ix2 (j 0) l)) (fun l => g (ix2 0 l)) (j 1)

theorem pay1 : k0_pay1 (F := Ideal) x g = xn x g := by
  funext j
  rw [eq_ix2 j]
  unfold xn nrm nrs
  pointwise [k0_pay1]

theorem pay2 : k0_pay2 (F := Ideal) x g = xn x g := by
  unfold k0_pay2
  rw [pay1]
  rfl

theorem pay3 (w : FVec Ideal S1024x1536 .bf16) (i : Fin 512) (c : Fin 1536) :
    k0_pay3 (F := Ideal) x g w (ix2 i c) = ncol (fun l => x (ix2 i l)) (fun l => g (ix2 0 l)) fun k => w (ix2 k c) := by
  unfold k0_pay3
  rw [pay2]
  unfold ncol
  pointwise
  rfl

theorem pay6 (w : FVec Ideal S1024x512 .bf16) (i c : Fin 512) :
    k0_pay6 (F := Ideal) (xn x g) w (ix2 i c) = ncol (fun l => x (ix2 i l)) (fun l => g (ix2 0 l)) fun k => w (ix2 k c) := by
  unfold ncol
  pointwise [k0_pay6]
  rfl

theorem pay4 (w : FVec Ideal S1024x512 .bf16) : k0_pay4 (F := Ideal) x g w = k0_pay6 (F := Ideal) (xn x g) w := by
  unfold k0_pay4
  rw [pay2]
  rfl

/-- The scale of the queries. -/
def qs : EReal := FloatOps.ofBits (F := Ideal) .f32 0x3E0293EE#32

theorem pay5 (w : FVec Ideal S1024x512 .bf16) (i c : Fin 512) : k0_pay5 (F := Ideal) x g w (ix2 i c) = k0_pay6 (F := Ideal) (xn x g) w (ix2 i c) * qs := by
  unfold k0_pay5
  rw [pay2]
  rfl

theorem pay11 (w : FVec Ideal S1024x128 .f32) (i : Fin 512) (c : Fin 128) (hg : ∀ k : Fin 1024, ∃ y : ℝ, g (ix2 0 k) = (y : EReal))
    (hw : ∀ k : Fin 1024, ∃ y : ℝ, w (ix2 k c) = (y : EReal)) :
    k0_pay11 (F := Ideal) (xn x g) w (ix2 i c) = ncol (fun l => x (ix2 i l)) (fun l => g (ix2 0 l)) fun k => w (ix2 k c) := by
  have e : k0_pay11 (F := Ideal) (xn x g) w (ix2 i c) = (∑ k : Fin 1024, xn x g (ix2 i k) * w (ix2 k c)) +
      ((∑ k : Fin 1024, xn x g (ix2 i k) * (w (ix2 k c) - w (ix2 k c))) + ∑ k : Fin 1024, (xn x g (ix2 i k) - xn x g (ix2 i k)) * w (ix2 k c)) := by
    pointwise [k0_pay11]
  have r : ∀ k, ∃ y : ℝ, xn x g (ix2 i k) = (y : EReal) := fun k => nrm_real _ _ k (hg k)
  have e2 : (∑ k : Fin 1024, xn x g (ix2 i k) * (w (ix2 k c) - w (ix2 k c))) = 0 := Finset.sum_eq_zero fun k _ => by rw [rest_zero _ (hw k), mul_zero]
  have e3 : (∑ k : Fin 1024, (xn x g (ix2 i k) - xn x g (ix2 i k)) * w (ix2 k c)) = 0 := Finset.sum_eq_zero fun k _ => by rw [rest_zero _ (r k), zero_mul]
  rw [e, e2, e3, add_zero, add_zero]
  rfl

/-- A column of a wider array. -/
def cl {n v : ℕ} (o : ℕ) (h : o + n ≤ v) (c : Fin n) : Fin v := ⟨o + c.val, by have := c.isLt; omega⟩

theorem emb5 (j : S512x512.Idx) : r0_5.emb j = j := by
  refine funext fun a => Fin.ext ?_
  match a with
  | 0 => show 0 + 1 * (j 0).val = (j 0).val; omega
  | 1 => show 0 + 1 * (j 1).val = (j 1).val; omega

theorem ld0 (x : Vec Ideal S512x1024 .f32) : View.ld x r0_0 = x := by
  refine funext fun j => congrArg x (funext fun a => Fin.ext ?_)
  match a with
  | 0 => show 0 + 1 * (j 0).val = (j 0).val; omega
  | 1 => show 0 + 1 * (j 1).val = (j 1).val; omega

theorem ld1 (x : Vec Ideal S1x1024 .f32) : View.ld x r0_1 = x := by
  refine funext fun j => congrArg x (funext fun a => Fin.ext ?_)
  match a with
  | 0 => show 0 + 1 * (j 0).val = (j 0).val; omega
  | 1 => show 0 + 1 * (j 1).val = (j 1).val; omega

theorem ld10 (x : Vec Ideal S1024x128 .f32) : View.ld x r0_10 = x := by
  refine funext fun j => congrArg x (funext fun a => Fin.ext ?_)
  match a with
  | 0 => show 0 + 1 * (j 0).val = (j 0).val; omega
  | 1 => show 0 + 1 * (j 1).val = (j 1).val; omega

/-- Columns of the weights, loaded. -/
theorem ldw {n : ℕ} (x : Vec Ideal S1024x4096 .bf16) (o : ℕ) (h : o + n ≤ 4096) (inb : ∀ a, (![0, o] : Fin 2 → ℕ) a + (![1024, n] : Fin 2 → ℕ) a ≤ S1024x4096.size a) (k : Fin 1024) (c : Fin n) :
    View.ld x (Rect.unit (s := S1024x4096) ![0, o] ![1024, n] inb) (ix2 k c) = x (ix2 k (cl o h c)) := by
  refine congrArg x (funext fun a => Fin.ext ?_)
  match a with
  | 0 => show 0 + 1 * k.val = k.val; omega
  | 1 => show o + 1 * c.val = o + c.val; omega

/-- A buffer stored to once, and whole. -/
theorem one5 {t : EltTy} (p : Vec Ideal S512x512 t) : View.canon (Val := Elt Ideal) [⟨r0_5, p⟩] = p := by
  funext y
  refine View.canon_apply_of_pieces (Val := Elt Ideal) p _ ?_ y (View.cover_of_tiled [⟨r0_5, p⟩] S512x512.size (by rfl) y)
  intro pc hpc
  rcases List.mem_cons.mp hpc with rfl | hpc
  · exact fun x => congrArg p (emb5 x).symm
  nomatch hpc

theorem one3 (p : Vec Ideal S512x1536 .f32) : View.canon (Val := Elt Ideal) [⟨r0_3, p⟩] = p := by
  funext y
  refine View.canon_apply_of_pieces (Val := Elt Ideal) p _ ?_ y (cover0_4 p y)
  intro pc hpc
  rcases List.mem_cons.mp hpc with rfl | hpc
  · refine fun x => congrArg p (funext fun a => Fin.ext ?_)
    match a with
    | 0 => show (x 0).val = 0 + 1 * (x 0).val; omega
    | 1 => show (x 1).val = 0 + 1 * (x 1).val; omega
  nomatch hpc

theorem one11 (p : Vec Ideal S512x128 .f32) : View.canon (Val := Elt Ideal) [⟨r0_11, p⟩] = p := by
  funext y
  refine View.canon_apply_of_pieces (Val := Elt Ideal) p _ ?_ y (cover0_10 p y)
  intro pc hpc
  rcases List.mem_cons.mp hpc with rfl | hpc
  · refine fun x => congrArg p (funext fun a => Fin.ext ?_)
    match a with
    | 0 => show (x 0).val = 0 + 1 * (x 0).val; omega
    | 1 => show (x 1).val = 0 + 1 * (x 1).val; omega
  nomatch hpc

variable (w : FVec Ideal S1024x4096 .bf16) (b : FVec Ideal S1024x128 .f32)

/-- A block of 512 result columns. -/
def oc (o : ℕ) (h : o + 512 ≤ 4096) : FVec Ideal S512x512 .f32 := fun y =>
  ncol (fun l => x (ix2 (y 0) l)) (fun l => g (ix2 0 l)) fun k => w (ix2 k (cl (n := 512) o h (y 1)))

theorem pay6_ld (o : ℕ) (h : o + 512 ≤ 4096) (inb : ∀ a, (![0, o] : Fin 2 → ℕ) a + (![1024, 512] : Fin 2 → ℕ) a ≤ S1024x4096.size a) :
    k0_pay6 (F := Ideal) (xn x g) (View.ld w (Rect.unit (s := S1024x4096) ![0, o] ![1024, 512] inb)) = oc x g w o h := by
  funext y
  obtain ⟨i, c, rfl⟩ : ∃ (i : Fin 512) (c : Fin 512), y = ix2 i c := ⟨y 0, y 1, eq_ix2 y⟩
  refine (pay6 x g _ i c).trans (congrArg (ncol _ _) (funext fun k => ?_))
  exact ldw w o h inb k c

theorem out4 : out0_4 (F := Ideal) x g w b = fun y => ncol (fun l => x (ix2 (y 0) l)) (fun l => g (ix2 0 l)) fun k => w (ix2 k (cl (n := 1536) 0 (by decide) (y 1))) := by
  unfold out0_4
  rw [ld0, ld1, one3]
  funext y
  obtain ⟨i, c, rfl⟩ : ∃ (i : Fin 512) (c : Fin 1536), y = ix2 i c := ⟨y 0, y 1, eq_ix2 y⟩
  refine (pay3 x g _ i c).trans (congrArg (ncol _ _) (funext fun k => ?_))
  exact ldw w 0 (by decide) inb_S1024x4096_S1024x1536_0_0 k c

theorem out5 : out0_5 (F := Ideal) x g w b = oc x g w 1536 (by decide) := by
  unfold out0_5
  rw [ld0, ld1, one5, pay4]
  exact pay6_ld x g w 1536 _ _

theorem out6 : out0_6 (F := Ideal) x g w b = fun y => oc x g w 2048 (by decide) y * qs := by
  unfold out0_6
  rw [ld0, ld1, one5, ← pay6_ld x g w 2048 _ inb_S1024x4096_S1024x512_0_2048]
  funext y
  obtain ⟨i, c, rfl⟩ : ∃ (i : Fin 512) (c : Fin 512), y = ix2 i c := ⟨y 0, y 1, eq_ix2 y⟩
  exact pay5 x g _ i c

theorem pay12 : k0_pay12 (F := Ideal) x g w b = xn x g := by
  unfold k0_pay12
  rw [ld0, ld1, pay2]

theorem out7 : out0_7 (F := Ideal) x g w b = oc x g w 2560 (by decide) := by
  unfold out0_7
  rw [pay12, one5]
  exact pay6_ld x g w 2560 _ _

theorem out8 : out0_8 (F := Ideal) x g w b = oc x g w 3072 (by decide) := by
  unfold out0_8
  rw [pay12, one5]
  exact pay6_ld x g w 3072 _ _

theorem out9 : out0_9 (F := Ideal) x g w b = oc x g w 3584 (by decide) := by
  unfold out0_9
  rw [pay12, one5]
  exact pay6_ld x g w 3584 _ _

theorem out11 : out0_11 (F := Ideal) x g w b = oc x g w 2560 (by decide) := by
  unfold out0_11
  rw [pay12, one5]
  exact pay6_ld x g w 2560 _ _

theorem out12 : out0_12 (F := Ideal) x g w b = oc x g w 3072 (by decide) := by
  unfold out0_12
  rw [pay12, one5]
  exact pay6_ld x g w 3072 _ _

theorem out10 (hg : ∀ k : Fin 1024, ∃ y : ℝ, g (ix2 0 k) = (y : EReal)) (hb : ∀ (k : Fin 1024) (c : Fin 128), ∃ y : ℝ, b (ix2 k c) = (y : EReal)) :
    out0_10 (F := Ideal) x g w b = fun y => ncol (fun l => x (ix2 (y 0) l)) (fun l => g (ix2 0 l)) fun k => b (ix2 k (y 1)) := by
  unfold out0_10
  rw [ld0, ld1, ld10, one11, pay1]
  funext y
  obtain ⟨i, c, rfl⟩ : ∃ (i : Fin 512) (c : Fin 128), y = ix2 i c := ⟨y 0, y 1, eq_ix2 y⟩
  exact pay11 x g b i c hg fun k => hb k c

end Cert.Proof.In
-- ==== Proof.In.Array.lean ====
module

public import proofs.«01_k».proof.Proof.In.Payload
public import Idealize.ShloMosaic.Lib.Pipeline.Covers

/-! The input projection's result arrays, as functions of the arrays the region finds. -/

@[expose] public section
set_option maxRecDepth 16384
noncomputable section
namespace Cert.Proof.In
open Idealize.ShloMosaic Idealize.ShloMosaic.Pointwise Idealize.ShloMosaic.TcCoe Idealize.SL.Sem Cert.InprojIdeal Cert.InprojIdeal.Gen Cert.Proof.Pr

theorem idxi : ∀ t : Fin cfg0.N, win0_0.index t = ![t.val, 0] ∧ win0_1.index t = ![0, 0] ∧ win0_2.index t = ![0, 0] ∧ win0_3.index t = ![0, 0] :=
  (by decide +kernel : ∀ t : Fin grid0.N, _)

theorem idxo : ∀ t : Fin cfg0.N, win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ)

theorem iblk0 (c : Dev nD) (t : Fin cfg0.N) : iblk m c 0 t = blk (t := .f32) (V m c main_v12) t.val := by
  funext j
  refine blk_at (t := .f32) (V m c main_v12) t.val j (((cfg0.win 0).blk t).view.emb j) ?_ ?_
  · show win0_0.index t 0 * 512 + 1 * (j 0).val = 512 * t.val + (j 0).val
    rw [(idxi t).1]; show t.val * 512 + 1 * (j 0).val = _; omega
  · show win0_0.index t 1 * 1024 + 1 * (j 1).val = (j 1).val
    rw [(idxi t).1]; show 0 * 1024 + 1 * (j 1).val = _; omega

theorem iblk1 (c : Dev nD) (t : Fin cfg0.N) : iblk m c 1 t = V m c main_v6 := by
  funext j
  show V m c main_v6 (((cfg0.win 1).blk t).view.emb j) = V m c main_v6 j
  refine congrArg (V m c main_v6) (funext fun a => Fin.ext ?_)
  match a with
  | 0 => show win0_1.index t 0 * 1 + 1 * (j 0).val = (j 0).val; rw [(idxi t).2.1]; show 0 * 1 + 1 * (j 0).val = (j 0).val; omega
  | 1 => show win0_1.index t 1 * 1024 + 1 * (j 1).val = (j 1).val; rw [(idxi t).2.1]; show 0 * 1024 + 1 * (j 1).val = (j 1).val; omega

theorem iblk2 (c : Dev nD) (t : Fin cfg0.N) : iblk m c 2 t = V m c main_v3 := by
  funext j
  show V m c main_v3 (((cfg0.win 2).blk t).view.emb j) = V m c main_v3 j
  refine congrArg (V m c main_v3) (funext fun a => Fin.ext ?_)
  match a with
  | 0 => show win0_2.index t 0 * 1024 + 1 * (j 0).val = (j 0).val; rw [(idxi t).2.2.1]; show 0 * 1024 + 1 * (j 0).val = (j 0).val; omega
  | 1 => show win0_2.index t 1 * 4096 + 1 * (j 1).val = (j 1).val; rw [(idxi t).2.2.1]; show 0 * 4096 + 1 * (j 1).val = (j 1).val; omega

theorem iblk3 (c : Dev nD) (t : Fin cfg0.N) : iblk m c 3 t = V m c main_v5 := by
  funext j
  show V m c main_v5 (((cfg0.win 3).blk t).view.emb j) = V m c main_v5 j
  refine congrArg (V m c main_v5) (funext fun a => Fin.ext ?_)
  match a with
  | 0 => show win0_3.index t 0 * 1024 + 1 * (j 0).val = (j 0).val; rw [(idxi t).2.2.2]; show 0 * 1024 + 1 * (j 0).val = (j 0).val; omega
  | 1 => show win0_3.index t 1 * 128 + 1 * (j 1).val = (j 1).val; rw [(idxi t).2.2.2]; show 0 * 128 + 1 * (j 1).val = (j 1).val; omega

/-- A result: the rows after the norm, times the columns `f` chooses. -/
def prod {N n : ℕ} (x : FVec Ideal ⟨2, ![N, 1024]⟩ .f32) (g : FVec Ideal S1x1024 .f32) (f : Fin n → Fin 1024 → EReal) : (⟨2, ![N, n]⟩ : Shape).Idx → EReal := fun j =>
  ncol (fun l => x (ix2 (j 0) l)) (fun l => g (ix2 0 l)) (f (j 1))

/-- The rows of a block are rows of the array. -/
theorem prod_at {N n : ℕ} [NeZero N] (x : FVec Ideal ⟨2, ![N, 1024]⟩ .f32) (g : FVec Ideal S1x1024 .f32) (f : Fin n → Fin 1024 → EReal) (t : ℕ) (y : (⟨2, ![512, n]⟩ : Shape).Idx)
    (z : (⟨2, ![N, n]⟩ : Shape).Idx) (h0 : (z 0).val = t * 512 + 1 * (y 0).val) (h1 : (z 1).val = 0 * n + 1 * (y 1).val) :
    ncol (fun l => blk (t := .f32) x t (ix2 (y 0) l)) (fun l => g (ix2 0 l)) (f (y 1)) = prod x g f z := by
  have e : z 1 = y 1 := Fin.ext (h1.trans (by omega))
  unfold prod
  rw [e]
  exact congrArg (fun r => ncol r (fun l => g (ix2 0 l)) (f (y 1))) (funext fun l =>
    (blk_at (t := .f32) x t (ix2 (y 0) l) (ix2 (z 0) l) (h0.trans (by show t * 512 + 1 * (y 0).val = 512 * t + (y 0).val; omega)) rfl).symm)

/-- The columns of the weights from `o` on. -/
def wc {n : ℕ} (w : FVec Ideal S1024x4096 .bf16) (o : ℕ) (h : o + n ≤ 4096) : Fin n → Fin 1024 → EReal := fun c k => w (ix2 k (cl o h c))

theorem arr4 (c : Dev nD) : (dats m 0 c).arrAt 4 cfg0.N = prod (n := 1536) (V m c main_v12) (V m c main_v6) (wc (V m c main_v3) 0 (by decide)) := by
  refine (dats m 0 c).arrAt_eq_of_covers 4 _ (by decide +kernel) fun t hf y => ?_
  rw [after0_4, iblk0, iblk1, iblk2, iblk3, out4]
  refine prod_at (n := 1536) (V m c main_v12) (V m c main_v6) (wc (V m c main_v3) 0 (by decide)) t.val ((cfg0.win 4).xinj (cfg0.grid.coords t) y) _ ?_ ?_
  · show win0_4.index t 0 * 512 + 1 * (y 0).val = _; rw [(idxo t).1]; rfl
  · show win0_4.index t 1 * 1536 + 1 * (y 1).val = _; rw [(idxo t).1]; rfl

theorem arr5 (c : Dev nD) : (dats m 0 c).arrAt 5 cfg0.N = prod (n := 512) (V m c main_v12) (V m c main_v6) (wc (V m c main_v3) 1536 (by decide)) := by
  refine (dats m 0 c).arrAt_eq_of_covers 5 _ (by decide +kernel) fun t hf y => ?_
  rw [after0_5, iblk0, iblk1, iblk2, iblk3, out5]
  refine prod_at (n := 512) (V m c main_v12) (V m c main_v6) (wc (V m c main_v3) 1536 (by decide)) t.val ((cfg0.win 5).xinj (cfg0.grid.coords t) y) _ ?_ ?_
  · show win0_5.index t 0 * 512 + 1 * (y 0).val = _; rw [(idxo t).2.1]; rfl
  · show win0_5.index t 1 * 512 + 1 * (y 1).val = _; rw [(idxo t).2.1]; rfl

theorem arr6 (c : Dev nD) : (dats m 0 c).arrAt 6 cfg0.N = fun j => prod (n := 512) (V m c main_v12) (V m c main_v6) (wc (V m c main_v3) 2048 (by decide)) j * qs := by
  refine (dats m 0 c).arrAt_eq_of_covers 6 _ (by decide +kernel) fun t hf y => ?_
  rw [after0_6, iblk0, iblk1, iblk2, iblk3, out6]
  refine congrArg (· * qs) (prod_at (n := 512) (V m c main_v12) (V m c main_v6) (wc (V m c main_v3) 2048 (by decide)) t.val ((cfg0.win 6).xinj (cfg0.grid.coords t) y) _ ?_ ?_)
  · show win0_6.index t 0 * 512 + 1 * (y 0).val = _; rw [(idxo t).2.2.1]; rfl
  · show win0_6.index t 1 * 512 + 1 * (y 1).val = _; rw [(idxo t).2.2.1]; rfl

theorem arr7 (c : Dev nD) : (dats m 0 c).arrAt 7 cfg0.N = prod (n := 512) (V m c main_v12) (V m c main_v6) (wc (V m c main_v3) 2560 (by decide)) := by
  refine (dats m 0 c).arrAt_eq_of_covers 7 _ (by decide +kernel) fun t hf y => ?_
  rw [after0_7, iblk0, iblk1, iblk2, iblk3, out7]
  refine prod_at (n := 512) (V m c main_v12) (V m c main_v6) (wc (V m c main_v3) 2560 (by decide)) t.val ((cfg0.win 7).xinj (cfg0.grid.coords t) y) _ ?_ ?_
  · show win0_7.index t 0 * 512 + 1 * (y 0).val = _; rw [(idxo t).2.2.2.1]; rfl
  · show win0_7.index t 1 * 512 + 1 * (y 1).val = _; rw [(idxo t).2.2.2.1]; rfl

theorem arr8 (c : Dev nD) : (dats m 0 c).arrAt 8 cfg0.N = prod (n := 512) (V m c main_v12) (V m c main_v6) (wc (V m c main_v3) 3072 (by decide)) := by
  refine (dats m 0 c).arrAt_eq_of_covers 8 _ (by decide +kernel) fun t hf y => ?_
  rw [after0_8, iblk0, iblk1, iblk2, iblk3, out8]
  refine prod_at (n := 512) (V m c main_v12) (V m c main_v6) (wc (V m c main_v3) 3072 (by decide)) t.val ((cfg0.win 8).xinj (cfg0.grid.coords t) y) _ ?_ ?_
  · show win0_8.index t 0 * 512 + 1 * (y 0).val = _; rw [(idxo t).2.2.2.2.1]; rfl
  · show win0_8.index t 1 * 512 + 1 * (y 1).val = _; rw [(idxo t).2.2.2.2.1]; rfl

theorem arr9 (c : Dev nD) : (dats m 0 c).arrAt 9 cfg0.N = prod (n := 512) (V m c main_v12) (V m c main_v6) (wc (V m c main_v3) 3584 (by decide)) := by
  refine (dats m 0 c).arrAt_eq_of_covers 9 _ (by decide +kernel) fun t hf y => ?_
  rw [after0_9, iblk0, iblk1, iblk2, iblk3, out9]
  refine prod_at (n := 512) (V m c main_v12) (V m c main_v6) (wc (V m c main_v3) 3584 (by decide)) t.val ((cfg0.win 9).xinj (cfg0.grid.coords t) y) _ ?_ ?_
  · show win0_9.index t 0 * 512 + 1 * (y 0).val = _; rw [(idxo t).2.2.2.2.2.1]; rfl
  · show win0_9.index t 1 * 512 + 1 * (y 1).val = _; rw [(idxo t).2.2.2.2.2.1]; rfl

theorem arr10 (c : Dev nD) (hg : ∀ k : Fin 1024, ∃ y : ℝ, V m c main_v6 (ix2 0 k) = (y : EReal))
    (hb : ∀ (k : Fin 1024) (d : Fin 128), ∃ y : ℝ, V m c main_v5 (ix2 k d) = (y : EReal)) :
    (dats m 0 c).arrAt 10 cfg0.N = prod (n := 128) (V m c main_v12) (V m c main_v6) fun d k => V m c main_v5 (ix2 k d) := by
  refine (dats m 0 c).arrAt_eq_of_covers 10 _ (by decide +kernel) fun t hf y => ?_
  rw [after0_10, iblk0, iblk1, iblk2, iblk3, out10 _ _ _ _ hg hb]
  refine prod_at (n := 128) (V m c main_v12) (V m c main_v6) (fun d k => V m c main_v5 (ix2 k d)) t.val ((cfg0.win 10).xinj (cfg0.grid.coords t) y) _ ?_ ?_
  · show win0_10.index t 0 * 512 + 1 * (y 0).val = _; rw [(idxo t).2.2.2.2.2.2.1]; rfl
  · show win0_10.index t 1 * 128 + 1 * (y 1).val = _; rw [(idxo t).2.2.2.2.2.2.1]; rfl

theorem arr11 (c : Dev nD) : (dats m 0 c).arrAt 11 cfg0.N = prod (n := 512) (V m c main_v12) (V m c main_v6) (wc (V m c main_v3) 2560 (by decide)) := by
  refine (dats m 0 c).arrAt_eq_of_covers 11 _ (by decide +kernel) fun t hf y => ?_
  rw [after0_11, iblk0, iblk1, iblk2, iblk3, out11]
  refine prod_at (n := 512) (V m c main_v12) (V m c main_v6) (wc (V m c main_v3) 2560 (by decide)) t.val ((cfg0.win 11).xinj (cfg0.grid.coords t) y) _ ?_ ?_
  · show win0_11.index t 0 * 512 + 1 * (y 0).val = _; rw [(idxo t).2.2.2.2.2.2.2.1]; rfl
  · show win0_11.index t 1 * 512 + 1 * (y 1).val = _; rw [(idxo t).2.2.2.2.2.2.2.1]; rfl

theorem arr12 (c : Dev nD) : (dats m 0 c).arrAt 12 cfg0.N = prod (n := 512) (V m c main_v12) (V m c main_v6) (wc (V m c main_v3) 3072 (by decide)) := by
  refine (dats m 0 c).arrAt_eq_of_covers 12 _ (by decide +kernel) fun t hf y => ?_
  rw [after0_12, iblk0, iblk1, iblk2, iblk3, out12]
  refine prod_at (n := 512) (V m c main_v12) (V m c main_v6) (wc (V m c main_v3) 3072 (by decide)) t.val ((cfg0.win 12).xinj (cfg0.grid.coords t) y) _ ?_ ?_
  · show win0_12.index t 0 * 512 + 1 * (y 0).val = _; rw [(idxo t).2.2.2.2.2.2.2.2]; rfl
  · show win0_12.index t 1 * 512 + 1 * (y 1).val = _; rw [(idxo t).2.2.2.2.2.2.2.2]; rfl

end Cert.Proof.In
-- ==== Proof.In.Host.lean ====
module

public import proofs.«01_k».proof.Proof.In.Array
public import proofs.«01_k».proof.Proof.Gen.InprojRefIdeal.Read

/-! The arrays the host hands the input projection, and the reference's, entry by entry. -/

@[expose] public section
set_option maxRecDepth 16384
noncomputable section
namespace Cert.Proof.In
open Idealize.ShloMosaic Idealize.ShloMosaic.Pointwise Idealize.ShloMosaic.TcCoe Idealize.SL.Sem Cert.InprojIdeal Cert.InprojIdeal.Gen Cert.Proof.Pr
open Cert.InprojRefIdeal.Read

variable (m : (ℓ : Loc nD τ sig) → Buf (Elt Ideal) ℓ)

theorem v6 (c : Dev nD) (k : Fin 1024) : V m c main_v6 (ix2 0 k) = (m ((c : Thread nD τ).loc main_arg2) : FVec Ideal S1024 .f32) (ix1 k) := by
  have e : V m c main_v6 = (broadcastInDim S1x1024 ![1] bcast_S1024_S1x1024_1 (m ((c : Thread nD τ).loc main_arg2) : FVec Ideal S1024 .f32) : FVec Ideal S1x1024 .f32) := by
    entry_read
    rfl
  rw [e]
  pointwise

theorem v3 (c : Dev nD) (k : Fin 1024) (d : Fin 4096) : V m c main_v3 (ix2 k d) =
    (m ((c : Thread nD τ).loc main_arg3) : FVec Ideal S1024x4104 .f32) (ix2 k ⟨if d.val < 2048 then d.val else d.val + 8, by have := d.isLt; split <;> omega⟩) := by
  have e : V m c main_v3 = (truncf .bf16 (concatenate S1024x4096 1 [⟨S1024x2048, extractStridedSlice S1024x2048 ![0, 0] (m ((c : Thread nD τ).loc main_arg3) : FVec Ideal S1024x4104 .f32) slices_S1024x4104_S1024x2048_0_0⟩,
      ⟨S1024x2048, extractStridedSlice S1024x2048 ![0, 2056] (m ((c : Thread nD τ).loc main_arg3) : FVec Ideal S1024x4104 .f32) slices_S1024x4104_S1024x2048_0_2056⟩]
      concatenates_S1024x2048_S1024x2048_S1024x4096_d1) bitsLt_bf16_f32 : FVec Ideal S1024x4096 .bf16) := by
    entry_read
    rfl
  rw [e]
  pointwise
  by_cases h : d.val < 2048
  · simp only [h, ↓reduceIte, ↓reduceDIte]
  · simp only [h, ↓reduceIte, ↓reduceDIte]
    exact congrArg (fun q => (m ((c : Thread nD τ).loc main_arg3) : FVec Ideal S1024x4104 .f32) (ix2 k q)) (Fin.ext (by show 2056 + (d.val - 2048) = d.val + 8; omega))

theorem v5 (c : Dev nD) (k : Fin 1024) (d : Fin 128) : V m c main_v5 (ix2 k d) =
    if h : d.val < 8 then (m ((c : Thread nD τ).loc main_arg3) : FVec Ideal S1024x4104 .f32) (ix2 k ⟨2048 + d.val, by omega⟩) else (0 : EReal) := by
  have e : V m c main_v5 = (pad S1024x128 ![0, 0] ![0, 120] ![0, 0] (extractStridedSlice S1024x8 ![0, 2048] (m ((c : Thread nD τ).loc main_arg3) : FVec Ideal S1024x4104 .f32) slices_S1024x4104_S1024x8_0_2048)
      (sitofp .f32 (constantI S_ 32 0#32)) pads_S1024x8_S1024x128_000_01200 h_S_ : FVec Ideal S1024x128 .f32) := by
    entry_read
    rfl
  rw [e]
  pointwise
  split
  · rfl
  · exact zero_word (u := S_) (t := .f32) (fun a => a.elim0)

theorem v12 (c : Dev nD) (r : Fin 16896) (k : Fin 1024) : V m c main_v12 (ix2 r k) =
    pr (fun b i l => val_main_v2 (F := Ideal) (m ((c : Thread nD τ).loc main_arg0)) (m ((c : Thread nD τ).loc main_arg1)) (ix3 b i l)) r k := by
  have e : V m c main_v12 = (shapeCast S16896x1024 (concatenate S2x8448x1024 1 [⟨S2x48x1024, broadcastInDim S2x48x1024 ![] bcast_S_S2x48x1024 (constant S_ .f32 0x00000000#32)⟩,
      ⟨S2x16x1024, broadcastInDim S2x16x1024 ![0, 1, 2] bcast_S1x16x1024_S2x16x1024_0_1_2 (broadcastInDim S1x16x1024 ![1, 2] bcast_S16x1024_S1x16x1024_1_2 (m ((c : Thread nD τ).loc main_arg1) : FVec Ideal S16x1024 .f32))⟩,
      ⟨S2x8192x1024, (m ((c : Thread nD τ).loc main_arg0) : FVec Ideal S2x8192x1024 .f32)⟩,
      ⟨S2x192x1024, broadcastInDim S2x192x1024 ![] bcast_S_S2x192x1024 (constant S_ .f32 0x00000000#32)⟩] concatenates_S2x48x1024_S2x16x1024_S2x8192x1024_S2x192x1024_S2x8448x1024_d1)
      shapeCasts_S2x8448x1024_S16896x1024 : FVec Ideal S16896x1024 .f32) := by
    entry_read
    rfl
  have hr := r.isLt
  rw [e, shapeCast_apply _ _ (ix2 r k) (ix3 ⟨r.val / 8448, by omega⟩ ⟨r.val % 8448, by omega⟩ k) (by
    rw [Shape.rowMajor_val_three, Shape.rowMajor_val_two]
    show (r.val / 8448 * 8448 + r.val % 8448) * 1024 + k.val = r.val * 1024 + k.val
    rw [Nat.div_add_mod'])]
  pointwise
  unfold pr val_main_v2 val_main_v1 val_main_v0
  pointwise
  by_cases h1 : r.val % 8448 < 48
  · rw [dif_pos h1, dif_neg (by omega)]
  · rw [dif_neg h1]
    by_cases h2 : r.val % 8448 - 48 < 16
    · rw [dif_pos h2, dif_pos (by omega), dif_pos h2]
    · rw [dif_neg h2]
      by_cases h3 : r.val % 8448 - 48 - 16 < 8192
      · rw [dif_pos h3, dif_pos (by omega), dif_neg h2]
      · rw [dif_neg h3, dif_neg (by omega)]

/-- The reference's row of numbers, before it is cut into the results. -/
theorem ref_u (x0 : FVec Ideal S2x8192x1024 .f32) (x1 : FVec Ideal S16x1024 .f32) (x2 : FVec Ideal S1024 .f32) (x3 : FVec Ideal S1024x4104 .f32) (b : Fin 2) (i : Fin 8208) (d : Fin 4104) :
    val_main_v16 (F := Ideal) x0 x1 x2 x3 (ix3 b i d) = ncol (fun l => val_main_v2 (F := Ideal) x0 x1 (ix3 b i l)) (fun l => x2 (ix1 l)) fun k => x3 (ix2 k d) := by
  rw [val_main_v16_apply]
  unfold ncol
  refine Finset.sum_congr rfl fun k _ => ?_
  refine congrArg₂ (fun p q => p * x3 q) ?_ (eq_ix2 _)
  rw [show lidx_main_v16 (ix3 b i d) k = ix3 b i k from eq_ix3 _]
  unfold nrm nrs
  rw [val_main_v15_apply, val_main_v12_apply, val_main_v11_apply, val_main_v10_apply, val_main_v9_apply, val_main_v8_apply, val_main_v7_apply, val_main_v6_apply,
    val_main_v5_apply, val_main_v4_apply, val_main_v14_apply, val_main_v13_apply, val_main_cst_apply, val_main_cst_0_apply, val_main_cst_1_apply]
  have z : (FloatOps.ofBits (F := Ideal) .f32 0x00000000#32) = (0 : EReal) := Ideal.ofBits_zero_f32
  have e4 : ∀ l : Fin 1024, val_main_v3 (F := Ideal) x0 x1 (idx_main_v4 (idx_main_v5 (idx_main_v11 (ix3 b i k))) l) =
      val_main_v2 (F := Ideal) x0 x1 (ix3 b i l) * val_main_v2 (F := Ideal) x0 x1 (ix3 b i l) := by
    intro l
    rw [val_main_v3_apply, show idx_main_v4 (idx_main_v5 (idx_main_v11 (ix3 b i k))) l = ix3 b i l from eq_ix3 _]
    rfl
  rw [z, zero_add, Finset.sum_congr rfl fun l _ => e4 l, show idx_main_v13 (idx_main_v14 (ix3 b i k)) = ix1 k from eq_ix1 _]
  rfl

/-- The numbers that the norm and the weights give, between rows of zeros. -/
def uu (x0 : FVec Ideal S2x8192x1024 .f32) (x1 : FVec Ideal S16x1024 .f32) (x2 : FVec Ideal S1024 .f32) (x3 : FVec Ideal S1024x4104 .f32) (r : Fin 16896) (d : Fin 4104) : EReal :=
  pr (fun b i (d : Fin 4104) => val_main_v16 (F := Ideal) x0 x1 x2 x3 (ix3 b i d)) r d

theorem uu_eq (x0 : FVec Ideal S2x8192x1024 .f32) (x1 : FVec Ideal S16x1024 .f32) (x2 : FVec Ideal S1024 .f32) (x3 : FVec Ideal S1024x4104 .f32) (r : Fin 16896) (d : Fin 4104) :
    ncol (fun l => pr (fun b i l => val_main_v2 (F := Ideal) x0 x1 (ix3 b i l)) r l) (fun l => x2 (ix1 l)) (fun k => x3 (ix2 k d)) = uu x0 x1 x2 x3 r d := by
  unfold uu pr
  split
  · exact (ref_u _ _ _ _ _ _ _).symm
  · exact ncol_zero _ _ _ fun _ => rfl

end Cert.Proof.In
-- ==== Proof.In.Equation.lean ====
module

public import proofs.«01_k».proof.Proof.In.Host

/-! The input projection's two sides agree. -/

@[expose] public section
set_option maxRecDepth 16384
noncomputable section
namespace Cert.Proof.In
open Idealize.ShloMosaic Idealize.ShloMosaic.Pointwise Idealize.ShloMosaic.TcCoe Idealize.SL.Sem Cert.InprojIdeal Cert.InprojIdeal.Gen Cert.Proof.Pr
open Cert.InprojRefIdeal.Read

section Reference
variable (x0 : FVec Ideal S2x8192x1024 .f32) (x1 : FVec Ideal S16x1024 .f32) (x2 : FVec Ideal S1024 .f32) (x3 : FVec Ideal S1024x4104 .f32)

/-- A cut of the reference's numbers, padded. -/
theorem cut {n : ℕ} (y : Sq n) (p : Fin n → Fin 4104) (h : ∀ b i d, y b i d = val_main_v16 (F := Ideal) x0 x1 x2 x3 (ix3 b i (p d))) (r : Fin 16896) (d : Fin n) :
    pr y r d = uu x0 x1 x2 x3 r (p d) := by
  unfold uu pr
  split
  · exact h _ _ _
  · rfl

theorem ref30 (r : Fin 16896) (d : Fin 1536) : val_main_v30 (F := Ideal) x0 x1 x2 x3 (ix2 r d) = uu x0 x1 x2 x3 r (cl 0 (by decide) d) :=
  (padded (t := .f32) (val_main_v17 (F := Ideal) x0 x1 x2 x3) _ zero_word _ _ _ r d).trans
    (cut x0 x1 x2 x3 _ (cl 0 (by decide)) (fun b i d => (val_main_v17_apply (F := Ideal) x0 x1 x2 x3 _).trans (congrArg (val_main_v16 (F := Ideal) x0 x1 x2 x3)
      (funext fun a => Fin.ext (match a with | 0 => rfl | 1 => rfl | 2 => (Nat.zero_add _).symm)))) r d)

theorem ref32 (r : Fin 16896) (d : Fin 512) : val_main_v32 (F := Ideal) x0 x1 x2 x3 (ix2 r d) = uu x0 x1 x2 x3 r (cl 1536 (by decide) d) :=
  (padded (t := .f32) (val_main_v18 (F := Ideal) x0 x1 x2 x3) _ zero_word _ _ _ r d).trans
    (cut x0 x1 x2 x3 _ (cl 1536 (by decide)) (fun b i d => (val_main_v18_apply (F := Ideal) x0 x1 x2 x3 _).trans (congrArg (val_main_v16 (F := Ideal) x0 x1 x2 x3) (eq_ix3 _))) r d)

theorem ref36 (r : Fin 16896) (d : Fin 512) : val_main_v36 (F := Ideal) x0 x1 x2 x3 (ix2 r d) = uu x0 x1 x2 x3 r (cl 2568 (by decide) d) :=
  (padded (t := .f32) (val_main_v22 (F := Ideal) x0 x1 x2 x3) _ zero_word _ _ _ r d).trans
    (cut x0 x1 x2 x3 _ (cl 2568 (by decide)) (fun b i d => (val_main_v22_apply (F := Ideal) x0 x1 x2 x3 _).trans (congrArg (val_main_v16 (F := Ideal) x0 x1 x2 x3) (eq_ix3 _))) r d)

theorem ref38 (r : Fin 16896) (d : Fin 512) : val_main_v38 (F := Ideal) x0 x1 x2 x3 (ix2 r d) = uu x0 x1 x2 x3 r (cl 3080 (by decide) d) :=
  (padded (t := .f32) (val_main_v23 (F := Ideal) x0 x1 x2 x3) _ zero_word _ _ _ r d).trans
    (cut x0 x1 x2 x3 _ (cl 3080 (by decide)) (fun b i d => (val_main_v23_apply (F := Ideal) x0 x1 x2 x3 _).trans (congrArg (val_main_v16 (F := Ideal) x0 x1 x2 x3) (eq_ix3 _))) r d)

theorem ref40 (r : Fin 16896) (d : Fin 512) : val_main_v40 (F := Ideal) x0 x1 x2 x3 (ix2 r d) = uu x0 x1 x2 x3 r (cl 3592 (by decide) d) :=
  (padded (t := .f32) (val_main_v24 (F := Ideal) x0 x1 x2 x3) _ zero_word _ _ _ r d).trans
    (cut x0 x1 x2 x3 _ (cl 3592 (by decide)) (fun b i d => (val_main_v24_apply (F := Ideal) x0 x1 x2 x3 _).trans (congrArg (val_main_v16 (F := Ideal) x0 x1 x2 x3) (eq_ix3 _))) r d)

/-- The scaled cut. -/
theorem ref34 (r : Fin 16896) (d : Fin 512) : val_main_v34 (F := Ideal) x0 x1 x2 x3 (ix2 r d) = uu x0 x1 x2 x3 r (cl 2056 (by decide) d) * qs := by
  refine (padded (t := .f32) (val_main_v26 (F := Ideal) x0 x1 x2 x3) _ zero_word _ _ _ r d).trans ?_
  unfold uu pr
  split
  · beta_reduce
    rw [val_main_v26_apply, val_main_v21_apply, val_main_v25_apply, val_main_cst_2_apply]
    refine congrArg (fun q => val_main_v16 (F := Ideal) x0 x1 x2 x3 q * qs) (eq_ix3 _)
  · exact (zero_mul _).symm

/-- The two cuts of four columns each, between columns of zeros. -/
theorem ref42 (r : Fin 16896) (d : Fin 128) : val_main_v42 (F := Ideal) x0 x1 x2 x3 (ix2 r d) =
    if h : d.val < 8 then uu x0 x1 x2 x3 r ⟨2048 + d.val, by omega⟩ else (0 : EReal) := by
  refine (padded (t := .f32) (val_main_v28 (F := Ideal) x0 x1 x2 x3) _ zero_word _ _ _ r d).trans ?_
  have e : ∀ (b : Fin 2) (i : Fin 8208), val_main_v28 (F := Ideal) x0 x1 x2 x3 (ix3 b i d) =
      if h : d.val < 8 then val_main_v16 (F := Ideal) x0 x1 x2 x3 (ix3 b i ⟨2048 + d.val, by omega⟩) else (0 : EReal) := by
    intro b i
    unfold val_main_v28 val_main_v27 val_main_v19 val_main_v20
    generalize val_main_v16 (F := Ideal) x0 x1 x2 x3 = u
    pointwise
    by_cases h : d.val < 8
    · rw [dif_pos h, dif_pos h]
      by_cases h4 : d.val < 4
      · rw [dif_pos h4]
      · rw [dif_neg h4]
        exact congrArg (fun q => u (ix3 b i q)) (Fin.ext (by show 2052 + (d.val - 4) = 2048 + d.val; omega))
    · rw [dif_neg h, dif_neg h]
      exact zero_word (u := S_) (t := .f32) (fun a => a.elim0)
  unfold uu pr
  split
  · exact e _ _
  · split <;> rfl

end Reference

section Arrays
variable (m : (ℓ : Loc nD τ sig) → Buf (Elt Ideal) ℓ) (c : Dev nD) (x0 : FVec Ideal S2x8192x1024 .f32) (x1 : FVec Ideal S16x1024 .f32) (x2 : FVec Ideal S1024 .f32) (x3 : FVec Ideal S1024x4104 .f32)
variable (h0 : m ((c : Thread nD τ).loc main_arg0) = x0) (h1 : m ((c : Thread nD τ).loc main_arg1) = x1) (h2 : m ((c : Thread nD τ).loc main_arg2) = x2) (h3 : m ((c : Thread nD τ).loc main_arg3) = x3)
include h0 h1 h2 h3

/-- A product of the normalised rows with columns of the weights. -/
theorem prod_uu {n : ℕ} (f : Fin n → Fin 1024 → EReal) (d : Fin n) (q : Fin 4104) (hf : ∀ k, f d k = x3 (ix2 k q)) (r : Fin 16896) :
    prod (V m c main_v12) (V m c main_v6) f (ix2 r d) = uu x0 x1 x2 x3 r q := by
  subst h0 h1 h2 h3
  refine Eq.trans ?_ (uu_eq _ _ _ _ r q)
  show ncol (fun l => V m c main_v12 (ix2 r l)) (fun l => V m c main_v6 (ix2 0 l)) (f d) = _
  rw [funext fun l => v12 m c r l, funext fun l => v6 m c l, funext hf]

theorem wide {n : ℕ} (o q : ℕ) (h : o + n ≤ 4096) (hq : q + n ≤ 4104) (ho : ∀ d < n, (if o + d < 2048 then o + d else o + d + 8) = q + d) (r : Fin 16896) (d : Fin n) :
    prod (V m c main_v12) (V m c main_v6) (wc (V m c main_v3) o h) (ix2 r d) = uu x0 x1 x2 x3 r (cl q hq d) := by
  refine prod_uu m c x0 x1 x2 x3 h0 h1 h2 h3 _ d (cl q hq d) (fun k => ?_) r
  refine (v3 m c k _).trans ?_
  rw [h3]
  exact congrArg (fun p => x3 (ix2 k p)) (Fin.ext (ho d.val d.isLt))

theorem eq4 : (dats m 0 c).arrAt 4 cfg0.N = val_main_v30 (F := Ideal) x0 x1 x2 x3 := by
  rw [arr4]
  funext j
  obtain ⟨r, d, rfl⟩ : ∃ (r : Fin 16896) (d : Fin 1536), j = ix2 r d := ⟨j 0, j 1, eq_ix2 j⟩
  rw [ref30]
  exact wide m c x0 x1 x2 x3 h0 h1 h2 h3 0 0 _ _ (fun d hd => by rw [if_pos (by omega)]) r d

theorem eq5 : (dats m 0 c).arrAt 5 cfg0.N = val_main_v32 (F := Ideal) x0 x1 x2 x3 := by
  rw [arr5]
  funext j
  obtain ⟨r, d, rfl⟩ : ∃ (r : Fin 16896) (d : Fin 512), j = ix2 r d := ⟨j 0, j 1, eq_ix2 j⟩
  rw [ref32]
  exact wide m c x0 x1 x2 x3 h0 h1 h2 h3 1536 1536 _ _ (fun d hd => by rw [if_pos (by omega)]) r d

theorem eq6 : (dats m 0 c).arrAt 6 cfg0.N = val_main_v43 (F := Ideal) x0 x1 x2 x3 := by
  rw [arr6]
  funext j
  obtain ⟨r, d, rfl⟩ : ∃ (r : Fin 16896) (d : Fin 512), j = ix2 r d := ⟨j 0, j 1, eq_ix2 j⟩
  refine Eq.trans ?_ (ref34 x0 x1 x2 x3 r d).symm
  exact congrArg (· * qs) (wide m c x0 x1 x2 x3 h0 h1 h2 h3 2048 2056 _ _ (fun d hd => by rw [if_neg (by omega)]; omega) r d)

theorem eq7 : (dats m 0 c).arrAt 7 cfg0.N = val_main_v36 (F := Ideal) x0 x1 x2 x3 := by
  rw [arr7]
  funext j
  obtain ⟨r, d, rfl⟩ : ∃ (r : Fin 16896) (d : Fin 512), j = ix2 r d := ⟨j 0, j 1, eq_ix2 j⟩
  rw [ref36]
  exact wide m c x0 x1 x2 x3 h0 h1 h2 h3 2560 2568 _ _ (fun d hd => by rw [if_neg (by omega)]; omega) r d

theorem eq8 : (dats m 0 c).arrAt 8 cfg0.N = val_main_v38 (F := Ideal) x0 x1 x2 x3 := by
  rw [arr8]
  funext j
  obtain ⟨r, d, rfl⟩ : ∃ (r : Fin 16896) (d : Fin 512), j = ix2 r d := ⟨j 0, j 1, eq_ix2 j⟩
  rw [ref38]
  exact wide m c x0 x1 x2 x3 h0 h1 h2 h3 3072 3080 _ _ (fun d hd => by rw [if_neg (by omega)]; omega) r d

theorem eq9 : (dats m 0 c).arrAt 9 cfg0.N = val_main_v40 (F := Ideal) x0 x1 x2 x3 := by
  rw [arr9]
  funext j
  obtain ⟨r, d, rfl⟩ : ∃ (r : Fin 16896) (d : Fin 512), j = ix2 r d := ⟨j 0, j 1, eq_ix2 j⟩
  rw [ref40]
  exact wide m c x0 x1 x2 x3 h0 h1 h2 h3 3584 3592 _ _ (fun d hd => by rw [if_neg (by omega)]; omega) r d

/-- The columns computed from two halves: the norm's scale and these columns of the weights are real. -/
theorem eq10 (hg : ∀ k : Fin 1024, ∃ y : ℝ, x2 (ix1 k) = (y : EReal)) (hw : ∀ (k : Fin 1024) (d : Fin 8), ∃ y : ℝ, x3 (ix2 k (cl 2048 (by decide) d)) = (y : EReal)) :
    (dats m 0 c).arrAt 10 cfg0.N = val_main_v42 (F := Ideal) x0 x1 x2 x3 := by
  rw [arr10 m c (fun k => by rw [v6, h2]; exact hg k) (fun k d => by
    rw [v5, h3]
    split
    · rename_i h
      exact hw k ⟨d.val, h⟩
    · exact ⟨0, EReal.coe_zero.symm⟩)]
  funext j
  obtain ⟨r, d, rfl⟩ : ∃ (r : Fin 16896) (d : Fin 128), j = ix2 r d := ⟨j 0, j 1, eq_ix2 j⟩
  rw [ref42]
  by_cases h : d.val < 8
  · rw [dif_pos h]
    exact prod_uu m c x0 x1 x2 x3 h0 h1 h2 h3 _ d _ (fun k => by rw [v5, h3, dif_pos h]) r
  · rw [dif_neg h]
    show ncol _ _ (fun k => V m c main_v5 (ix2 k d)) = 0
    unfold ncol
    refine Finset.sum_eq_zero fun k _ => ?_
    refine (congrArg (fun q => _ * q) ((v5 m c k d).trans (dif_neg h))).trans ?_
    exact mul_zero _

theorem eq11 : (dats m 0 c).arrAt 11 cfg0.N = val_main_v44 (F := Ideal) x0 x1 x2 x3 := by
  rw [arr11, ← arr7]
  exact eq7 m c x0 x1 x2 x3 h0 h1 h2 h3

theorem eq12 : (dats m 0 c).arrAt 12 cfg0.N = val_main_v45 (F := Ideal) x0 x1 x2 x3 := by
  rw [arr12, ← arr8]
  exact eq8 m c x0 x1 x2 x3 h0 h1 h2 h3

end Arrays

end Cert.Proof.In
-- ==== Proof.In.Real.lean ====
module

public import proofs.«01_k».proof.Pre_real_ba_weights
public import proofs.«01_k».proof.Proof.In.Equation
public import proofs.«01_k».proof.Proof.Sb.Real

/-! What the precondition says: the norm's scale and eight columns of the weights are real numbers. -/

@[expose] public section
noncomputable section
namespace Cert.Proof.In
open Cert.Pre_real_ba_weights Idealize.ShloMosaic Idealize.ShloMosaic.Pointwise

/-- The shape facts of the precondition. -/
theorem preFacts : Cert.Pre_real_ba_weights.Facts where
  bcast_S_S1024 := ⟨fun a => a.elim0, fun a => a.elim0⟩
  slices_S1024x4104_S1024x8_0_2048 := Cert.InprojIdeal.Gen.slices_S1024x4104_S1024x8_0_2048
  bcast_S_S1024x8 := ⟨fun a => a.elim0, fun a => a.elim0⟩

variable [Cert.Pre_real_ba_weights.Facts]

theorem reals (x0 : FVec Ideal S2x8192x1024 .f32) (x1 : FVec Ideal S16x1024 .f32) (x2 : FVec Ideal S1024 .f32) (x3 : FVec Ideal S1024x4104 .f32)
    (h : (fn (F := Ideal) x0 x1 x2 x3).1 = (fun _ => 1#1) ∧ (fn (F := Ideal) x0 x1 x2 x3).2 = (fun _ => 1#1)) :
    (∀ k : Fin 1024, ∃ y : ℝ, x2 (ix1 k) = (y : EReal)) ∧ ∀ (k : Fin 1024) (d : Fin 8), ∃ y : ℝ, x3 (ix2 k (cl 2048 (by decide) d)) = (y : EReal) := by
  refine ⟨fun k => ⟨_, Sb.real_of_lt (x2 (ix1 k)) (congrFun h.1 (ix1 k))⟩, fun k d => ?_⟩
  have s : extractStridedSlice S1024x8 ![0, 2048] x3 Facts.slices_S1024x4104_S1024x8_0_2048 (ix2 k d) = x3 (ix2 k (cl 2048 (by decide) d)) := by
    pointwise
    rfl
  have e : FloatOps.cmpf .olt (FloatOps.hostAbsf (extractStridedSlice S1024x8 ![0, 2048] x3 Facts.slices_S1024x4104_S1024x8_0_2048 (ix2 k d)))
      (FloatOps.ofBits (F := Ideal) .f32 0x7F800000#32) = 1#1 := congrFun h.2 (ix2 k d)
  rw [s] at e
  exact ⟨_, Sb.real_of_lt _ e⟩

end Cert.Proof.In
-- ==== Proof.Op.Array.lean ====
module

public import proofs.«01_k».proof.Proof.Gen.OutprojIdeal.Frame
public import proofs.«01_k».proof.Proof.Pr.Rows
public import Idealize.ShloMosaic.Lib.Pipeline.Covers
public import Idealize.ShloMosaic.Lib.Pipeline.ValueKit

/-! The output projection's result array, as a function of the arrays the region finds. -/

@[expose] public section
set_option maxRecDepth 16384
noncomputable section
namespace Cert.Proof.Op
open Idealize.ShloMosaic Idealize.ShloMosaic.Pointwise Idealize.ShloMosaic.TcCoe Idealize.SL.Sem Cert.OutprojIdeal Cert.OutprojIdeal.Gen Cert.Proof.Pr

theorem idx0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ)

theorem iblk0 (c : Dev nD) (t : Fin cfg0.N) : iblk m c 0 t = blk (t := .f32) (V m c main_v1) t.val := by
  funext j
  refine blk_at (t := .f32) (V m c main_v1) t.val j (((cfg0.win 0).blk t).view.emb j) ?_ ?_
  · show win0_0.index t 0 * 512 + 1 * (j 0).val = 512 * t.val + (j 0).val
    rw [(idx0 t).1]; show t.val * 512 + 1 * (j 0).val = _; omega
  · show win0_0.index t 1 * 1024 + 1 * (j 1).val = (j 1).val
    rw [(idx0 t).1]; show 0 * 1024 + 1 * (j 1).val = _; omega

theorem iblk1 (c : Dev nD) (t : Fin cfg0.N) : iblk m c 1 t = blk (t := .bf16) (V m c main_v4) t.val := by
  funext j
  refine blk_at (t := .bf16) (V m c main_v4) t.val j (((cfg0.win 1).blk t).view.emb j) ?_ ?_
  · show win0_1.index t 0 * 512 + 1 * (j 0).val = 512 * t.val + (j 0).val
    rw [(idx0 t).2.1]; show t.val * 512 + 1 * (j 0).val = _; omega
  · show win0_1.index t 1 * 1024 + 1 * (j 1).val = (j 1).val
    rw [(idx0 t).2.1]; show 0 * 1024 + 1 * (j 1).val = _; omega

theorem iblk2 (c : Dev nD) (t : Fin cfg0.N) : iblk m c 2 t = V m c main_v5 := by
  funext j
  show V m c main_v5 (((cfg0.win 2).blk t).view.emb j) = V m c main_v5 j
  refine congrArg (V m c main_v5) (funext fun a => Fin.ext ?_)
  match a with
  | 0 => show win0_2.index t 0 * 1024 + 1 * (j 0).val = (j 0).val; rw [(idx0 t).2.2.1]; show 0 * 1024 + 1 * (j 0).val = (j 0).val; omega
  | 1 => show win0_2.index t 1 * 1024 + 1 * (j 1).val = (j 1).val; rw [(idx0 t).2.2.1]; show 0 * 1024 + 1 * (j 1).val = (j 1).val; omega

/-- A block of the result. -/
def bo (h : FVec Ideal S512x1024 .f32) (o : FVec Ideal S512x1024 .bf16) (w : FVec Ideal S1024x1024 .bf16) : FVec Ideal S512x1024 .f32 := fun y =>
  h y + ∑ k : Fin 1024, o (ix2 (y 0) k) * w (ix2 k (y 1))

theorem emb0 (j : S512x1024.Idx) : r0_0.emb j = j := by
  refine funext fun a => Fin.ext ?_
  match a with
  | 0 => show 0 + 1 * (j 0).val = (j 0).val; omega
  | 1 => show 0 + 1 * (j 1).val = (j 1).val; omega

theorem ld0 {t : EltTy} (x : Vec Ideal S512x1024 t) : View.ld x r0_0 = x :=
  funext fun j => congrArg x (emb0 j)

theorem ld1 (x : Vec Ideal S1024x1024 .bf16) : View.ld x r0_1 = x := by
  funext j
  refine congrArg x (funext fun a => Fin.ext ?_)
  match a with
  | 0 => show 0 + 1 * (j 0).val = (j 0).val; omega
  | 1 => show 0 + 1 * (j 1).val = (j 1).val; omega

theorem pay (h : FVec Ideal S512x1024 .f32) (o : FVec Ideal S512x1024 .bf16) (w : FVec Ideal S1024x1024 .bf16) : k0_pay1 (F := Ideal) h o w = bo h o w := by
  funext y
  rw [eq_ix2 y]
  unfold bo
  pointwise [k0_pay1]

theorem out_eq (h : FVec Ideal S512x1024 .f32) (o : FVec Ideal S512x1024 .bf16) (w : FVec Ideal S1024x1024 .bf16) : out0_3 (F := Ideal) h o w = bo h o w := by
  unfold out0_3
  rw [ld0, ld0, ld1, pay]
  funext y
  refine View.canon_apply_of_pieces (Val := Elt Ideal) (bo h o w) _ ?_ y (cover0_3 _ y)
  intro pc hpc
  rcases List.mem_cons.mp hpc with rfl | hpc
  · exact fun x => congrArg (bo h o w) (emb0 x).symm
  nomatch hpc

theorem arr (c : Dev nD) : (dats m 0 c).arrAt 3 cfg0.N =
    unblk (t := .f32) fun n => bo (blk (t := .f32) (V m c main_v1) n) (blk (t := .bf16) (V m c main_v4) n) (V m c main_v5) := by
  refine (dats m 0 c).arrAt_eq_of_covers 3 _ (by decide +kernel) fun t hf y => ?_
  rw [after0_3, iblk0, iblk1, iblk2, out_eq]
  refine unblk_at (t := .f32) (fun n => bo (blk (t := .f32) (V m c main_v1) n) (blk (t := .bf16) (V m c main_v4) n) (V m c main_v5)) t.val ((cfg0.win 3).xinj (cfg0.grid.coords t) y) _ ?_ ?_
  · show win0_3.index t 0 * 512 + 1 * (y 0).val = 512 * t.val + (y 0).val
    rw [(idx0 t).2.2.2]; show t.val * 512 + 1 * (y 0).val = _; omega
  · show win0_3.index t 1 * 1024 + 1 * (y 1).val = (y 1).val
    rw [(idx0 t).2.2.2]; show 0 * 1024 + 1 * (y 1).val = _; omega

theorem v1 (c : Dev nD) (r : Fin 16896) (k : Fin 1024) : V m c main_v1 (ix2 r k) =
    pr (fun b i k => (m ((c : Thread nD τ).loc main_arg0) : FVec Ideal S2x8208x1024 .f32) (ix3 b i k)) r k := by
  have e : V m c main_v1 = (shapeCast S16896x1024 (pad S2x8448x1024 ![0, 48, 0] ![0, 192, 0] ![0, 0, 0] (m ((c : Thread nD τ).loc main_arg0) : FVec Ideal S2x8208x1024 .f32)
      (sitofp .f32 (constantI S_ 32 0#32)) pads_S2x8208x1024_S2x8448x1024_000_481920_000 h_S_) shapeCasts_S2x8448x1024_S16896x1024 : FVec Ideal S16896x1024 .f32) := by
    entry_read
    rfl
  rw [e]
  exact padded _ _ zero_word _ _ _ r k

theorem v4 (c : Dev nD) (r : Fin 16896) (k : Fin 1024) : V m c main_v4 (ix2 r k) =
    pr (fun b i k => (m ((c : Thread nD τ).loc main_arg1) : FVec Ideal S2x8208x1024 .f32) (ix3 b i k)) r k := by
  have e : V m c main_v4 = (truncf .bf16 (shapeCast S16896x1024 (pad S2x8448x1024 ![0, 48, 0] ![0, 192, 0] ![0, 0, 0] (m ((c : Thread nD τ).loc main_arg1) : FVec Ideal S2x8208x1024 .f32)
      (sitofp .f32 (constantI S_ 32 0#32)) pads_S2x8208x1024_S2x8448x1024_000_481920_000 h_S_) shapeCasts_S2x8448x1024_S16896x1024) bitsLt_bf16_f32 : FVec Ideal S16896x1024 .bf16) := by
    entry_read
    rfl
  rw [e]
  exact padded (t := .f32) (m ((c : Thread nD τ).loc main_arg1)) _ zero_word pads_S2x8208x1024_S2x8448x1024_000_481920_000 h_S_ shapeCasts_S2x8448x1024_S16896x1024 r k

theorem v5 (c : Dev nD) (a b : Fin 1024) : V m c main_v5 (ix2 a b) = (m ((c : Thread nD τ).loc main_arg2) : FVec Ideal S1024x1024 .f32) (ix2 a b) := by
  have e : V m c main_v5 = (truncf .bf16 (m ((c : Thread nD τ).loc main_arg2) : FVec Ideal S1024x1024 .f32) bitsLt_bf16_f32 : FVec Ideal S1024x1024 .bf16) := by
    entry_read
    rfl
  rw [e]
  rfl

end Cert.Proof.Op
-- ==== Proof.Op.Equation.lean ====
module

public import proofs.«01_k».proof.Proof.Op.Array
public import proofs.«01_k».proof.Proof.Gen.OutprojRefIdeal.Read

/-! The output projection's two sides agree. -/

@[expose] public section
set_option maxRecDepth 16384
noncomputable section
namespace Cert.Proof.Op
open Idealize.ShloMosaic Idealize.ShloMosaic.Pointwise Idealize.ShloMosaic.TcCoe Idealize.SL.Sem Cert.OutprojIdeal Cert.OutprojIdeal.Gen Cert.Proof.Pr

variable (m : (ℓ : Loc nD τ sig) → Buf (Elt Ideal) ℓ)

theorem ref_row (x0 x1 : FVec Ideal S2x8208x1024 .f32) (x2 : FVec Ideal S1024x1024 .f32) (r : Fin 16896) (k : Fin 1024) :
    Cert.OutprojRefIdeal.Read.val_main_v3 (F := Ideal) x0 x1 x2 (ix2 r k) =
      pr (fun b i c => x0 (ix3 b i c) + ∑ k : Fin 1024, x1 (ix3 b i k) * x2 (ix2 k c)) r k := by
  refine (padded (t := .f32) (Cert.OutprojRefIdeal.Read.val_main_v1 (F := Ideal) x0 x1 x2) _ zero_word _ _ _ r k).trans ?_
  refine congrArg (fun f => pr f r k) (funext fun b => funext fun i => funext fun c => ?_)
  rw [Cert.OutprojRefIdeal.Read.val_main_v1_apply, Cert.OutprojRefIdeal.Read.val_main_v0_apply]
  refine congrArg (fun t => x0 (ix3 b i c) + t) (Finset.sum_congr rfl fun k _ => ?_)
  refine congrArg₂ (fun p q => x1 p * x2 q) ?_ ?_
  · exact eq_ix3 _
  · exact eq_ix2 _

theorem array_eq (c : Dev nD) (x0 x1 : FVec Ideal S2x8208x1024 .f32) (x2 : FVec Ideal S1024x1024 .f32)
    (h0 : m ((c : Thread nD τ).loc main_arg0) = x0) (h1 : m ((c : Thread nD τ).loc main_arg1) = x1) (h2 : m ((c : Thread nD τ).loc main_arg2) = x2) :
    (dats m 0 c).arrAt 3 cfg0.N = Cert.OutprojRefIdeal.Read.val_main_v3 (F := Ideal) x0 x1 x2 := by
  subst h0 h1 h2
  rw [arr]
  funext j
  obtain ⟨r, k, rfl⟩ : ∃ (r : Fin 16896) (k : Fin 1024), j = ix2 r k := ⟨j 0, j 1, eq_ix2 j⟩
  rw [ref_row]
  show blk (t := .f32) (V m c main_v1) (r.val / 512) (ix2 ⟨r.val % 512, _⟩ k) + ∑ l : Fin 1024, blk (t := .bf16) (V m c main_v4) (r.val / 512) (ix2 ⟨r.val % 512, _⟩ l) * V m c main_v5 (ix2 l k) = _
  rw [blk_row, v1]
  have e : ∀ l : Fin 1024, blk (t := .bf16) (V m c main_v4) (r.val / 512) (ix2 ⟨r.val % 512, Nat.mod_lt _ (by decide)⟩ l) * V m c main_v5 (ix2 l k) =
      pr (fun b i k => (m ((c : Thread nD τ).loc main_arg1) : FVec Ideal S2x8208x1024 .f32) (ix3 b i k)) r l * (m ((c : Thread nD τ).loc main_arg2) : FVec Ideal S1024x1024 .f32) (ix2 l k) := by
    intro l
    rw [blk_row, v4, v5]
  rw [Finset.sum_congr rfl fun l _ => e l]
  unfold pr
  split
  · rfl
  · simp
end Cert.Proof.Op
-- ==== Proof.Mi.Rows.lean ====
module

public import proofs.«01_k».proof.Proof.Pr.Rows
public import proofs.«01_k».proof.Proof.Pr.Norm
public import proofs.«01_k».proof.Proof.In.Payload
public import proofs.«01_k».proof.Proof.Sb.Value

/-! What the call between the two layers makes of one row: the next hidden state, and from its norm the queries, keys, values and the gate. -/

@[expose] public section
noncomputable section
namespace Cert.Proof.Mi
open Idealize.ShloMosaic Cert.Proof.Pr
open Cert.Proof.In (cl)

/-- The column `d` of the group of 64 columns that `c` lies in. -/
def sg {n : ℕ} (c : Fin n) (d : Fin 64) : Fin n := ⟨(64 * (c.val / 64) + d.val) % n, Nat.mod_lt _ (by have := c.isLt; omega)⟩

/-- The norm of a group of 64 columns. -/
def hn {n : ℕ} (u s : Fin n → EReal) (c : Fin n) : EReal :=
  u c * Ideal.rsqrt (Ideal.div (∑ d : Fin 64, u (sg c d) * u (sg c d)) (FloatOps.ofBits (F := Ideal) .f32 0x42800000#32) + FloatOps.ofBits (F := Ideal) .f32 0x358637BD#32) * s c

theorem hn_zero {n : ℕ} (u s : Fin n → EReal) (h : ∀ c, u c = 0) (c : Fin n) : hn u s c = 0 := by
  rw [hn, h, zero_mul, zero_mul]

/-- A sum of 256 numbers of which only those of one group count. -/
theorem group_sum (f : Fin 256 → EReal) (c : Fin 256) :
    (∑ l : Fin 256, f l * (if l.val / 64 = c.val / 64 then (1 : EReal) else 0)) = ∑ d : Fin 64, f (sg c d) := by
  have hc := c.isLt
  have e : ∀ l : Fin 256, f l * (if l.val / 64 = c.val / 64 then (1 : EReal) else 0) = if l.val / 64 = c.val / 64 then f l else 0 := by
    intro l
    split
    · exact mul_one _
    · exact mul_zero _
  rw [Finset.sum_congr rfl fun l _ => e l, ← Finset.sum_filter]
  symm
  refine Finset.sum_bij (fun d _ => sg c d) (fun d _ => ?_) (fun d _ d' _ h => ?_) (fun l hl => ?_) fun d _ => rfl
  · have hd := d.isLt
    rw [Finset.mem_filter]
    refine ⟨Finset.mem_univ _, ?_⟩
    show (64 * (c.val / 64) + d.val) % 256 / 64 = c.val / 64
    omega
  · have hd := d.isLt
    have hd' := d'.isLt
    have h2 : (64 * (c.val / 64) + d.val) % 256 = (64 * (c.val / 64) + d'.val) % 256 := congrArg Fin.val h
    exact Fin.ext (by omega)
  · have h1 : l.val / 64 = c.val / 64 := (Finset.mem_filter.1 hl).2
    have h2 := l.isLt
    refine ⟨⟨l.val % 64, Nat.mod_lt _ (by decide)⟩, Finset.mem_univ _, Fin.ext ?_⟩
    show (64 * (c.val / 64) + l.val % 64) % 256 = l.val
    omega

/-- A group's mean square: the product with the table of groups, of the squares and of what the squares leave. -/
theorem group_mean {n : ℕ} (u : Fin n → EReal) (hu : ∀ c, ∃ y : ℝ, u c = (y : EReal)) (p : Fin 256 → Fin n) (t : Fin 256 → EReal) (c : Fin 256)
    (ht : ∀ l : Fin 256, t l = if l.val / 64 = c.val / 64 then (1 : EReal) else 0) (hp : ∀ d, p (sg c d) = sg (p c) d) :
    ((∑ l : Fin 256, u (p l) * u (p l) * t l) + ∑ l : Fin 256, (u (p l) * u (p l) - u (p l) * u (p l)) * t l) * FloatOps.ofBits (F := Ideal) .f32 0x3C800000#32 =
      Ideal.div (∑ d : Fin 64, u (sg (p c) d) * u (sg (p c) d)) (FloatOps.ofBits (F := Ideal) .f32 0x42800000#32) := by
  have e2 : (∑ l : Fin 256, (u (p l) * u (p l) - u (p l) * u (p l)) * t l) = 0 := Finset.sum_eq_zero fun l _ => by
    obtain ⟨y, hy⟩ := hu (p l)
    rw [rest_zero _ ⟨y * y, by rw [hy, EReal.coe_mul]⟩, zero_mul]
  have e1 : (∑ l : Fin 256, u (p l) * u (p l) * t l) = ∑ d : Fin 64, u (sg (p c) d) * u (sg (p c) d) := by
    rw [Finset.sum_congr rfl fun l _ => congrArg (fun q => u (p l) * u (p l) * q) (ht l)]
    rw [group_sum (fun l => u (p l) * u (p l)) c]
    exact Finset.sum_congr rfl fun d _ => by rw [hp]
  rw [e1, e2, add_zero, word_64, word_64th, Ideal.div_coe (by norm_num)]

variable (wa wb : Fin 512 → Fin 1024 → EReal) (g : Fin 1024 → EReal) (w : Fin 1024 → Fin 2560 → EReal) (qn : Fin 1024 → EReal) (kn : Fin 256 → EReal)
variable (f : Fin 1024 → EReal) (a b : Fin 512 → EReal)

/-- The next hidden state. -/
def rH (c : Fin 1024) : EReal := f c + (∑ k : Fin 512, a k * wa k c) + ∑ k : Fin 512, b k * wb k c

/-- Its norm times the weights. -/
def rU (d : Fin 2560) : EReal := ncol (rH wa wb f a b) g fun k => w k d

/-- The queries. -/
def rQ : Fin 1024 → EReal := hn (fun c => rU wa wb g w f a b (cl 0 (by decide) c)) qn

/-- The keys. -/
def rK : Fin 256 → EReal := hn (fun c => rU wa wb g w f a b (cl 1024 (by decide) c)) kn

/-- The values. -/
def rV (c : Fin 256) : EReal := rU wa wb g w f a b (cl 1280 (by decide) c)

/-- The gate. -/
def rG (c : Fin 1024) : EReal := Sb.gate (rU wa wb g w f a b (cl 1536 (by decide) c))

theorem rH_zero (hf : ∀ k, f k = 0) (ha : ∀ k, a k = 0) (hb : ∀ k, b k = 0) (c : Fin 1024) : rH wa wb f a b c = 0 := by
  have e1 : (∑ k : Fin 512, a k * wa k c) = 0 := Finset.sum_eq_zero fun k _ => by rw [ha, zero_mul]
  have e2 : (∑ k : Fin 512, b k * wb k c) = 0 := Finset.sum_eq_zero fun k _ => by rw [hb, zero_mul]
  rw [rH, hf, e1, e2, add_zero, add_zero]

theorem rU_zero (hf : ∀ k, f k = 0) (ha : ∀ k, a k = 0) (hb : ∀ k, b k = 0) (d : Fin 2560) : rU wa wb g w f a b d = 0 :=
  ncol_zero _ _ _ (rH_zero wa wb f a b hf ha hb)

theorem rQ_zero (hf : ∀ k, f k = 0) (ha : ∀ k, a k = 0) (hb : ∀ k, b k = 0) (c : Fin 1024) : rQ wa wb g w qn f a b c = 0 :=
  hn_zero _ _ (fun _ => rU_zero wa wb g w f a b hf ha hb _) c

theorem rK_zero (hf : ∀ k, f k = 0) (ha : ∀ k, a k = 0) (hb : ∀ k, b k = 0) (c : Fin 256) : rK wa wb g w kn f a b c = 0 :=
  hn_zero _ _ (fun _ => rU_zero wa wb g w f a b hf ha hb _) c

theorem rG_zero (hf : ∀ k, f k = 0) (ha : ∀ k, a k = 0) (hb : ∀ k, b k = 0) (c : Fin 1024) : rG wa wb g w f a b c = 0 := by
  rw [rG, rU_zero wa wb g w f a b hf ha hb, Sb.gate_zero]

/-- Where the norm's scale and a column of the weights are real, that column of the product is real. -/
theorem rU_real (d : Fin 2560) (hg : ∀ k, ∃ y : ℝ, g k = (y : EReal)) (hw : ∀ k, ∃ y : ℝ, w k d = (y : EReal)) : ∃ y : ℝ, rU wa wb g w f a b d = (y : EReal) := by
  choose x hx using fun k => nrm_real (rH wa wb f a b) g k (hg k)
  choose y hy using hw
  refine ⟨∑ k, x k * y k, ?_⟩
  rw [coe_sum1]
  show (∑ k : Fin 1024, nrm (rH wa wb f a b) g k * w k d) = _
  refine Finset.sum_congr rfl fun k _ => ?_
  rw [hx, hy, EReal.coe_mul]

end Cert.Proof.Mi
-- ==== Proof.Mi.Payload.lean ====
module

public import proofs.«01_k».proof.Proof.Gen.MidIdeal.Frame
public import proofs.«01_k».proof.Proof.Mi.Rows
public import Idealize.ShloMosaic.Lib.Pipeline.ValueKit

/-! What a grid point of the call between the layers computes, entry by entry. -/

@[expose] public section
set_option maxRecDepth 16384
noncomputable section
namespace Cert.Proof.Mi
open Idealize.ShloMosaic Idealize.ShloMosaic.Pointwise Idealize.ShloMosaic.TcCoe Idealize.SL.Sem Cert.MidIdeal Cert.MidIdeal.Gen Cert.Proof.Pr
open Cert.Proof.In (cl)

section Steps

/-- The next hidden state, a block. -/
def hb (x0 : FVec Ideal S512x1024 .f32) (x1 x2 : FVec Ideal S512x512 .f32) (x3 x4 : FVec Ideal S512x1024 .bf16) : FVec Ideal S512x1024 .f32 := fun y =>
  rH (fun k c => x3 (ix2 k c)) (fun k c => x4 (ix2 k c)) (fun l => x0 (ix2 (y 0) l)) (fun l => x1 (ix2 (y 0) l)) (fun l => x2 (ix2 (y 0) l)) (y 1)

theorem pay2 (x0 : FVec Ideal S512x1024 .f32) (x1 x2 : FVec Ideal S512x512 .f32) (x3 x4 : FVec Ideal S512x1024 .bf16) :
    k0_pay2 (F := Ideal) x0 x1 x3 x2 x4 = hb x0 x1 x2 x3 x4 := by
  funext y
  rw [eq_ix2 y]
  unfold hb rH
  pointwise [k0_pay2]

/-- A block's rows after the norm. -/
def xn (x : FVec Ideal S512x1024 .f32) (g : FVec Ideal S1x1024 .f32) : FVec Ideal S512x1024 .bf16 := fun j =>
  nrm (fun l => x (ix2 (j 0) l)) (fun l => g (ix2 0 l)) (j 1)

theorem pay3 (x0 : FVec Ideal S512x1024 .f32) (x1 x2 : FVec Ideal S512x512 .f32) (x3 x4 : FVec Ideal S512x1024 .bf16) (g : FVec Ideal S1x1024 .f32) :
    k0_pay3 (F := Ideal) x0 x1 x3 x2 x4 g = xn (hb x0 x1 x2 x3 x4) g := by
  unfold k0_pay3
  rw [pay2]
  generalize hb x0 x1 x2 x3 x4 = x
  funext y
  rw [eq_ix2 y]
  unfold xn nrm nrs
  pointwise

variable (x : FVec Ideal S512x1024 .bf16)

/-- Rows times columns. -/
def dt {n : ℕ} (w : FVec Ideal ⟨2, ![1024, n]⟩ .bf16) (i : Fin 512) (c : Fin n) : EReal := ∑ k : Fin 1024, x (ix2 i k) * w (ix2 k c)

theorem pay9 (w : FVec Ideal S1024x256 .bf16) (i : Fin 512) (c : Fin 256) : k0_pay9 (F := Ideal) x w (ix2 i c) = dt x w i c := by
  unfold dt
  pointwise [k0_pay9]

theorem pay11 (w : FVec Ideal S1024x1024 .bf16) (i : Fin 512) (c : Fin 1024) : k0_pay11 (F := Ideal) x w (ix2 i c) = dt x w i c := by
  unfold dt
  pointwise [k0_pay11]

theorem pay1 (w : FVec Ideal S1024x1024 .bf16) (i : Fin 512) (c : Fin 1024) :
    k0_pay1 (F := Ideal) (k0_pay11 x w) (k0_pay12 x w) (ix2 i c) = Sb.gate (dt x w i c) := by
  have e : k0_pay1 (F := Ideal) (k0_pay11 x w) (k0_pay12 x w) (ix2 i c) = Sb.gate (k0_pay11 (F := Ideal) x w (ix2 i c)) := by
    unfold k0_pay12
    generalize k0_pay11 (F := Ideal) x w = u
    unfold Sb.gate
    pointwise [k0_pay1]
  rw [e, pay11]

variable (s : FVec Ideal S256x256 .bf16) (hs : ∀ l c : Fin 256, s (ix2 l c) = if l.val / 64 = c.val / 64 then (1 : EReal) else 0)
include hs

theorem pay7 (w : FVec Ideal S1024x256 .bf16) (q : FVec Ideal S1x256 .f32) (i : Fin 512) (c : Fin 256) (hr : ∀ c, ∃ y : ℝ, dt x w i c = (y : EReal)) :
    k0_pay7 (F := Ideal) x s w q (ix2 i c) = hn (dt x w i) (fun c => q (ix2 0 c)) c := by
  have e : k0_pay7 (F := Ideal) x s w q (ix2 i c) = dt x w i c * Ideal.rsqrt (((∑ l : Fin 256, dt x w i l * dt x w i l * s (ix2 l c)) +
      ∑ l : Fin 256, (dt x w i l * dt x w i l - dt x w i l * dt x w i l) * s (ix2 l c)) * FloatOps.ofBits (F := Ideal) .f32 0x3C800000#32 +
      FloatOps.ofBits (F := Ideal) .f32 0x358637BD#32) * q (ix2 0 c) := by
    unfold dt
    pointwise [k0_pay7]
  rw [e]
  refine congrArg (fun z => dt x w i c * Ideal.rsqrt (z + FloatOps.ofBits (F := Ideal) .f32 0x358637BD#32) * q (ix2 0 c)) ?_
  exact group_mean (dt x w i) hr id (fun l => s (ix2 l c)) c (fun l => hs l c) fun d => rfl

/-- One of the four groups of 256 columns. -/
theorem quarter (w : FVec Ideal S1024x1024 .bf16) (i : Fin 512) (hr : ∀ c, ∃ y : ℝ, dt x w i c = (y : EReal)) (o : ℕ) (p : Fin 256 → Fin 1024) (hp : ∀ l, (p l).val = 256 * o + l.val)
    (d : Fin 256) (c : Fin 1024) (hc : c.val = 256 * o + d.val) :
    ((∑ l : Fin 256, dt x w i (p l) * dt x w i (p l) * s (ix2 l d)) + ∑ l : Fin 256, (dt x w i (p l) * dt x w i (p l) - dt x w i (p l) * dt x w i (p l)) * s (ix2 l d)) *
      FloatOps.ofBits (F := Ideal) .f32 0x3C800000#32 = Ideal.div (∑ d : Fin 64, dt x w i (sg c d) * dt x w i (sg c d)) (FloatOps.ofBits (F := Ideal) .f32 0x42800000#32) := by
  have e : p d = c := Fin.ext ((hp d).trans hc.symm)
  rw [← e]
  refine group_mean (dt x w i) hr p (fun l => s (ix2 l d)) d (fun l => hs l d) fun k => Fin.ext ((hp _).trans ?_)
  have h1 := d.isLt
  have h2 := k.isLt
  have h3 := c.isLt
  show 256 * o + (64 * (d.val / 64) + k.val) % 256 = (64 * ((p d).val / 64) + k.val) % 1024
  rw [hp]
  omega

theorem pay5 (w : FVec Ideal S1024x1024 .bf16) (q : FVec Ideal S1x1024 .f32) (i : Fin 512) (c : Fin 1024) (hr : ∀ c, ∃ y : ℝ, dt x w i c = (y : EReal)) :
    k0_pay5 (F := Ideal) x s w q (ix2 i c) = hn (dt x w i) (fun c => q (ix2 0 c)) c := by
  have hc := c.isLt
  unfold hn
  pointwise [k0_pay5]
  refine congrArg (fun z => dt x w i c * Ideal.rsqrt (z + FloatOps.ofBits (F := Ideal) .f32 0x358637BD#32) * q (ix2 0 c)) ?_
  split
  · rename_i h
    exact quarter x s hs w i hr 0 (fun l => ⟨l.val, by have := l.isLt; omega⟩) (fun l => (Nat.zero_add _).symm) ⟨c.val, h⟩ c (Nat.zero_add _).symm
  · split
    · rename_i h
      exact quarter x s hs w i hr 1 (cl 256 (by decide)) (fun l => rfl) ⟨c.val - 256, h⟩ c (by show c.val = 256 * 1 + (c.val - 256); omega)
    · split
      · rename_i h
        exact quarter x s hs w i hr 2 (cl 512 (by decide)) (fun l => rfl) ⟨c.val - 256 - 256, h⟩ c (by show c.val = 256 * 2 + (c.val - 256 - 256); omega)
      · exact quarter x s hs w i hr 3 (cl 768 (by decide)) (fun l => rfl) ⟨c.val - 256 - 256 - 256, by omega⟩ c (by show c.val = 256 * 3 + (c.val - 256 - 256 - 256); omega)

end Steps

section Buffers

theorem ldall {a b : ℕ} {t : EltTy} (x : Vec Ideal ⟨2, ![a, b]⟩ t) (inb : ∀ d, (![0, 0] : Fin 2 → ℕ) d + (![a, b] : Fin 2 → ℕ) d ≤ (⟨2, ![a, b]⟩ : Shape).size d) :
    View.ld x (Rect.unit (s := ⟨2, ![a, b]⟩) ![0, 0] ![a, b] inb) = x := by
  refine funext fun j => congrArg x (funext fun d => Fin.ext ?_)
  match d with
  | 0 => show 0 + 1 * (j 0).val = (j 0).val; omega
  | 1 => show 0 + 1 * (j 1).val = (j 1).val; omega

theorem ld0 {t : EltTy} (x : Vec Ideal S512x1024 t) : View.ld x r0_0 = x := ldall x _
theorem ld1 {t : EltTy} (x : Vec Ideal S512x512 t) : View.ld x r0_1 = x := ldall x _
theorem ld2 {t : EltTy} (x : Vec Ideal S1x1024 t) : View.ld x r0_2 = x := ldall x _
theorem ld3 {t : EltTy} (x : Vec Ideal S256x256 t) : View.ld x r0_3 = x := ldall x _
theorem ld6 {t : EltTy} (x : Vec Ideal S1x256 t) : View.ld x r0_6 = x := ldall x _

/-- Columns of the weights, loaded. -/
theorem ldw {n : ℕ} (x : Vec Ideal S1024x2560 .bf16) (o : ℕ) (h : o + n ≤ 2560) (inb : ∀ a, (![0, o] : Fin 2 → ℕ) a + (![1024, n] : Fin 2 → ℕ) a ≤ S1024x2560.size a) (k : Fin 1024) (c : Fin n) :
    View.ld x (Rect.unit (s := S1024x2560) ![0, o] ![1024, n] inb) (ix2 k c) = x (ix2 k (cl o h c)) := by
  refine congrArg x (funext fun a => Fin.ext ?_)
  match a with
  | 0 => show 0 + 1 * k.val = k.val; omega
  | 1 => show o + 1 * c.val = o + c.val; omega

/-- A buffer stored to once, and whole. -/
theorem one0 {t : EltTy} (p : Vec Ideal S512x1024 t) : View.canon (Val := Elt Ideal) [⟨r0_0, p⟩] = p := by
  funext y
  refine View.canon_apply_of_pieces (Val := Elt Ideal) p _ ?_ y (View.cover_of_tiled [⟨r0_0, p⟩] S512x1024.size (by rfl) y)
  intro pc hpc
  rcases List.mem_cons.mp hpc with rfl | hpc
  · exact fun x => (congrFun (ld0 p) x).symm
  nomatch hpc

theorem one7 {t : EltTy} (p : Vec Ideal S512x256 t) : View.canon (Val := Elt Ideal) [⟨r0_7, p⟩] = p := by
  funext y
  refine View.canon_apply_of_pieces (Val := Elt Ideal) p _ ?_ y (View.cover_of_tiled [⟨r0_7, p⟩] S512x256.size (by rfl) y)
  intro pc hpc
  rcases List.mem_cons.mp hpc with rfl | hpc
  · refine fun x => congrArg p (funext fun a => Fin.ext ?_)
    match a with
    | 0 => show (x 0).val = 0 + 1 * (x 0).val; omega
    | 1 => show (x 1).val = 0 + 1 * (x 1).val; omega
  nomatch hpc

end Buffers

section Out
variable (x0 : FVec Ideal S512x1024 .f32) (x1 x2 : FVec Ideal S512x512 .f32) (x3 x4 : FVec Ideal S512x1024 .bf16) (x5 : FVec Ideal S1x1024 .f32) (x6 : Vec Ideal S1024x2560 .bf16)
  (x7 : FVec Ideal S1x1024 .f32) (x8 : FVec Ideal S1x256 .f32) (x9 : FVec Ideal S256x256 .bf16)

theorem pay13 : k0_pay13 (F := Ideal) x0 x1 x2 x3 x4 x5 x6 x7 x8 x9 = xn (hb x0 x1 x2 x3 x4) x5 := by
  unfold k0_pay13
  rw [ld0, ld1, ld0, ld1, ld0, ld2, pay3]

theorem pay14 : k0_pay14 (F := Ideal) x0 x1 x2 x3 x4 x5 x6 x7 x8 x9 = x9 := by
  unfold k0_pay14
  rw [ld3]
  funext y
  rw [eq_ix2 y]
  pointwise [k0_pay4]

theorem pay15 : k0_pay15 (F := Ideal) x0 x1 x2 x3 x4 x5 x6 x7 x8 x9 = View.ld x6 r0_5 := by
  unfold k0_pay15
  generalize View.ld x6 r0_5 = u
  funext y
  rw [eq_ix2 y]
  pointwise [k0_pay6]

/-- A function of a row, for every row of a block. -/
def rows {m n : ℕ} (x0 : FVec Ideal ⟨2, ![m, 1024]⟩ .f32) (x1 x2 : FVec Ideal ⟨2, ![m, 512]⟩ .f32)
    (φ : (Fin 1024 → EReal) → (Fin 512 → EReal) → (Fin 512 → EReal) → Fin n → EReal) : (⟨2, ![m, n]⟩ : Shape).Idx → EReal := fun y =>
  φ (fun l => x0 (ix2 (y 0) l)) (fun l => x1 (ix2 (y 0) l)) (fun l => x2 (ix2 (y 0) l)) (y 1)

abbrev wA : Fin 512 → Fin 1024 → EReal := fun k c => x3 (ix2 k c)
abbrev gA : Fin 1024 → EReal := fun k => x5 (ix2 0 k)
abbrev wW : Fin 1024 → Fin 2560 → EReal := fun k c => x6 (ix2 k c)
abbrev kA : Fin 256 → EReal := fun k => x8 (ix2 0 k)

/-- The product with columns of the weights. -/
theorem dot_at {n : ℕ} (o : ℕ) (h : o + n ≤ 2560) (inb : ∀ a, (![0, o] : Fin 2 → ℕ) a + (![1024, n] : Fin 2 → ℕ) a ≤ S1024x2560.size a) (i : Fin 512) (c : Fin n) :
    dt (xn (hb x0 x1 x2 x3 x4) x5) (View.ld x6 (Rect.unit (s := S1024x2560) ![0, o] ![1024, n] inb)) i c =
      rU (wA x3) (wA x4) (gA x5) (wW x6) (fun l => x0 (ix2 i l)) (fun l => x1 (ix2 i l)) (fun l => x2 (ix2 i l)) (cl o h c) :=
  Finset.sum_congr rfl fun k _ => congrArg (fun z => xn (hb x0 x1 x2 x3 x4) x5 (ix2 i k) * z) (ldw x6 o h inb k c)

theorem out10 : out0_10 (F := Ideal) x0 x1 x2 x3 x4 x5 x6 x7 x8 x9 = rows x0 x1 x2 (rH (wA x3) (wA x4)) := by
  unfold out0_10
  rw [one0, ld0, ld1, ld0, ld1, ld0, pay2]
  rfl

theorem out13 : out0_13 (F := Ideal) x0 x1 x2 x3 x4 x5 x6 x7 x8 x9 = rows x0 x1 x2 (rV (wA x3) (wA x4) (gA x5) (wW x6)) := by
  unfold out0_13
  rw [one7, pay13]
  funext y
  obtain ⟨i, c, rfl⟩ : ∃ (i : Fin 512) (c : Fin 256), y = ix2 i c := ⟨y 0, y 1, eq_ix2 y⟩
  exact (pay9 _ _ i c).trans (dot_at x0 x1 x2 x3 x4 x5 x6 1280 (by decide) _ i c)

theorem out16 : out0_16 (F := Ideal) x0 x1 x2 x3 x4 x5 x6 x7 x8 x9 = rows x0 x1 x2 (rV (wA x3) (wA x4) (gA x5) (wW x6)) := by
  unfold out0_16
  rw [one7, pay13]
  funext y
  obtain ⟨i, c, rfl⟩ : ∃ (i : Fin 512) (c : Fin 256), y = ix2 i c := ⟨y 0, y 1, eq_ix2 y⟩
  exact (pay9 _ _ i c).trans (dot_at x0 x1 x2 x3 x4 x5 x6 1280 (by decide) _ i c)

theorem out14 : out0_14 (F := Ideal) x0 x1 x2 x3 x4 x5 x6 x7 x8 x9 = rows x0 x1 x2 (rG (wA x3) (wA x4) (gA x5) (wW x6)) := by
  unfold out0_14
  rw [one0, pay13]
  funext y
  obtain ⟨i, c, rfl⟩ : ∃ (i : Fin 512) (c : Fin 1024), y = ix2 i c := ⟨y 0, y 1, eq_ix2 y⟩
  exact (pay1 _ _ i c).trans (congrArg Sb.gate (dot_at x0 x1 x2 x3 x4 x5 x6 1536 (by decide) _ i c))

variable (hs : ∀ l c : Fin 256, x9 (ix2 l c) = if l.val / 64 = c.val / 64 then (1 : EReal) else 0)
variable (hg : ∀ k : Fin 1024, ∃ y : ℝ, x5 (ix2 0 k) = (y : EReal)) (hw : ∀ (k : Fin 1024) (d : Fin 2560), d.val < 1280 → ∃ y : ℝ, x6 (ix2 k d) = (y : EReal))
include hs hg hw

theorem dot_real {n : ℕ} (o : ℕ) (h : o + n ≤ 1280) (inb : ∀ a, (![0, o] : Fin 2 → ℕ) a + (![1024, n] : Fin 2 → ℕ) a ≤ S1024x2560.size a) (i : Fin 512) (c : Fin n) :
    ∃ y : ℝ, dt (xn (hb x0 x1 x2 x3 x4) x5) (View.ld x6 (Rect.unit (s := S1024x2560) ![0, o] ![1024, n] inb)) i c = (y : EReal) := by
  rw [dot_at x0 x1 x2 x3 x4 x5 x6 o (by omega) inb i c]
  exact rU_real _ _ _ _ _ _ _ _ hg fun k => hw k _ (by have := c.isLt; show o + c.val < 1280; omega)

theorem out11 : out0_11 (F := Ideal) x0 x1 x2 x3 x4 x5 x6 x7 x8 x9 = rows x0 x1 x2 (rQ (wA x3) (wA x4) (gA x5) (wW x6) (gA x7)) := by
  unfold out0_11
  rw [one0, pay13, pay14, ld2]
  funext y
  obtain ⟨i, c, rfl⟩ : ∃ (i : Fin 512) (c : Fin 1024), y = ix2 i c := ⟨y 0, y 1, eq_ix2 y⟩
  refine (pay5 _ x9 hs _ x7 i c fun c => dot_real x0 x1 x2 x3 x4 x5 x6 x9 hs hg hw 0 (by decide) _ i c).trans ?_
  exact congrArg (fun u => hn u (gA x7) c) (funext fun c => dot_at x0 x1 x2 x3 x4 x5 x6 0 (by decide) _ i c)

theorem key : k0_pay7 (F := Ideal) (xn (hb x0 x1 x2 x3 x4) x5) x9 (View.ld x6 r0_5) x8 = rows x0 x1 x2 (rK (wA x3) (wA x4) (gA x5) (wW x6) (kA x8)) := by
  funext y
  obtain ⟨i, c, rfl⟩ : ∃ (i : Fin 512) (c : Fin 256), y = ix2 i c := ⟨y 0, y 1, eq_ix2 y⟩
  refine (pay7 _ x9 hs _ x8 i c fun c => dot_real x0 x1 x2 x3 x4 x5 x6 x9 hs hg hw 1024 (by decide) _ i c).trans ?_
  exact congrArg (fun u => hn u (kA x8) c) (funext fun c => dot_at x0 x1 x2 x3 x4 x5 x6 1024 (by decide) _ i c)

theorem out12 : out0_12 (F := Ideal) x0 x1 x2 x3 x4 x5 x6 x7 x8 x9 = rows x0 x1 x2 (rK (wA x3) (wA x4) (gA x5) (wW x6) (kA x8)) := by
  unfold out0_12
  rw [one7, pay13, pay14, pay15, ld6]
  exact key x0 x1 x2 x3 x4 x5 x6 x8 x9 hs hg hw

theorem out15 : out0_15 (F := Ideal) x0 x1 x2 x3 x4 x5 x6 x7 x8 x9 = rows x0 x1 x2 (rK (wA x3) (wA x4) (gA x5) (wW x6) (kA x8)) := by
  unfold out0_15
  rw [one7, pay13, pay14, pay15, ld6]
  exact key x0 x1 x2 x3 x4 x5 x6 x8 x9 hs hg hw

end Out

end Cert.Proof.Mi
-- ==== Proof.Mi.Array.lean ====
module

public import proofs.«01_k».proof.Proof.Mi.Payload
public import Idealize.ShloMosaic.Lib.Pipeline.Covers

/-! The result arrays of the call between the layers, as functions of the arrays the region finds. -/

@[expose] public section
set_option maxRecDepth 16384
noncomputable section
namespace Cert.Proof.Mi
open Idealize.ShloMosaic Idealize.ShloMosaic.Pointwise Idealize.ShloMosaic.TcCoe Idealize.SL.Sem Cert.MidIdeal Cert.MidIdeal.Gen Cert.Proof.Pr

theorem idxi : ∀ t : Fin cfg0.N, win0_0.index t = ![t.val, 0] ∧ win0_1.index t = ![t.val, 0] ∧ win0_2.index t = ![t.val, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem idxo : ∀ t : Fin cfg0.N, win0_10.index t = ![t.val, 0] ∧ win0_11.index t = ![t.val, 0] ∧ win0_12.index t = ![t.val, 0] ∧ win0_13.index t = ![t.val, 0] ∧
    win0_14.index t = ![t.val, 0] ∧ win0_15.index t = ![t.val, 0] ∧ win0_16.index t = ![t.val, 0] :=
  (by decide +kernel : ∀ t : Fin grid0.N, _)

variable (m : (ℓ : Loc nD τ sig) → Buf (Elt Ideal) ℓ)

theorem iblk0 (c : Dev nD) (t : Fin cfg0.N) : iblk m c 0 t = blk (t := .f32) (V m c main_v25) t.val := by
  funext j
  refine blk_at (t := .f32) (V m c main_v25) t.val j (((cfg0.win 0).blk t).view.emb j) ?_ ?_
  · show win0_0.index t 0 * 512 + 1 * (j 0).val = 512 * t.val + (j 0).val
    rw [(idxi t).1]; show t.val * 512 + 1 * (j 0).val = _; omega
  · show win0_0.index t 1 * 1024 + 1 * (j 1).val = (j 1).val
    rw [(idxi t).1]; show 0 * 1024 + 1 * (j 1).val = _; omega

theorem iblk1 (c : Dev nD) (t : Fin cfg0.N) : iblk m c 1 t = blk (t := .f32) (V m c main_v27) t.val := by
  funext j
  refine blk_at (t := .f32) (V m c main_v27) t.val j (((cfg0.win 1).blk t).view.emb j) ?_ ?_
  · show win0_1.index t 0 * 512 + 1 * (j 0).val = 512 * t.val + (j 0).val
    rw [(idxi t).2.1]; show t.val * 512 + 1 * (j 0).val = _; omega
  · show win0_1.index t 1 * 512 + 1 * (j 1).val = (j 1).val
    rw [(idxi t).2.1]; show 0 * 512 + 1 * (j 1).val = _; omega

theorem iblk2 (c : Dev nD) (t : Fin cfg0.N) : iblk m c 2 t = blk (t := .f32) (V m c main_v29) t.val := by
  funext j
  refine blk_at (t := .f32) (V m c main_v29) t.val j (((cfg0.win 2).blk t).view.emb j) ?_ ?_
  · show win0_2.index t 0 * 512 + 1 * (j 0).val = 512 * t.val + (j 0).val
    rw [(idxi t).2.2.1]; show t.val * 512 + 1 * (j 0).val = _; omega
  · show win0_2.index t 1 * 512 + 1 * (j 1).val = (j 1).val
    rw [(idxi t).2.2.1]; show 0 * 512 + 1 * (j 1).val = _; omega

theorem iblk3 (c : Dev nD) (t : Fin cfg0.N) : iblk m c 3 t = V m c main_v1 := by
  funext j
  show V m c main_v1 (((cfg0.win 3).blk t).view.emb j) = V m c main_v1 j
  refine congrArg (V m c main_v1) (funext fun a => Fin.ext ?_)
  match a with
  | 0 => show win0_3.index t 0 * 512 + 1 * (j 0).val = (j 0).val; rw [(idxi t).2.2.2.1]; show 0 * 512 + 1 * (j 0).val = (j 0).val; omega
  | 1 => show win0_3.index t 1 * 1024 + 1 * (j 1).val = (j 1).val; rw [(idxi t).2.2.2.1]; show 0 * 1024 + 1 * (j 1).val = (j 1).val; omega

theorem iblk4 (c : Dev nD) (t : Fin cfg0.N) : iblk m c 4 t = V m c main_v3 := by
  funext j
  show V m c main_v3 (((cfg0.win 4).blk t).view.emb j) = V m c main_v3 j
  refine congrArg (V m c main_v3) (funext fun a => Fin.ext ?_)
  match a with
  | 0 => show win0_4.index t 0 * 512 + 1 * (j 0).val = (j 0).val; rw [(idxi t).2.2.2.2.1]; show 0 * 512 + 1 * (j 0).val = (j 0).val; omega
  | 1 => show win0_4.index t 1 * 1024 + 1 * (j 1).val = (j 1).val; rw [(idxi t).2.2.2.2.1]; show 0 * 1024 + 1 * (j 1).val = (j 1).val; omega

theorem iblk5 (c : Dev nD) (t : Fin cfg0.N) : iblk m c 5 t = V m c main_v4 := by
  funext j
  show V m c main_v4 (((cfg0.win 5).blk t).view.emb j) = V m c main_v4 j
  refine congrArg (V m c main_v4) (funext fun a => Fin.ext ?_)
  match a with
  | 0 => show win0_5.index t 0 * 1 + 1 * (j 0).val = (j 0).val; rw [(idxi t).2.2.2.2.2.1]; show 0 * 1 + 1 * (j 0).val = (j 0).val; omega
  | 1 => show win0_5.index t 1 * 1024 + 1 * (j 1).val = (j 1).val; rw [(idxi t).2.2.2.2.2.1]; show 0 * 1024 + 1 * (j 1).val = (j 1).val; omega

theorem iblk6 (c : Dev nD) (t : Fin cfg0.N) : iblk m c 6 t = V m c main_v5 := by
  funext j
  show V m c main_v5 (((cfg0.win 6).blk t).view.emb j) = V m c main_v5 j
  refine congrArg (V m c main_v5) (funext fun a => Fin.ext ?_)
  match a with
  | 0 => show win0_6.index t 0 * 1024 + 1 * (j 0).val = (j 0).val; rw [(idxi t).2.2.2.2.2.2.1]; show 0 * 1024 + 1 * (j 0).val = (j 0).val; omega
  | 1 => show win0_6.index t 1 * 2560 + 1 * (j 1).val = (j 1).val; rw [(idxi t).2.2.2.2.2.2.1]; show 0 * 2560 + 1 * (j 1).val = (j 1).val; omega

theorem iblk7 (c : Dev nD) (t : Fin cfg0.N) : iblk m c 7 t = V m c main_v9 := by
  funext j
  show V m c main_v9 (((cfg0.win 7).blk t).view.emb j) = V m c main_v9 j
  refine congrArg (V m c main_v9) (funext fun a => Fin.ext ?_)
  match a with
  | 0 => show win0_7.index t 0 * 1 + 1 * (j 0).val = (j 0).val; rw [(idxi t).2.2.2.2.2.2.2.1]; show 0 * 1 + 1 * (j 0).val = (j 0).val; omega
  | 1 => show win0_7.index t 1 * 1024 + 1 * (j 1).val = (j 1).val; rw [(idxi t).2.2.2.2.2.2.2.1]; show 0 * 1024 + 1 * (j 1).val = (j 1).val; omega

theorem iblk8 (c : Dev nD) (t : Fin cfg0.N) : iblk m c 8 t = V m c main_v13 := by
  funext j
  show V m c main_v13 (((cfg0.win 8).blk t).view.emb j) = V m c main_v13 j
  refine congrArg (V m c main_v13) (funext fun a => Fin.ext ?_)
  match a with
  | 0 => show win0_8.index t 0 * 1 + 1 * (j 0).val = (j 0).val; rw [(idxi t).2.2.2.2.2.2.2.2.1]; show 0 * 1 + 1 * (j 0).val = (j 0).val; omega
  | 1 => show win0_8.index t 1 * 256 + 1 * (j 1).val = (j 1).val; rw [(idxi t).2.2.2.2.2.2.2.2.1]; show 0 * 256 + 1 * (j 1).val = (j 1).val; omega

theorem iblk9 (c : Dev nD) (t : Fin cfg0.N) : iblk m c 9 t = V m c main_v23 := by
  funext j
  show V m c main_v23 (((cfg0.win 9).blk t).view.emb j) = V m c main_v23 j
  refine congrArg (V m c main_v23) (funext fun a => Fin.ext ?_)
  match a with
  | 0 => show win0_9.index t 0 * 256 + 1 * (j 0).val = (j 0).val; rw [(idxi t).2.2.2.2.2.2.2.2.2]; show 0 * 256 + 1 * (j 0).val = (j 0).val; omega
  | 1 => show win0_9.index t 1 * 256 + 1 * (j 1).val = (j 1).val; rw [(idxi t).2.2.2.2.2.2.2.2.2]; show 0 * 256 + 1 * (j 1).val = (j 1).val; omega

/-- The rows of a block are rows of the array. -/
theorem rows_at {N n : ℕ} [NeZero N] (x0 : FVec Ideal ⟨2, ![N, 1024]⟩ .f32) (x1 x2 : FVec Ideal ⟨2, ![N, 512]⟩ .f32) (φ : (Fin 1024 → EReal) → (Fin 512 → EReal) → (Fin 512 → EReal) → Fin n → EReal) (t : ℕ)
    (y : (⟨2, ![512, n]⟩ : Shape).Idx) (z : (⟨2, ![N, n]⟩ : Shape).Idx) (h0 : (z 0).val = t * 512 + 1 * (y 0).val) (h1 : (z 1).val = 0 * n + 1 * (y 1).val) :
    rows (blk (t := .f32) x0 t) (blk (t := .f32) x1 t) (blk (t := .f32) x2 t) φ y = rows x0 x1 x2 φ z := by
  have e : z 1 = y 1 := Fin.ext (h1.trans (by omega))
  have h : (z 0).val = 512 * t + (y 0).val := h0.trans (by omega)
  have e0 : (fun l => blk (t := .f32) x0 t (ix2 (y 0) l)) = fun l => x0 (ix2 (z 0) l) := funext fun l => (blk_at (t := .f32) x0 t (ix2 (y 0) l) (ix2 (z 0) l) h rfl).symm
  have e1 : (fun l => blk (t := .f32) x1 t (ix2 (y 0) l)) = fun l => x1 (ix2 (z 0) l) := funext fun l => (blk_at (t := .f32) x1 t (ix2 (y 0) l) (ix2 (z 0) l) h rfl).symm
  have e2 : (fun l => blk (t := .f32) x2 t (ix2 (y 0) l)) = fun l => x2 (ix2 (z 0) l) := funext fun l => (blk_at (t := .f32) x2 t (ix2 (y 0) l) (ix2 (z 0) l) h rfl).symm
  show φ (fun l => blk (t := .f32) x0 t (ix2 (y 0) l)) (fun l => blk (t := .f32) x1 t (ix2 (y 0) l)) (fun l => blk (t := .f32) x2 t (ix2 (y 0) l)) (y 1) = φ _ _ _ (z 1)
  rw [e0, e1, e2, e]

theorem arr10 (c : Dev nD) : (dats m 0 c).arrAt 10 cfg0.N = rows (n := 1024) (V m c main_v25) (V m c main_v27) (V m c main_v29) (rH (wA (V m c main_v1)) (wA (V m c main_v3))) := by
  refine (dats m 0 c).arrAt_eq_of_covers 10 _ (by decide +kernel) fun t hf y => ?_
  rw [after0_10, iblk0, iblk1, iblk2, iblk3, iblk4, iblk5, iblk6, iblk7, iblk8, iblk9, out10]
  refine rows_at (n := 1024) (V m c main_v25) (V m c main_v27) (V m c main_v29) (rH (wA (V m c main_v1)) (wA (V m c main_v3))) t.val ((cfg0.win 10).xinj (cfg0.grid.coords t) y) _ ?_ ?_
  · show win0_10.index t 0 * 512 + 1 * (y 0).val = _; rw [(idxo t).1]; rfl
  · show win0_10.index t 1 * 1024 + 1 * (y 1).val = _; rw [(idxo t).1]; rfl

theorem arr11 (c : Dev nD) (hs : ∀ l d : Fin 256, V m c main_v23 (ix2 l d) = if l.val / 64 = d.val / 64 then (1 : EReal) else 0)
    (hg : ∀ k : Fin 1024, ∃ y : ℝ, V m c main_v4 (ix2 0 k) = (y : EReal)) (hw : ∀ (k : Fin 1024) (d : Fin 2560), d.val < 1280 → ∃ y : ℝ, V m c main_v5 (ix2 k d) = (y : EReal)) :
    (dats m 0 c).arrAt 11 cfg0.N = rows (n := 1024) (V m c main_v25) (V m c main_v27) (V m c main_v29) (rQ (wA (V m c main_v1)) (wA (V m c main_v3)) (gA (V m c main_v4)) (wW (V m c main_v5)) (gA (V m c main_v9))) := by
  refine (dats m 0 c).arrAt_eq_of_covers 11 _ (by decide +kernel) fun t hf y => ?_
  rw [after0_11, iblk0, iblk1, iblk2, iblk3, iblk4, iblk5, iblk6, iblk7, iblk8, iblk9, out11 _ _ _ _ _ _ _ _ _ _ hs hg hw]
  refine rows_at (n := 1024) (V m c main_v25) (V m c main_v27) (V m c main_v29) (rQ (wA (V m c main_v1)) (wA (V m c main_v3)) (gA (V m c main_v4)) (wW (V m c main_v5)) (gA (V m c main_v9))) t.val ((cfg0.win 11).xinj (cfg0.grid.coords t) y) _ ?_ ?_
  · show win0_11.index t 0 * 512 + 1 * (y 0).val = _; rw [(idxo t).2.1]; rfl
  · show win0_11.index t 1 * 1024 + 1 * (y 1).val = _; rw [(idxo t).2.1]; rfl

theorem arr12 (c : Dev nD) (hs : ∀ l d : Fin 256, V m c main_v23 (ix2 l d) = if l.val / 64 = d.val / 64 then (1 : EReal) else 0)
    (hg : ∀ k : Fin 1024, ∃ y : ℝ, V m c main_v4 (ix2 0 k) = (y : EReal)) (hw : ∀ (k : Fin 1024) (d : Fin 2560), d.val < 1280 → ∃ y : ℝ, V m c main_v5 (ix2 k d) = (y : EReal)) :
    (dats m 0 c).arrAt 12 cfg0.N = rows (n := 256) (V m c main_v25) (V m c main_v27) (V m c main_v29) (rK (wA (V m c main_v1)) (wA (V m c main_v3)) (gA (V m c main_v4)) (wW (V m c main_v5)) (kA (V m c main_v13))) := by
  refine (dats m 0 c).arrAt_eq_of_covers 12 _ (by decide +kernel) fun t hf y => ?_
  rw [after0_12, iblk0, iblk1, iblk2, iblk3, iblk4, iblk5, iblk6, iblk7, iblk8, iblk9, out12 _ _ _ _ _ _ _ _ _ _ hs hg hw]
  refine rows_at (n := 256) (V m c main_v25) (V m c main_v27) (V m c main_v29) (rK (wA (V m c main_v1)) (wA (V m c main_v3)) (gA (V m c main_v4)) (wW (V m c main_v5)) (kA (V m c main_v13))) t.val ((cfg0.win 12).xinj (cfg0.grid.coords t) y) _ ?_ ?_
  · show win0_12.index t 0 * 512 + 1 * (y 0).val = _; rw [(idxo t).2.2.1]; rfl
  · show win0_12.index t 1 * 256 + 1 * (y 1).val = _; rw [(idxo t).2.2.1]; rfl

theorem arr13 (c : Dev nD) : (dats m 0 c).arrAt 13 cfg0.N = rows (n := 256) (V m c main_v25) (V m c main_v27) (V m c main_v29) (rV (wA (V m c main_v1)) (wA (V m c main_v3)) (gA (V m c main_v4)) (wW (V m c main_v5))) := by
  refine (dats m 0 c).arrAt_eq_of_covers 13 _ (by decide +kernel) fun t hf y => ?_
  rw [after0_13, iblk0, iblk1, iblk2, iblk3, iblk4, iblk5, iblk6, iblk7, iblk8, iblk9, out13]
  refine rows_at (n := 256) (V m c main_v25) (V m c main_v27) (V m c main_v29) (rV (wA (V m c main_v1)) (wA (V m c main_v3)) (gA (V m c main_v4)) (wW (V m c main_v5))) t.val ((cfg0.win 13).xinj (cfg0.grid.coords t) y) _ ?_ ?_
  · show win0_13.index t 0 * 512 + 1 * (y 0).val = _; rw [(idxo t).2.2.2.1]; rfl
  · show win0_13.index t 1 * 256 + 1 * (y 1).val = _; rw [(idxo t).2.2.2.1]; rfl

theorem arr14 (c : Dev nD) : (dats m 0 c).arrAt 14 cfg0.N = rows (n := 1024) (V m c main_v25) (V m c main_v27) (V m c main_v29) (rG (wA (V m c main_v1)) (wA (V m c main_v3)) (gA (V m c main_v4)) (wW (V m c main_v5))) := by
  refine (dats m 0 c).arrAt_eq_of_covers 14 _ (by decide +kernel) fun t hf y => ?_
  rw [after0_14, iblk0, iblk1, iblk2, iblk3, iblk4, iblk5, iblk6, iblk7, iblk8, iblk9, out14]
  refine rows_at (n := 1024) (V m c main_v25) (V m c main_v27) (V m c main_v29) (rG (wA (V m c main_v1)) (wA (V m c main_v3)) (gA (V m c main_v4)) (wW (V m c main_v5))) t.val ((cfg0.win 14).xinj (cfg0.grid.coords t) y) _ ?_ ?_
  · show win0_14.index t 0 * 512 + 1 * (y 0).val = _; rw [(idxo t).2.2.2.2.1]; rfl
  · show win0_14.index t 1 * 1024 + 1 * (y 1).val = _; rw [(idxo t).2.2.2.2.1]; rfl

theorem arr15 (c : Dev nD) (hs : ∀ l d : Fin 256, V m c main_v23 (ix2 l d) = if l.val / 64 = d.val / 64 then (1 : EReal) else 0)
    (hg : ∀ k : Fin 1024, ∃ y : ℝ, V m c main_v4 (ix2 0 k) = (y : EReal)) (hw : ∀ (k : Fin 1024) (d : Fin 2560), d.val < 1280 → ∃ y : ℝ, V m c main_v5 (ix2 k d) = (y : EReal)) :
    (dats m 0 c).arrAt 15 cfg0.N = rows (n := 256) (V m c main_v25) (V m c main_v27) (V m c main_v29) (rK (wA (V m c main_v1)) (wA (V m c main_v3)) (gA (V m c main_v4)) (wW (V m c main_v5)) (kA (V m c main_v13))) := by
  refine (dats m 0 c).arrAt_eq_of_covers 15 _ (by decide +kernel) fun t hf y => ?_
  rw [after0_15, iblk0, iblk1, iblk2, iblk3, iblk4, iblk5, iblk6, iblk7, iblk8, iblk9, out15 _ _ _ _ _ _ _ _ _ _ hs hg hw]
  refine rows_at (n := 256) (V m c main_v25) (V m c main_v27) (V m c main_v29) (rK (wA (V m c main_v1)) (wA (V m c main_v3)) (gA (V m c main_v4)) (wW (V m c main_v5)) (kA (V m c main_v13))) t.val ((cfg0.win 15).xinj (cfg0.grid.coords t) y) _ ?_ ?_
  · show win0_15.index t 0 * 512 + 1 * (y 0).val = _; rw [(idxo t).2.2.2.2.2.1]; rfl
  · show win0_15.index t 1 * 256 + 1 * (y 1).val = _; rw [(idxo t).2.2.2.2.2.1]; rfl

theorem arr16 (c : Dev nD) : (dats m 0 c).arrAt 16 cfg0.N = rows (n := 256) (V m c main_v25) (V m c main_v27) (V m c main_v29) (rV (wA (V m c main_v1)) (wA (V m c main_v3)) (gA (V m c main_v4)) (wW (V m c main_v5))) := by
  refine (dats m 0 c).arrAt_eq_of_covers 16 _ (by decide +kernel) fun t hf y => ?_
  rw [after0_16, iblk0, iblk1, iblk2, iblk3, iblk4, iblk5, iblk6, iblk7, iblk8, iblk9, out16]
  refine rows_at (n := 256) (V m c main_v25) (V m c main_v27) (V m c main_v29) (rV (wA (V m c main_v1)) (wA (V m c main_v3)) (gA (V m c main_v4)) (wW (V m c main_v5))) t.val ((cfg0.win 16).xinj (cfg0.grid.coords t) y) _ ?_ ?_
  · show win0_16.index t 0 * 512 + 1 * (y 0).val = _; rw [(idxo t).2.2.2.2.2.2]; rfl
  · show win0_16.index t 1 * 256 + 1 * (y 1).val = _; rw [(idxo t).2.2.2.2.2.2]; rfl

end Cert.Proof.Mi
-- ==== Proof.Mi.Host.lean ====
module

public import proofs.«01_k».proof.Proof.Mi.Array

/-! The arrays the host hands the call between the layers, entry by entry. -/

@[expose] public section
set_option maxRecDepth 16384
noncomputable section
namespace Cert.Proof.Mi
open Idealize.ShloMosaic Idealize.ShloMosaic.Pointwise Idealize.ShloMosaic.TcCoe Idealize.SL.Sem Cert.MidIdeal Cert.MidIdeal.Gen Cert.Proof.Pr
open Cert.Proof.In (cl)

variable (m : (ℓ : Loc nD τ sig) → Buf (Elt Ideal) ℓ)

theorem v4 (c : Dev nD) (k : Fin 1024) : V m c main_v4 (ix2 0 k) = (m ((c : Thread nD τ).loc main_arg4) : FVec Ideal S1024 .f32) (ix1 k) := by
  have e : V m c main_v4 = (broadcastInDim S1x1024 ![1] bcast_S1024_S1x1024_1 (m ((c : Thread nD τ).loc main_arg4) : FVec Ideal S1024 .f32) : FVec Ideal S1x1024 .f32) := by
    entry_read
    rfl
  rw [e]
  pointwise

theorem v5 (c : Dev nD) (k : Fin 1024) (d : Fin 2560) : V m c main_v5 (ix2 k d) = (m ((c : Thread nD τ).loc main_arg5) : FVec Ideal S1024x2560 .f32) (ix2 k d) := by
  have e : V m c main_v5 = (truncf .bf16 (m ((c : Thread nD τ).loc main_arg5) : FVec Ideal S1024x2560 .f32) bitsLt_bf16_f32 : FVec Ideal S1024x2560 .bf16) := by
    entry_read
    rfl
  rw [e]
  rfl

theorem v1 (c : Dev nD) (k : Fin 512) (d : Fin 1024) : V m c main_v1 (ix2 k d) = (m ((c : Thread nD τ).loc main_arg3) : FVec Ideal S1024x1024 .f32) (ix2 (cl 0 (by decide) k) d) := by
  have e : V m c main_v1 = (truncf .bf16 (extractStridedSlice S512x1024 ![0, 0] (m ((c : Thread nD τ).loc main_arg3) : FVec Ideal S1024x1024 .f32) slices_S1024x1024_S512x1024_0_0) bitsLt_bf16_f32 :
      FVec Ideal S512x1024 .bf16) := by
    entry_read
    rfl
  rw [e]
  pointwise
  exact congrArg (fun q => (m ((c : Thread nD τ).loc main_arg3) : FVec Ideal S1024x1024 .f32) (ix2 q d)) (Fin.ext (Nat.zero_add _).symm)

theorem v3 (c : Dev nD) (k : Fin 512) (d : Fin 1024) : V m c main_v3 (ix2 k d) = (m ((c : Thread nD τ).loc main_arg3) : FVec Ideal S1024x1024 .f32) (ix2 (cl 512 (by decide) k) d) := by
  have e : V m c main_v3 = (truncf .bf16 (extractStridedSlice S512x1024 ![512, 0] (m ((c : Thread nD τ).loc main_arg3) : FVec Ideal S1024x1024 .f32) slices_S1024x1024_S512x1024_512_0) bitsLt_bf16_f32 :
      FVec Ideal S512x1024 .bf16) := by
    entry_read
    rfl
  rw [e]
  pointwise
  rfl

/-- A scale of 64 columns, repeated. -/
theorem v9 (c : Dev nD) (k : Fin 1024) : V m c main_v9 (ix2 0 k) = (m ((c : Thread nD τ).loc main_arg6) : FVec Ideal S64 .f32) (ix1 ⟨k.val % 64, Nat.mod_lt _ (by decide)⟩) := by
  have e : V m c main_v9 = (broadcastInDim S1x1024 ![1] bcast_S1024_S1x1024_1 (shapeCast S1024 (broadcastInDim S16x64 ![0, 1] bcast_S1x64_S16x64_0_1
      (shapeCast S1x64 (m ((c : Thread nD τ).loc main_arg6) : FVec Ideal S64 .f32) shapeCasts_S64_S1x64)) shapeCasts_S16x64_S1024) : FVec Ideal S1x1024 .f32) := by
    entry_read
    rfl
  have hk := k.isLt
  rw [e]
  refine (broadcastInDim_apply _ _ _ (ix2 0 k) (ix1 k) (fun a => match a with | 0 => rfl)).trans ?_
  rw [shapeCast_apply _ _ (ix1 k) (ix2 ⟨k.val / 64, by omega⟩ ⟨k.val % 64, Nat.mod_lt _ (by decide)⟩) (by
    rw [Shape.rowMajor_val_two, Shape.rowMajor_val_one]
    show k.val / 64 * 64 + k.val % 64 = k.val
    omega)]
  pointwise

theorem v13 (c : Dev nD) (k : Fin 256) : V m c main_v13 (ix2 0 k) = (m ((c : Thread nD τ).loc main_arg7) : FVec Ideal S64 .f32) (ix1 ⟨k.val % 64, Nat.mod_lt _ (by decide)⟩) := by
  have e : V m c main_v13 = (broadcastInDim S1x256 ![1] bcast_S256_S1x256_1 (shapeCast S256 (broadcastInDim S4x64 ![0, 1] bcast_S1x64_S4x64_0_1
      (shapeCast S1x64 (m ((c : Thread nD τ).loc main_arg7) : FVec Ideal S64 .f32) shapeCasts_S64_S1x64)) shapeCasts_S4x64_S256) : FVec Ideal S1x256 .f32) := by
    entry_read
    rfl
  have hk := k.isLt
  rw [e]
  refine (broadcastInDim_apply _ _ _ (ix2 0 k) (ix1 k) (fun a => match a with | 0 => rfl)).trans ?_
  rw [shapeCast_apply _ _ (ix1 k) (ix2 ⟨k.val / 64, by omega⟩ ⟨k.val % 64, Nat.mod_lt _ (by decide)⟩) (by
    rw [Shape.rowMajor_val_two, Shape.rowMajor_val_one]
    show k.val / 64 * 64 + k.val % 64 = k.val
    omega)]
  pointwise

theorem v25 (c : Dev nD) (r : Fin 16896) (k : Fin 1024) : V m c main_v25 (ix2 r k) =
    pr (fun b i k => (m ((c : Thread nD τ).loc main_arg0) : FVec Ideal S2x8208x1024 .f32) (ix3 b i k)) r k := by
  have e : V m c main_v25 = (shapeCast S16896x1024 (pad S2x8448x1024 ![0, 48, 0] ![0, 192, 0] ![0, 0, 0] (m ((c : Thread nD τ).loc main_arg0) : FVec Ideal S2x8208x1024 .f32)
      (sitofp .f32 (constantI S_ 32 0#32)) pads_S2x8208x1024_S2x8448x1024_000_481920_000 h_S_) shapeCasts_S2x8448x1024_S16896x1024 : FVec Ideal S16896x1024 .f32) := by
    entry_read
    rfl
  rw [e]
  exact padded _ _ zero_word _ _ _ r k

theorem v27 (c : Dev nD) (r : Fin 16896) (k : Fin 512) : V m c main_v27 (ix2 r k) =
    pr (fun b i k => (m ((c : Thread nD τ).loc main_arg1) : FVec Ideal S2x8208x512 .f32) (ix3 b i k)) r k := by
  have e : V m c main_v27 = (shapeCast S16896x512 (pad S2x8448x512 ![0, 48, 0] ![0, 192, 0] ![0, 0, 0] (m ((c : Thread nD τ).loc main_arg1) : FVec Ideal S2x8208x512 .f32)
      (sitofp .f32 (constantI S_ 32 0#32)) pads_S2x8208x512_S2x8448x512_000_481920_000 h_S_) shapeCasts_S2x8448x512_S16896x512 : FVec Ideal S16896x512 .f32) := by
    entry_read
    rfl
  rw [e]
  exact padded _ _ zero_word _ _ _ r k

theorem v29 (c : Dev nD) (r : Fin 16896) (k : Fin 512) : V m c main_v29 (ix2 r k) =
    pr (fun b i k => (m ((c : Thread nD τ).loc main_arg2) : FVec Ideal S2x8208x512 .f32) (ix3 b i k)) r k := by
  have e : V m c main_v29 = (shapeCast S16896x512 (pad S2x8448x512 ![0, 48, 0] ![0, 192, 0] ![0, 0, 0] (m ((c : Thread nD τ).loc main_arg2) : FVec Ideal S2x8208x512 .f32)
      (sitofp .f32 (constantI S_ 32 0#32)) pads_S2x8208x512_S2x8448x512_000_481920_000 h_S_) shapeCasts_S2x8448x512_S16896x512 : FVec Ideal S16896x512 .f32) := by
    entry_read
    rfl
  rw [e]
  exact padded _ _ zero_word _ _ _ r k

/-- The host's division by 64, rounded down. -/
def floor64 {s : Shape} (bc : S_.BroadcastsInDim s (![] : Fin 0 → Fin s.rank)) (x : IVec s 32) : IVec s 32 :=
  select (andi (cmpi .ne (signi x) (broadcastInDim s ![] bc (signi (constantI S_ 32 64#32))))
      (cmpi .ne (Host.remsi x (broadcastInDim s ![] bc (constantI S_ 32 64#32))) (broadcastInDim s ![] bc (constantI S_ 32 0#32))))
    (subi (Host.divsi x (broadcastInDim s ![] bc (constantI S_ 32 64#32))) (broadcastInDim s ![] bc (constantI S_ 32 1#32)))
    (Host.divsi x (broadcastInDim s ![] bc (constantI S_ 32 64#32)))

/-- The same of one word. -/
def floorw (x : BitVec 32) : BitVec 32 :=
  floor64 (s := S_) ⟨fun a => a.elim0, fun a => a.elim0⟩ (fun _ => x) fun a => a.elim0

theorem floorw_eq : ∀ i : Fin 256, floorw (BitVec.ofNat 32 i.val) = BitVec.ofNat 32 (i.val / 64) := by
  decide +kernel

theorem floor_at {s : Shape} (bc : S_.BroadcastsInDim s (![] : Fin 0 → Fin s.rank)) (x : IVec s 32) (j : s.Idx) (i : Fin 256) (h : x j = BitVec.ofNat 32 i.val) :
    floor64 bc x j = BitVec.ofNat 32 (i.val / 64) := by
  rw [← floorw_eq, ← h]
  rfl

/-- The table of the groups of 64 columns. -/
def table : FVec Ideal S256x256 .bf16 :=
  uitofp .bf16 (cmpi .eq
    (broadcastInDim S256x256 ![0, 1] bcast_S256x1_S256x256_0_1 (floor64 bcast_S_S256x1 (broadcastInDim S256x1 ![0] bcast_S256_S256x1_0 (iotaInDim S256 32 0))))
    (broadcastInDim S256x256 ![0, 1] bcast_S1x256_S256x256_0_1 (floor64 bcast_S_S1x256 (broadcastInDim S1x256 ![1] bcast_S256_S1x256_1 (iotaInDim S256 32 0)))))

theorem table_at (l d : Fin 256) : table (ix2 l d) = if l.val / 64 = d.val / 64 then (1 : EReal) else 0 := by
  have hl := l.isLt
  have hd := d.isLt
  have a : broadcastInDim S256x256 ![0, 1] bcast_S256x1_S256x256_0_1 (floor64 bcast_S_S256x1 (broadcastInDim S256x1 ![0] bcast_S256_S256x1_0 (iotaInDim S256 32 0))) (ix2 l d) =
      BitVec.ofNat 32 (l.val / 64) :=
    (broadcastInDim_apply _ _ _ (ix2 l d) (ix2 l 0) (fun a => match a with | 0 => rfl | 1 => rfl)).trans (floor_at _ _ _ l (by pointwise))
  have b : broadcastInDim S256x256 ![0, 1] bcast_S1x256_S256x256_0_1 (floor64 bcast_S_S1x256 (broadcastInDim S1x256 ![1] bcast_S256_S1x256_1 (iotaInDim S256 32 0))) (ix2 l d) =
      BitVec.ofNat 32 (d.val / 64) :=
    (broadcastInDim_apply _ _ _ (ix2 l d) (ix2 0 d) (fun a => match a with | 0 => rfl | 1 => rfl)).trans (floor_at _ _ _ d (by pointwise))
  refine (congrArg₂ (fun p q => (((IntOp.cmpi .eq p q).toNat : ℝ) : EReal)) a b).trans ?_
  by_cases h : l.val / 64 = d.val / 64
  · rw [h, if_pos rfl]
    simp [IntOp.cmpi]
  · have n : ¬ BitVec.ofNat 32 (l.val / 64) = BitVec.ofNat 32 (d.val / 64) := fun q => h (by
      have := congrArg BitVec.toNat q
      rw [BitVec.toNat_ofNat, BitVec.toNat_ofNat, Nat.mod_eq_of_lt (by omega), Nat.mod_eq_of_lt (by omega)] at this
      exact this)
    rw [if_neg h]
    simp [IntOp.cmpi, n]

theorem v23 (c : Dev nD) (l d : Fin 256) : V m c main_v23 (ix2 l d) = if l.val / 64 = d.val / 64 then (1 : EReal) else 0 := by
  have e : V m c main_v23 = table := by
    unfold table floor64
    entry_read
    rfl
  rw [e]
  exact table_at l d

end Cert.Proof.Mi
-- ==== Proof.Mi.Ref.lean ====
module

public import proofs.«01_k».proof.Proof.Mi.Rows
public import proofs.«01_k».proof.Proof.Gen.MidRefIdeal.Read

/-! The reference of the call between the layers, row by row. -/

@[expose] public section
set_option maxRecDepth 16384
noncomputable section
namespace Cert.Proof.Mi
open Idealize.ShloMosaic Idealize.ShloMosaic.Pointwise Cert.MidRefIdeal Cert.MidRefIdeal.Gen Cert.MidRefIdeal.Read Cert.Proof.Pr
open Cert.Proof.In (cl)

variable (x0 : FVec Ideal S2x8208x1024 .f32) (x1 x2 : FVec Ideal S2x8208x512 .f32) (x3 : FVec Ideal S1024x1024 .f32) (x4 : FVec Ideal S1024 .f32) (x5 : FVec Ideal S1024x2560 .f32)
variable (x6 x7 : FVec Ideal S64 .f32)

/-- The first and the second half of the output projection's weights. -/
abbrev tA (k : Fin 512) (c : Fin 1024) : EReal := x3 (ix2 (cl 0 (by decide) k) c)
abbrev tB (k : Fin 512) (c : Fin 1024) : EReal := x3 (ix2 (cl 512 (by decide) k) c)
abbrev tG (k : Fin 1024) : EReal := x4 (ix1 k)
abbrev tW (k : Fin 1024) (c : Fin 2560) : EReal := x5 (ix2 k c)

/-- A scale of 64 columns, repeated. -/
abbrev tS (n : ℕ) (k : Fin n) : EReal := x6 (ix1 ⟨k.val % 64, Nat.mod_lt _ (by decide)⟩)

/-- A function of the three rows, on the sequences. -/
abbrev on3 {n : ℕ} (φ : (Fin 1024 → EReal) → (Fin 512 → EReal) → (Fin 512 → EReal) → Fin n → EReal) : Sq n := fun b i =>
  φ (fun k => x0 (ix3 b i k)) (fun k => x1 (ix3 b i k)) fun k => x2 (ix3 b i k)

theorem cat_at (b : Fin 2) (i : Fin 8208) (k : Fin 1024) : val_main_v0 (F := Ideal) x1 x2 (ix3 b i k) =
    if h : k.val < 512 then x1 (ix3 b i ⟨k.val, h⟩) else x2 (ix3 b i ⟨k.val - 512, by have := k.isLt; omega⟩) := by
  unfold val_main_v0
  pointwise

theorem ref_h (b : Fin 2) (i : Fin 8208) (c : Fin 1024) : val_main_v2 (F := Ideal) x0 x1 x2 x3 (ix3 b i c) = on3 x0 x1 x2 (rH (tA x3) (tB x3)) b i c := by
  rw [val_main_v2_apply, val_main_v1_apply]
  unfold on3 rH
  rw [add_assoc]
  refine congrArg (fun t => x0 (ix3 b i c) + t) ?_
  have e : ∀ k : Fin 1024, val_main_v0 (F := Ideal) x1 x2 (lidx_main_v1 (ix3 b i c) k) * x3 (ridx_main_v1 (ix3 b i c) k) =
      (if h : k.val < 512 then x1 (ix3 b i ⟨k.val, h⟩) else x2 (ix3 b i ⟨k.val - 512, by have := k.isLt; omega⟩)) * x3 (ix2 k c) := by
    intro k
    rw [show lidx_main_v1 (ix3 b i c) k = ix3 b i k from eq_ix3 _, show ridx_main_v1 (ix3 b i c) k = ix2 k c from eq_ix2 _, cat_at]
  rw [Finset.sum_congr rfl fun k _ => e k]
  refine (Fin.sum_univ_add (a := 512) (b := 512) _).trans (congrArg₂ (fun p q : EReal => p + q) ?_ ?_)
  · refine Finset.sum_congr rfl fun k _ => ?_
    refine (congrArg (fun q => q * x3 (ix2 (Fin.castAdd 512 k : Fin 1024) c)) (dif_pos (show (Fin.castAdd 512 k).val < 512 from k.isLt))).trans ?_
    exact congrArg (fun q => x1 (ix3 b i k) * x3 (ix2 q c)) (Fin.ext (Nat.zero_add _).symm)
  · refine Finset.sum_congr rfl fun k _ => ?_
    refine (congrArg (fun q => q * x3 (ix2 (Fin.natAdd 512 k : Fin 1024) c)) (dif_neg (show ¬ (Fin.natAdd 512 k).val < 512 by show ¬ 512 + k.val < 512; omega))).trans ?_
    exact congrArg (fun q => x2 (ix3 b i q) * x3 (ix2 (cl 512 (by decide) k) c)) (Fin.ext (Nat.add_sub_cancel_left 512 k.val))

theorem ref_u (b : Fin 2) (i : Fin 8208) (d : Fin 2560) :
    val_main_v16 (F := Ideal) x0 x1 x2 x3 x4 x5 (ix3 b i d) = on3 x0 x1 x2 (rU (tA x3) (tB x3) (tG x4) (tW x5)) b i d := by
  rw [val_main_v16_apply]
  refine Eq.trans ?_ (congrArg (fun f => ncol f (tG x4) fun k => tW x5 k d) (funext fun c => ref_h x0 x1 x2 x3 b i c))
  unfold ncol
  refine Finset.sum_congr rfl fun k _ => ?_
  refine congrArg₂ (fun p q => p * x5 q) ?_ (eq_ix2 _)
  rw [show lidx_main_v16 (ix3 b i d) k = ix3 b i k from eq_ix3 _]
  unfold nrm nrs
  rw [val_main_v15_apply, val_main_v12_apply, val_main_v11_apply, val_main_v10_apply, val_main_v9_apply, val_main_v8_apply, val_main_v7_apply, val_main_v6_apply,
    val_main_v5_apply, val_main_v4_apply, val_main_v14_apply, val_main_v13_apply, val_main_cst_apply, val_main_cst_0_apply, val_main_cst_1_apply]
  have z : (FloatOps.ofBits (F := Ideal) .f32 0x00000000#32) = (0 : EReal) := Ideal.ofBits_zero_f32
  have e4 : ∀ l : Fin 1024, val_main_v3 (F := Ideal) x0 x1 x2 x3 (idx_main_v4 (idx_main_v5 (idx_main_v11 (ix3 b i k))) l) =
      val_main_v2 (F := Ideal) x0 x1 x2 x3 (ix3 b i l) * val_main_v2 (F := Ideal) x0 x1 x2 x3 (ix3 b i l) := by
    intro l
    rw [val_main_v3_apply, show idx_main_v4 (idx_main_v5 (idx_main_v11 (ix3 b i k))) l = ix3 b i l from eq_ix3 _]
    rfl
  rw [z, zero_add, Finset.sum_congr rfl fun l _ => e4 l, show idx_main_v13 (idx_main_v14 (ix3 b i k)) = ix1 k from eq_ix1 _]
  rfl

theorem ref_v (b : Fin 2) (i : Fin 8208) (c : Fin 256) :
    val_main_v19 (F := Ideal) x0 x1 x2 x3 x4 x5 (ix3 b i c) = on3 x0 x1 x2 (rV (tA x3) (tB x3) (tG x4) (tW x5)) b i c := by
  rw [val_main_v19_apply, show idx_main_v19 (ix3 b i c) = ix3 b i (cl 1280 (by decide) c) from eq_ix3 _, ref_u]
  rfl

theorem ref_g (b : Fin 2) (i : Fin 8208) (c : Fin 1024) :
    val_main_v51 (F := Ideal) x0 x1 x2 x3 x4 x5 (ix3 b i c) = on3 x0 x1 x2 (rG (tA x3) (tB x3) (tG x4) (tW x5)) b i c := by
  rw [val_main_v51_apply, val_main_call0_v5_apply, val_main_call0_v4_apply, val_main_call0_v3_apply, val_main_call0_v2_apply, val_main_call0_v1_apply,
    val_main_call0_v0_apply, val_main_call0_cst_apply, val_main_call0_cst_0_apply, val_main_v20_apply,
    show idx_main_v20 (ix3 b i c) = ix3 b i (cl 1536 (by decide) c) from eq_ix3 _, ref_u, Sb.one_f32]
  unfold on3 rG Sb.gate
  rw [zero_sub]
  rfl

/-- The columns of the queries, in groups. -/
theorem q_col (b : Fin 2) (i : Fin 8208) (h : Fin 16) (d : Fin 64) : val_main_v21 (F := Ideal) x0 x1 x2 x3 x4 x5 (ix4 b i h d) =
    on3 x0 x1 x2 (rU (tA x3) (tB x3) (tG x4) (tW x5)) b i (cl 0 (by decide) (⟨64 * h.val + d.val, by have := h.isLt; have := d.isLt; omega⟩ : Fin 1024)) := by
  have hb := b.isLt
  have hi := i.isLt
  have hh := h.isLt
  have hd := d.isLt
  rw [val_main_v21_apply, val_main_v17_apply, ← ref_u]
  refine congrArg _ (funext fun a => Fin.ext ?_)
  match a with
  | 0 => show (((b.val * 8208 + i.val) * 16 + h.val) * 64 + d.val) / 8404992 = b.val; omega
  | 1 => show (((b.val * 8208 + i.val) * 16 + h.val) * 64 + d.val) / 1024 % 8208 = i.val; omega
  | 2 => show (((b.val * 8208 + i.val) * 16 + h.val) * 64 + d.val) % 1024 = 0 + (64 * h.val + d.val); omega

theorem k_col (b : Fin 2) (i : Fin 8208) (h : Fin 4) (d : Fin 64) : val_main_v36 (F := Ideal) x0 x1 x2 x3 x4 x5 (ix4 b i h d) =
    on3 x0 x1 x2 (rU (tA x3) (tB x3) (tG x4) (tW x5)) b i (cl 1024 (by decide) (⟨64 * h.val + d.val, by have := h.isLt; have := d.isLt; omega⟩ : Fin 256)) := by
  have hb := b.isLt
  have hi := i.isLt
  have hh := h.isLt
  have hd := d.isLt
  rw [val_main_v36_apply, val_main_v18_apply, ← ref_u]
  refine congrArg _ (funext fun a => Fin.ext ?_)
  match a with
  | 0 => show (((b.val * 8208 + i.val) * 4 + h.val) * 64 + d.val) / 2101248 = b.val; omega
  | 1 => show (((b.val * 8208 + i.val) * 4 + h.val) * 64 + d.val) / 256 % 8208 = i.val; omega
  | 2 => show 1024 + (((b.val * 8208 + i.val) * 4 + h.val) * 64 + d.val) % 256 = 1024 + (64 * h.val + d.val); omega

theorem ref_q (b : Fin 2) (i : Fin 8208) (c : Fin 1024) :
    val_main_v35 (F := Ideal) x0 x1 x2 x3 x4 x5 x6 (ix3 b i c) = on3 x0 x1 x2 (rQ (tA x3) (tB x3) (tG x4) (tW x5) (tS x6 1024)) b i c := by
  have hb := b.isLt
  have hi := i.isLt
  have hc := c.isLt
  have e : idx_main_v35 (ix3 b i c) = ix4 b i ⟨c.val / 64, by omega⟩ ⟨c.val % 64, Nat.mod_lt _ (by decide)⟩ := by
    funext a
    refine Fin.ext ?_
    match a with
    | 0 => show ((b.val * 8208 + i.val) * 1024 + c.val) / 8404992 = b.val; omega
    | 1 => show ((b.val * 8208 + i.val) * 1024 + c.val) / 1024 % 8208 = i.val; omega
    | 2 => show ((b.val * 8208 + i.val) * 1024 + c.val) / 64 % 16 = c.val / 64; omega
    | 3 => show ((b.val * 8208 + i.val) * 1024 + c.val) % 64 = c.val % 64; omega
  have z : (FloatOps.ofBits (F := Ideal) .f32 0x00000000#32) = (0 : EReal) := Ideal.ofBits_zero_f32
  rw [val_main_v35_apply, e]
  generalize hh : (⟨c.val / 64, by omega⟩ : Fin 16) = h
  generalize hd : (⟨c.val % 64, Nat.mod_lt _ (by decide)⟩ : Fin 64) = d
  have eh : c.val / 64 = h.val := congrArg Fin.val hh
  have ed : c.val % 64 = d.val := congrArg Fin.val hd
  have hl := h.isLt
  rw [val_main_v34_apply, val_main_v31_apply, val_main_v33_apply, val_main_v32_apply, val_main_v30_apply, val_main_v29_apply, val_main_v28_apply, val_main_v27_apply,
    val_main_v26_apply, val_main_v25_apply, val_main_v24_apply, val_main_v23_apply, val_main_cst_2_apply, val_main_cst_3_apply, val_main_cst_4_apply]
  have e4 : ∀ l : Fin 64, val_main_v22 (F := Ideal) x0 x1 x2 x3 x4 x5 (idx_main_v23 (idx_main_v24 (idx_main_v30 (ix4 b i h d))) l) =
      on3 x0 x1 x2 (rU (tA x3) (tB x3) (tG x4) (tW x5)) b i (cl 0 (by decide) (sg c l)) * on3 x0 x1 x2 (rU (tA x3) (tB x3) (tG x4) (tW x5)) b i (cl 0 (by decide) (sg c l)) := by
    intro l
    have hl2 := l.isLt
    rw [val_main_v22_apply, show idx_main_v23 (idx_main_v24 (idx_main_v30 (ix4 b i h d))) l = ix4 b i h l from eq_ix4 _, q_col,
      show (⟨64 * h.val + l.val, by omega⟩ : Fin 1024) = sg c l from Fin.ext (by show 64 * h.val + l.val = (64 * (c.val / 64) + l.val) % 1024; omega)]
    rfl
  rw [z, zero_add, Finset.sum_congr rfl fun l _ => e4 l, q_col, show idx_main_v32 (idx_main_v33 (ix4 b i h d)) = ix1 d from eq_ix1 _,
    show (⟨64 * h.val + d.val, by have := d.isLt; omega⟩ : Fin 1024) = c from Fin.ext (by show 64 * h.val + d.val = c.val; omega), ← hd]
  rfl

theorem ref_k (b : Fin 2) (i : Fin 8208) (c : Fin 256) :
    val_main_v50 (F := Ideal) x0 x1 x2 x3 x4 x5 x7 (ix3 b i c) = on3 x0 x1 x2 (rK (tA x3) (tB x3) (tG x4) (tW x5) (tS x7 256)) b i c := by
  have hb := b.isLt
  have hi := i.isLt
  have hc := c.isLt
  have e : idx_main_v50 (ix3 b i c) = ix4 b i ⟨c.val / 64, by omega⟩ ⟨c.val % 64, Nat.mod_lt _ (by decide)⟩ := by
    funext a
    refine Fin.ext ?_
    match a with
    | 0 => show ((b.val * 8208 + i.val) * 256 + c.val) / 2101248 = b.val; omega
    | 1 => show ((b.val * 8208 + i.val) * 256 + c.val) / 256 % 8208 = i.val; omega
    | 2 => show ((b.val * 8208 + i.val) * 256 + c.val) / 64 % 4 = c.val / 64; omega
    | 3 => show ((b.val * 8208 + i.val) * 256 + c.val) % 64 = c.val % 64; omega
  have z : (FloatOps.ofBits (F := Ideal) .f32 0x00000000#32) = (0 : EReal) := Ideal.ofBits_zero_f32
  rw [val_main_v50_apply, e]
  generalize hh : (⟨c.val / 64, by omega⟩ : Fin 4) = h
  generalize hd : (⟨c.val % 64, Nat.mod_lt _ (by decide)⟩ : Fin 64) = d
  have eh : c.val / 64 = h.val := congrArg Fin.val hh
  have ed : c.val % 64 = d.val := congrArg Fin.val hd
  have hl := h.isLt
  rw [val_main_v49_apply, val_main_v46_apply, val_main_v48_apply, val_main_v47_apply, val_main_v45_apply, val_main_v44_apply, val_main_v43_apply, val_main_v42_apply,
    val_main_v41_apply, val_main_v40_apply, val_main_v39_apply, val_main_v38_apply, val_main_cst_5_apply, val_main_cst_6_apply, val_main_cst_7_apply]
  have e4 : ∀ l : Fin 64, val_main_v37 (F := Ideal) x0 x1 x2 x3 x4 x5 (idx_main_v38 (idx_main_v39 (idx_main_v45 (ix4 b i h d))) l) =
      on3 x0 x1 x2 (rU (tA x3) (tB x3) (tG x4) (tW x5)) b i (cl 1024 (by decide) (sg c l)) * on3 x0 x1 x2 (rU (tA x3) (tB x3) (tG x4) (tW x5)) b i (cl 1024 (by decide) (sg c l)) := by
    intro l
    have hl2 := l.isLt
    rw [val_main_v37_apply, show idx_main_v38 (idx_main_v39 (idx_main_v45 (ix4 b i h d))) l = ix4 b i h l from eq_ix4 _, k_col,
      show (⟨64 * h.val + l.val, by omega⟩ : Fin 256) = sg c l from Fin.ext (by show 64 * h.val + l.val = (64 * (c.val / 64) + l.val) % 256; omega)]
    rfl
  rw [z, zero_add, Finset.sum_congr rfl fun l _ => e4 l, k_col, show idx_main_v47 (idx_main_v48 (ix4 b i h d)) = ix1 d from eq_ix1 _,
    show (⟨64 * h.val + d.val, by have := d.isLt; omega⟩ : Fin 256) = c from Fin.ext (by show 64 * h.val + d.val = c.val; omega), ← hd]
  rfl

end Cert.Proof.Mi
-- ==== Proof.Mi.Equation.lean ====
module

public import proofs.«01_k».proof.Proof.Mi.Host
public import proofs.«01_k».proof.Proof.Mi.Ref

/-! The two sides of the call between the layers agree. -/

@[expose] public section
set_option maxRecDepth 16384
noncomputable section
namespace Cert.Proof.Mi
open Idealize.ShloMosaic Idealize.ShloMosaic.Pointwise Idealize.ShloMosaic.TcCoe Idealize.SL.Sem Cert.MidIdeal Cert.MidIdeal.Gen Cert.Proof.Pr
open Cert.MidRefIdeal.Read
open Cert.Proof.In (cl)

/-- A function of rows that leaves rows of zeros alone, on the padded arrays. -/
theorem rows_pr {n : ℕ} (X0 : FVec Ideal S16896x1024 .f32) (X1 X2 : FVec Ideal S16896x512 .f32) (x0 : FVec Ideal S2x8208x1024 .f32) (x1 x2 : FVec Ideal S2x8208x512 .f32)
    (h0 : ∀ r k, X0 (ix2 r k) = pr (fun b i k => x0 (ix3 b i k)) r k) (h1 : ∀ r k, X1 (ix2 r k) = pr (fun b i k => x1 (ix3 b i k)) r k) (h2 : ∀ r k, X2 (ix2 r k) = pr (fun b i k => x2 (ix3 b i k)) r k)
    (φ : (Fin 1024 → EReal) → (Fin 512 → EReal) → (Fin 512 → EReal) → Fin n → EReal)
    (hz : ∀ (f : Fin 1024 → EReal) (a b : Fin 512 → EReal) (c : Fin n), (∀ k, f k = 0) → (∀ k, a k = 0) → (∀ k, b k = 0) → φ f a b c = 0) (r : Fin 16896) (c : Fin n) :
    rows X0 X1 X2 φ (ix2 r c) = pr (on3 x0 x1 x2 φ) r c := by
  show φ (fun k => X0 (ix2 r k)) (fun k => X1 (ix2 r k)) (fun k => X2 (ix2 r k)) c = _
  rw [funext (h0 r), funext (h1 r), funext (h2 r)]
  by_cases h : 48 ≤ r.val % 8448 ∧ r.val % 8448 < 8256
  · have e : ∀ {w : ℕ} (x : Sq w), pr x r = x ⟨r.val / 8448, by have := r.isLt; omega⟩ ⟨r.val % 8448 - 48, by omega⟩ := fun x => funext fun k => dif_pos h
    rw [e, e, e, e]
  · have e : ∀ {w : ℕ} (x : Sq w) (k : Fin w), pr x r k = 0 := fun x k => dif_neg h
    rw [e (on3 x0 x1 x2 φ)]
    exact hz _ _ _ _ (e _) (e _) (e _)

variable (m : (ℓ : Loc nD τ sig) → Buf (Elt Ideal) ℓ) (c : Dev nD) (x0 : FVec Ideal S2x8208x1024 .f32) (x1 x2 : FVec Ideal S2x8208x512 .f32) (x3 : FVec Ideal S1024x1024 .f32)
variable (x4 : FVec Ideal S1024 .f32) (x5 : FVec Ideal S1024x2560 .f32) (x6 x7 : FVec Ideal S64 .f32)
variable (h0 : m ((c : Thread nD τ).loc main_arg0) = x0) (h1 : m ((c : Thread nD τ).loc main_arg1) = x1) (h2 : m ((c : Thread nD τ).loc main_arg2) = x2) (h3 : m ((c : Thread nD τ).loc main_arg3) = x3)

include h0 h1 h2 in
theorem rows_eq {n : ℕ} (φ : (Fin 1024 → EReal) → (Fin 512 → EReal) → (Fin 512 → EReal) → Fin n → EReal)
    (hz : ∀ (f : Fin 1024 → EReal) (a b : Fin 512 → EReal) (c : Fin n), (∀ k, f k = 0) → (∀ k, a k = 0) → (∀ k, b k = 0) → φ f a b c = 0) (r : Fin 16896) (d : Fin n) :
    rows (V m c main_v25) (V m c main_v27) (V m c main_v29) φ (ix2 r d) = pr (on3 x0 x1 x2 φ) r d := by
  subst h0 h1 h2
  exact rows_pr _ _ _ _ _ _ (v25 m c) (v27 m c) (v29 m c) φ hz r d

include h3 in
theorem wa_eq : wA (V m c main_v1) = tA x3 := by
  subst h3
  exact funext fun k => funext fun d => v1 m c k d

include h3 in
theorem wb_eq : wA (V m c main_v3) = tB x3 := by
  subst h3
  exact funext fun k => funext fun d => v3 m c k d

variable (h4 : m ((c : Thread nD τ).loc main_arg4) = x4) (h5 : m ((c : Thread nD τ).loc main_arg5) = x5)

include h4 in
theorem g_eq : gA (V m c main_v4) = tG x4 := by
  subst h4
  exact funext fun k => v4 m c k

include h5 in
theorem w_eq : wW (V m c main_v5) = tW x5 := by
  subst h5
  exact funext fun k => funext fun d => v5 m c k d

include h0 h1 h2 h3 in
theorem eq10 : (dats m 0 c).arrAt 10 cfg0.N = val_main_v53 (F := Ideal) x0 x1 x2 x3 := by
  rw [arr10, wa_eq m c x3 h3, wb_eq m c x3 h3]
  funext j
  obtain ⟨r, d, rfl⟩ : ∃ (r : Fin 16896) (d : Fin 1024), j = ix2 r d := ⟨j 0, j 1, eq_ix2 j⟩
  rw [rows_eq m c x0 x1 x2 h0 h1 h2 _ fun f a b d hf ha hb => rH_zero _ _ f a b hf ha hb d]
  refine Eq.trans ?_ (padded (t := .f32) (val_main_v2 (F := Ideal) x0 x1 x2 x3) _ zero_word _ _ _ r d).symm
  exact congrArg (fun y => pr y r d) (funext fun b => funext fun i => funext fun k => (ref_h x0 x1 x2 x3 b i k).symm)

include h0 h1 h2 h3 h4 h5

theorem eq13 : (dats m 0 c).arrAt 13 cfg0.N = val_main_v59 (F := Ideal) x0 x1 x2 x3 x4 x5 := by
  rw [arr13, wa_eq m c x3 h3, wb_eq m c x3 h3, g_eq m c x4 h4, w_eq m c x5 h5]
  funext j
  obtain ⟨r, d, rfl⟩ : ∃ (r : Fin 16896) (d : Fin 256), j = ix2 r d := ⟨j 0, j 1, eq_ix2 j⟩
  rw [rows_eq m c x0 x1 x2 h0 h1 h2 (rV (tA x3) (tB x3) (tG x4) (tW x5)) fun f a b d hf ha hb => rU_zero _ _ _ _ f a b hf ha hb _]
  refine Eq.trans ?_ (padded (t := .f32) (val_main_v19 (F := Ideal) x0 x1 x2 x3 x4 x5) _ zero_word _ _ _ r d).symm
  exact congrArg (fun y => pr y r d) (funext fun b => funext fun i => funext fun k => (ref_v x0 x1 x2 x3 x4 x5 b i k).symm)

theorem eq14 : (dats m 0 c).arrAt 14 cfg0.N = val_main_v61 (F := Ideal) x0 x1 x2 x3 x4 x5 := by
  rw [arr14, wa_eq m c x3 h3, wb_eq m c x3 h3, g_eq m c x4 h4, w_eq m c x5 h5]
  funext j
  obtain ⟨r, d, rfl⟩ : ∃ (r : Fin 16896) (d : Fin 1024), j = ix2 r d := ⟨j 0, j 1, eq_ix2 j⟩
  rw [rows_eq m c x0 x1 x2 h0 h1 h2 _ fun f a b d hf ha hb => rG_zero _ _ _ _ f a b hf ha hb d]
  refine Eq.trans ?_ (padded (t := .f32) (val_main_v51 (F := Ideal) x0 x1 x2 x3 x4 x5) _ zero_word _ _ _ r d).symm
  exact congrArg (fun y => pr y r d) (funext fun b => funext fun i => funext fun k => (ref_g x0 x1 x2 x3 x4 x5 b i k).symm)

theorem eq16 : (dats m 0 c).arrAt 16 cfg0.N = val_main_v64 (F := Ideal) x0 x1 x2 x3 x4 x5 := by
  rw [arr16, ← arr13]
  exact eq13 m c x0 x1 x2 x3 x4 x5 h0 h1 h2 h3 h4 h5

variable (hg : ∀ k : Fin 1024, ∃ y : ℝ, x4 (ix1 k) = (y : EReal)) (hw : ∀ (k : Fin 1024) (d : Fin 2560), d.val < 1280 → ∃ y : ℝ, x5 (ix2 k d) = (y : EReal))
include hg hw

theorem eq11 (h6 : m ((c : Thread nD τ).loc main_arg6) = x6) : (dats m 0 c).arrAt 11 cfg0.N = val_main_v62 (F := Ideal) x0 x1 x2 x3 x4 x5 x6 := by
  rw [arr11 m c (v23 m c) (fun k => by rw [v4, h4]; exact hg k) (fun k d h => by rw [v5, h5]; exact hw k d h),
    wa_eq m c x3 h3, wb_eq m c x3 h3, g_eq m c x4 h4, w_eq m c x5 h5,
    show gA (V m c main_v9) = tS x6 1024 from funext fun k => by subst h6; exact v9 m c k]
  funext j
  obtain ⟨r, d, rfl⟩ : ∃ (r : Fin 16896) (d : Fin 1024), j = ix2 r d := ⟨j 0, j 1, eq_ix2 j⟩
  rw [rows_eq m c x0 x1 x2 h0 h1 h2 _ fun f a b d hf ha hb => rQ_zero _ _ _ _ _ f a b hf ha hb d]
  show _ = val_main_v55 (F := Ideal) x0 x1 x2 x3 x4 x5 x6 (ix2 r d)
  refine Eq.trans ?_ (padded (t := .f32) (val_main_v35 (F := Ideal) x0 x1 x2 x3 x4 x5 x6) _ zero_word _ _ _ r d).symm
  exact congrArg (fun y => pr y r d) (funext fun b => funext fun i => funext fun k => (ref_q x0 x1 x2 x3 x4 x5 x6 b i k).symm)

theorem eq12 (h7 : m ((c : Thread nD τ).loc main_arg7) = x7) : (dats m 0 c).arrAt 12 cfg0.N = val_main_v57 (F := Ideal) x0 x1 x2 x3 x4 x5 x7 := by
  rw [arr12 m c (v23 m c) (fun k => by rw [v4, h4]; exact hg k) (fun k d h => by rw [v5, h5]; exact hw k d h),
    wa_eq m c x3 h3, wb_eq m c x3 h3, g_eq m c x4 h4, w_eq m c x5 h5,
    show kA (V m c main_v13) = tS x7 256 from funext fun k => by subst h7; exact v13 m c k]
  funext j
  obtain ⟨r, d, rfl⟩ : ∃ (r : Fin 16896) (d : Fin 256), j = ix2 r d := ⟨j 0, j 1, eq_ix2 j⟩
  rw [rows_eq m c x0 x1 x2 h0 h1 h2 _ fun f a b d hf ha hb => rK_zero _ _ _ _ _ f a b hf ha hb d]
  refine Eq.trans ?_ (padded (t := .f32) (val_main_v50 (F := Ideal) x0 x1 x2 x3 x4 x5 x7) _ zero_word _ _ _ r d).symm
  exact congrArg (fun y => pr y r d) (funext fun b => funext fun i => funext fun k => (ref_k x0 x1 x2 x3 x4 x5 x7 b i k).symm)

theorem eq15 (h7 : m ((c : Thread nD τ).loc main_arg7) = x7) : (dats m 0 c).arrAt 15 cfg0.N = val_main_v63 (F := Ideal) x0 x1 x2 x3 x4 x5 x7 := by
  have e := eq12 m c x0 x1 x2 x3 x4 x5 x7 h0 h1 h2 h3 h4 h5 hg hw h7
  rw [arr12 m c (v23 m c) (fun k => by rw [v4, h4]; exact hg k) (fun k d h => by rw [v5, h5]; exact hw k d h)] at e
  rw [arr15 m c (v23 m c) (fun k => by rw [v4, h4]; exact hg k) (fun k d h => by rw [v5, h5]; exact hw k d h)]
  exact e

end Cert.Proof.Mi
-- ==== Proof.Mi.Real.lean ====
module

public import proofs.«01_k».proof.Pre_real_qk_weights
public import proofs.«01_k».proof.Proof.Mi.Equation
public import proofs.«01_k».proof.Proof.Sb.Real

/-! What the precondition says: the norm's scale and the columns of the weights that make queries and keys are real numbers. -/

@[expose] public section
noncomputable section
namespace Cert.Proof.Mi
open Cert.Pre_real_qk_weights Idealize.ShloMosaic Idealize.ShloMosaic.Pointwise

/-- The shape facts of the precondition. -/
theorem preFacts : Cert.Pre_real_qk_weights.Facts where
  bcast_S_S1024 := ⟨fun a => a.elim0, fun a => a.elim0⟩
  slices_S1024x2560_S1024x1280_0_0 := by decide
  bcast_S_S1024x1280 := ⟨fun a => a.elim0, fun a => a.elim0⟩

variable [Cert.Pre_real_qk_weights.Facts]

theorem reals (x0 : FVec Ideal S2x8208x1024 .f32) (x1 x2 : FVec Ideal S2x8208x512 .f32) (x3 : FVec Ideal S1024x1024 .f32) (x4 : FVec Ideal S1024 .f32) (x5 : FVec Ideal S1024x2560 .f32)
    (x6 x7 : FVec Ideal S64 .f32) (h : (fn (F := Ideal) x0 x1 x2 x3 x4 x5 x6 x7).1 = (fun _ => 1#1) ∧ (fn (F := Ideal) x0 x1 x2 x3 x4 x5 x6 x7).2 = (fun _ => 1#1)) :
    (∀ k : Fin 1024, ∃ y : ℝ, x4 (ix1 k) = (y : EReal)) ∧ ∀ (k : Fin 1024) (d : Fin 2560), d.val < 1280 → ∃ y : ℝ, x5 (ix2 k d) = (y : EReal) := by
  refine ⟨fun k => ⟨_, Sb.real_of_lt (x4 (ix1 k)) (congrFun h.1 (ix1 k))⟩, fun k d hd => ?_⟩
  have s : extractStridedSlice S1024x1280 ![0, 0] x5 Facts.slices_S1024x2560_S1024x1280_0_0 (ix2 k ⟨d.val, hd⟩) = x5 (ix2 k d) := by
    pointwise
  have e : FloatOps.cmpf .olt (FloatOps.hostAbsf (extractStridedSlice S1024x1280 ![0, 0] x5 Facts.slices_S1024x2560_S1024x1280_0_0 (ix2 k ⟨d.val, hd⟩)))
      (FloatOps.ofBits (F := Ideal) .f32 0x7F800000#32) = 1#1 := congrFun h.2 (ix2 k ⟨d.val, hd⟩)
  rw [s] at e
  exact ⟨_, Sb.real_of_lt _ e⟩

end Cert.Proof.Mi
-- ==== Proof.Pr.Cut.lean ====
module

public import proofs.«01_k».proof.Proof.Pr.Rows

/-! Cutting rows of the sequences out of a call's array, which has rows of zeros around them. -/

@[expose] public section
set_option maxRecDepth 16384
noncomputable section
namespace Cert.Proof.Pr
open Idealize.ShloMosaic Idealize.ShloMosaic.Pointwise

variable {w L : ℕ} {t : FTy} {u : Shape} (x : FVec Ideal ⟨3, ![2, 8208, w]⟩ t) (z : FVec Ideal u t)
variable (hp : Shape.Pads (⟨3, ![2, 8208, w]⟩ : Shape) ![0, 48, 0] ![0, 192, 0] ![0, 0, 0] ⟨3, ![2, 8448, w]⟩) (hu : 0 < u.numel)
variable (hs : (⟨3, ![2, 8448, w]⟩ : Shape).ShapeCasts ⟨2, ![16896, w]⟩) (hs' : (⟨2, ![16896, w]⟩ : Shape).ShapeCasts ⟨3, ![2, 8448, w]⟩)

/-- Rows of the sequences, from the `o`-th row of each on: the host cuts them out of the call's array, where a sequence begins at row 48. -/
theorem cut (o p : ℕ) (hpo : p = 48 + o) (hl : (⟨3, ![2, 8448, w]⟩ : Shape).Slices ![0, p, 0] ⟨3, ![2, L, w]⟩)
    (hl' : (⟨3, ![2, 8208, w]⟩ : Shape).Slices ![0, o, 0] ⟨3, ![2, L, w]⟩) :
    extractStridedSlice (⟨3, ![2, L, w]⟩ : Shape) ![0, p, 0] (shapeCast (⟨3, ![2, 8448, w]⟩ : Shape)
      (shapeCast (⟨2, ![16896, w]⟩ : Shape) (pad (⟨3, ![2, 8448, w]⟩ : Shape) ![0, 48, 0] ![0, 192, 0] ![0, 0, 0] x z hp hu) hs) hs') hl =
      extractStridedSlice (⟨3, ![2, L, w]⟩ : Shape) ![0, o, 0] x hl' := by
  subst hpo
  rw [shapeCast_comp, shapeCast_id]
  funext j
  refine pad_apply_of_inside _ _ _ x _ _ _ _ _ fun a => ?_
  match a with
  | 0 => show 0 + (j 0).val = 0 + (0 + (j 0).val) * 1; omega
  | 1 => show 48 + o + (j 1).val = 48 + (o + (j 1).val) * 1; omega
  | 2 => show 0 + (j 2).val = 0 + (0 + (j 2).val) * 1; omega

/-- All the rows of the sequences. -/
theorem cut_all (hl : (⟨3, ![2, 8448, w]⟩ : Shape).Slices ![0, 48, 0] ⟨3, ![2, 8208, w]⟩) :
    extractStridedSlice (⟨3, ![2, 8208, w]⟩ : Shape) ![0, 48, 0] (shapeCast (⟨3, ![2, 8448, w]⟩ : Shape)
      (shapeCast (⟨2, ![16896, w]⟩ : Shape) (pad (⟨3, ![2, 8448, w]⟩ : Shape) ![0, 48, 0] ![0, 192, 0] ![0, 0, 0] x z hp hu) hs) hs') hl = x := by
  rw [shapeCast_comp, shapeCast_id]
  funext j
  refine pad_apply_of_inside _ _ _ x _ _ _ _ j fun a => ?_
  match a with
  | 0 => show 0 + (j 0).val = 0 + (j 0).val * 1; omega
  | 1 => show 48 + (j 1).val = 48 + (j 1).val * 1; omega
  | 2 => show 0 + (j 2).val = 0 + (j 2).val * 1; omega

/-- Reading a row as four heads of 64. -/
theorem heads_at {N : ℕ} (y : FVec Ideal ⟨3, ![2, N, 256]⟩ t) (hc : (⟨3, ![2, N, 256]⟩ : Shape).ShapeCasts ⟨4, ![2, N, 4, 64]⟩) (j : (⟨4, ![2, N, 4, 64]⟩ : Shape).Idx)
    (k : (⟨3, ![2, N, 256]⟩ : Shape).Idx) (k0 : (k 0).val = (j 0).val) (k1 : (k 1).val = (j 1).val) (k2 : (k 2).val = (j 2).val * 64 + (j 3).val) :
    shapeCast (⟨4, ![2, N, 4, 64]⟩ : Shape) y hc j = y k := by
  refine shapeCast_apply y hc j k ?_
  rw [rowMajor_val3 k (N * 256) 256 rfl rfl, rowMajor_val4 j (N * 256) 256 64 rfl rfl rfl, k0, k1, k2]
  omega

/-- Cutting rows and reading a row as four heads may be done in either order. -/
theorem heads_cut (o : ℕ) (y : FVec Ideal ⟨3, ![2, 8208, 256]⟩ t) (hl : (⟨3, ![2, 8208, 256]⟩ : Shape).Slices ![0, o, 0] ⟨3, ![2, L, 256]⟩)
    (hc : (⟨3, ![2, L, 256]⟩ : Shape).ShapeCasts ⟨4, ![2, L, 4, 64]⟩) (hc' : (⟨3, ![2, 8208, 256]⟩ : Shape).ShapeCasts ⟨4, ![2, 8208, 4, 64]⟩)
    (hl' : (⟨4, ![2, 8208, 4, 64]⟩ : Shape).Slices ![0, o, 0, 0] ⟨4, ![2, L, 4, 64]⟩) :
    shapeCast (⟨4, ![2, L, 4, 64]⟩ : Shape) (extractStridedSlice (⟨3, ![2, L, 256]⟩ : Shape) ![0, o, 0] y hl) hc =
      extractStridedSlice (⟨4, ![2, L, 4, 64]⟩ : Shape) ![0, o, 0, 0] (shapeCast (⟨4, ![2, 8208, 4, 64]⟩ : Shape) y hc') hl' := by
  funext j
  have h2 : (j 2).val < 4 := (j 2).isLt
  have h3 : (j 3).val < 64 := (j 3).isLt
  refine (heads_at _ hc j (ix3 (j 0) (j 1) ⟨(j 2).val * 64 + (j 3).val, by omega⟩) rfl rfl rfl).trans ?_
  refine Eq.symm ((heads_at y hc' _ _ ?_ ?_ ?_))
  · rfl
  · rfl
  · show 0 + ((j 2).val * 64 + (j 3).val) = (0 + (j 2).val) * 64 + (0 + (j 3).val); omega

/-- The last three rows do not reach the three rows that are put in front. -/
theorem last_rows (c : FVec Ideal ⟨3, ![2, 3, 1536]⟩ t) (y : FVec Ideal ⟨3, ![2, 8208, 1536]⟩ t)
    (hl : (⟨3, ![2, 8208, 1536]⟩ : Shape).Slices ![0, 8205, 0] ⟨3, ![2, 3, 1536]⟩)
    (hc : Shape.Concatenates [(⟨3, ![2, 3, 1536]⟩ : Shape), ⟨3, ![2, 8208, 1536]⟩] ⟨3, ![2, 8211, 1536]⟩ 1)
    (hl' : (⟨3, ![2, 8211, 1536]⟩ : Shape).Slices ![0, 8208, 0] ⟨3, ![2, 3, 1536]⟩) :
    extractStridedSlice (⟨3, ![2, 3, 1536]⟩ : Shape) ![0, 8205, 0] y hl =
      extractStridedSlice (⟨3, ![2, 3, 1536]⟩ : Shape) ![0, 8208, 0] (concatenate (⟨3, ![2, 8211, 1536]⟩ : Shape) 1 [⟨⟨3, ![2, 3, 1536]⟩, c⟩, ⟨⟨3, ![2, 8208, 1536]⟩, y⟩] hc) hl' := by
  funext j
  obtain ⟨b, i, d, rfl⟩ : ∃ (b : Fin 2) (i : Fin 3) (d : Fin 1536), j = ix3 b i d := ⟨j 0, j 1, j 2, eq_ix3 j⟩
  pointwise
  rw [dif_neg (by omega)]
  exact congrArg (fun q => y (ix3 b q d)) (Fin.ext (by show 8205 + i.val = 8208 + i.val - 3; omega))

end Cert.Proof.Pr
-- ==== Proof.In.Tail.lean ====
module

public import proofs.«01_k».proof.Proof.In.Equation
public import proofs.«01_k».proof.Proof.Pr.Cut

/-! What the host makes of three of the prompt's arrays: the keys and values by heads, and the last three rows before the convolution. -/

@[expose] public section
set_option maxRecDepth 16384
noncomputable section
namespace Cert.Proof.In
open Idealize.ShloMosaic Idealize.ShloMosaic.Pointwise Idealize.ShloMosaic.TcCoe Idealize.SL.Sem Cert.InprojIdeal Cert.InprojIdeal.Gen Cert.Proof.Pr
open Cert.InprojRefIdeal.Read

/-- The rows of the sequences, cut out of the call's array, a row as four heads. -/
def heads (y : FVec Ideal S16896x512 .f32) : FVec Ideal S2x8208x4x128 .f32 :=
  shapeCast S2x8208x4x128 (extractStridedSlice S2x8208x512 ![0, 48, 0] (shapeCast S2x8448x512 y shapeCasts_S16896x512_S2x8448x512) slices_S2x8448x512_S2x8208x512_0_48_0)
    shapeCasts_S2x8208x512_S2x8208x4x128

/-- The last three rows of the sequences, cut out of the call's array. -/
def last (y : FVec Ideal S16896x1536 .f32) : FVec Ideal S2x3x1536 .f32 :=
  extractStridedSlice S2x3x1536 ![0, 8253, 0] (shapeCast S2x8448x1536 y shapeCasts_S16896x1536_S2x8448x1536) slices_S2x8448x1536_S2x3x1536_0_8253_0

section Host
variable (W : Valuation τ sig (Elt Ideal))

theorem host16 : StableHlo.after hostOps1 W (Proc.devRef .tc main_v16) = heads (W (Proc.devRef .tc main_v13_3)) := by
  after_results
  rfl

theorem host19 : StableHlo.after hostOps1 W (Proc.devRef .tc main_v19) = heads (W (Proc.devRef .tc main_v13_4)) := by
  after_results
  rfl

theorem host21 : StableHlo.after hostOps1 W (Proc.devRef .tc main_v21) = last (W (Proc.devRef .tc main_v13_0)) := by
  after_results
  rfl

end Host

section Tail
variable (m : (ℓ : Loc nD τ sig) → Buf (Elt Ideal) ℓ) (c : Dev nD)

theorem tail16 : Pipeline.afterTail₀ cfgs (dats m) 0 (V0 m) [hostOps1] c main_v16 = heads ((dats m 0 c).arrAt 7 cfg0.N) := by
  unfold Pipeline.afterTail₀
  rw [show ([hostOps1] : List (List (HloOp τ sig (Elt Ideal)))).flatten = hostOps1 from rfl, host16]
  exact congrArg heads (Pipeline.withArrays_arr spec0 launch0.win.arr_inj c (V0 m c) (fun w => (dats m 0 c).arrAt w cfg0.N) 7)

theorem tail19 : Pipeline.afterTail₀ cfgs (dats m) 0 (V0 m) [hostOps1] c main_v19 = heads ((dats m 0 c).arrAt 8 cfg0.N) := by
  unfold Pipeline.afterTail₀
  rw [show ([hostOps1] : List (List (HloOp τ sig (Elt Ideal)))).flatten = hostOps1 from rfl, host19]
  exact congrArg heads (Pipeline.withArrays_arr spec0 launch0.win.arr_inj c (V0 m c) (fun w => (dats m 0 c).arrAt w cfg0.N) 8)

theorem tail21 : Pipeline.afterTail₀ cfgs (dats m) 0 (V0 m) [hostOps1] c main_v21 = last ((dats m 0 c).arrAt 4 cfg0.N) := by
  unfold Pipeline.afterTail₀
  rw [show ([hostOps1] : List (List (HloOp τ sig (Elt Ideal)))).flatten = hostOps1 from rfl, host21]
  exact congrArg last (Pipeline.withArrays_arr spec0 launch0.win.arr_inj c (V0 m c) (fun w => (dats m 0 c).arrAt w cfg0.N) 4)

/-- The call's run with the host's lines after it: its nine arrays, and what the host makes of three of them. -/
theorem run (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 4 cfg0.N
      ∧ r.2.mem ((c : Thread nD τ).loc main_v13_1) = (dats m 0 c).arrAt 5 cfg0.N
      ∧ r.2.mem ((c : Thread nD τ).loc main_v13_2) = (dats m 0 c).arrAt 6 cfg0.N
      ∧ r.2.mem ((c : Thread nD τ).loc main_v13_3) = (dats m 0 c).arrAt 7 cfg0.N
      ∧ r.2.mem ((c : Thread nD τ).loc main_v13_4) = (dats m 0 c).arrAt 8 cfg0.N
      ∧ r.2.mem ((c : Thread nD τ).loc main_v13_5) = (dats m 0 c).arrAt 9 cfg0.N
      ∧ r.2.mem ((c : Thread nD τ).loc main_v13_6) = (dats m 0 c).arrAt 10 cfg0.N
      ∧ r.2.mem ((c : Thread nD τ).loc main_v13_7) = (dats m 0 c).arrAt 11 cfg0.N
      ∧ r.2.mem ((c : Thread nD τ).loc main_v13_8) = (dats m 0 c).arrAt 12 cfg0.N
      ∧ r.2.mem ((c : Thread nD τ).loc main_v16) = heads ((dats m 0 c).arrAt 7 cfg0.N)
      ∧ r.2.mem ((c : Thread nD τ).loc main_v19) = heads ((dats m 0 c).arrAt 8 cfg0.N)
      ∧ r.2.mem ((c : Thread nD τ).loc main_v21) = last ((dats m 0 c).arrAt 4 cfg0.N) :=
  (θ_run defs _ _).mono (fun r h c => ⟨(h c).1 4, (h c).1 5, (h c).1 6, (h c).1 7, (h c).1 8, (h c).1 9, (h c).1 10, (h c).1 11, (h c).1 12,
      ((h c).2 main_v16 (Pipeline.mem_restRefs_of main_v16 (by decide) (by decide))).trans (tail16 m c),
      ((h c).2 main_v19 (Pipeline.mem_restRefs_of main_v19 (by decide) (by decide))).trans (tail19 m c),
      ((h c).2 main_v21 (Pipeline.mem_restRefs_of main_v21 (by decide) (by decide))).trans (tail21 m c)⟩)
    (run_main m ρ)

end Tail

section Ref
variable (x0 : FVec Ideal S2x8192x1024 .f32) (x1 : FVec Ideal S16x1024 .f32) (x2 : FVec Ideal S1024 .f32) (x3 : FVec Ideal S1024x4104 .f32)

theorem ref_k_heads : heads (val_main_v36 (F := Ideal) x0 x1 x2 x3) = val_main_v46 (F := Ideal) x0 x1 x2 x3 :=
  congrArg (fun q => shapeCast S2x8208x4x128 q shapeCasts_S2x8208x512_S2x8208x4x128) (cut_all (t := .f32) (val_main_v22 (F := Ideal) x0 x1 x2 x3) _ _ _ _ _ _)

theorem ref_v_heads : heads (val_main_v38 (F := Ideal) x0 x1 x2 x3) = val_main_v47 (F := Ideal) x0 x1 x2 x3 :=
  congrArg (fun q => shapeCast S2x8208x4x128 q shapeCasts_S2x8208x512_S2x8208x4x128) (cut_all (t := .f32) (val_main_v23 (F := Ideal) x0 x1 x2 x3) _ _ _ _ _ _)

/-- The reference puts three rows of zeros in front before it takes the last three. -/
theorem ref_last : last (val_main_v30 (F := Ideal) x0 x1 x2 x3) = val_main_v50 (F := Ideal) x0 x1 x2 x3 :=
  (Pr.cut (t := .f32) (val_main_v17 (F := Ideal) x0 x1 x2 x3) _ _ _ _ _ 8205 8253 rfl _ (by decide)).trans (last_rows (t := .f32) _ (val_main_v17 (F := Ideal) x0 x1 x2 x3) _ _ _)

end Ref

end Cert.Proof.In
-- ==== Proof.Op.Tail.lean ====
module

public import proofs.«01_k».proof.Proof.Op.Equation
public import proofs.«01_k».proof.Proof.Pr.Cut

/-! What the host makes of the prompt's output: the rows behind the first 16. -/

@[expose] public section
set_option maxRecDepth 16384
noncomputable section
namespace Cert.Proof.Op
open Idealize.ShloMosaic Idealize.ShloMosaic.Pointwise Idealize.ShloMosaic.TcCoe Idealize.SL.Sem Cert.OutprojIdeal Cert.OutprojIdeal.Gen Cert.Proof.Pr
open Cert.OutprojRefIdeal.Read

/-- The rows of the prompt itself, cut out of the call's array. -/
def rows (y : FVec Ideal S16896x1024 .f32) : FVec Ideal S2x8192x1024 .f32 :=
  extractStridedSlice S2x8192x1024 ![0, 64, 0] (shapeCast S2x8448x1024 y shapeCasts_S16896x1024_S2x8448x1024) slices_S2x8448x1024_S2x8192x1024_0_64_0

section Host
variable (W : Valuation τ sig (Elt Ideal))

theorem host8 : StableHlo.after hostOps1 W (Proc.devRef .tc main_v8) = rows (W (Proc.devRef .tc main_v6)) := by
  after_results
  rfl

end Host

section Tail
variable (m : (ℓ : Loc nD τ sig) → Buf (Elt Ideal) ℓ) (c : Dev nD)

theorem tail8 : Pipeline.afterTail₀ cfgs (dats m) 0 (V0 m) [hostOps1] c main_v8 = rows ((dats m 0 c).arrAt 3 cfg0.N) := by
  unfold Pipeline.afterTail₀
  rw [show ([hostOps1] : List (List (HloOp τ sig (Elt Ideal)))).flatten = hostOps1 from rfl, host8]
  exact congrArg rows (Pipeline.withArrays_arr spec0 launch0.win.arr_inj c (V0 m c) (fun w => (dats m 0 c).arrAt w cfg0.N) 3)

/-- The call's run with the host's lines after it. -/
theorem run (ρ : Dev nD → PrngReg) : θ_run defs (onTc (τ := τ) (main (F := Ideal))) ⟨m, fun _ => 0, ρ⟩ fun r => ∀ c : Dev nD,
      r.2.mem ((c : Thread nD τ).loc main_v6) = (dats m 0 c).arrAt 3 cfg0.N
      ∧ r.2.mem ((c : Thread nD τ).loc main_v8) = rows ((dats m 0 c).arrAt 3 cfg0.N) :=
  (θ_run defs _ _).mono (fun r h c => ⟨(h c).1 3,
      ((h c).2 main_v8 (Pipeline.mem_restRefs_of main_v8 (by decide) (by decide))).trans (tail8 m c)⟩)
    (run_main m ρ)

end Tail

section Ref
/-- The reference takes the rows behind the first 16. -/
theorem ref_rows (x0 x1 : FVec Ideal S2x8208x1024 .f32) (x2 : FVec Ideal S1024x1024 .f32) :
    rows (val_main_v3 (F := Ideal) x0 x1 x2) = val_main_v4 (F := Ideal) x0 x1 x2 :=
  cut (t := .f32) (val_main_v1 (F := Ideal) x0 x1 x2) _ _ _ _ _ 16 64 rfl _ _

end Ref

end Cert.Proof.Op
-- ==== Proof.Mi.Tail.lean ====
module

public import proofs.«01_k».proof.Proof.Mi.Equation
public import proofs.«01_k».proof.Proof.Pr.Cut

/-! What the host makes of the prompt's keys and values: the last 128 rows and the first 16, by heads. -/

@[expose] public section
set_option maxRecDepth 16384
noncomputable section
namespace Cert.Proof.Mi
open Idealize.ShloMosaic Idealize.ShloMosaic.Pointwise Idealize.ShloMosaic.TcCoe Idealize.SL.Sem Cert.MidIdeal Cert.MidIdeal.Gen Cert.Proof.Pr
open Cert.MidRefIdeal.Read
open Cert.MidRefIdeal (S2x8208x256)

/-- The last 128 rows of the sequences, cut out of the call's array, a row as four heads. -/
def window (y : FVec Ideal S16896x256 .f32) : FVec Ideal S2x128x4x64 .f32 :=
  shapeCast S2x128x4x64 (extractStridedSlice S2x128x256 ![0, 8128, 0] (shapeCast S2x8448x256 y shapeCasts_S16896x256_S2x8448x256) slices_S2x8448x256_S2x128x256_0_8128_0)
    shapeCasts_S2x128x256_S2x128x4x64

/-- The first 16 rows of the sequences, cut out of the call's array, a row as four heads. -/
def firsts (y : FVec Ideal S16896x256 .f32) : FVec Ideal S2x16x4x64 .f32 :=
  shapeCast S2x16x4x64 (extractStridedSlice S2x16x256 ![0, 48, 0] (shapeCast S2x8448x256 y shapeCasts_S16896x256_S2x8448x256) slices_S2x8448x256_S2x16x256_0_48_0)
    shapeCasts_S2x16x256_S2x16x4x64

section Host
variable (W : Valuation τ sig (Elt Ideal))

theorem host34 : StableHlo.after hostOps1 W (Proc.devRef .tc main_v34) = window (W (Proc.devRef .tc main_v30_2)) := by
  after_results
  rfl

theorem host36 : StableHlo.after hostOps1 W (Proc.devRef .tc main_v36) = window (W (Proc.devRef .tc main_v30_3)) := by
  after_results
  rfl

theorem host38 : StableHlo.after hostOps1 W (Proc.devRef .tc main_v38) = firsts (W (Proc.devRef .tc main_v30_2)) := by
  after_results
  rfl

theorem host40 : StableHlo.after hostOps1 W (Proc.devRef .tc main_v40) = firsts (W (Proc.devRef .tc main_v30_3)) := by
  after_results
  rfl

end Host

section Tail
variable (m : (ℓ : Loc nD τ sig) → Buf (Elt Ideal) ℓ) (c : Dev nD)

theorem tail34 : Pipeline.afterTail₀ cfgs (dats m) 0 (V0 m) [hostOps1] c main_v34 = window ((dats m 0 c).arrAt 12 cfg0.N) := by
  unfold Pipeline.afterTail₀
  rw [show ([hostOps1] : List (List (HloOp τ sig (Elt Ideal)))).flatten = hostOps1 from rfl, host34]
  exact congrArg window (Pipeline.withArrays_arr spec0 launch0.win.arr_inj c (V0 m c) (fun w => (dats m 0 c).arrAt w cfg0.N) 12)

theorem tail36 : Pipeline.afterTail₀ cfgs (dats m) 0 (V0 m) [hostOps1] c main_v36 = window ((dats m 0 c).arrAt 13 cfg0.N) := by
  unfold Pipeline.afterTail₀
  rw [show ([hostOps1] : List (List (HloOp τ sig (Elt Ideal)))).flatten = hostOps1 from rfl, host36]
  exact congrArg window (Pipeline.withArrays_arr spec0 launch0.win.arr_inj c (V0 m c) (fun w => (dats m 0 c).arrAt w cfg0.N) 13)

theorem tail38 : Pipeline.afterTail₀ cfgs (dats m) 0 (V0 m) [hostOps1] c main_v38 = firsts ((dats m 0 c).arrAt 12 cfg0.N) := by
  unfold Pipeline.afterTail₀
  rw [show ([hostOps1] : List (List (HloOp τ sig (Elt Ideal)))).flatten = hostOps1 from rfl, host38]
  exact congrArg firsts (Pipeline.withArrays_arr spec0 launch0.win.arr_inj c (V0 m c) (fun w => (dats m 0 c).arrAt w cfg0.N) 12)

theorem tail40 : Pipeline.afterTail₀ cfgs (dats m) 0 (V0 m) [hostOps1] c main_v40 = firsts ((dats m 0 c).arrAt 13 cfg0.N) := by
  unfold Pipeline.afterTail₀
  rw [show ([hostOps1] : List (List (HloOp τ sig (Elt Ideal)))).flatten = hostOps1 from rfl, host40]
  exact congrArg firsts (Pipeline.withArrays_arr spec0 launch0.win.arr_inj c (V0 m c) (fun w => (dats m 0 c).arrAt w cfg0.N) 13)

/-- The call's run with the host's lines after it: its seven arrays, and the rows that the host cuts out of two of them. -/
theorem run (ρ : Dev nD → PrngReg) : θ_run defs (onTc (τ := τ) (main (F := Ideal))) ⟨m, fun _ => 0, ρ⟩ fun r => ∀ c : Dev nD,
      r.2.mem ((c : Thread nD τ).loc main_v30_0) = (dats m 0 c).arrAt 10 cfg0.N
      ∧ r.2.mem ((c : Thread nD τ).loc main_v30_1) = (dats m 0 c).arrAt 11 cfg0.N
      ∧ r.2.mem ((c : Thread nD τ).loc main_v30_2) = (dats m 0 c).arrAt 12 cfg0.N
      ∧ r.2.mem ((c : Thread nD τ).loc main_v30_3) = (dats m 0 c).arrAt 13 cfg0.N
      ∧ r.2.mem ((c : Thread nD τ).loc main_v30_4) = (dats m 0 c).arrAt 14 cfg0.N
      ∧ r.2.mem ((c : Thread nD τ).loc main_v30_5) = (dats m 0 c).arrAt 15 cfg0.N
      ∧ r.2.mem ((c : Thread nD τ).loc main_v30_6) = (dats m 0 c).arrAt 16 cfg0.N
      ∧ r.2.mem ((c : Thread nD τ).loc main_v34) = window ((dats m 0 c).arrAt 12 cfg0.N)
      ∧ r.2.mem ((c : Thread nD τ).loc main_v36) = window ((dats m 0 c).arrAt 13 cfg0.N)
      ∧ r.2.mem ((c : Thread nD τ).loc main_v38) = firsts ((dats m 0 c).arrAt 12 cfg0.N)
      ∧ r.2.mem ((c : Thread nD τ).loc main_v40) = firsts ((dats m 0 c).arrAt 13 cfg0.N) :=
  (θ_run defs _ _).mono (fun r h c => ⟨(h c).1 10, (h c).1 11, (h c).1 12, (h c).1 13, (h c).1 14, (h c).1 15, (h c).1 16,
      ((h c).2 main_v34 (Pipeline.mem_restRefs_of main_v34 (by decide) (by decide))).trans (tail34 m c),
      ((h c).2 main_v36 (Pipeline.mem_restRefs_of main_v36 (by decide) (by decide))).trans (tail36 m c),
      ((h c).2 main_v38 (Pipeline.mem_restRefs_of main_v38 (by decide) (by decide))).trans (tail38 m c),
      ((h c).2 main_v40 (Pipeline.mem_restRefs_of main_v40 (by decide) (by decide))).trans (tail40 m c)⟩)
    (run_main m ρ)

end Tail

section Ref
variable (x0 : FVec Ideal S2x8208x1024 .f32) (x1 x2 : FVec Ideal S2x8208x512 .f32) (x3 : FVec Ideal S1024x1024 .f32) (x4 : FVec Ideal S1024 .f32) (x5 : FVec Ideal S1024x2560 .f32)
variable (x7 : FVec Ideal S64 .f32)

/-- The last 128 rows of sequences that the call's array holds between rows of zeros. -/
theorem window_of (x : FVec Ideal S2x8208x256 .f32) {u : Shape} (z : FVec Ideal u .f32) (hp : Shape.Pads S2x8208x256 ![0, 48, 0] ![0, 192, 0] ![0, 0, 0] S2x8448x256)
    (hu : 0 < u.numel) (hs : S2x8448x256.ShapeCasts S16896x256) (hc : S2x8208x256.ShapeCasts (⟨4, ![2, 8208, 4, 64]⟩ : Shape)) (hl : (⟨4, ![2, 8208, 4, 64]⟩ : Shape).Slices ![0, 8080, 0, 0] S2x128x4x64) :
    window (shapeCast S16896x256 (pad S2x8448x256 ![0, 48, 0] ![0, 192, 0] ![0, 0, 0] x z hp hu) hs) =
      extractStridedSlice S2x128x4x64 ![0, 8080, 0, 0] (shapeCast (⟨4, ![2, 8208, 4, 64]⟩ : Shape) x hc) hl :=
  (congrArg (fun q => shapeCast S2x128x4x64 q shapeCasts_S2x128x256_S2x128x4x64) (cut (t := .f32) x z hp hu hs _ 8080 8128 rfl _ (by decide))).trans
    (heads_cut (t := .f32) 8080 x _ _ hc hl)

/-- The first 16 rows in the same way. -/
theorem firsts_of (x : FVec Ideal S2x8208x256 .f32) {u : Shape} (z : FVec Ideal u .f32) (hp : Shape.Pads S2x8208x256 ![0, 48, 0] ![0, 192, 0] ![0, 0, 0] S2x8448x256)
    (hu : 0 < u.numel) (hs : S2x8448x256.ShapeCasts S16896x256) (hc : S2x8208x256.ShapeCasts (⟨4, ![2, 8208, 4, 64]⟩ : Shape)) (hl : (⟨4, ![2, 8208, 4, 64]⟩ : Shape).Slices ![0, 0, 0, 0] S2x16x4x64) :
    firsts (shapeCast S16896x256 (pad S2x8448x256 ![0, 48, 0] ![0, 192, 0] ![0, 0, 0] x z hp hu) hs) =
      extractStridedSlice S2x16x4x64 ![0, 0, 0, 0] (shapeCast (⟨4, ![2, 8208, 4, 64]⟩ : Shape) x hc) hl :=
  (congrArg (fun q => shapeCast S2x16x4x64 q shapeCasts_S2x16x256_S2x16x4x64) (cut (t := .f32) x z hp hu hs _ 0 48 rfl _ (by decide))).trans
    (heads_cut (t := .f32) 0 x _ _ hc hl)

theorem ref_k_window : window (val_main_v57 (F := Ideal) x0 x1 x2 x3 x4 x5 x7) = val_main_v67 (F := Ideal) x0 x1 x2 x3 x4 x5 x7 :=
  window_of (val_main_v50 (F := Ideal) x0 x1 x2 x3 x4 x5 x7) _ _ _ _ _ _

theorem ref_v_window : window (val_main_v59 (F := Ideal) x0 x1 x2 x3 x4 x5) = val_main_v68 (F := Ideal) x0 x1 x2 x3 x4 x5 :=
  window_of (val_main_v19 (F := Ideal) x0 x1 x2 x3 x4 x5) _ _ _ _ _ _

theorem ref_k_firsts : firsts (val_main_v57 (F := Ideal) x0 x1 x2 x3 x4 x5 x7) = val_main_v69 (F := Ideal) x0 x1 x2 x3 x4 x5 x7 :=
  firsts_of (val_main_v50 (F := Ideal) x0 x1 x2 x3 x4 x5 x7) _ _ _ _ _ _

theorem ref_v_firsts : firsts (val_main_v59 (F := Ideal) x0 x1 x2 x3 x4 x5) = val_main_v70 (F := Ideal) x0 x1 x2 x3 x4 x5 :=
  firsts_of (val_main_v19 (F := Ideal) x0 x1 x2 x3 x4 x5) _ _ _ _ _ _

end Ref

end Cert.Proof.Mi
-- ==== Proof.In.Sample.lean ====
module

public import proofs.«01_k».proof.Proof.In.Array
public import proofs.«01_k».proof.Proof.Gen.InprojSampleIdeal.Frame
public import proofs.«01_k».proof.Proof.Gen.InprojSampleRefIdeal.Read

/-! The input projection on the sample group's rows: the result arrays, with the block's arithmetic of the prompt group's call, and
the arrays that the host hands it. -/

@[expose] public section
set_option maxRecDepth 16384
noncomputable section
namespace Cert.Proof.InS
open Idealize.ShloMosaic Idealize.ShloMosaic.Pointwise Idealize.ShloMosaic.TcCoe Idealize.SL.Sem Cert.InprojSampleIdeal Cert.InprojSampleIdeal.Gen Cert.Proof.Pr
open Cert.Proof.In (cl oc qs prod prod_at wc)
open Cert.InprojSampleRefIdeal.Read

theorem idxi : ∀ t : Fin cfg0.N, win0_0.index t = ![t.val, 0] ∧ win0_1.index t = ![0, 0] ∧ win0_2.index t = ![0, 0] ∧ win0_3.index t = ![0, 0] :=
  (by decide +kernel : ∀ t : Fin grid0.N, _)

theorem idxo : ∀ t : Fin cfg0.N, win0_4.index t = ![t.val, 0] ∧ win0_5.index t = ![t.val, 0] ∧ win0_6.index t = ![t.val, 0] ∧ win0_7.index t = ![t.val, 0] ∧
    win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

section Blocks
variable (x : FVec Ideal S512x1024 .f32) (g : FVec Ideal S1x1024 .f32) (w : FVec Ideal S1024x4096 .bf16) (b : FVec Ideal S1024x128 .f32)

/-! The block's arithmetic is that of the prompt group's call. -/
theorem o4 : out0_4 (F := Ideal) x g w b = fun y => ncol (fun l => x (ix2 (y 0) l)) (fun l => g (ix2 0 l)) fun k => w (ix2 k (cl (n := 1536) 0 (by decide) (y 1))) := In.out4 x g w b
theorem o5 : out0_5 (F := Ideal) x g w b = oc x g w 1536 (by decide) := In.out5 x g w b
theorem o6 : out0_6 (F := Ideal) x g w b = fun y => oc x g w 2048 (by decide) y * qs := In.out6 x g w b
theorem o7 : out0_7 (F := Ideal) x g w b = oc x g w 2560 (by decide) := In.out7 x g w b
theorem o8 : out0_8 (F := Ideal) x g w b = oc x g w 3072 (by decide) := In.out8 x g w b
theorem o9 : out0_9 (F := Ideal) x g w b = oc x g w 3584 (by decide) := In.out9 x g w b
theorem o11 : out0_11 (F := Ideal) x g w b = oc x g w 2560 (by decide) := In.out11 x g w b
theorem o12 : out0_12 (F := Ideal) x g w b = oc x g w 3072 (by decide) := In.out12 x g w b
theorem o10 (hg : ∀ k : Fin 1024, ∃ y : ℝ, g (ix2 0 k) = (y : EReal)) (hb : ∀ (k : Fin 1024) (c : Fin 128), ∃ y : ℝ, b (ix2 k c) = (y : EReal)) :
    out0_10 (F := Ideal) x g w b = fun y => ncol (fun l => x (ix2 (y 0) l)) (fun l => g (ix2 0 l)) fun k => b (ix2 k (y 1)) := In.out10 x g w b hg hb

end Blocks

section Arrays
variable (m : (ℓ : Loc nD τ sig) → Buf (Elt Ideal) ℓ) (c : Dev nD)

theorem iblk0 (t : Fin cfg0.N) : iblk m c 0 t = blk (t := .f32) (V m c main_v0) t.val :=
  funext fun j => blk_win (t := .f32) (V m c main_v0) t.val j (((cfg0.win 0).blk t).view.emb j) (idxi t).1 rfl rfl

theorem iblk1 (t : Fin cfg0.N) : iblk m c 1 t = V m c main_v7 :=
  funext fun j => whole_win (t := .f32) (V m c main_v7) j (((cfg0.win 1).blk t).view.emb j) (idxi t).2.1 rfl rfl

theorem iblk2 (t : Fin cfg0.N) : iblk m c 2 t = V m c main_v4 :=
  funext fun j => whole_win (t := .bf16) (V m c main_v4) j (((cfg0.win 2).blk t).view.emb j) (idxi t).2.2.1 rfl rfl

theorem iblk3 (t : Fin cfg0.N) : iblk m c 3 t = V m c main_v6 :=
  funext fun j => whole_win (t := .f32) (V m c main_v6) j (((cfg0.win 3).blk t).view.emb j) (idxi t).2.2.2 rfl rfl

/-- The rows of a block are rows of the array. -/
theorem prod_win {n : ℕ} (x : FVec Ideal S1024x1024 .f32) (g : FVec Ideal S1x1024 .f32) (f : Fin n → Fin 1024 → EReal) (t : ℕ) (y : (⟨2, ![512, n]⟩ : Shape).Idx)
    (z : (⟨2, ![1024, n]⟩ : Shape).Idx) {p : Fin 2 → ℕ} (hp : p = ![t, 0]) (h0 : (z 0).val = p 0 * 512 + 1 * (y 0).val) (h1 : (z 1).val = p 1 * n + 1 * (y 1).val) :
    ncol (fun l => blk (t := .f32) x t (ix2 (y 0) l)) (fun l => g (ix2 0 l)) (f (y 1)) = prod x g f z := by
  subst hp
  exact prod_at x g f t y z h0 h1

theorem arr4 : (dats m 0 c).arrAt 4 cfg0.N = prod (n := 1536) (V m c main_v0) (V m c main_v7) (wc (V m c main_v4) 0 (by decide)) := by
  refine (dats m 0 c).arrAt_eq_of_covers 4 _ (by decide +kernel) fun t hf y => ?_
  rw [after0_4, iblk0, iblk1, iblk2, iblk3, o4]
  exact prod_win (n := 1536) (V m c main_v0) (V m c main_v7) (wc (V m c main_v4) 0 (by decide)) t.val ((cfg0.win 4).xinj (cfg0.grid.coords t) y) _ (idxo t).1 rfl rfl

theorem arr5 : (dats m 0 c).arrAt 5 cfg0.N = prod (n := 512) (V m c main_v0) (V m c main_v7) (wc (V m c main_v4) 1536 (by decide)) := by
  refine (dats m 0 c).arrAt_eq_of_covers 5 _ (by decide +kernel) fun t hf y => ?_
  rw [after0_5, iblk0, iblk1, iblk2, iblk3, o5]
  exact prod_win (n := 512) (V m c main_v0) (V m c main_v7) (wc (V m c main_v4) 1536 (by decide)) t.val ((cfg0.win 5).xinj (cfg0.grid.coords t) y) _ (idxo t).2.1 rfl rfl

theorem arr6 : (dats m 0 c).arrAt 6 cfg0.N = fun j => prod (n := 512) (V m c main_v0) (V m c main_v7) (wc (V m c main_v4) 2048 (by decide)) j * qs := by
  refine (dats m 0 c).arrAt_eq_of_covers 6 _ (by decide +kernel) fun t hf y => ?_
  rw [after0_6, iblk0, iblk1, iblk2, iblk3, o6]
  exact congrArg (· * qs) (prod_win (n := 512) (V m c main_v0) (V m c main_v7) (wc (V m c main_v4) 2048 (by decide)) t.val ((cfg0.win 6).xinj (cfg0.grid.coords t) y) _ (idxo t).2.2.1 rfl rfl)

theorem arr7 : (dats m 0 c).arrAt 7 cfg0.N = prod (n := 512) (V m c main_v0) (V m c main_v7) (wc (V m c main_v4) 2560 (by decide)) := by
  refine (dats m 0 c).arrAt_eq_of_covers 7 _ (by decide +kernel) fun t hf y => ?_
  rw [after0_7, iblk0, iblk1, iblk2, iblk3, o7]
  exact prod_win (n := 512) (V m c main_v0) (V m c main_v7) (wc (V m c main_v4) 2560 (by decide)) t.val ((cfg0.win 7).xinj (cfg0.grid.coords t) y) _ (idxo t).2.2.2.1 rfl rfl

theorem arr8 : (dats m 0 c).arrAt 8 cfg0.N = prod (n := 512) (V m c main_v0) (V m c main_v7) (wc (V m c main_v4) 3072 (by decide)) := by
  refine (dats m 0 c).arrAt_eq_of_covers 8 _ (by decide +kernel) fun t hf y => ?_
  rw [after0_8, iblk0, iblk1, iblk2, iblk3, o8]
  exact prod_win (n := 512) (V m c main_v0) (V m c main_v7) (wc (V m c main_v4) 3072 (by decide)) t.val ((cfg0.win 8).xinj (cfg0.grid.coords t) y) _ (idxo t).2.2.2.2.1 rfl rfl

theorem arr9 : (dats m 0 c).arrAt 9 cfg0.N = prod (n := 512) (V m c main_v0) (V m c main_v7) (wc (V m c main_v4) 3584 (by decide)) := by
  refine (dats m 0 c).arrAt_eq_of_covers 9 _ (by decide +kernel) fun t hf y => ?_
  rw [after0_9, iblk0, iblk1, iblk2, iblk3, o9]
  exact prod_win (n := 512) (V m c main_v0) (V m c main_v7) (wc (V m c main_v4) 3584 (by decide)) t.val ((cfg0.win 9).xinj (cfg0.grid.coords t) y) _ (idxo t).2.2.2.2.2.1 rfl rfl

theorem arr10 (hg : ∀ k : Fin 1024, ∃ y : ℝ, V m c main_v7 (ix2 0 k) = (y : EReal)) (hb : ∀ (k : Fin 1024) (d : Fin 128), ∃ y : ℝ, V m c main_v6 (ix2 k d) = (y : EReal)) :
    (dats m 0 c).arrAt 10 cfg0.N = prod (n := 128) (V m c main_v0) (V m c main_v7) fun d k => V m c main_v6 (ix2 k d) := by
  refine (dats m 0 c).arrAt_eq_of_covers 10 _ (by decide +kernel) fun t hf y => ?_
  rw [after0_10, iblk0, iblk1, iblk2, iblk3, o10 _ _ _ _ hg hb]
  exact prod_win (n := 128) (V m c main_v0) (V m c main_v7) (fun d k => V m c main_v6 (ix2 k d)) t.val ((cfg0.win 10).xinj (cfg0.grid.coords t) y) _ (idxo t).2.2.2.2.2.2.1 rfl rfl

theorem arr11 : (dats m 0 c).arrAt 11 cfg0.N = prod (n := 512) (V m c main_v0) (V m c main_v7) (wc (V m c main_v4) 2560 (by decide)) := by
  refine (dats m 0 c).arrAt_eq_of_covers 11 _ (by decide +kernel) fun t hf y => ?_
  rw [after0_11, iblk0, iblk1, iblk2, iblk3, o11]
  exact prod_win (n := 512) (V m c main_v0) (V m c main_v7) (wc (V m c main_v4) 2560 (by decide)) t.val ((cfg0.win 11).xinj (cfg0.grid.coords t) y) _ (idxo t).2.2.2.2.2.2.2.1 rfl rfl

theorem arr12 : (dats m 0 c).arrAt 12 cfg0.N = prod (n := 512) (V m c main_v0) (V m c main_v7) (wc (V m c main_v4) 3072 (by decide)) := by
  refine (dats m 0 c).arrAt_eq_of_covers 12 _ (by decide +kernel) fun t hf y => ?_
  rw [after0_12, iblk0, iblk1, iblk2, iblk3, o12]
  exact prod_win (n := 512) (V m c main_v0) (V m c main_v7) (wc (V m c main_v4) 3072 (by decide)) t.val ((cfg0.win 12).xinj (cfg0.grid.coords t) y) _ (idxo t).2.2.2.2.2.2.2.2 rfl rfl

theorem v7 (k : Fin 1024) : V m c main_v7 (ix2 0 k) = (m ((c : Thread nD τ).loc main_arg1) : FVec Ideal S1024 .f32) (ix1 k) := by
  have e : V m c main_v7 = (broadcastInDim S1x1024 ![1] bcast_S1024_S1x1024_1 (m ((c : Thread nD τ).loc main_arg1) : FVec Ideal S1024 .f32) : FVec Ideal S1x1024 .f32) := by
    entry_read
    rfl
  rw [e]
  pointwise

theorem v4 (k : Fin 1024) (d : Fin 4096) : V m c main_v4 (ix2 k d) =
    (m ((c : Thread nD τ).loc main_arg2) : FVec Ideal S1024x4104 .f32) (ix2 k ⟨if d.val < 2048 then d.val else d.val + 8, by have := d.isLt; split <;> omega⟩) := by
  have e : V m c main_v4 = (truncf .bf16 (concatenate S1024x4096 1 [⟨S1024x2048, extractStridedSlice S1024x2048 ![0, 0] (m ((c : Thread nD τ).loc main_arg2) : FVec Ideal S1024x4104 .f32) slices_S1024x4104_S1024x2048_0_0⟩,
      ⟨S1024x2048, extractStridedSlice S1024x2048 ![0, 2056] (m ((c : Thread nD τ).loc main_arg2) : FVec Ideal S1024x4104 .f32) slices_S1024x4104_S1024x2048_0_2056⟩]
      concatenates_S1024x2048_S1024x2048_S1024x4096_d1) bitsLt_bf16_f32 : FVec Ideal S1024x4096 .bf16) := by
    entry_read
    rfl
  rw [e]
  pointwise
  by_cases h : d.val < 2048
  · simp only [h, ↓reduceIte, ↓reduceDIte]
  · simp only [h, ↓reduceIte, ↓reduceDIte]
    exact congrArg (fun q => (m ((c : Thread nD τ).loc main_arg2) : FVec Ideal S1024x4104 .f32) (ix2 k q)) (Fin.ext (by show 2056 + (d.val - 2048) = d.val + 8; omega))

theorem v6 (k : Fin 1024) (d : Fin 128) : V m c main_v6 (ix2 k d) =
    if h : d.val < 8 then (m ((c : Thread nD τ).loc main_arg2) : FVec Ideal S1024x4104 .f32) (ix2 k ⟨2048 + d.val, by omega⟩) else (0 : EReal) := by
  have e : V m c main_v6 = (pad S1024x128 ![0, 0] ![0, 120] ![0, 0] (extractStridedSlice S1024x8 ![0, 2048] (m ((c : Thread nD τ).loc main_arg2) : FVec Ideal S1024x4104 .f32) slices_S1024x4104_S1024x8_0_2048)
      (sitofp .f32 (constantI S_ 32 0#32)) pads_S1024x8_S1024x128_000_01200 h_S_ : FVec Ideal S1024x128 .f32) := by
    entry_read
    rfl
  rw [e]
  pointwise
  split
  · rfl
  · exact zero_word (u := S_) (t := .f32) (fun a => a.elim0)

theorem v0 (r k : Fin 1024) : V m c main_v0 (ix2 r k) = fl (fun b i l => (m ((c : Thread nD τ).loc main_arg0) : FVec Ideal S128x8x1024 .f32) (ix3 b i l)) r k := by
  have e : V m c main_v0 = (shapeCast S1024x1024 (m ((c : Thread nD τ).loc main_arg0) : FVec Ideal S128x8x1024 .f32) shapeCasts_S128x8x1024_S1024x1024 : FVec Ideal S1024x1024 .f32) := by
    entry_read
    rfl
  rw [e]
  exact flat_at (t := .f32) _ _ r k

end Arrays

section Reference
variable (x0 : FVec Ideal S128x8x1024 .f32) (x1 : FVec Ideal S1024 .f32) (x2 : FVec Ideal S1024x4104 .f32)

/-- The reference's row of numbers, before it is cut into the results. -/
theorem ref_u (b : Fin 128) (i : Fin 8) (d : Fin 4104) :
    val_main_v13 (F := Ideal) x0 x1 x2 (ix3 b i d) = ncol (fun l => x0 (ix3 b i l)) (fun l => x1 (ix1 l)) fun k => x2 (ix2 k d) := by
  rw [val_main_v13_apply]
  unfold ncol
  refine Finset.sum_congr rfl fun k _ => ?_
  refine congrArg₂ (fun p q => p * x2 q) ?_ (eq_ix2 _)
  rw [show lidx_main_v13 (ix3 b i d) k = ix3 b i k from eq_ix3 _]
  unfold nrm nrs
  rw [val_main_v12_apply, val_main_v9_apply, val_main_v8_apply, val_main_v7_apply, val_main_v6_apply, val_main_v5_apply, val_main_v4_apply, val_main_v3_apply,
    val_main_v2_apply, val_main_v1_apply, val_main_v11_apply, val_main_v10_apply, val_main_cst_apply, val_main_cst_0_apply, val_main_cst_1_apply]
  have z : (FloatOps.ofBits (F := Ideal) .f32 0x00000000#32) = (0 : EReal) := Ideal.ofBits_zero_f32
  have e4 : ∀ l : Fin 1024, val_main_v0 (F := Ideal) x0 (idx_main_v1 (idx_main_v2 (idx_main_v8 (ix3 b i k))) l) = x0 (ix3 b i l) * x0 (ix3 b i l) := by
    intro l
    rw [val_main_v0_apply, show idx_main_v1 (idx_main_v2 (idx_main_v8 (ix3 b i k))) l = ix3 b i l from eq_ix3 _]
    rfl
  rw [z, zero_add, Finset.sum_congr rfl fun l _ => e4 l, show idx_main_v10 (idx_main_v11 (ix3 b i k)) = ix1 k from eq_ix1 _]
  rfl

/-- The numbers that the norm and the weights give. -/
def uu (r : Fin 1024) (d : Fin 4104) : EReal :=
  fl (fun b i (d : Fin 4104) => val_main_v13 (F := Ideal) x0 x1 x2 (ix3 b i d)) r d

theorem uu_eq (r : Fin 1024) (d : Fin 4104) :
    ncol (fun l => fl (fun b i l => x0 (ix3 b i l)) r l) (fun l => x1 (ix1 l)) (fun k => x2 (ix2 k d)) = uu x0 x1 x2 r d :=
  (ref_u _ _ _ _ _ _).symm

end Reference

end Cert.Proof.InS
-- ==== Proof.In.SampleEquation.lean ====
module

public import proofs.«01_k».proof.Pre_real_ba_weights_sample
public import proofs.«01_k».proof.Proof.In.Sample
public import proofs.«01_k».proof.Proof.Sb.Real

/-! The input projection's two sides agree on the sample group's rows. -/

@[expose] public section
set_option maxRecDepth 16384
noncomputable section
namespace Cert.Proof.InS
open Idealize.ShloMosaic Idealize.ShloMosaic.Pointwise Idealize.ShloMosaic.TcCoe Idealize.SL.Sem Cert.InprojSampleIdeal Cert.InprojSampleIdeal.Gen Cert.Proof.Pr
open Cert.Proof.In (cl oc qs prod prod_at wc)
open Cert.InprojSampleRefIdeal.Read

section Reference
variable (x0 : FVec Ideal S128x8x1024 .f32) (x1 : FVec Ideal S1024 .f32) (x2 : FVec Ideal S1024x4104 .f32) (r : Fin 1024)

theorem ref26 (d : Fin 1536) : val_main_v26 (F := Ideal) x0 x1 x2 (ix2 r d) = uu x0 x1 x2 r (cl 0 (by decide) d) :=
  (flat_at (t := .f32) (val_main_v14 (F := Ideal) x0 x1 x2) _ r d).trans ((val_main_v14_apply (F := Ideal) x0 x1 x2 _).trans (congrArg (val_main_v13 (F := Ideal) x0 x1 x2)
    (funext fun a => Fin.ext (match a with | 0 => rfl | 1 => rfl | 2 => (Nat.zero_add _).symm))))

theorem ref27 (d : Fin 512) : val_main_v27 (F := Ideal) x0 x1 x2 (ix2 r d) = uu x0 x1 x2 r (cl 1536 (by decide) d) :=
  (flat_at (t := .f32) (val_main_v15 (F := Ideal) x0 x1 x2) _ r d).trans ((val_main_v15_apply (F := Ideal) x0 x1 x2 _).trans (congrArg (val_main_v13 (F := Ideal) x0 x1 x2) (eq_ix3 _)))

theorem ref29 (d : Fin 512) : val_main_v29 (F := Ideal) x0 x1 x2 (ix2 r d) = uu x0 x1 x2 r (cl 2568 (by decide) d) :=
  (flat_at (t := .f32) (val_main_v19 (F := Ideal) x0 x1 x2) _ r d).trans ((val_main_v19_apply (F := Ideal) x0 x1 x2 _).trans (congrArg (val_main_v13 (F := Ideal) x0 x1 x2) (eq_ix3 _)))

theorem ref30 (d : Fin 512) : val_main_v30 (F := Ideal) x0 x1 x2 (ix2 r d) = uu x0 x1 x2 r (cl 3080 (by decide) d) :=
  (flat_at (t := .f32) (val_main_v20 (F := Ideal) x0 x1 x2) _ r d).trans ((val_main_v20_apply (F := Ideal) x0 x1 x2 _).trans (congrArg (val_main_v13 (F := Ideal) x0 x1 x2) (eq_ix3 _)))

theorem ref31 (d : Fin 512) : val_main_v31 (F := Ideal) x0 x1 x2 (ix2 r d) = uu x0 x1 x2 r (cl 3592 (by decide) d) :=
  (flat_at (t := .f32) (val_main_v21 (F := Ideal) x0 x1 x2) _ r d).trans ((val_main_v21_apply (F := Ideal) x0 x1 x2 _).trans (congrArg (val_main_v13 (F := Ideal) x0 x1 x2) (eq_ix3 _)))

/-- The scaled cut. -/
theorem ref28 (d : Fin 512) : val_main_v28 (F := Ideal) x0 x1 x2 (ix2 r d) = uu x0 x1 x2 r (cl 2056 (by decide) d) * qs := by
  refine (flat_at (t := .f32) (val_main_v23 (F := Ideal) x0 x1 x2) _ r d).trans ?_
  unfold uu fl
  beta_reduce
  rw [val_main_v23_apply, val_main_v18_apply, val_main_v22_apply, val_main_cst_2_apply]
  refine congrArg (fun q => val_main_v13 (F := Ideal) x0 x1 x2 q * qs) (eq_ix3 _)

/-- The two cuts of four columns each, and columns of zeros. -/
theorem ref32 (d : Fin 128) : val_main_v32 (F := Ideal) x0 x1 x2 (ix2 r d) = if h : d.val < 8 then uu x0 x1 x2 r ⟨2048 + d.val, by omega⟩ else (0 : EReal) := by
  refine (flat_at (t := .f32) (val_main_v25 (F := Ideal) x0 x1 x2) _ r d).trans ?_
  have e : ∀ (b : Fin 128) (i : Fin 8), val_main_v25 (F := Ideal) x0 x1 x2 (ix3 b i d) =
      if h : d.val < 8 then val_main_v13 (F := Ideal) x0 x1 x2 (ix3 b i ⟨2048 + d.val, by omega⟩) else (0 : EReal) := by
    intro b i
    unfold val_main_v25 val_main_v24 val_main_v16 val_main_v17
    generalize val_main_v13 (F := Ideal) x0 x1 x2 = u
    pointwise
    by_cases h : d.val < 8
    · rw [dif_pos h, dif_pos h]
      by_cases h4 : d.val < 4
      · rw [dif_pos h4]
      · rw [dif_neg h4]
        exact congrArg (fun q => u (ix3 b i q)) (Fin.ext (by show 2052 + (d.val - 4) = 2048 + d.val; omega))
    · rw [dif_neg h, dif_neg h]
      exact zero_word (u := S_) (t := .f32) (fun a => a.elim0)
  exact e _ _

end Reference

section Sides
variable (m : (ℓ : Loc nD τ sig) → Buf (Elt Ideal) ℓ) (c : Dev nD) (x0 : FVec Ideal S128x8x1024 .f32) (x1 : FVec Ideal S1024 .f32) (x2 : FVec Ideal S1024x4104 .f32)
variable (h0 : m ((c : Thread nD τ).loc main_arg0) = x0) (h1 : m ((c : Thread nD τ).loc main_arg1) = x1) (h2 : m ((c : Thread nD τ).loc main_arg2) = x2)
include h0 h1 h2

/-- A product of the normalised rows with columns of the weights. -/
theorem prod_uu {n : ℕ} (f : Fin n → Fin 1024 → EReal) (d : Fin n) (q : Fin 4104) (hf : ∀ k, f d k = x2 (ix2 k q)) (r : Fin 1024) :
    prod (N := 1024) (V m c main_v0) (V m c main_v7) f (ix2 r d) = uu x0 x1 x2 r q := by
  subst h0 h1 h2
  refine Eq.trans ?_ (uu_eq _ _ _ r q)
  show ncol (fun l => V m c main_v0 (ix2 r l)) (fun l => V m c main_v7 (ix2 0 l)) (f d) = _
  rw [funext fun l => v0 m c r l, funext fun l => v7 m c l, funext hf]

theorem wide {n : ℕ} (o q : ℕ) (h : o + n ≤ 4096) (hq : q + n ≤ 4104) (ho : ∀ d < n, (if o + d < 2048 then o + d else o + d + 8) = q + d) (r : Fin 1024) (d : Fin n) :
    prod (N := 1024) (V m c main_v0) (V m c main_v7) (wc (V m c main_v4) o h) (ix2 r d) = uu x0 x1 x2 r (cl q hq d) := by
  refine prod_uu m c x0 x1 x2 h0 h1 h2 _ d (cl q hq d) (fun k => ?_) r
  refine (v4 m c k _).trans ?_
  rw [h2]
  exact congrArg (fun p => x2 (ix2 k p)) (Fin.ext (ho d.val d.isLt))

theorem eq4 : (dats m 0 c).arrAt 4 cfg0.N = val_main_v26 (F := Ideal) x0 x1 x2 := by
  rw [arr4]
  funext j
  obtain ⟨r, d, rfl⟩ : ∃ (r : Fin 1024) (d : Fin 1536), j = ix2 r d := ⟨j 0, j 1, eq_ix2 j⟩
  rw [ref26]
  exact wide m c x0 x1 x2 h0 h1 h2 0 0 _ _ (fun d hd => by rw [if_pos (by omega)]) r d

theorem eq5 : (dats m 0 c).arrAt 5 cfg0.N = val_main_v27 (F := Ideal) x0 x1 x2 := by
  rw [arr5]
  funext j
  obtain ⟨r, d, rfl⟩ : ∃ (r : Fin 1024) (d : Fin 512), j = ix2 r d := ⟨j 0, j 1, eq_ix2 j⟩
  rw [ref27]
  exact wide m c x0 x1 x2 h0 h1 h2 1536 1536 _ _ (fun d hd => by rw [if_pos (by omega)]) r d

theorem eq6 : (dats m 0 c).arrAt 6 cfg0.N = val_main_v33 (F := Ideal) x0 x1 x2 := by
  rw [arr6]
  funext j
  obtain ⟨r, d, rfl⟩ : ∃ (r : Fin 1024) (d : Fin 512), j = ix2 r d := ⟨j 0, j 1, eq_ix2 j⟩
  refine Eq.trans ?_ (ref28 x0 x1 x2 r d).symm
  exact congrArg (· * qs) (wide m c x0 x1 x2 h0 h1 h2 2048 2056 _ _ (fun d hd => by rw [if_neg (by omega)]; omega) r d)

theorem eq7 : (dats m 0 c).arrAt 7 cfg0.N = val_main_v29 (F := Ideal) x0 x1 x2 := by
  rw [arr7]
  funext j
  obtain ⟨r, d, rfl⟩ : ∃ (r : Fin 1024) (d : Fin 512), j = ix2 r d := ⟨j 0, j 1, eq_ix2 j⟩
  rw [ref29]
  exact wide m c x0 x1 x2 h0 h1 h2 2560 2568 _ _ (fun d hd => by rw [if_neg (by omega)]; omega) r d

theorem eq8 : (dats m 0 c).arrAt 8 cfg0.N = val_main_v30 (F := Ideal) x0 x1 x2 := by
  rw [arr8]
  funext j
  obtain ⟨r, d, rfl⟩ : ∃ (r : Fin 1024) (d : Fin 512), j = ix2 r d := ⟨j 0, j 1, eq_ix2 j⟩
  rw [ref30]
  exact wide m c x0 x1 x2 h0 h1 h2 3072 3080 _ _ (fun d hd => by rw [if_neg (by omega)]; omega) r d

theorem eq9 : (dats m 0 c).arrAt 9 cfg0.N = val_main_v31 (F := Ideal) x0 x1 x2 := by
  rw [arr9]
  funext j
  obtain ⟨r, d, rfl⟩ : ∃ (r : Fin 1024) (d : Fin 512), j = ix2 r d := ⟨j 0, j 1, eq_ix2 j⟩
  rw [ref31]
  exact wide m c x0 x1 x2 h0 h1 h2 3584 3592 _ _ (fun d hd => by rw [if_neg (by omega)]; omega) r d

/-- The columns computed from two halves: the norm's scale and these columns of the weights are real. -/
theorem eq10 (hg : ∀ k : Fin 1024, ∃ y : ℝ, x1 (ix1 k) = (y : EReal)) (hw : ∀ (k : Fin 1024) (d : Fin 8), ∃ y : ℝ, x2 (ix2 k (cl 2048 (by decide) d)) = (y : EReal)) :
    (dats m 0 c).arrAt 10 cfg0.N = val_main_v32 (F := Ideal) x0 x1 x2 := by
  rw [arr10 m c (fun k => by rw [v7, h1]; exact hg k) (fun k d => by
    rw [v6, h2]
    split
    · rename_i h
      exact hw k ⟨d.val, h⟩
    · exact ⟨0, EReal.coe_zero.symm⟩)]
  funext j
  obtain ⟨r, d, rfl⟩ : ∃ (r : Fin 1024) (d : Fin 128), j = ix2 r d := ⟨j 0, j 1, eq_ix2 j⟩
  rw [ref32]
  by_cases h : d.val < 8
  · rw [dif_pos h]
    exact prod_uu m c x0 x1 x2 h0 h1 h2 _ d _ (fun k => by rw [v6, h2, dif_pos h]) r
  · rw [dif_neg h]
    show ncol _ _ (fun k => V m c main_v6 (ix2 k d)) = 0
    unfold ncol
    refine Finset.sum_eq_zero fun k _ => ?_
    refine (congrArg (fun q => _ * q) ((v6 m c k d).trans (dif_neg h))).trans ?_
    exact mul_zero _

theorem eq11 : (dats m 0 c).arrAt 11 cfg0.N = val_main_v34 (F := Ideal) x0 x1 x2 := by
  rw [arr11, ← arr7]
  exact eq7 m c x0 x1 x2 h0 h1 h2

theorem eq12 : (dats m 0 c).arrAt 12 cfg0.N = val_main_v35 (F := Ideal) x0 x1 x2 := by
  rw [arr12, ← arr8]
  exact eq8 m c x0 x1 x2 h0 h1 h2

end Sides

/-- The shape facts of the precondition. -/
theorem preFacts : Cert.Pre_real_ba_weights_sample.Facts where
  bcast_S_S1024 := ⟨fun a => a.elim0, fun a => a.elim0⟩
  slices_S1024x4104_S1024x8_0_2048 := Cert.InprojSampleIdeal.Gen.slices_S1024x4104_S1024x8_0_2048
  bcast_S_S1024x8 := ⟨fun a => a.elim0, fun a => a.elim0⟩

section Pre
open Cert.Pre_real_ba_weights_sample
variable [Cert.Pre_real_ba_weights_sample.Facts]

/-- What the precondition says: the norm's scale and eight columns of the weights are real numbers. -/
theorem reals (x0 : FVec Ideal ⟨3, ![128, 8, 1024]⟩ .f32) (x1 : FVec Ideal ⟨1, ![1024]⟩ .f32) (x2 : FVec Ideal ⟨2, ![1024, 4104]⟩ .f32)
    (x3 : FVec Ideal ⟨3, ![128, 3, 1536]⟩ .f32) (h : (fn (F := Ideal) x0 x1 x2 x3).1 = (fun _ => 1#1) ∧ (fn (F := Ideal) x0 x1 x2 x3).2 = (fun _ => 1#1)) :
    (∀ k : Fin 1024, ∃ y : ℝ, x1 (ix1 k) = (y : EReal)) ∧ ∀ (k : Fin 1024) (d : Fin 8), ∃ y : ℝ, x2 (ix2 k (cl 2048 (by decide) d)) = (y : EReal) := by
  refine ⟨fun k => ⟨_, Sb.real_of_lt (x1 (ix1 k)) (congrFun h.1 (ix1 k))⟩, fun k d => ?_⟩
  have s : extractStridedSlice ⟨2, ![1024, 8]⟩ ![0, 2048] x2 Facts.slices_S1024x4104_S1024x8_0_2048 (ix2 k d) = x2 (ix2 k (cl 2048 (by decide) d)) := by
    pointwise
    rfl
  have e : FloatOps.cmpf .olt (FloatOps.hostAbsf (extractStridedSlice ⟨2, ![1024, 8]⟩ ![0, 2048] x2 Facts.slices_S1024x4104_S1024x8_0_2048 (ix2 k d)))
      (FloatOps.ofBits (F := Ideal) .f32 0x7F800000#32) = 1#1 := congrFun h.2 (ix2 k d)
  rw [s] at e
  exact ⟨_, Sb.real_of_lt _ e⟩

end Pre

end Cert.Proof.InS
-- ==== Proof.In.SampleTail.lean ====
module

public import proofs.«01_k».proof.Proof.In.SampleEquation

/-! What the host makes of three of the sample group's arrays: the new keys and values by heads, and the last three rows before the convolution. -/

@[expose] public section
set_option maxRecDepth 16384
noncomputable section
namespace Cert.Proof.InS
open Idealize.ShloMosaic Idealize.ShloMosaic.Pointwise Idealize.ShloMosaic.TcCoe Idealize.SL.Sem Cert.InprojSampleIdeal Cert.InprojSampleIdeal.Gen Cert.Proof.Pr
open Cert.InprojSampleRefIdeal.Read

/-- The rows of a flat array as the steps of a sequence, a row as four heads. -/
def heads (y : FVec Ideal S1024x512 .f32) : FVec Ideal S128x8x4x128 .f32 :=
  shapeCast S128x8x4x128 (shapeCast S128x8x512 y shapeCasts_S1024x512_S128x8x512) shapeCasts_S128x8x512_S128x8x4x128

/-- The last three of a sequence's three kept rows and its eight new ones, the new rows given as rows of a flat array. -/
def last (x : FVec Ideal S128x3x1536 .f32) (y : FVec Ideal S1024x1536 .f32) : FVec Ideal S128x3x1536 .f32 :=
  extractStridedSlice S128x3x1536 ![0, 8, 0] (concatenate S128x11x1536 1 [⟨S128x3x1536, x⟩,
    ⟨S128x8x1536, shapeCast S128x8x1536 y shapeCasts_S1024x1536_S128x8x1536⟩]
    concatenates_S128x3x1536_S128x8x1536_S128x11x1536_d1) slices_S128x11x1536_S128x3x1536_0_8_0

section Host
variable (W : Valuation τ sig (Elt Ideal))

theorem host10 : StableHlo.after hostOps1 W (Proc.devRef .tc main_v10) = heads (W (Proc.devRef .tc main_v8_3)) := by
  after_results
  rfl

theorem host12 : StableHlo.after hostOps1 W (Proc.devRef .tc main_v12) = heads (W (Proc.devRef .tc main_v8_4)) := by
  after_results
  rfl

theorem host15 : StableHlo.after hostOps1 W (Proc.devRef .tc main_v15) = last (W (Proc.devRef .tc main_arg3)) (W (Proc.devRef .tc main_v8_0)) := by
  after_results
  rfl

end Host

section Tail
variable (m : (ℓ : Loc nD τ sig) → Buf (Elt Ideal) ℓ) (c : Dev nD)

theorem tail10 : Pipeline.afterTail₀ cfgs (dats m) 0 (V0 m) [hostOps1] c main_v10 = heads ((dats m 0 c).arrAt 7 cfg0.N) := by
  unfold Pipeline.afterTail₀
  rw [show ([hostOps1] : List (List (HloOp τ sig (Elt Ideal)))).flatten = hostOps1 from rfl, host10]
  exact congrArg heads (Pipeline.withArrays_arr spec0 launch0.win.arr_inj c (V0 m c) (fun w => (dats m 0 c).arrAt w cfg0.N) 7)

theorem tail12 : Pipeline.afterTail₀ cfgs (dats m) 0 (V0 m) [hostOps1] c main_v12 = heads ((dats m 0 c).arrAt 8 cfg0.N) := by
  unfold Pipeline.afterTail₀
  rw [show ([hostOps1] : List (List (HloOp τ sig (Elt Ideal)))).flatten = hostOps1 from rfl, host12]
  exact congrArg heads (Pipeline.withArrays_arr spec0 launch0.win.arr_inj c (V0 m c) (fun w => (dats m 0 c).arrAt w cfg0.N) 8)

theorem tail15 : Pipeline.afterTail₀ cfgs (dats m) 0 (V0 m) [hostOps1] c main_v15 =
    last (m ((c : Thread nD τ).loc main_arg3)) ((dats m 0 c).arrAt 4 cfg0.N) := by
  unfold Pipeline.afterTail₀
  rw [show ([hostOps1] : List (List (HloOp τ sig (Elt Ideal)))).flatten = hostOps1 from rfl, host15,
    Pipeline.withArrays_of_ne _ c (V0 m c) _ main_arg3 (by exact (by decide : ∀ w, Pipeline.arrRef spec0 w ≠ main_arg3))]
  exact congrArg₂ last (V_main_arg3 m c) (Pipeline.withArrays_arr spec0 launch0.win.arr_inj c (V0 m c) (fun w => (dats m 0 c).arrAt w cfg0.N) 4)

/-- The call's run with the host's lines after it: its nine arrays, and what the host makes of three of them. -/
theorem run (ρ : Dev nD → PrngReg) : θ_run defs (onTc (τ := τ) (main (F := Ideal))) ⟨m, fun _ => 0, ρ⟩ fun r => ∀ c : Dev nD,
      r.2.mem ((c : Thread nD τ).loc main_v8_0) = (dats m 0 c).arrAt 4 cfg0.N
      ∧ r.2.mem ((c : Thread nD τ).loc main_v8_1) = (dats m 0 c).arrAt 5 cfg0.N
      ∧ r.2.mem ((c : Thread nD τ).loc main_v8_2) = (dats m 0 c).arrAt 6 cfg0.N
      ∧ r.2.mem ((c : Thread nD τ).loc main_v8_3) = (dats m 0 c).arrAt 7 cfg0.N
      ∧ r.2.mem ((c : Thread nD τ).loc main_v8_4) = (dats m 0 c).arrAt 8 cfg0.N
      ∧ r.2.mem ((c : Thread nD τ).loc main_v8_5) = (dats m 0 c).arrAt 9 cfg0.N
      ∧ r.2.mem ((c : Thread nD τ).loc main_v8_6) = (dats m 0 c).arrAt 10 cfg0.N
      ∧ r.2.mem ((c : Thread nD τ).loc main_v8_7) = (dats m 0 c).arrAt 11 cfg0.N
      ∧ r.2.mem ((c : Thread nD τ).loc main_v8_8) = (dats m 0 c).arrAt 12 cfg0.N
      ∧ r.2.mem ((c : Thread nD τ).loc main_v10) = heads ((dats m 0 c).arrAt 7 cfg0.N)
      ∧ r.2.mem ((c : Thread nD τ).loc main_v12) = heads ((dats m 0 c).arrAt 8 cfg0.N)
      ∧ r.2.mem ((c : Thread nD τ).loc main_v15) = last (m ((c : Thread nD τ).loc main_arg3)) ((dats m 0 c).arrAt 4 cfg0.N) :=
  (θ_run defs _ _).mono (fun r h c => ⟨(h c).1 4, (h c).1 5, (h c).1 6, (h c).1 7, (h c).1 8, (h c).1 9, (h c).1 10, (h c).1 11, (h c).1 12,
      ((h c).2 main_v10 (Pipeline.mem_restRefs_of main_v10 (by decide) (by decide))).trans (tail10 m c),
      ((h c).2 main_v12 (Pipeline.mem_restRefs_of main_v12 (by decide) (by decide))).trans (tail12 m c),
      ((h c).2 main_v15 (Pipeline.mem_restRefs_of main_v15 (by decide) (by decide))).trans (tail15 m c)⟩)
    (run_main m ρ)

end Tail

section Ref
variable (x0 : FVec Ideal S128x8x1024 .f32) (x1 : FVec Ideal S1024 .f32) (x2 : FVec Ideal S1024x4104 .f32) (x3 : FVec Ideal S128x3x1536 .f32)

/-- The reference reads its flat rows as heads at once, the host by way of the sequences. -/
theorem ref_k_heads : heads (val_main_v29 (F := Ideal) x0 x1 x2) = val_main_v36 (F := Ideal) x0 x1 x2 := by
  unfold heads
  rw [shapeCast_comp]
  rfl

theorem ref_v_heads : heads (val_main_v30 (F := Ideal) x0 x1 x2) = val_main_v37 (F := Ideal) x0 x1 x2 := by
  unfold heads
  rw [shapeCast_comp]
  rfl

theorem ref_last : last x3 (val_main_v26 (F := Ideal) x0 x1 x2) = val_main_v40 (F := Ideal) x0 x1 x2 x3 := rfl

end Ref

end Cert.Proof.InS
-- ==== Proof.Op.Sample.lean ====
module

public import proofs.«01_k».proof.Proof.Op.Array
public import proofs.«01_k».proof.Proof.Gen.OutprojSampleIdeal.Frame
public import proofs.«01_k».proof.Proof.Gen.OutprojSampleRefIdeal.Read

/-! The output projection on the sample group's rows: its blocks are the prompt group's, its arrays have no rows of zeros. -/

@[expose] public section
set_option maxRecDepth 16384
noncomputable section
namespace Cert.Proof.OpS
open Idealize.ShloMosaic Idealize.ShloMosaic.Pointwise Idealize.ShloMosaic.TcCoe Idealize.SL.Sem Cert.OutprojSampleIdeal Cert.OutprojSampleIdeal.Gen Cert.Proof.Pr

theorem idx0 : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ) (c : Dev nD)

theorem iblk0 (t : Fin cfg0.N) : iblk m c 0 t = blk (t := .f32) (V m c main_v0) t.val :=
  funext fun j => blk_win (t := .f32) (V m c main_v0) t.val j (((cfg0.win 0).blk t).view.emb j) (idx0 t).1 rfl rfl

theorem iblk1 (t : Fin cfg0.N) : iblk m c 1 t = blk (t := .bf16) (V m c main_v2) t.val :=
  funext fun j => blk_win (t := .bf16) (V m c main_v2) t.val j (((cfg0.win 1).blk t).view.emb j) (idx0 t).2.1 rfl rfl

theorem iblk2 (t : Fin cfg0.N) : iblk m c 2 t = V m c main_v3 :=
  funext fun j => whole_win (t := .bf16) (V m c main_v3) j (((cfg0.win 2).blk t).view.emb j) (idx0 t).2.2.1 rfl rfl

/-- The block's arithmetic is that of the prompt group's call. -/
theorem out_eq (h : FVec Ideal S512x1024 .f32) (o : FVec Ideal S512x1024 .bf16) (w : FVec Ideal S1024x1024 .bf16) : out0_3 (F := Ideal) h o w = Op.bo h o w :=
  Op.out_eq h o w

/-- The result: the rows plus the product. -/
def res (h : FVec Ideal S1024x1024 .f32) (o w : FVec Ideal S1024x1024 .bf16) : FVec Ideal S1024x1024 .f32 := fun y =>
  h y + ∑ k : Fin 1024, o (ix2 (y 0) k) * w (ix2 k (y 1))

theorem res_win (h : FVec Ideal S1024x1024 .f32) (o w : FVec Ideal S1024x1024 .bf16) (n : ℕ) (y : S512x1024.Idx) (z : S1024x1024.Idx) {f : Fin 2 → ℕ} (hf : f = ![n, 0])
    (z0 : (z 0).val = f 0 * 512 + 1 * (y 0).val) (z1 : (z 1).val = f 1 * 1024 + 1 * (y 1).val) : Op.bo (blk (t := .f32) h n) (blk (t := .bf16) o n) w y = res h o w z := by
  have e : z 1 = y 1 := by subst hf; exact Fin.ext (z1.trans (by show 0 * 1024 + 1 * (y 1).val = (y 1).val; omega))
  unfold res Op.bo
  rw [e]
  refine congrArg₂ (fun p q : EReal => p + q) (blk_win (t := .f32) h n y z hf z0 z1).symm (Finset.sum_congr rfl fun k _ => congrArg (fun q => q * w (ix2 k (y 1))) ?_)
  exact (blk_win (t := .bf16) o n (ix2 (y 0) k) (ix2 (z 0) k) hf z0 (by subst hf; show k.val = 0 * 1024 + 1 * k.val; omega)).symm

theorem arr : (dats m 0 c).arrAt 3 cfg0.N = res (V m c main_v0) (V m c main_v2) (V m c main_v3) := by
  refine (dats m 0 c).arrAt_eq_of_covers 3 _ (by decide +kernel) fun t hf y => ?_
  rw [after0_3, iblk0, iblk1, iblk2, out_eq]
  exact res_win (V m c main_v0) (V m c main_v2) (V m c main_v3) t.val ((cfg0.win 3).xinj (cfg0.grid.coords t) y) _ (idx0 t).2.2.2 rfl rfl

theorem array_eq (x0 x1 : FVec Ideal S128x8x1024 .f32) (x2 : FVec Ideal S1024x1024 .f32)
    (h0 : m ((c : Thread nD τ).loc main_arg0) = x0) (h1 : m ((c : Thread nD τ).loc main_arg1) = x1) (h2 : m ((c : Thread nD τ).loc main_arg2) = x2) :
    (dats m 0 c).arrAt 3 cfg0.N = Cert.OutprojSampleRefIdeal.Read.val_main_v2 (F := Ideal) x0 x1 x2 := by
  have e0 : V m c main_v0 = (shapeCast S1024x1024 x0 shapeCasts_S128x8x1024_S1024x1024 : FVec Ideal S1024x1024 .f32) := by
    subst h0
    entry_read
    rfl
  have e1 : V m c main_v2 = (truncf .bf16 (shapeCast S1024x1024 x1 shapeCasts_S128x8x1024_S1024x1024 : FVec Ideal S1024x1024 .f32) bitsLt_bf16_f32 : FVec Ideal S1024x1024 .bf16) := by
    subst h1
    entry_read
    rfl
  have e2 : V m c main_v3 = (truncf .bf16 x2 bitsLt_bf16_f32 : FVec Ideal S1024x1024 .bf16) := by
    subst h2
    entry_read
    rfl
  rw [arr, e0, e1, e2]
  funext j
  obtain ⟨r, k, rfl⟩ : ∃ (r k : Fin 1024), j = ix2 r k := ⟨j 0, j 1, eq_ix2 j⟩
  refine Eq.trans ?_ (flat_at (t := .f32) (Cert.OutprojSampleRefIdeal.Read.val_main_v1 (F := Ideal) x0 x1 x2) _ r k).symm
  show shapeCast S1024x1024 x0 shapeCasts_S128x8x1024_S1024x1024 (ix2 r k) + ∑ l : Fin 1024, shapeCast S1024x1024 x1 shapeCasts_S128x8x1024_S1024x1024 (ix2 r l) * x2 (ix2 l k) = _
  rw [flat_at, Finset.sum_congr rfl fun l _ => congrArg (fun q => q * x2 (ix2 l k)) (flat_at (t := .f32) x1 shapeCasts_S128x8x1024_S1024x1024 r l)]
  unfold fl
  beta_reduce
  rw [Cert.OutprojSampleRefIdeal.Read.val_main_v1_apply, Cert.OutprojSampleRefIdeal.Read.val_main_v0_apply]
  refine congrArg (fun t => x0 (ix3 _ _ k) + t) (Finset.sum_congr rfl fun l _ => ?_)
  refine congrArg₂ (fun p q => x1 p * x2 q) ?_ ?_
  · symm; exact eq_ix3 _
  · symm; exact eq_ix2 _

end Cert.Proof.OpS
-- ==== Proof.Op.SampleTail.lean ====
module

public import proofs.«01_k».proof.Proof.Op.Sample

/-! What the host makes of the sample group's output: its rows as the steps of a sequence. -/

@[expose] public section
set_option maxRecDepth 16384
noncomputable section
namespace Cert.Proof.OpS
open Idealize.ShloMosaic Idealize.ShloMosaic.Pointwise Idealize.ShloMosaic.TcCoe Idealize.SL.Sem Cert.OutprojSampleIdeal Cert.OutprojSampleIdeal.Gen Cert.Proof.Pr
open Cert.OutprojSampleRefIdeal.Read

/-- The rows of a flat array as the steps of a sequence. -/
def steps (y : FVec Ideal S1024x1024 .f32) : FVec Ideal S128x8x1024 .f32 := shapeCast S128x8x1024 y shapeCasts_S1024x1024_S128x8x1024

theorem host5 (W : Valuation τ sig (Elt Ideal)) : StableHlo.after hostOps1 W (Proc.devRef .tc main_v5) = steps (W (Proc.devRef .tc main_v4)) := by
  after_results
  rfl

section Tail
variable (m : (ℓ : Loc nD τ sig) → Buf (Elt Ideal) ℓ) (c : Dev nD)

theorem tail5 : Pipeline.afterTail₀ cfgs (dats m) 0 (V0 m) [hostOps1] c main_v5 = steps ((dats m 0 c).arrAt 3 cfg0.N) := by
  unfold Pipeline.afterTail₀
  rw [show ([hostOps1] : List (List (HloOp τ sig (Elt Ideal)))).flatten = hostOps1 from rfl, host5]
  exact congrArg steps (Pipeline.withArrays_arr spec0 launch0.win.arr_inj c (V0 m c) (fun w => (dats m 0 c).arrAt w cfg0.N) 3)

/-- The call's run with the host's line after it. -/
theorem run (ρ : Dev nD → PrngReg) : θ_run defs (onTc (τ := τ) (main (F := Ideal))) ⟨m, fun _ => 0, ρ⟩ fun r => ∀ c : Dev nD,
      r.2.mem ((c : Thread nD τ).loc main_v4) = (dats m 0 c).arrAt 3 cfg0.N
      ∧ r.2.mem ((c : Thread nD τ).loc main_v5) = steps ((dats m 0 c).arrAt 3 cfg0.N) :=
  (θ_run defs _ _).mono (fun r h c => ⟨(h c).1 3,
      ((h c).2 main_v5 (Pipeline.mem_restRefs_of main_v5 (by decide) (by decide))).trans (tail5 m c)⟩)
    (run_main m ρ)

end Tail

/-- The steps of the reference's flat rows are its sequences. -/
theorem ref_steps (x0 x1 : FVec Ideal S128x8x1024 .f32) (x2 : FVec Ideal S1024x1024 .f32) :
    steps (val_main_v2 (F := Ideal) x0 x1 x2) = val_main_v1 (F := Ideal) x0 x1 x2 := by
  unfold steps val_main_v2
  rw [shapeCast_comp, shapeCast_self]

end Cert.Proof.OpS
-- ==== Proof.Mi.Sample.lean ====
module

public import proofs.«01_k».proof.Proof.Mi.Host
public import proofs.«01_k».proof.Proof.Gen.MidSampleIdeal.Frame

/-! The call between the layers on the sample group's rows: the result arrays, with the block's arithmetic of the prompt group's
call, and the arrays that the host hands it. -/

@[expose] public section
set_option maxRecDepth 16384
noncomputable section
namespace Cert.Proof.MiS
open Idealize.ShloMosaic Idealize.ShloMosaic.Pointwise Idealize.ShloMosaic.TcCoe Idealize.SL.Sem Cert.MidSampleIdeal Cert.MidSampleIdeal.Gen Cert.Proof.Pr
open Cert.Proof.In (cl)
open Cert.Proof.Mi (rows rows_at rH rU rQ rK rV rG wA gA wW kA floor64 floor_at)

theorem idxi : ∀ t : Fin cfg0.N, win0_0.index t = ![t.val, 0] ∧ win0_1.index t = ![t.val, 0] ∧ win0_2.index t = ![t.val, 0] ∧ win0_3.index t = ![0, 0] ∧ win0_4.index t = ![0, 0] ∧
    win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem idxo : ∀ t : Fin cfg0.N, win0_10.index t = ![t.val, 0] ∧ win0_11.index t = ![t.val, 0] ∧ win0_12.index t = ![t.val, 0] ∧ win0_13.index t = ![t.val, 0] ∧
    win0_14.index t = ![t.val, 0] ∧ win0_15.index t = ![t.val, 0] ∧ win0_16.index t = ![t.val, 0] :=
  (by decide +kernel : ∀ t : Fin grid0.N, _)

section Blocks
variable (x0 : FVec Ideal S512x1024 .f32) (x1 x2 : FVec Ideal S512x512 .f32) (x3 x4 : FVec Ideal S512x1024 .bf16) (x5 : FVec Ideal S1x1024 .f32) (x6 : FVec Ideal S1024x2560 .bf16)
variable (x7 : FVec Ideal S1x1024 .f32) (x8 : FVec Ideal S1x256 .f32) (x9 : FVec Ideal S256x256 .bf16)

/-! The block's arithmetic is that of the prompt group's call. -/
theorem o10 : out0_10 (F := Ideal) x0 x1 x2 x3 x4 x5 x6 x7 x8 x9 = rows x0 x1 x2 (rH (wA x3) (wA x4)) := Mi.out10 x0 x1 x2 x3 x4 x5 x6 x7 x8 x9
theorem o13 : out0_13 (F := Ideal) x0 x1 x2 x3 x4 x5 x6 x7 x8 x9 = rows x0 x1 x2 (rV (wA x3) (wA x4) (gA x5) (wW x6)) := Mi.out13 x0 x1 x2 x3 x4 x5 x6 x7 x8 x9
theorem o14 : out0_14 (F := Ideal) x0 x1 x2 x3 x4 x5 x6 x7 x8 x9 = rows x0 x1 x2 (rG (wA x3) (wA x4) (gA x5) (wW x6)) := Mi.out14 x0 x1 x2 x3 x4 x5 x6 x7 x8 x9
theorem o16 : out0_16 (F := Ideal) x0 x1 x2 x3 x4 x5 x6 x7 x8 x9 = rows x0 x1 x2 (rV (wA x3) (wA x4) (gA x5) (wW x6)) := Mi.out16 x0 x1 x2 x3 x4 x5 x6 x7 x8 x9

variable (hs : ∀ l c : Fin 256, x9 (ix2 l c) = if l.val / 64 = c.val / 64 then (1 : EReal) else 0)
variable (hg : ∀ k : Fin 1024, ∃ y : ℝ, x5 (ix2 0 k) = (y : EReal)) (hw : ∀ (k : Fin 1024) (d : Fin 2560), d.val < 1280 → ∃ y : ℝ, x6 (ix2 k d) = (y : EReal))
include hs hg hw

theorem o11 : out0_11 (F := Ideal) x0 x1 x2 x3 x4 x5 x6 x7 x8 x9 = rows x0 x1 x2 (rQ (wA x3) (wA x4) (gA x5) (wW x6) (gA x7)) := Mi.out11 x0 x1 x2 x3 x4 x5 x6 x7 x8 x9 hs hg hw
theorem o12 : out0_12 (F := Ideal) x0 x1 x2 x3 x4 x5 x6 x7 x8 x9 = rows x0 x1 x2 (rK (wA x3) (wA x4) (gA x5) (wW x6) (kA x8)) := Mi.out12 x0 x1 x2 x3 x4 x5 x6 x7 x8 x9 hs hg hw
theorem o15 : out0_15 (F := Ideal) x0 x1 x2 x3 x4 x5 x6 x7 x8 x9 = rows x0 x1 x2 (rK (wA x3) (wA x4) (gA x5) (wW x6) (kA x8)) := Mi.out15 x0 x1 x2 x3 x4 x5 x6 x7 x8 x9 hs hg hw

end Blocks

/-- The rows of a block are rows of the array. -/
theorem rows_win {n : ℕ} (x0 : FVec Ideal S1024x1024 .f32) (x1 x2 : FVec Ideal S1024x512 .f32) (φ : (Fin 1024 → EReal) → (Fin 512 → EReal) → (Fin 512 → EReal) → Fin n → EReal) (t : ℕ)
    (y : (⟨2, ![512, n]⟩ : Shape).Idx) (z : (⟨2, ![1024, n]⟩ : Shape).Idx) {p : Fin 2 → ℕ} (hp : p = ![t, 0]) (h0 : (z 0).val = p 0 * 512 + 1 * (y 0).val)
    (h1 : (z 1).val = p 1 * n + 1 * (y 1).val) : rows (blk (t := .f32) x0 t) (blk (t := .f32) x1 t) (blk (t := .f32) x2 t) φ y = rows x0 x1 x2 φ z := by
  subst hp
  exact rows_at x0 x1 x2 φ t y z h0 h1

variable (m : (ℓ : Loc nD τ sig) → Buf (Elt Ideal) ℓ) (c : Dev nD)

theorem iblk0 (t : Fin cfg0.N) : iblk m c 0 t = blk (t := .f32) (V m c main_v24) t.val :=
  funext fun j => blk_win (t := .f32) (V m c main_v24) t.val j (((cfg0.win 0).blk t).view.emb j) (idxi t).1 rfl rfl

theorem iblk1 (t : Fin cfg0.N) : iblk m c 1 t = blk (t := .f32) (V m c main_v25) t.val :=
  funext fun j => blk_win (t := .f32) (V m c main_v25) t.val j (((cfg0.win 1).blk t).view.emb j) (idxi t).2.1 rfl rfl

theorem iblk2 (t : Fin cfg0.N) : iblk m c 2 t = blk (t := .f32) (V m c main_v26) t.val :=
  funext fun j => blk_win (t := .f32) (V m c main_v26) t.val j (((cfg0.win 2).blk t).view.emb j) (idxi t).2.2.1 rfl rfl

theorem iblk3 (t : Fin cfg0.N) : iblk m c 3 t = V m c main_v1 :=
  funext fun j => whole_win (t := .bf16) (V m c main_v1) j (((cfg0.win 3).blk t).view.emb j) (idxi t).2.2.2.1 rfl rfl

theorem iblk4 (t : Fin cfg0.N) : iblk m c 4 t = V m c main_v3 :=
  funext fun j => whole_win (t := .bf16) (V m c main_v3) j (((cfg0.win 4).blk t).view.emb j) (idxi t).2.2.2.2.1 rfl rfl

theorem iblk5 (t : Fin cfg0.N) : iblk m c 5 t = V m c main_v4 :=
  funext fun j => whole_win (t := .f32) (V m c main_v4) j (((cfg0.win 5).blk t).view.emb j) (idxi t).2.2.2.2.2.1 rfl rfl

theorem iblk6 (t : Fin cfg0.N) : iblk m c 6 t = V m c main_v5 :=
  funext fun j => whole_win (t := .bf16) (V m c main_v5) j (((cfg0.win 6).blk t).view.emb j) (idxi t).2.2.2.2.2.2.1 rfl rfl

theorem iblk7 (t : Fin cfg0.N) : iblk m c 7 t = V m c main_v9 :=
  funext fun j => whole_win (t := .f32) (V m c main_v9) j (((cfg0.win 7).blk t).view.emb j) (idxi t).2.2.2.2.2.2.2.1 rfl rfl

theorem iblk8 (t : Fin cfg0.N) : iblk m c 8 t = V m c main_v13 :=
  funext fun j => whole_win (t := .f32) (V m c main_v13) j (((cfg0.win 8).blk t).view.emb j) (idxi t).2.2.2.2.2.2.2.2.1 rfl rfl

theorem iblk9 (t : Fin cfg0.N) : iblk m c 9 t = V m c main_v23 :=
  funext fun j => whole_win (t := .bf16) (V m c main_v23) j (((cfg0.win 9).blk t).view.emb j) (idxi t).2.2.2.2.2.2.2.2.2 rfl rfl

theorem arr10 : (dats m 0 c).arrAt 10 cfg0.N = rows (n := 1024) (V m c main_v24) (V m c main_v25) (V m c main_v26) (rH (wA (V m c main_v1)) (wA (V m c main_v3))) := by
  refine (dats m 0 c).arrAt_eq_of_covers 10 _ (by decide +kernel) fun t hf y => ?_
  rw [after0_10, iblk0, iblk1, iblk2, iblk3, iblk4, iblk5, iblk6, iblk7, iblk8, iblk9, o10]
  exact rows_win (n := 1024) (V m c main_v24) (V m c main_v25) (V m c main_v26) (rH (wA (V m c main_v1)) (wA (V m c main_v3))) t.val ((cfg0.win 10).xinj (cfg0.grid.coords t) y) _
    (idxo t).1 rfl rfl

theorem arr13 : (dats m 0 c).arrAt 13 cfg0.N = rows (n := 256) (V m c main_v24) (V m c main_v25) (V m c main_v26) (rV (wA (V m c main_v1)) (wA (V m c main_v3)) (gA (V m c main_v4)) (wW (V m c main_v5))) := by
  refine (dats m 0 c).arrAt_eq_of_covers 13 _ (by decide +kernel) fun t hf y => ?_
  rw [after0_13, iblk0, iblk1, iblk2, iblk3, iblk4, iblk5, iblk6, iblk7, iblk8, iblk9, o13]
  exact rows_win (n := 256) (V m c main_v24) (V m c main_v25) (V m c main_v26) (rV (wA (V m c main_v1)) (wA (V m c main_v3)) (gA (V m c main_v4)) (wW (V m c main_v5))) t.val
    ((cfg0.win 13).xinj (cfg0.grid.coords t) y) _ (idxo t).2.2.2.1 rfl rfl

theorem arr14 : (dats m 0 c).arrAt 14 cfg0.N = rows (n := 1024) (V m c main_v24) (V m c main_v25) (V m c main_v26) (rG (wA (V m c main_v1)) (wA (V m c main_v3)) (gA (V m c main_v4)) (wW (V m c main_v5))) := by
  refine (dats m 0 c).arrAt_eq_of_covers 14 _ (by decide +kernel) fun t hf y => ?_
  rw [after0_14, iblk0, iblk1, iblk2, iblk3, iblk4, iblk5, iblk6, iblk7, iblk8, iblk9, o14]
  exact rows_win (n := 1024) (V m c main_v24) (V m c main_v25) (V m c main_v26) (rG (wA (V m c main_v1)) (wA (V m c main_v3)) (gA (V m c main_v4)) (wW (V m c main_v5))) t.val
    ((cfg0.win 14).xinj (cfg0.grid.coords t) y) _ (idxo t).2.2.2.2.1 rfl rfl

theorem arr16 : (dats m 0 c).arrAt 16 cfg0.N = rows (n := 256) (V m c main_v24) (V m c main_v25) (V m c main_v26) (rV (wA (V m c main_v1)) (wA (V m c main_v3)) (gA (V m c main_v4)) (wW (V m c main_v5))) := by
  refine (dats m 0 c).arrAt_eq_of_covers 16 _ (by decide +kernel) fun t hf y => ?_
  rw [after0_16, iblk0, iblk1, iblk2, iblk3, iblk4, iblk5, iblk6, iblk7, iblk8, iblk9, o16]
  exact rows_win (n := 256) (V m c main_v24) (V m c main_v25) (V m c main_v26) (rV (wA (V m c main_v1)) (wA (V m c main_v3)) (gA (V m c main_v4)) (wW (V m c main_v5))) t.val
    ((cfg0.win 16).xinj (cfg0.grid.coords t) y) _ (idxo t).2.2.2.2.2.2 rfl rfl

section Real
variable (hs : ∀ l d : Fin 256, V m c main_v23 (ix2 l d) = if l.val / 64 = d.val / 64 then (1 : EReal) else 0)
variable (hg : ∀ k : Fin 1024, ∃ y : ℝ, V m c main_v4 (ix2 0 k) = (y : EReal)) (hw : ∀ (k : Fin 1024) (d : Fin 2560), d.val < 1280 → ∃ y : ℝ, V m c main_v5 (ix2 k d) = (y : EReal))
include hs hg hw

theorem arr11 : (dats m 0 c).arrAt 11 cfg0.N =
    rows (n := 1024) (V m c main_v24) (V m c main_v25) (V m c main_v26) (rQ (wA (V m c main_v1)) (wA (V m c main_v3)) (gA (V m c main_v4)) (wW (V m c main_v5)) (gA (V m c main_v9))) := by
  refine (dats m 0 c).arrAt_eq_of_covers 11 _ (by decide +kernel) fun t hf y => ?_
  rw [after0_11, iblk0, iblk1, iblk2, iblk3, iblk4, iblk5, iblk6, iblk7, iblk8, iblk9, o11 _ _ _ _ _ _ _ _ _ _ hs hg hw]
  exact rows_win (n := 1024) (V m c main_v24) (V m c main_v25) (V m c main_v26) (rQ (wA (V m c main_v1)) (wA (V m c main_v3)) (gA (V m c main_v4)) (wW (V m c main_v5)) (gA (V m c main_v9))) t.val
    ((cfg0.win 11).xinj (cfg0.grid.coords t) y) _ (idxo t).2.1 rfl rfl

theorem arr12 : (dats m 0 c).arrAt 12 cfg0.N =
    rows (n := 256) (V m c main_v24) (V m c main_v25) (V m c main_v26) (rK (wA (V m c main_v1)) (wA (V m c main_v3)) (gA (V m c main_v4)) (wW (V m c main_v5)) (kA (V m c main_v13))) := by
  refine (dats m 0 c).arrAt_eq_of_covers 12 _ (by decide +kernel) fun t hf y => ?_
  rw [after0_12, iblk0, iblk1, iblk2, iblk3, iblk4, iblk5, iblk6, iblk7, iblk8, iblk9, o12 _ _ _ _ _ _ _ _ _ _ hs hg hw]
  exact rows_win (n := 256) (V m c main_v24) (V m c main_v25) (V m c main_v26) (rK (wA (V m c main_v1)) (wA (V m c main_v3)) (gA (V m c main_v4)) (wW (V m c main_v5)) (kA (V m c main_v13))) t.val
    ((cfg0.win 12).xinj (cfg0.grid.coords t) y) _ (idxo t).2.2.1 rfl rfl

theorem arr15 : (dats m 0 c).arrAt 15 cfg0.N =
    rows (n := 256) (V m c main_v24) (V m c main_v25) (V m c main_v26) (rK (wA (V m c main_v1)) (wA (V m c main_v3)) (gA (V m c main_v4)) (wW (V m c main_v5)) (kA (V m c main_v13))) := by
  refine (dats m 0 c).arrAt_eq_of_covers 15 _ (by decide +kernel) fun t hf y => ?_
  rw [after0_15, iblk0, iblk1, iblk2, iblk3, iblk4, iblk5, iblk6, iblk7, iblk8, iblk9, o15 _ _ _ _ _ _ _ _ _ _ hs hg hw]
  exact rows_win (n := 256) (V m c main_v24) (V m c main_v25) (V m c main_v26) (rK (wA (V m c main_v1)) (wA (V m c main_v3)) (gA (V m c main_v4)) (wW (V m c main_v5)) (kA (V m c main_v13))) t.val
    ((cfg0.win 15).xinj (cfg0.grid.coords t) y) _ (idxo t).2.2.2.2.2.1 rfl rfl

end Real

theorem v4 (k : Fin 1024) : V m c main_v4 (ix2 0 k) = (m ((c : Thread nD τ).loc main_arg4) : FVec Ideal S1024 .f32) (ix1 k) := by
  have e : V m c main_v4 = (broadcastInDim S1x1024 ![1] bcast_S1024_S1x1024_1 (m ((c : Thread nD τ).loc main_arg4) : FVec Ideal S1024 .f32) : FVec Ideal S1x1024 .f32) := by
    entry_read
    rfl
  rw [e]
  pointwise

theorem v5 (k : Fin 1024) (d : Fin 2560) : V m c main_v5 (ix2 k d) = (m ((c : Thread nD τ).loc main_arg5) : FVec Ideal S1024x2560 .f32) (ix2 k d) := by
  have e : V m c main_v5 = (truncf .bf16 (m ((c : Thread nD τ).loc main_arg5) : FVec Ideal S1024x2560 .f32) bitsLt_bf16_f32 : FVec Ideal S1024x2560 .bf16) := by
    entry_read
    rfl
  rw [e]
  rfl

theorem v1 (k : Fin 512) (d : Fin 1024) : V m c main_v1 (ix2 k d) = (m ((c : Thread nD τ).loc main_arg3) : FVec Ideal S1024x1024 .f32) (ix2 (cl 0 (by decide) k) d) := by
  have e : V m c main_v1 = (truncf .bf16 (extractStridedSlice S512x1024 ![0, 0] (m ((c : Thread nD τ).loc main_arg3) : FVec Ideal S1024x1024 .f32) slices_S1024x1024_S512x1024_0_0) bitsLt_bf16_f32 :
      FVec Ideal S512x1024 .bf16) := by
    entry_read
    rfl
  rw [e]
  pointwise
  exact congrArg (fun q => (m ((c : Thread nD τ).loc main_arg3) : FVec Ideal S1024x1024 .f32) (ix2 q d)) (Fin.ext (Nat.zero_add _).symm)

theorem v3 (k : Fin 512) (d : Fin 1024) : V m c main_v3 (ix2 k d) = (m ((c : Thread nD τ).loc main_arg3) : FVec Ideal S1024x1024 .f32) (ix2 (cl 512 (by decide) k) d) := by
  have e : V m c main_v3 = (truncf .bf16 (extractStridedSlice S512x1024 ![512, 0] (m ((c : Thread nD τ).loc main_arg3) : FVec Ideal S1024x1024 .f32) slices_S1024x1024_S512x1024_512_0) bitsLt_bf16_f32 :
      FVec Ideal S512x1024 .bf16) := by
    entry_read
    rfl
  rw [e]
  pointwise
  rfl

/-- A scale of 64 columns, repeated. -/
theorem v9 (k : Fin 1024) : V m c main_v9 (ix2 0 k) = (m ((c : Thread nD τ).loc main_arg6) : FVec Ideal S64 .f32) (ix1 ⟨k.val % 64, Nat.mod_lt _ (by decide)⟩) := by
  have e : V m c main_v9 = (broadcastInDim S1x1024 ![1] bcast_S1024_S1x1024_1 (shapeCast S1024 (broadcastInDim S16x64 ![0, 1] bcast_S1x64_S16x64_0_1
      (shapeCast S1x64 (m ((c : Thread nD τ).loc main_arg6) : FVec Ideal S64 .f32) shapeCasts_S64_S1x64)) shapeCasts_S16x64_S1024) : FVec Ideal S1x1024 .f32) := by
    entry_read
    rfl
  have hk := k.isLt
  rw [e]
  refine (broadcastInDim_apply _ _ _ (ix2 0 k) (ix1 k) (fun a => match a with | 0 => rfl)).trans ?_
  rw [shapeCast_apply _ _ (ix1 k) (ix2 ⟨k.val / 64, by omega⟩ ⟨k.val % 64, Nat.mod_lt _ (by decide)⟩) (by
    rw [Shape.rowMajor_val_two, Shape.rowMajor_val_one]
    show k.val / 64 * 64 + k.val % 64 = k.val
    omega)]
  pointwise

theorem v13 (k : Fin 256) : V m c main_v13 (ix2 0 k) = (m ((c : Thread nD τ).loc main_arg7) : FVec Ideal S64 .f32) (ix1 ⟨k.val % 64, Nat.mod_lt _ (by decide)⟩) := by
  have e : V m c main_v13 = (broadcastInDim S1x256 ![1] bcast_S256_S1x256_1 (shapeCast S256 (broadcastInDim S4x64 ![0, 1] bcast_S1x64_S4x64_0_1
      (shapeCast S1x64 (m ((c : Thread nD τ).loc main_arg7) : FVec Ideal S64 .f32) shapeCasts_S64_S1x64)) shapeCasts_S4x64_S256) : FVec Ideal S1x256 .f32) := by
    entry_read
    rfl
  have hk := k.isLt
  rw [e]
  refine (broadcastInDim_apply _ _ _ (ix2 0 k) (ix1 k) (fun a => match a with | 0 => rfl)).trans ?_
  rw [shapeCast_apply _ _ (ix1 k) (ix2 ⟨k.val / 64, by omega⟩ ⟨k.val % 64, Nat.mod_lt _ (by decide)⟩) (by
    rw [Shape.rowMajor_val_two, Shape.rowMajor_val_one]
    show k.val / 64 * 64 + k.val % 64 = k.val
    omega)]
  pointwise

theorem v24 (r k : Fin 1024) : V m c main_v24 (ix2 r k) = fl (fun b i k => (m ((c : Thread nD τ).loc main_arg0) : FVec Ideal S128x8x1024 .f32) (ix3 b i k)) r k := by
  have e : V m c main_v24 = (shapeCast S1024x1024 (m ((c : Thread nD τ).loc main_arg0) : FVec Ideal S128x8x1024 .f32) shapeCasts_S128x8x1024_S1024x1024 : FVec Ideal S1024x1024 .f32) := by
    entry_read
    rfl
  rw [e]
  exact flat_at (t := .f32) _ _ r k

theorem v25 (r : Fin 1024) (k : Fin 512) : V m c main_v25 (ix2 r k) = fl (fun b i k => (m ((c : Thread nD τ).loc main_arg1) : FVec Ideal S128x8x512 .f32) (ix3 b i k)) r k := by
  have e : V m c main_v25 = (shapeCast S1024x512 (m ((c : Thread nD τ).loc main_arg1) : FVec Ideal S128x8x512 .f32) shapeCasts_S128x8x512_S1024x512 : FVec Ideal S1024x512 .f32) := by
    entry_read
    rfl
  rw [e]
  exact flat_at (t := .f32) _ _ r k

theorem v26 (r : Fin 1024) (k : Fin 512) : V m c main_v26 (ix2 r k) = fl (fun b i k => (m ((c : Thread nD τ).loc main_arg2) : FVec Ideal S128x8x512 .f32) (ix3 b i k)) r k := by
  have e : V m c main_v26 = (shapeCast S1024x512 (m ((c : Thread nD τ).loc main_arg2) : FVec Ideal S128x8x512 .f32) shapeCasts_S128x8x512_S1024x512 : FVec Ideal S1024x512 .f32) := by
    entry_read
    rfl
  rw [e]
  exact flat_at (t := .f32) _ _ r k

/-- The table of the groups of 64 columns: the prompt group's call builds the same one. -/
theorem v23 (l d : Fin 256) : V m c main_v23 (ix2 l d) = if l.val / 64 = d.val / 64 then (1 : EReal) else 0 := by
  have e : V m c main_v23 = Mi.table := by
    unfold Mi.table floor64
    entry_read
    rfl
  rw [e]
  exact Mi.table_at l d

end Cert.Proof.MiS
-- ==== Proof.Mi.SampleRef.lean ====
module

public import proofs.«01_k».proof.Proof.Mi.Ref
public import proofs.«01_k».proof.Proof.Gen.MidSampleRefIdeal.Read

/-! The reference of the call between the layers on the sample group, row by row. -/

@[expose] public section
set_option maxRecDepth 16384
noncomputable section
namespace Cert.Proof.MiS
open Idealize.ShloMosaic Idealize.ShloMosaic.Pointwise Cert.MidSampleRefIdeal Cert.MidSampleRefIdeal.Gen Cert.MidSampleRefIdeal.Read Cert.Proof.Pr
open Cert.Proof.In (cl)
open Cert.Proof.Mi (rH rU rQ rK rV rG tA tB tG tW tS sg)

variable (x0 : FVec Ideal S128x8x1024 .f32) (x1 x2 : FVec Ideal S128x8x512 .f32) (x3 : FVec Ideal S1024x1024 .f32) (x4 : FVec Ideal S1024 .f32) (x5 : FVec Ideal S1024x2560 .f32)
variable (x6 x7 : FVec Ideal S64 .f32)

/-- A function of the three rows, on the group. -/
abbrev on3 {n : ℕ} (φ : (Fin 1024 → EReal) → (Fin 512 → EReal) → (Fin 512 → EReal) → Fin n → EReal) : Sm n := fun b i =>
  φ (fun k => x0 (ix3 b i k)) (fun k => x1 (ix3 b i k)) fun k => x2 (ix3 b i k)

theorem cat_at (b : Fin 128) (i : Fin 8) (k : Fin 1024) : val_main_v0 (F := Ideal) x1 x2 (ix3 b i k) =
    if h : k.val < 512 then x1 (ix3 b i ⟨k.val, h⟩) else x2 (ix3 b i ⟨k.val - 512, by have := k.isLt; omega⟩) := by
  unfold val_main_v0
  pointwise

theorem ref_h (b : Fin 128) (i : Fin 8) (c : Fin 1024) : val_main_v2 (F := Ideal) x0 x1 x2 x3 (ix3 b i c) = on3 x0 x1 x2 (rH (tA x3) (tB x3)) b i c := by
  rw [val_main_v2_apply, val_main_v1_apply]
  unfold on3 rH
  rw [add_assoc]
  refine congrArg (fun t => x0 (ix3 b i c) + t) ?_
  have e : ∀ k : Fin 1024, val_main_v0 (F := Ideal) x1 x2 (lidx_main_v1 (ix3 b i c) k) * x3 (ridx_main_v1 (ix3 b i c) k) =
      (if h : k.val < 512 then x1 (ix3 b i ⟨k.val, h⟩) else x2 (ix3 b i ⟨k.val - 512, by have := k.isLt; omega⟩)) * x3 (ix2 k c) := by
    intro k
    rw [show lidx_main_v1 (ix3 b i c) k = ix3 b i k from eq_ix3 _, show ridx_main_v1 (ix3 b i c) k = ix2 k c from eq_ix2 _, cat_at]
  rw [Finset.sum_congr rfl fun k _ => e k]
  refine (Fin.sum_univ_add (a := 512) (b := 512) _).trans (congrArg₂ (fun p q : EReal => p + q) ?_ ?_)
  · refine Finset.sum_congr rfl fun k _ => ?_
    refine (congrArg (fun q => q * x3 (ix2 (Fin.castAdd 512 k : Fin 1024) c)) (dif_pos (show (Fin.castAdd 512 k).val < 512 from k.isLt))).trans ?_
    exact congrArg (fun q => x1 (ix3 b i k) * x3 (ix2 q c)) (Fin.ext (Nat.zero_add _).symm)
  · refine Finset.sum_congr rfl fun k _ => ?_
    refine (congrArg (fun q => q * x3 (ix2 (Fin.natAdd 512 k : Fin 1024) c)) (dif_neg (show ¬ (Fin.natAdd 512 k).val < 512 by show ¬ 512 + k.val < 512; omega))).trans ?_
    exact congrArg (fun q => x2 (ix3 b i q) * x3 (ix2 (cl 512 (by decide) k) c)) (Fin.ext (Nat.add_sub_cancel_left 512 k.val))

theorem ref_u (b : Fin 128) (i : Fin 8) (d : Fin 2560) :
    val_main_v16 (F := Ideal) x0 x1 x2 x3 x4 x5 (ix3 b i d) = on3 x0 x1 x2 (rU (tA x3) (tB x3) (tG x4) (tW x5)) b i d := by
  rw [val_main_v16_apply]
  refine Eq.trans ?_ (congrArg (fun f => ncol f (tG x4) fun k => tW x5 k d) (funext fun c => ref_h x0 x1 x2 x3 b i c))
  unfold ncol
  refine Finset.sum_congr rfl fun k _ => ?_
  refine congrArg₂ (fun p q => p * x5 q) ?_ (eq_ix2 _)
  rw [show lidx_main_v16 (ix3 b i d) k = ix3 b i k from eq_ix3 _]
  unfold nrm nrs
  rw [val_main_v15_apply, val_main_v12_apply, val_main_v11_apply, val_main_v10_apply, val_main_v9_apply, val_main_v8_apply, val_main_v7_apply, val_main_v6_apply,
    val_main_v5_apply, val_main_v4_apply, val_main_v14_apply, val_main_v13_apply, val_main_cst_apply, val_main_cst_0_apply, val_main_cst_1_apply]
  have z : (FloatOps.ofBits (F := Ideal) .f32 0x00000000#32) = (0 : EReal) := Ideal.ofBits_zero_f32
  have e4 : ∀ l : Fin 1024, val_main_v3 (F := Ideal) x0 x1 x2 x3 (idx_main_v4 (idx_main_v5 (idx_main_v11 (ix3 b i k))) l) =
      val_main_v2 (F := Ideal) x0 x1 x2 x3 (ix3 b i l) * val_main_v2 (F := Ideal) x0 x1 x2 x3 (ix3 b i l) := by
    intro l
    rw [val_main_v3_apply, show idx_main_v4 (idx_main_v5 (idx_main_v11 (ix3 b i k))) l = ix3 b i l from eq_ix3 _]
    rfl
  rw [z, zero_add, Finset.sum_congr rfl fun l _ => e4 l, show idx_main_v13 (idx_main_v14 (ix3 b i k)) = ix1 k from eq_ix1 _]
  rfl

theorem ref_v (b : Fin 128) (i : Fin 8) (c : Fin 256) :
    val_main_v19 (F := Ideal) x0 x1 x2 x3 x4 x5 (ix3 b i c) = on3 x0 x1 x2 (rV (tA x3) (tB x3) (tG x4) (tW x5)) b i c := by
  rw [val_main_v19_apply, show idx_main_v19 (ix3 b i c) = ix3 b i (cl 1280 (by decide) c) from eq_ix3 _, ref_u]
  rfl

theorem ref_g (b : Fin 128) (i : Fin 8) (c : Fin 1024) :
    val_main_v51 (F := Ideal) x0 x1 x2 x3 x4 x5 (ix3 b i c) = on3 x0 x1 x2 (rG (tA x3) (tB x3) (tG x4) (tW x5)) b i c := by
  rw [val_main_v51_apply, val_main_call0_v5_apply, val_main_call0_v4_apply, val_main_call0_v3_apply, val_main_call0_v2_apply, val_main_call0_v1_apply,
    val_main_call0_v0_apply, val_main_call0_cst_apply, val_main_call0_cst_0_apply, val_main_v20_apply,
    show idx_main_v20 (ix3 b i c) = ix3 b i (cl 1536 (by decide) c) from eq_ix3 _, ref_u, Sb.one_f32]
  unfold on3 rG Sb.gate
  rw [zero_sub]
  rfl

/-- The columns of the queries, in groups. -/
theorem q_col (b : Fin 128) (i : Fin 8) (h : Fin 16) (d : Fin 64) : val_main_v21 (F := Ideal) x0 x1 x2 x3 x4 x5 (ix4 b i h d) =
    on3 x0 x1 x2 (rU (tA x3) (tB x3) (tG x4) (tW x5)) b i (cl 0 (by decide) (⟨64 * h.val + d.val, by have := h.isLt; have := d.isLt; omega⟩ : Fin 1024)) := by
  have hb := b.isLt
  have hi := i.isLt
  have hh := h.isLt
  have hd := d.isLt
  rw [val_main_v21_apply, val_main_v17_apply, ← ref_u]
  refine congrArg _ (funext fun a => Fin.ext ?_)
  match a with
  | 0 => show (((b.val * 8 + i.val) * 16 + h.val) * 64 + d.val) / 8192 = b.val; omega
  | 1 => show (((b.val * 8 + i.val) * 16 + h.val) * 64 + d.val) / 1024 % 8 = i.val; omega
  | 2 => show (((b.val * 8 + i.val) * 16 + h.val) * 64 + d.val) % 1024 = 0 + (64 * h.val + d.val); omega

theorem k_col (b : Fin 128) (i : Fin 8) (h : Fin 4) (d : Fin 64) : val_main_v36 (F := Ideal) x0 x1 x2 x3 x4 x5 (ix4 b i h d) =
    on3 x0 x1 x2 (rU (tA x3) (tB x3) (tG x4) (tW x5)) b i (cl 1024 (by decide) (⟨64 * h.val + d.val, by have := h.isLt; have := d.isLt; omega⟩ : Fin 256)) := by
  have hb := b.isLt
  have hi := i.isLt
  have hh := h.isLt
  have hd := d.isLt
  rw [val_main_v36_apply, val_main_v18_apply, ← ref_u]
  refine congrArg _ (funext fun a => Fin.ext ?_)
  match a with
  | 0 => show (((b.val * 8 + i.val) * 4 + h.val) * 64 + d.val) / 2048 = b.val; omega
  | 1 => show (((b.val * 8 + i.val) * 4 + h.val) * 64 + d.val) / 256 % 8 = i.val; omega
  | 2 => show 1024 + (((b.val * 8 + i.val) * 4 + h.val) * 64 + d.val) % 256 = 1024 + (64 * h.val + d.val); omega

theorem ref_q (b : Fin 128) (i : Fin 8) (c : Fin 1024) :
    val_main_v35 (F := Ideal) x0 x1 x2 x3 x4 x5 x6 (ix3 b i c) = on3 x0 x1 x2 (rQ (tA x3) (tB x3) (tG x4) (tW x5) (tS x6 1024)) b i c := by
  have hb := b.isLt
  have hi := i.isLt
  have hc := c.isLt
  have e : idx_main_v35 (ix3 b i c) = ix4 b i ⟨c.val / 64, by omega⟩ ⟨c.val % 64, Nat.mod_lt _ (by decide)⟩ := by
    funext a
    refine Fin.ext ?_
    match a with
    | 0 => show ((b.val * 8 + i.val) * 1024 + c.val) / 8192 = b.val; omega
    | 1 => show ((b.val * 8 + i.val) * 1024 + c.val) / 1024 % 8 = i.val; omega
    | 2 => show ((b.val * 8 + i.val) * 1024 + c.val) / 64 % 16 = c.val / 64; omega
    | 3 => show ((b.val * 8 + i.val) * 1024 + c.val) % 64 = c.val % 64; omega
  have z : (FloatOps.ofBits (F := Ideal) .f32 0x00000000#32) = (0 : EReal) := Ideal.ofBits_zero_f32
  rw [val_main_v35_apply, e]
  generalize hh : (⟨c.val / 64, by omega⟩ : Fin 16) = h
  generalize hd : (⟨c.val % 64, Nat.mod_lt _ (by decide)⟩ : Fin 64) = d
  have eh : c.val / 64 = h.val := congrArg Fin.val hh
  have ed : c.val % 64 = d.val := congrArg Fin.val hd
  have hl := h.isLt
  rw [val_main_v34_apply, val_main_v31_apply, val_main_v33_apply, val_main_v32_apply, val_main_v30_apply, val_main_v29_apply, val_main_v28_apply, val_main_v27_apply,
    val_main_v26_apply, val_main_v25_apply, val_main_v24_apply, val_main_v23_apply, val_main_cst_2_apply, val_main_cst_3_apply, val_main_cst_4_apply]
  have e4 : ∀ l : Fin 64, val_main_v22 (F := Ideal) x0 x1 x2 x3 x4 x5 (idx_main_v23 (idx_main_v24 (idx_main_v30 (ix4 b i h d))) l) =
      on3 x0 x1 x2 (rU (tA x3) (tB x3) (tG x4) (tW x5)) b i (cl 0 (by decide) (sg c l)) * on3 x0 x1 x2 (rU (tA x3) (tB x3) (tG x4) (tW x5)) b i (cl 0 (by decide) (sg c l)) := by
    intro l
    have hl2 := l.isLt
    rw [val_main_v22_apply, show idx_main_v23 (idx_main_v24 (idx_main_v30 (ix4 b i h d))) l = ix4 b i h l from eq_ix4 _, q_col,
      show (⟨64 * h.val + l.val, by omega⟩ : Fin 1024) = sg c l from Fin.ext (by show 64 * h.val + l.val = (64 * (c.val / 64) + l.val) % 1024; omega)]
    rfl
  rw [z, zero_add, Finset.sum_congr rfl fun l _ => e4 l, q_col, show idx_main_v32 (idx_main_v33 (ix4 b i h d)) = ix1 d from eq_ix1 _,
    show (⟨64 * h.val + d.val, by have := d.isLt; omega⟩ : Fin 1024) = c from Fin.ext (by show 64 * h.val + d.val = c.val; omega), ← hd]
  rfl

theorem ref_k (b : Fin 128) (i : Fin 8) (c : Fin 256) :
    val_main_v50 (F := Ideal) x0 x1 x2 x3 x4 x5 x7 (ix3 b i c) = on3 x0 x1 x2 (rK (tA x3) (tB x3) (tG x4) (tW x5) (tS x7 256)) b i c := by
  have hb := b.isLt
  have hi := i.isLt
  have hc := c.isLt
  have e : idx_main_v50 (ix3 b i c) = ix4 b i ⟨c.val / 64, by omega⟩ ⟨c.val % 64, Nat.mod_lt _ (by decide)⟩ := by
    funext a
    refine Fin.ext ?_
    match a with
    | 0 => show ((b.val * 8 + i.val) * 256 + c.val) / 2048 = b.val; omega
    | 1 => show ((b.val * 8 + i.val) * 256 + c.val) / 256 % 8 = i.val; omega
    | 2 => show ((b.val * 8 + i.val) * 256 + c.val) / 64 % 4 = c.val / 64; omega
    | 3 => show ((b.val * 8 + i.val) * 256 + c.val) % 64 = c.val % 64; omega
  have z : (FloatOps.ofBits (F := Ideal) .f32 0x00000000#32) = (0 : EReal) := Ideal.ofBits_zero_f32
  rw [val_main_v50_apply, e]
  generalize hh : (⟨c.val / 64, by omega⟩ : Fin 4) = h
  generalize hd : (⟨c.val % 64, Nat.mod_lt _ (by decide)⟩ : Fin 64) = d
  have eh : c.val / 64 = h.val := congrArg Fin.val hh
  have ed : c.val % 64 = d.val := congrArg Fin.val hd
  have hl := h.isLt
  rw [val_main_v49_apply, val_main_v46_apply, val_main_v48_apply, val_main_v47_apply, val_main_v45_apply, val_main_v44_apply, val_main_v43_apply, val_main_v42_apply,
    val_main_v41_apply, val_main_v40_apply, val_main_v39_apply, val_main_v38_apply, val_main_cst_5_apply, val_main_cst_6_apply, val_main_cst_7_apply]
  have e4 : ∀ l : Fin 64, val_main_v37 (F := Ideal) x0 x1 x2 x3 x4 x5 (idx_main_v38 (idx_main_v39 (idx_main_v45 (ix4 b i h d))) l) =
      on3 x0 x1 x2 (rU (tA x3) (tB x3) (tG x4) (tW x5)) b i (cl 1024 (by decide) (sg c l)) * on3 x0 x1 x2 (rU (tA x3) (tB x3) (tG x4) (tW x5)) b i (cl 1024 (by decide) (sg c l)) := by
    intro l
    have hl2 := l.isLt
    rw [val_main_v37_apply, show idx_main_v38 (idx_main_v39 (idx_main_v45 (ix4 b i h d))) l = ix4 b i h l from eq_ix4 _, k_col,
      show (⟨64 * h.val + l.val, by omega⟩ : Fin 256) = sg c l from Fin.ext (by show 64 * h.val + l.val = (64 * (c.val / 64) + l.val) % 256; omega)]
    rfl
  rw [z, zero_add, Finset.sum_congr rfl fun l _ => e4 l, k_col, show idx_main_v47 (idx_main_v48 (ix4 b i h d)) = ix1 d from eq_ix1 _,
    show (⟨64 * h.val + d.val, by have := d.isLt; omega⟩ : Fin 256) = c from Fin.ext (by show 64 * h.val + d.val = c.val; omega), ← hd]
  rfl

end Cert.Proof.MiS
-- ==== Proof.Mi.SampleEquation.lean ====
module

public import proofs.«01_k».proof.Pre_real_qk_weights_sample
public import proofs.«01_k».proof.Proof.Mi.Sample
public import proofs.«01_k».proof.Proof.Mi.SampleRef
public import proofs.«01_k».proof.Proof.Sb.Real

/-! The two sides of the call between the layers agree on the sample group's rows. -/

@[expose] public section
set_option maxRecDepth 16384
noncomputable section
namespace Cert.Proof.MiS
open Idealize.ShloMosaic Idealize.ShloMosaic.Pointwise Idealize.ShloMosaic.TcCoe Idealize.SL.Sem Cert.MidSampleIdeal Cert.MidSampleIdeal.Gen Cert.Proof.Pr
open Cert.MidSampleRefIdeal.Read
open Cert.Proof.In (cl)
open Cert.Proof.Mi (rows rH rU rQ rK rV rG wA gA wW kA tA tB tG tW tS)

section Sides
variable (m : (ℓ : Loc nD τ sig) → Buf (Elt Ideal) ℓ) (c : Dev nD) (x0 : FVec Ideal S128x8x1024 .f32) (x1 x2 : FVec Ideal S128x8x512 .f32) (x3 : FVec Ideal S1024x1024 .f32)
variable (x4 : FVec Ideal S1024 .f32) (x5 : FVec Ideal S1024x2560 .f32) (x6 x7 : FVec Ideal S64 .f32)
variable (h0 : m ((c : Thread nD τ).loc main_arg0) = x0) (h1 : m ((c : Thread nD τ).loc main_arg1) = x1) (h2 : m ((c : Thread nD τ).loc main_arg2) = x2) (h3 : m ((c : Thread nD τ).loc main_arg3) = x3)

include h0 h1 h2 in
/-- A function of rows, on the group's arrays. -/
theorem rows_eq {n : ℕ} (φ : (Fin 1024 → EReal) → (Fin 512 → EReal) → (Fin 512 → EReal) → Fin n → EReal) (r : Fin 1024) (d : Fin n) :
    rows (V m c main_v24) (V m c main_v25) (V m c main_v26) φ (ix2 r d) = fl (on3 x0 x1 x2 φ) r d := by
  subst h0 h1 h2
  show φ (fun k => V m c main_v24 (ix2 r k)) (fun k => V m c main_v25 (ix2 r k)) (fun k => V m c main_v26 (ix2 r k)) d = _
  rw [funext (v24 m c r), funext (v25 m c r), funext (v26 m c r)]
  rfl

include h3 in
theorem wa_eq : wA (V m c main_v1) = tA x3 := by
  subst h3
  exact funext fun k => funext fun d => v1 m c k d

include h3 in
theorem wb_eq : wA (V m c main_v3) = tB x3 := by
  subst h3
  exact funext fun k => funext fun d => v3 m c k d

variable (h4 : m ((c : Thread nD τ).loc main_arg4) = x4) (h5 : m ((c : Thread nD τ).loc main_arg5) = x5)

include h4 in
theorem g_eq : gA (V m c main_v4) = tG x4 := by
  subst h4
  exact funext fun k => v4 m c k

include h5 in
theorem w_eq : wW (V m c main_v5) = tW x5 := by
  subst h5
  exact funext fun k => funext fun d => v5 m c k d

/-- An array of rows that agrees with a three-dimensional one, row by row, is its flat form. -/
theorem flat_eq {n : ℕ} (φ : (Fin 1024 → EReal) → (Fin 512 → EReal) → (Fin 512 → EReal) → Fin n → EReal) (y : FVec Ideal ⟨3, ![128, 8, n]⟩ .f32) (h : _)
    (e : ∀ b i k, y (ix3 b i k) = on3 x0 x1 x2 φ b i k) (r : Fin 1024) (d : Fin n) : fl (on3 x0 x1 x2 φ) r d = shapeCast ⟨2, ![1024, n]⟩ y h (ix2 r d) := by
  refine Eq.trans ?_ (flat_at (t := .f32) y h r d).symm
  exact congrArg (fun z => fl z r d) (funext fun b => funext fun i => funext fun k => (e b i k).symm)

include h0 h1 h2 h3 in
theorem eq10 : (dats m 0 c).arrAt 10 cfg0.N = val_main_v52 (F := Ideal) x0 x1 x2 x3 := by
  rw [arr10, wa_eq m c x3 h3, wb_eq m c x3 h3]
  funext j
  obtain ⟨r, d, rfl⟩ : ∃ (r : Fin 1024) (d : Fin 1024), j = ix2 r d := ⟨j 0, j 1, eq_ix2 j⟩
  rw [rows_eq m c x0 x1 x2 h0 h1 h2]
  exact flat_eq x0 x1 x2 _ (val_main_v2 (F := Ideal) x0 x1 x2 x3) _ (ref_h x0 x1 x2 x3) r d

include h0 h1 h2 h3 h4 h5

theorem eq13 : (dats m 0 c).arrAt 13 cfg0.N = val_main_v55 (F := Ideal) x0 x1 x2 x3 x4 x5 := by
  rw [arr13, wa_eq m c x3 h3, wb_eq m c x3 h3, g_eq m c x4 h4, w_eq m c x5 h5]
  funext j
  obtain ⟨r, d, rfl⟩ : ∃ (r : Fin 1024) (d : Fin 256), j = ix2 r d := ⟨j 0, j 1, eq_ix2 j⟩
  rw [rows_eq m c x0 x1 x2 h0 h1 h2 (rV (tA x3) (tB x3) (tG x4) (tW x5))]
  exact flat_eq x0 x1 x2 (rV (tA x3) (tB x3) (tG x4) (tW x5)) (val_main_v19 (F := Ideal) x0 x1 x2 x3 x4 x5) _ (ref_v x0 x1 x2 x3 x4 x5) r d

theorem eq14 : (dats m 0 c).arrAt 14 cfg0.N = val_main_v56 (F := Ideal) x0 x1 x2 x3 x4 x5 := by
  rw [arr14, wa_eq m c x3 h3, wb_eq m c x3 h3, g_eq m c x4 h4, w_eq m c x5 h5]
  funext j
  obtain ⟨r, d, rfl⟩ : ∃ (r : Fin 1024) (d : Fin 1024), j = ix2 r d := ⟨j 0, j 1, eq_ix2 j⟩
  rw [rows_eq m c x0 x1 x2 h0 h1 h2]
  exact flat_eq x0 x1 x2 _ (val_main_v51 (F := Ideal) x0 x1 x2 x3 x4 x5) _ (ref_g x0 x1 x2 x3 x4 x5) r d

theorem eq16 : (dats m 0 c).arrAt 16 cfg0.N = val_main_v59 (F := Ideal) x0 x1 x2 x3 x4 x5 := by
  rw [arr16, ← arr13]
  exact eq13 m c x0 x1 x2 x3 x4 x5 h0 h1 h2 h3 h4 h5

variable (hg : ∀ k : Fin 1024, ∃ y : ℝ, x4 (ix1 k) = (y : EReal)) (hw : ∀ (k : Fin 1024) (d : Fin 2560), d.val < 1280 → ∃ y : ℝ, x5 (ix2 k d) = (y : EReal))
include hg hw

theorem eq11 (h6 : m ((c : Thread nD τ).loc main_arg6) = x6) : (dats m 0 c).arrAt 11 cfg0.N = val_main_v57 (F := Ideal) x0 x1 x2 x3 x4 x5 x6 := by
  rw [arr11 m c (v23 m c) (fun k => by rw [v4, h4]; exact hg k) (fun k d h => by rw [v5, h5]; exact hw k d h),
    wa_eq m c x3 h3, wb_eq m c x3 h3, g_eq m c x4 h4, w_eq m c x5 h5,
    show gA (V m c main_v9) = tS x6 1024 from funext fun k => by subst h6; exact v9 m c k]
  funext j
  obtain ⟨r, d, rfl⟩ : ∃ (r : Fin 1024) (d : Fin 1024), j = ix2 r d := ⟨j 0, j 1, eq_ix2 j⟩
  rw [rows_eq m c x0 x1 x2 h0 h1 h2]
  show _ = val_main_v53 (F := Ideal) x0 x1 x2 x3 x4 x5 x6 (ix2 r d)
  exact flat_eq x0 x1 x2 _ (val_main_v35 (F := Ideal) x0 x1 x2 x3 x4 x5 x6) _ (ref_q x0 x1 x2 x3 x4 x5 x6) r d

theorem eq12 (h7 : m ((c : Thread nD τ).loc main_arg7) = x7) : (dats m 0 c).arrAt 12 cfg0.N = val_main_v54 (F := Ideal) x0 x1 x2 x3 x4 x5 x7 := by
  rw [arr12 m c (v23 m c) (fun k => by rw [v4, h4]; exact hg k) (fun k d h => by rw [v5, h5]; exact hw k d h),
    wa_eq m c x3 h3, wb_eq m c x3 h3, g_eq m c x4 h4, w_eq m c x5 h5,
    show kA (V m c main_v13) = tS x7 256 from funext fun k => by subst h7; exact v13 m c k]
  funext j
  obtain ⟨r, d, rfl⟩ : ∃ (r : Fin 1024) (d : Fin 256), j = ix2 r d := ⟨j 0, j 1, eq_ix2 j⟩
  rw [rows_eq m c x0 x1 x2 h0 h1 h2]
  exact flat_eq x0 x1 x2 _ (val_main_v50 (F := Ideal) x0 x1 x2 x3 x4 x5 x7) _ (ref_k x0 x1 x2 x3 x4 x5 x7) r d

theorem eq15 (h7 : m ((c : Thread nD τ).loc main_arg7) = x7) : (dats m 0 c).arrAt 15 cfg0.N = val_main_v58 (F := Ideal) x0 x1 x2 x3 x4 x5 x7 := by
  have e := eq12 m c x0 x1 x2 x3 x4 x5 x7 h0 h1 h2 h3 h4 h5 hg hw h7
  rw [arr12 m c (v23 m c) (fun k => by rw [v4, h4]; exact hg k) (fun k d h => by rw [v5, h5]; exact hw k d h)] at e
  rw [arr15 m c (v23 m c) (fun k => by rw [v4, h4]; exact hg k) (fun k d h => by rw [v5, h5]; exact hw k d h)]
  exact e

end Sides

/-- The shape facts of the precondition. -/
theorem preFacts : Cert.Pre_real_qk_weights_sample.Facts where
  bcast_S_S1024 := ⟨fun a => a.elim0, fun a => a.elim0⟩
  slices_S1024x2560_S1024x1280_0_0 := by decide
  bcast_S_S1024x1280 := ⟨fun a => a.elim0, fun a => a.elim0⟩

section Pre
open Cert.Pre_real_qk_weights_sample
variable [Cert.Pre_real_qk_weights_sample.Facts]

/-- What the precondition says: the norm's scale and the columns of the weights that make queries and keys are real numbers. -/
theorem reals (x0 : FVec Ideal ⟨3, ![128, 8, 1024]⟩ .f32) (x1 x2 : FVec Ideal ⟨3, ![128, 8, 512]⟩ .f32) (x3 : FVec Ideal ⟨2, ![1024, 1024]⟩ .f32) (x4 : FVec Ideal ⟨1, ![1024]⟩ .f32)
    (x5 : FVec Ideal ⟨2, ![1024, 2560]⟩ .f32) (x6 x7 : FVec Ideal ⟨1, ![64]⟩ .f32) (x8 x9 : FVec Ideal ⟨4, ![128, 128, 4, 64]⟩ .f32)
    (h : (fn (F := Ideal) x0 x1 x2 x3 x4 x5 x6 x7 x8 x9).1 = (fun _ => 1#1) ∧ (fn (F := Ideal) x0 x1 x2 x3 x4 x5 x6 x7 x8 x9).2 = (fun _ => 1#1)) :
    (∀ k : Fin 1024, ∃ y : ℝ, x4 (ix1 k) = (y : EReal)) ∧ ∀ (k : Fin 1024) (d : Fin 2560), d.val < 1280 → ∃ y : ℝ, x5 (ix2 k d) = (y : EReal) := by
  refine ⟨fun k => ⟨_, Sb.real_of_lt (x4 (ix1 k)) (congrFun h.1 (ix1 k))⟩, fun k d hd => ?_⟩
  have s : extractStridedSlice ⟨2, ![1024, 1280]⟩ ![0, 0] x5 Facts.slices_S1024x2560_S1024x1280_0_0 (ix2 k ⟨d.val, hd⟩) = x5 (ix2 k d) := by
    pointwise
  have e : FloatOps.cmpf .olt (FloatOps.hostAbsf (extractStridedSlice ⟨2, ![1024, 1280]⟩ ![0, 0] x5 Facts.slices_S1024x2560_S1024x1280_0_0 (ix2 k ⟨d.val, hd⟩)))
      (FloatOps.ofBits (F := Ideal) .f32 0x7F800000#32) = 1#1 := congrFun h.2 (ix2 k ⟨d.val, hd⟩)
  rw [s] at e
  exact ⟨_, Sb.real_of_lt _ e⟩

end Pre

end Cert.Proof.MiS
-- ==== Proof.Mi.SampleTail.lean ====
module

public import proofs.«01_k».proof.Proof.Mi.SampleEquation

/-! What the host makes of the sample group's new keys and values: the last 128 rows of the cached rows and the new ones. -/

@[expose] public section
set_option maxRecDepth 16384
noncomputable section
namespace Cert.Proof.MiS
open Idealize.ShloMosaic Idealize.ShloMosaic.Pointwise Idealize.ShloMosaic.TcCoe Idealize.SL.Sem Cert.MidSampleIdeal Cert.MidSampleIdeal.Gen Cert.Proof.Pr
open Cert.MidSampleRefIdeal.Read

/-- The last 128 of a sequence's 128 cached rows and its 8 new ones, the new rows given as rows of a flat array. -/
def window (x : FVec Ideal S128x128x4x64 .f32) (y : FVec Ideal S1024x256 .f32) : FVec Ideal S128x128x4x64 .f32 :=
  extractStridedSlice S128x128x4x64 ![0, 8, 0, 0] (concatenate S128x136x4x64 1 [⟨S128x128x4x64, x⟩,
    ⟨S128x8x4x64, shapeCast S128x8x4x64 (shapeCast S128x8x256 y shapeCasts_S1024x256_S128x8x256) shapeCasts_S128x8x256_S128x8x4x64⟩]
    concatenates_S128x128x4x64_S128x8x4x64_S128x136x4x64_d1) slices_S128x136x4x64_S128x128x4x64_0_8_0_0

section Host
variable (W : Valuation τ sig (Elt Ideal))

theorem host31 : StableHlo.after hostOps1 W (Proc.devRef .tc main_v31) = window (W (Proc.devRef .tc main_arg8)) (W (Proc.devRef .tc main_v27_2)) := by
  after_results
  rfl

theorem host35 : StableHlo.after hostOps1 W (Proc.devRef .tc main_v35) = window (W (Proc.devRef .tc main_arg9)) (W (Proc.devRef .tc main_v27_3)) := by
  after_results
  rfl

end Host

section Tail
variable (m : (ℓ : Loc nD τ sig) → Buf (Elt Ideal) ℓ) (c : Dev nD)

theorem tail31 : Pipeline.afterTail₀ cfgs (dats m) 0 (V0 m) [hostOps1] c main_v31 =
    window (m ((c : Thread nD τ).loc main_arg8)) ((dats m 0 c).arrAt 12 cfg0.N) := by
  unfold Pipeline.afterTail₀
  rw [show ([hostOps1] : List (List (HloOp τ sig (Elt Ideal)))).flatten = hostOps1 from rfl, host31,
    Pipeline.withArrays_of_ne _ c (V0 m c) _ main_arg8 (by exact (by decide : ∀ w, Pipeline.arrRef spec0 w ≠ main_arg8))]
  exact congrArg₂ window (V_main_arg8 m c) (Pipeline.withArrays_arr spec0 launch0.win.arr_inj c (V0 m c) (fun w => (dats m 0 c).arrAt w cfg0.N) 12)

theorem tail35 : Pipeline.afterTail₀ cfgs (dats m) 0 (V0 m) [hostOps1] c main_v35 =
    window (m ((c : Thread nD τ).loc main_arg9)) ((dats m 0 c).arrAt 13 cfg0.N) := by
  unfold Pipeline.afterTail₀
  rw [show ([hostOps1] : List (List (HloOp τ sig (Elt Ideal)))).flatten = hostOps1 from rfl, host35,
    Pipeline.withArrays_of_ne _ c (V0 m c) _ main_arg9 (by exact (by decide : ∀ w, Pipeline.arrRef spec0 w ≠ main_arg9))]
  exact congrArg₂ window (V_main_arg9 m c) (Pipeline.withArrays_arr spec0 launch0.win.arr_inj c (V0 m c) (fun w => (dats m 0 c).arrAt w cfg0.N) 13)

/-- The call's run with the host's lines after it: its seven arrays, the two windows of cached rows, and the arguments as they were. -/
theorem run (ρ : Dev nD → PrngReg) : θ_run defs (onTc (τ := τ) (main (F := Ideal))) ⟨m, fun _ => 0, ρ⟩ fun r => ∀ c : Dev nD,
      r.2.mem ((c : Thread nD τ).loc main_v27_0) = (dats m 0 c).arrAt 10 cfg0.N
      ∧ r.2.mem ((c : Thread nD τ).loc main_v27_1) = (dats m 0 c).arrAt 11 cfg0.N
      ∧ r.2.mem ((c : Thread nD τ).loc main_v27_2) = (dats m 0 c).arrAt 12 cfg0.N
      ∧ r.2.mem ((c : Thread nD τ).loc main_v27_3) = (dats m 0 c).arrAt 13 cfg0.N
      ∧ r.2.mem ((c : Thread nD τ).loc main_v27_4) = (dats m 0 c).arrAt 14 cfg0.N
      ∧ r.2.mem ((c : Thread nD τ).loc main_v27_5) = (dats m 0 c).arrAt 15 cfg0.N
      ∧ r.2.mem ((c : Thread nD τ).loc main_v27_6) = (dats m 0 c).arrAt 16 cfg0.N
      ∧ r.2.mem ((c : Thread nD τ).loc main_v31) = window (m ((c : Thread nD τ).loc main_arg8)) ((dats m 0 c).arrAt 12 cfg0.N)
      ∧ r.2.mem ((c : Thread nD τ).loc main_v35) = window (m ((c : Thread nD τ).loc main_arg9)) ((dats m 0 c).arrAt 13 cfg0.N) :=
  (θ_run defs _ _).mono (fun r h c => ⟨(h c).1 10, (h c).1 11, (h c).1 12, (h c).1 13, (h c).1 14, (h c).1 15, (h c).1 16,
      ((h c).2 main_v31 (Pipeline.mem_restRefs_of main_v31 (by decide) (by decide))).trans (tail31 m c),
      ((h c).2 main_v35 (Pipeline.mem_restRefs_of main_v35 (by decide) (by decide))).trans (tail35 m c)⟩)
    (run_main m ρ)

end Tail

section Ref
variable (x0 : FVec Ideal S128x8x1024 .f32) (x1 x2 : FVec Ideal S128x8x512 .f32) (x3 : FVec Ideal S1024x1024 .f32) (x4 : FVec Ideal S1024 .f32) (x5 : FVec Ideal S1024x2560 .f32)
variable (x7 : FVec Ideal S64 .f32) (x8 x9 : FVec Ideal S128x128x4x64 .f32)

/-- The reference reads its flat rows as heads at once, the host by way of the sequences. -/
theorem ref_k_window : window x8 (val_main_v54 (F := Ideal) x0 x1 x2 x3 x4 x5 x7) = val_main_v63 (F := Ideal) x0 x1 x2 x3 x4 x5 x7 x8 := by
  unfold window
  rw [shapeCast_comp]
  rfl

theorem ref_v_window : window x9 (val_main_v55 (F := Ideal) x0 x1 x2 x3 x4 x5) = val_main_v65 (F := Ideal) x0 x1 x2 x3 x4 x5 x9 := by
  unfold window
  rw [shapeCast_comp]
  rfl

end Ref

end Cert.Proof.MiS
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import Idealize.ShloMosaic.Adequacy
public import Idealize.ShloMosaic.Init
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.InprojRefIdeal.Run
public import proofs.«01_k».proof.Proof.Gen.InprojRefIdeal.Read
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.OutprojRefIdeal.Run
public import proofs.«01_k».proof.Proof.Gen.OutprojRefIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidRefIdeal.Run
public import proofs.«01_k».proof.Proof.Gen.MidRefIdeal.Read
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSample.Frame
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleRefIdeal
public import proofs.«01_k».proof.Proof.Gen.InprojSampleRefIdeal.Run
public import proofs.«01_k».proof.Proof.Gen.InprojSampleRefIdeal.Read
public import proofs.«01_k».proof.Proof.Gen.OutprojSample
public import proofs.«01_k».proof.Proof.Gen.OutprojSample.Skeleton
public import proofs.«01_k».proof.Proof.Gen.OutprojSample.Launch
public import proofs.«01_k».proof.Proof.Gen.OutprojSample.Points
public import proofs.«01_k».proof.Proof.Gen.OutprojSample.Frame
public import proofs.«01_k».proof.Proof.Gen.OutprojSampleIdeal
public import proofs.«01_k».proof.Proof.Gen.OutprojSampleIdeal.Skeleton
public import proofs.«01_k».proof.Proof.Gen.OutprojSampleIdeal.Launch
public import proofs.«01_k».proof.Proof.Gen.OutprojSampleIdeal.Points
public import proofs.«01_k».proof.Proof.Gen.OutprojSampleIdeal.Frame
public import proofs.«01_k».proof.Proof.Gen.OutprojSampleRefIdeal
public import proofs.«01_k».proof.Proof.Gen.OutprojSampleRefIdeal.Run
public import proofs.«01_k».proof.Proof.Gen.OutprojSampleRefIdeal.Read
public import proofs.«01_k».proof.Proof.Gen.MidSample
public import proofs.«01_k».proof.Proof.Gen.MidSample.Skeleton
public import proofs.«01_k».proof.Proof.Gen.MidSample.Launch
public import proofs.«01_k».proof.Proof.Gen.MidSample.Points
public import proofs.«01_k».proof.Proof.Gen.MidSample.Frame
public import proofs.«01_k».proof.Proof.Gen.MidSampleIdeal
public import proofs.«01_k».proof.Proof.Gen.MidSampleIdeal.Skeleton
public import proofs.«01_k».proof.Proof.Gen.MidSampleIdeal.Launch
public import proofs.«01_k».proof.Proof.Gen.MidSampleIdeal.Points
public import proofs.«01_k».proof.Proof.Gen.MidSampleIdeal.Frame
public import proofs.«01_k».proof.Proof.Gen.MidSampleRefIdeal
public import proofs.«01_k».proof.Proof.Gen.MidSampleRefIdeal.Run
public import proofs.«01_k».proof.Proof.Gen.MidSampleRefIdeal.Read
public import proofs.«01_k».proof.Proof.Sb.Real
public import proofs.«01_k».proof.Proof.In.Real
public import proofs.«01_k».proof.Proof.Op.Equation
public import proofs.«01_k».proof.Proof.Mi.Real
public import proofs.«01_k».proof.Proof.In.Tail
public import proofs.«01_k».proof.Proof.Op.Tail
public import proofs.«01_k».proof.Proof.Mi.Tail
public import proofs.«01_k».proof.Proof.In.SampleTail
public import proofs.«01_k».proof.Proof.Op.SampleTail
public import proofs.«01_k».proof.Proof.Mi.SampleTail

@[expose] public section

noncomputable section

namespace Cert.Proof

open Idealize.ShloMosaic Idealize.SL.Sem

/-- The kernel program runs, keeps its arguments and ends with its counters at zero. -/
theorem frame_kernel : Cert.quiescent_Kernel := fun m ρ _ => Cert.Kernel.Gen.frame m ρ

/-- The same over the extended reals. -/
theorem frame_kernelIdeal : Cert.quiescent_KernelIdeal := fun m ρ _ => Cert.KernelIdeal.Gen.frame m ρ

/-- The reference runs and keeps its arguments; it declares no semaphore. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constants are the numbers they stand for. -/
theorem constants : Cert.preserves_Kernel_KernelIdeal :=
  ⟨IdealRules.named_const.statement Cert.KernelIdeal.κ "qscale" .f32 0x3E0293EE#32 _ rfl,
    IdealRules.named_const.statement Cert.KernelIdeal.κ "log2e" .f32 0x3FB8AA3B#32 _ rfl⟩

/-- The kernel's array at real queries, keys and biases, as the reference's value of the arguments. -/
theorem array_eq (m : (ℓ : Loc Cert.KernelIdeal.nD Cert.KernelIdeal.τ Cert.KernelIdeal.sig) → Buf (Elt Ideal) ℓ) (c : Dev Cert.KernelIdeal.nD)
    (x0 x1 x2 x3 : FVec Ideal Cert.ReferenceIdeal.S2x8208x512 .f32) (x4 : FVec Ideal Cert.ReferenceIdeal.S4 .f32)
    (e0 : m ((c.tc : Thread Cert.KernelIdeal.nD Cert.KernelIdeal.τ).loc Cert.KernelIdeal.main_arg0) = x0)
    (e1 : m ((c.tc : Thread Cert.KernelIdeal.nD Cert.KernelIdeal.τ).loc Cert.KernelIdeal.main_arg1) = x1)
    (e2 : m ((c.tc : Thread Cert.KernelIdeal.nD Cert.KernelIdeal.τ).loc Cert.KernelIdeal.main_arg2) = x2)
    (e3 : m ((c.tc : Thread Cert.KernelIdeal.nD Cert.KernelIdeal.τ).loc Cert.KernelIdeal.main_arg3) = x3)
    (e4 : m ((c.tc : Thread Cert.KernelIdeal.nD Cert.KernelIdeal.τ).loc Cert.KernelIdeal.main_arg4) = x4)
    (hq : ∀ j, x0 j = ((EReal.toReal (x0 j) : ℝ) : EReal)) (hk : ∀ j, x1 j = ((EReal.toReal (x1 j) : ℝ) : EReal))
    (hb : ∀ j : Cert.ReferenceIdeal.S4.Idx, x4 j = ((EReal.toReal (x4 j) : ℝ) : EReal)) :
    (Cert.KernelIdeal.Gen.dats m 0 c).arrAt 6 Cert.KernelIdeal.cfg0.N
      = Cert.ReferenceIdeal.Read.val_main_v30 (F := Ideal) x0 x1 x2 x3 x4 := by
  have e := Sb.equation (Cert.KernelIdeal.Gen.V m c Cert.KernelIdeal.main_v7) (Sb.v7 m c) x0 x1 x2 x3 x4 _ _
    (fun h => EReal.toReal (x4 (ix1 h))) hq hk (fun h => hb (ix1 h))
  refine Eq.trans ?_ e
  subst e0 e1 e2 e3 e4
  rw [Sb.arr, Sb.v8, Sb.v10, Sb.v12, Sb.v13, Cert.KernelIdeal.Gen.V_main_arg4]

/-- On real queries, keys and biases the kernel's result is the reference's. -/
theorem value : Cert.algebraic_KernelIdeal_ReferenceIdeal_pre_real_scores (hPre_real_scores := Sb.preFacts) := by
  intro m ρ m' ρ' hpre hag
  refine ⟨fun c => (Cert.KernelIdeal.Gen.dats m 0 c).arrAt 6 Cert.KernelIdeal.cfg0.N,
    Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨hq, hk, hb⟩ := @Sb.reals Sb.preFacts _ _ _ _ _ (hpre c)
  rw [Cert.ReferenceIdeal.Read.val_main_v30_eq, (hag c).1, (hag c).2.1, (hag c).2.2.1, (hag c).2.2.2.1, (hag c).2.2.2.2]
  exact (array_eq m c _ _ _ _ _ rfl rfl rfl rfl rfl hq hk hb).symm

/-- The input projection runs and keeps its arguments. -/
theorem frame_inproj : Cert.quiescent_Inproj := fun m ρ _ => Cert.Inproj.Gen.frame m ρ

/-- The same over the extended reals. -/
theorem frame_inprojIdeal : Cert.quiescent_InprojIdeal := fun m ρ _ => Cert.InprojIdeal.Gen.frame m ρ

/-- The projection's reference runs and keeps its arguments. -/
theorem frame_inprojRefIdeal : Cert.quiescent_InprojRefIdeal := fun m ρ _ =>
  (θ_run Cert.InprojRefIdeal.defs _ _).mono
    (fun r h => ⟨fun c => (h c).2.2.2.2.2.2.2.2.2.2.2.2, Idealize.ShloMosaic.sem_eq_zero_of_no_sems (by decide) r.2⟩)
    (Cert.InprojRefIdeal.Value.run (F := Ideal) m ρ)

set_option maxHeartbeats 4000000 in
/-- The nine arrays of the input projection, and the keys, values and last rows that the host makes of three of them, are the reference's. -/
theorem value_inproj : Cert.algebraic_InprojIdeal_InprojRefIdeal_pre_real_ba_weights (hPre_real_ba_weights := In.preFacts) := by
  intro m ρ m' ρ' hpre hag
  refine ⟨fun c => (Cert.InprojIdeal.Gen.dats m 0 c).arrAt 4 Cert.InprojIdeal.cfg0.N, fun c => (Cert.InprojIdeal.Gen.dats m 0 c).arrAt 5 Cert.InprojIdeal.cfg0.N,
    fun c => (Cert.InprojIdeal.Gen.dats m 0 c).arrAt 6 Cert.InprojIdeal.cfg0.N, fun c => (Cert.InprojIdeal.Gen.dats m 0 c).arrAt 7 Cert.InprojIdeal.cfg0.N,
    fun c => (Cert.InprojIdeal.Gen.dats m 0 c).arrAt 8 Cert.InprojIdeal.cfg0.N, fun c => (Cert.InprojIdeal.Gen.dats m 0 c).arrAt 9 Cert.InprojIdeal.cfg0.N,
    fun c => (Cert.InprojIdeal.Gen.dats m 0 c).arrAt 10 Cert.InprojIdeal.cfg0.N, fun c => (Cert.InprojIdeal.Gen.dats m 0 c).arrAt 11 Cert.InprojIdeal.cfg0.N,
    fun c => (Cert.InprojIdeal.Gen.dats m 0 c).arrAt 12 Cert.InprojIdeal.cfg0.N, fun c => In.heads ((Cert.InprojIdeal.Gen.dats m 0 c).arrAt 7 Cert.InprojIdeal.cfg0.N),
    fun c => In.heads ((Cert.InprojIdeal.Gen.dats m 0 c).arrAt 8 Cert.InprojIdeal.cfg0.N), fun c => In.last ((Cert.InprojIdeal.Gen.dats m 0 c).arrAt 4 Cert.InprojIdeal.cfg0.N), ?_, ?_⟩
  · refine (θ_run Cert.InprojIdeal.defs _ _).mono (fun r h c => ?_) (θ_run_and (In.run m ρ) (Cert.InprojIdeal.Gen.unchanged m ρ))
    obtain ⟨p0, p1, p2, p3, p4, p5, p6, p7, p8, p9, p10, p11⟩ := h.1 c
    exact ⟨p0, p1, p2, p3, p4, p5, p6, p7, p8, p9, p10, p11, h.2 c⟩
  refine (θ_run Cert.InprojRefIdeal.defs _ _).mono (fun r h c => ?_) (Cert.InprojRefIdeal.Value.run (F := Ideal) m' ρ')
  obtain ⟨r0, r1, r2, r3, r4, r5, r6, r7, r8, r9, r10, r11, rest⟩ := h c
  obtain ⟨a0, a1, a2, a3⟩ := hag c
  obtain ⟨hg, hw⟩ := @In.reals In.preFacts _ _ _ _ (hpre c)
  rw [Cert.InprojRefIdeal.Read.val_main_v30_eq, a0, a1, a2, a3] at r0
  rw [Cert.InprojRefIdeal.Read.val_main_v32_eq, a0, a1, a2, a3] at r1
  rw [Cert.InprojRefIdeal.Read.val_main_v43_eq, a0, a1, a2, a3] at r2
  rw [Cert.InprojRefIdeal.Read.val_main_v36_eq, a0, a1, a2, a3] at r3
  rw [Cert.InprojRefIdeal.Read.val_main_v38_eq, a0, a1, a2, a3] at r4
  rw [Cert.InprojRefIdeal.Read.val_main_v40_eq, a0, a1, a2, a3] at r5
  rw [Cert.InprojRefIdeal.Read.val_main_v42_eq, a0, a1, a2, a3] at r6
  rw [Cert.InprojRefIdeal.Read.val_main_v44_eq, a0, a1, a2, a3] at r7
  rw [Cert.InprojRefIdeal.Read.val_main_v45_eq, a0, a1, a2, a3] at r8
  rw [Cert.InprojRefIdeal.Read.val_main_v46_eq, a0, a1, a2, a3] at r9
  rw [Cert.InprojRefIdeal.Read.val_main_v47_eq, a0, a1, a2, a3] at r10
  rw [Cert.InprojRefIdeal.Read.val_main_v50_eq, a0, a1, a2, a3] at r11
  have e4 := In.eq4 m c _ _ _ _ rfl rfl rfl rfl
  have e7 := In.eq7 m c _ _ _ _ rfl rfl rfl rfl
  have e8 := In.eq8 m c _ _ _ _ rfl rfl rfl rfl
  exact ⟨r0.trans e4.symm, r1.trans (In.eq5 m c _ _ _ _ rfl rfl rfl rfl).symm,
    r2.trans (In.eq6 m c _ _ _ _ rfl rfl rfl rfl).symm, r3.trans e7.symm,
    r4.trans e8.symm, r5.trans (In.eq9 m c _ _ _ _ rfl rfl rfl rfl).symm,
    r6.trans (In.eq10 m c _ _ _ _ rfl rfl rfl rfl hg hw).symm, r7.trans (In.eq11 m c _ _ _ _ rfl rfl rfl rfl).symm,
    r8.trans (In.eq12 m c _ _ _ _ rfl rfl rfl rfl).symm, r9.trans ((congrArg In.heads e7).trans (In.ref_k_heads _ _ _ _)).symm,
    r10.trans ((congrArg In.heads e8).trans (In.ref_v_heads _ _ _ _)).symm, r11.trans ((congrArg In.last e4).trans (In.ref_last _ _ _ _)).symm, rest⟩

/-- The output projection runs and keeps its arguments. -/
theorem frame_outproj : Cert.quiescent_Outproj := fun m ρ _ => Cert.Outproj.Gen.frame m ρ

/-- The same over the extended reals. -/
theorem frame_outprojIdeal : Cert.quiescent_OutprojIdeal := fun m ρ _ => Cert.OutprojIdeal.Gen.frame m ρ

/-- The projection's reference runs and keeps its arguments. -/
theorem frame_outprojRefIdeal : Cert.quiescent_OutprojRefIdeal := fun m ρ _ =>
  (θ_run Cert.OutprojRefIdeal.defs _ _).mono
    (fun r h => ⟨fun c => (h c).2.2, Idealize.ShloMosaic.sem_eq_zero_of_no_sems (by decide) r.2⟩)
    (Cert.OutprojRefIdeal.Value.run (F := Ideal) m ρ)

/-- The output projection's result, and the prompt's rows that the host cuts out of it, are the reference's. -/
theorem value_outproj : Cert.algebraic_OutprojIdeal_OutprojRefIdeal := by
  intro m ρ m' ρ' _ hag
  refine ⟨fun c => (Cert.OutprojIdeal.Gen.dats m 0 c).arrAt 3 Cert.OutprojIdeal.cfg0.N,
    fun c => Op.rows ((Cert.OutprojIdeal.Gen.dats m 0 c).arrAt 3 Cert.OutprojIdeal.cfg0.N), ?_, ?_⟩
  · refine (θ_run Cert.OutprojIdeal.defs _ _).mono (fun r h c => ?_) (θ_run_and (Op.run m ρ) (Cert.OutprojIdeal.Gen.unchanged m ρ))
    exact ⟨(h.1 c).1, (h.1 c).2, h.2 c⟩
  refine (θ_run Cert.OutprojRefIdeal.defs _ _).mono (fun r h c => ?_) (Cert.OutprojRefIdeal.Value.run (F := Ideal) m' ρ')
  obtain ⟨r0, r1, rest⟩ := h c
  obtain ⟨a0, a1, a2⟩ := hag c
  rw [Cert.OutprojRefIdeal.Read.val_main_v3_eq, a0, a1, a2] at r0
  rw [Cert.OutprojRefIdeal.Read.val_main_v4_eq, a0, a1, a2] at r1
  have e := Op.array_eq m c _ _ _ rfl rfl rfl
  exact ⟨r0.trans e.symm, r1.trans ((congrArg Op.rows e).trans (Op.ref_rows _ _ _)).symm, rest⟩

/-- The call between the layers runs and keeps its arguments. -/
theorem frame_mid : Cert.quiescent_Mid := fun m ρ _ => Cert.Mid.Gen.frame m ρ

/-- The same over the extended reals. -/
theorem frame_midIdeal : Cert.quiescent_MidIdeal := fun m ρ _ => Cert.MidIdeal.Gen.frame m ρ

/-- Its reference runs and keeps its arguments. -/
theorem frame_midRefIdeal : Cert.quiescent_MidRefIdeal := fun m ρ _ =>
  (θ_run Cert.MidRefIdeal.defs _ _).mono
    (fun r h => ⟨fun c => (h c).2.2.2.2.2.2.2.2.2.2.2, Idealize.ShloMosaic.sem_eq_zero_of_no_sems (by decide) r.2⟩)
    (Cert.MidRefIdeal.Value.run (F := Ideal) m ρ)

set_option maxHeartbeats 4000000 in
/-- The seven arrays of the call between the layers, and the rows that the host cuts out of its keys and values, are the reference's. -/
theorem value_mid : Cert.algebraic_MidIdeal_MidRefIdeal_pre_real_qk_weights (hPre_real_qk_weights := Mi.preFacts) := by
  intro m ρ m' ρ' hpre hag
  refine ⟨fun c => (Cert.MidIdeal.Gen.dats m 0 c).arrAt 10 Cert.MidIdeal.cfg0.N,
    fun c => (Cert.MidIdeal.Gen.dats m 0 c).arrAt 11 Cert.MidIdeal.cfg0.N,
    fun c => (Cert.MidIdeal.Gen.dats m 0 c).arrAt 12 Cert.MidIdeal.cfg0.N,
    fun c => (Cert.MidIdeal.Gen.dats m 0 c).arrAt 13 Cert.MidIdeal.cfg0.N,
    fun c => (Cert.MidIdeal.Gen.dats m 0 c).arrAt 14 Cert.MidIdeal.cfg0.N,
    fun c => (Cert.MidIdeal.Gen.dats m 0 c).arrAt 15 Cert.MidIdeal.cfg0.N,
    fun c => (Cert.MidIdeal.Gen.dats m 0 c).arrAt 16 Cert.MidIdeal.cfg0.N,
    fun c => Mi.window ((Cert.MidIdeal.Gen.dats m 0 c).arrAt 12 Cert.MidIdeal.cfg0.N), fun c => Mi.window ((Cert.MidIdeal.Gen.dats m 0 c).arrAt 13 Cert.MidIdeal.cfg0.N),
    fun c => Mi.firsts ((Cert.MidIdeal.Gen.dats m 0 c).arrAt 12 Cert.MidIdeal.cfg0.N), fun c => Mi.firsts ((Cert.MidIdeal.Gen.dats m 0 c).arrAt 13 Cert.MidIdeal.cfg0.N), ?_, ?_⟩
  · refine (θ_run Cert.MidIdeal.defs _ _).mono (fun r h c => ?_) (θ_run_and (Mi.run m ρ) (Cert.MidIdeal.Gen.unchanged m ρ))
    obtain ⟨p0, p1, p2, p3, p4, p5, p6, p7, p8, p9, p10⟩ := h.1 c
    exact ⟨p0, p1, p2, p3, p4, p5, p6, p7, p8, p9, p10, h.2 c⟩
  refine (θ_run Cert.MidRefIdeal.defs _ _).mono (fun r h c => ?_) (Cert.MidRefIdeal.Value.run (F := Ideal) m' ρ')
  obtain ⟨r0, r1, r2, r3, r4, r5, r6, r7, r8, r9, r10, rest⟩ := h c
  obtain ⟨a0, a1, a2, a3, a4, a5, a6, a7⟩ := hag c
  obtain ⟨hg, hw⟩ := @Mi.reals Mi.preFacts _ _ _ _ _ _ _ _ (hpre c)
  rw [Cert.MidRefIdeal.Read.val_main_v53_eq, a0, a1, a2, a3] at r0
  rw [Cert.MidRefIdeal.Read.val_main_v62_eq, a0, a1, a2, a3, a4, a5, a6] at r1
  rw [Cert.MidRefIdeal.Read.val_main_v57_eq, a0, a1, a2, a3, a4, a5, a7] at r2
  rw [Cert.MidRefIdeal.Read.val_main_v59_eq, a0, a1, a2, a3, a4, a5] at r3
  rw [Cert.MidRefIdeal.Read.val_main_v61_eq, a0, a1, a2, a3, a4, a5] at r4
  rw [Cert.MidRefIdeal.Read.val_main_v63_eq, a0, a1, a2, a3, a4, a5, a7] at r5
  rw [Cert.MidRefIdeal.Read.val_main_v64_eq, a0, a1, a2, a3, a4, a5] at r6
  rw [Cert.MidRefIdeal.Read.val_main_v67_eq, a0, a1, a2, a3, a4, a5, a7] at r7
  rw [Cert.MidRefIdeal.Read.val_main_v68_eq, a0, a1, a2, a3, a4, a5] at r8
  rw [Cert.MidRefIdeal.Read.val_main_v69_eq, a0, a1, a2, a3, a4, a5, a7] at r9
  rw [Cert.MidRefIdeal.Read.val_main_v70_eq, a0, a1, a2, a3, a4, a5] at r10
  have e12 := Mi.eq12 m c _ _ _ _ _ _ _ rfl rfl rfl rfl rfl rfl hg hw rfl
  have e13 := Mi.eq13 m c _ _ _ _ _ _ rfl rfl rfl rfl rfl rfl
  exact ⟨r0.trans (Mi.eq10 m c _ _ _ _ rfl rfl rfl rfl).symm, r1.trans (Mi.eq11 m c _ _ _ _ _ _ _ rfl rfl rfl rfl rfl rfl hg hw rfl).symm,
    r2.trans e12.symm, r3.trans e13.symm,
    r4.trans (Mi.eq14 m c _ _ _ _ _ _ rfl rfl rfl rfl rfl rfl).symm, r5.trans (Mi.eq15 m c _ _ _ _ _ _ _ rfl rfl rfl rfl rfl rfl hg hw rfl).symm,
    r6.trans (Mi.eq16 m c _ _ _ _ _ _ rfl rfl rfl rfl rfl rfl).symm,
    r7.trans ((congrArg Mi.window e12).trans (Mi.ref_k_window _ _ _ _ _ _ _)).symm, r8.trans ((congrArg Mi.window e13).trans (Mi.ref_v_window _ _ _ _ _ _)).symm,
    r9.trans ((congrArg Mi.firsts e12).trans (Mi.ref_k_firsts _ _ _ _ _ _ _)).symm, r10.trans ((congrArg Mi.firsts e13).trans (Mi.ref_v_firsts _ _ _ _ _ _)).symm, rest⟩

/-- The input projection runs on the sample group's rows and keeps its arguments. -/
theorem frame_inprojSample : Cert.quiescent_InprojSample := fun m ρ _ => Cert.InprojSample.Gen.frame m ρ

/-- The same over the extended reals. -/
theorem frame_inprojSampleIdeal : Cert.quiescent_InprojSampleIdeal := fun m ρ _ => Cert.InprojSampleIdeal.Gen.frame m ρ

/-- The projection's reference runs on these rows and keeps its arguments. -/
theorem frame_inprojSampleRefIdeal : Cert.quiescent_InprojSampleRefIdeal := fun m ρ _ =>
  (θ_run Cert.InprojSampleRefIdeal.defs _ _).mono
    (fun r h => ⟨fun c => (h c).2.2.2.2.2.2.2.2.2.2.2.2, Idealize.ShloMosaic.sem_eq_zero_of_no_sems (by decide) r.2⟩)
    (Cert.InprojSampleRefIdeal.Value.run (F := Ideal) m ρ)

set_option maxHeartbeats 4000000 in
/-- The nine arrays of the input projection on the sample group's rows, and the keys, values and rows before the convolution that the
host makes of three of them, are the reference's. -/
theorem value_inprojSample : Cert.algebraic_InprojSampleIdeal_InprojSampleRefIdeal_pre_real_ba_weights_sample (hPre_real_ba_weights_sample := InS.preFacts) := by
  intro m ρ m' ρ' hpre hag
  refine ⟨fun c => (Cert.InprojSampleIdeal.Gen.dats m 0 c).arrAt 4 Cert.InprojSampleIdeal.cfg0.N,
    fun c => (Cert.InprojSampleIdeal.Gen.dats m 0 c).arrAt 5 Cert.InprojSampleIdeal.cfg0.N,
    fun c => (Cert.InprojSampleIdeal.Gen.dats m 0 c).arrAt 6 Cert.InprojSampleIdeal.cfg0.N,
    fun c => (Cert.InprojSampleIdeal.Gen.dats m 0 c).arrAt 7 Cert.InprojSampleIdeal.cfg0.N,
    fun c => (Cert.InprojSampleIdeal.Gen.dats m 0 c).arrAt 8 Cert.InprojSampleIdeal.cfg0.N,
    fun c => (Cert.InprojSampleIdeal.Gen.dats m 0 c).arrAt 9 Cert.InprojSampleIdeal.cfg0.N,
    fun c => (Cert.InprojSampleIdeal.Gen.dats m 0 c).arrAt 10 Cert.InprojSampleIdeal.cfg0.N,
    fun c => (Cert.InprojSampleIdeal.Gen.dats m 0 c).arrAt 11 Cert.InprojSampleIdeal.cfg0.N,
    fun c => (Cert.InprojSampleIdeal.Gen.dats m 0 c).arrAt 12 Cert.InprojSampleIdeal.cfg0.N,
    fun c => InS.heads ((Cert.InprojSampleIdeal.Gen.dats m 0 c).arrAt 7 Cert.InprojSampleIdeal.cfg0.N),
    fun c => InS.heads ((Cert.InprojSampleIdeal.Gen.dats m 0 c).arrAt 8 Cert.InprojSampleIdeal.cfg0.N),
    fun c => InS.last (m ((c.tc : Thread Cert.InprojSampleIdeal.nD Cert.InprojSampleIdeal.τ).loc Cert.InprojSampleIdeal.main_arg3)) ((Cert.InprojSampleIdeal.Gen.dats m 0 c).arrAt 4 Cert.InprojSampleIdeal.cfg0.N), ?_, ?_⟩
  · refine (θ_run Cert.InprojSampleIdeal.defs _ _).mono (fun r h c => ?_) (θ_run_and (InS.run m ρ) (Cert.InprojSampleIdeal.Gen.unchanged m ρ))
    obtain ⟨p0, p1, p2, p3, p4, p5, p6, p7, p8, p9, p10, p11⟩ := h.1 c
    exact ⟨p0, p1, p2, p3, p4, p5, p6, p7, p8, p9, p10, p11, h.2 c⟩
  refine (θ_run Cert.InprojSampleRefIdeal.defs _ _).mono (fun r h c => ?_) (Cert.InprojSampleRefIdeal.Value.run (F := Ideal) m' ρ')
  obtain ⟨r0, r1, r2, r3, r4, r5, r6, r7, r8, r9, r10, r11, rest⟩ := h c
  obtain ⟨a0, a1, a2, a3⟩ := hag c
  obtain ⟨hg, hw⟩ := @InS.reals InS.preFacts _ _ _ _ (hpre c)
  rw [Cert.InprojSampleRefIdeal.Read.val_main_v26_eq, a0, a1, a2] at r0
  rw [Cert.InprojSampleRefIdeal.Read.val_main_v27_eq, a0, a1, a2] at r1
  rw [Cert.InprojSampleRefIdeal.Read.val_main_v33_eq, a0, a1, a2] at r2
  rw [Cert.InprojSampleRefIdeal.Read.val_main_v29_eq, a0, a1, a2] at r3
  rw [Cert.InprojSampleRefIdeal.Read.val_main_v30_eq, a0, a1, a2] at r4
  rw [Cert.InprojSampleRefIdeal.Read.val_main_v31_eq, a0, a1, a2] at r5
  rw [Cert.InprojSampleRefIdeal.Read.val_main_v32_eq, a0, a1, a2] at r6
  rw [Cert.InprojSampleRefIdeal.Read.val_main_v34_eq, a0, a1, a2] at r7
  rw [Cert.InprojSampleRefIdeal.Read.val_main_v35_eq, a0, a1, a2] at r8
  rw [Cert.InprojSampleRefIdeal.Read.val_main_v36_eq, a0, a1, a2] at r9
  rw [Cert.InprojSampleRefIdeal.Read.val_main_v37_eq, a0, a1, a2] at r10
  rw [Cert.InprojSampleRefIdeal.Read.val_main_v40_eq, a0, a1, a2, a3] at r11
  have e4 := InS.eq4 m c _ _ _ rfl rfl rfl
  have e7 := InS.eq7 m c _ _ _ rfl rfl rfl
  have e8 := InS.eq8 m c _ _ _ rfl rfl rfl
  exact ⟨r0.trans e4.symm, r1.trans (InS.eq5 m c _ _ _ rfl rfl rfl).symm, r2.trans (InS.eq6 m c _ _ _ rfl rfl rfl).symm,
    r3.trans e7.symm, r4.trans e8.symm, r5.trans (InS.eq9 m c _ _ _ rfl rfl rfl).symm,
    r6.trans (InS.eq10 m c _ _ _ rfl rfl rfl hg hw).symm, r7.trans (InS.eq11 m c _ _ _ rfl rfl rfl).symm, r8.trans (InS.eq12 m c _ _ _ rfl rfl rfl).symm,
    r9.trans ((congrArg InS.heads e7).trans (InS.ref_k_heads _ _ _)).symm, r10.trans ((congrArg InS.heads e8).trans (InS.ref_v_heads _ _ _)).symm,
    r11.trans ((congrArg (InS.last _) e4).trans (InS.ref_last _ _ _ _)).symm, rest⟩

/-- The output projection runs on the sample group's rows and keeps its arguments. -/
theorem frame_outprojSample : Cert.quiescent_OutprojSample := fun m ρ _ => Cert.OutprojSample.Gen.frame m ρ

/-- The same over the extended reals. -/
theorem frame_outprojSampleIdeal : Cert.quiescent_OutprojSampleIdeal := fun m ρ _ => Cert.OutprojSampleIdeal.Gen.frame m ρ

/-- The projection's reference runs on these rows and keeps its arguments. -/
theorem frame_outprojSampleRefIdeal : Cert.quiescent_OutprojSampleRefIdeal := fun m ρ _ =>
  (θ_run Cert.OutprojSampleRefIdeal.defs _ _).mono
    (fun r h => ⟨fun c => (h c).2.2, Idealize.ShloMosaic.sem_eq_zero_of_no_sems (by decide) r.2⟩)
    (Cert.OutprojSampleRefIdeal.Value.run (F := Ideal) m ρ)

/-- The output projection's result on the sample group's rows, and the sequences that the host makes of it, are the reference's. -/
theorem value_outprojSample : Cert.algebraic_OutprojSampleIdeal_OutprojSampleRefIdeal := by
  intro m ρ m' ρ' _ hag
  refine ⟨fun c => (Cert.OutprojSampleIdeal.Gen.dats m 0 c).arrAt 3 Cert.OutprojSampleIdeal.cfg0.N,
    fun c => OpS.steps ((Cert.OutprojSampleIdeal.Gen.dats m 0 c).arrAt 3 Cert.OutprojSampleIdeal.cfg0.N), ?_, ?_⟩
  · refine (θ_run Cert.OutprojSampleIdeal.defs _ _).mono (fun r h c => ?_) (θ_run_and (OpS.run m ρ) (Cert.OutprojSampleIdeal.Gen.unchanged m ρ))
    exact ⟨(h.1 c).1, (h.1 c).2, h.2 c⟩
  refine (θ_run Cert.OutprojSampleRefIdeal.defs _ _).mono (fun r h c => ?_) (Cert.OutprojSampleRefIdeal.Value.run (F := Ideal) m' ρ')
  obtain ⟨r0, r1, rest⟩ := h c
  obtain ⟨a0, a1, a2⟩ := hag c
  rw [Cert.OutprojSampleRefIdeal.Read.val_main_v2_eq, a0, a1, a2] at r0
  rw [Cert.OutprojSampleRefIdeal.Read.val_main_v1_eq, a0, a1, a2] at r1
  have e := OpS.array_eq m c _ _ _ rfl rfl rfl
  exact ⟨r0.trans e.symm, r1.trans ((congrArg OpS.steps e).trans (OpS.ref_steps _ _ _)).symm, rest⟩

/-- The call between the layers runs on the sample group's rows and keeps its arguments. -/
theorem frame_midSample : Cert.quiescent_MidSample := fun m ρ _ => Cert.MidSample.Gen.frame m ρ

/-- The same over the extended reals. -/
theorem frame_midSampleIdeal : Cert.quiescent_MidSampleIdeal := fun m ρ _ => Cert.MidSampleIdeal.Gen.frame m ρ

/-- Its reference runs on these rows and keeps its arguments. -/
theorem frame_midSampleRefIdeal : Cert.quiescent_MidSampleRefIdeal := fun m ρ _ =>
  (θ_run Cert.MidSampleRefIdeal.defs _ _).mono
    (fun r h => ⟨fun c => (h c).2.2.2.2.2.2.2.2.2, Idealize.ShloMosaic.sem_eq_zero_of_no_sems (by decide) r.2⟩)
    (Cert.MidSampleRefIdeal.Value.run (F := Ideal) m ρ)

set_option maxHeartbeats 4000000 in
/-- The seven arrays of the call between the layers on the sample group's rows, and the windows of cached keys and values that the
host makes of two of them, are the reference's. -/
theorem value_midSample : Cert.algebraic_MidSampleIdeal_MidSampleRefIdeal_pre_real_qk_weights_sample (hPre_real_qk_weights_sample := MiS.preFacts) := by
  intro m ρ m' ρ' hpre hag
  refine ⟨fun c => (Cert.MidSampleIdeal.Gen.dats m 0 c).arrAt 10 Cert.MidSampleIdeal.cfg0.N,
    fun c => (Cert.MidSampleIdeal.Gen.dats m 0 c).arrAt 11 Cert.MidSampleIdeal.cfg0.N,
    fun c => (Cert.MidSampleIdeal.Gen.dats m 0 c).arrAt 12 Cert.MidSampleIdeal.cfg0.N,
    fun c => (Cert.MidSampleIdeal.Gen.dats m 0 c).arrAt 13 Cert.MidSampleIdeal.cfg0.N,
    fun c => (Cert.MidSampleIdeal.Gen.dats m 0 c).arrAt 14 Cert.MidSampleIdeal.cfg0.N,
    fun c => (Cert.MidSampleIdeal.Gen.dats m 0 c).arrAt 15 Cert.MidSampleIdeal.cfg0.N,
    fun c => (Cert.MidSampleIdeal.Gen.dats m 0 c).arrAt 16 Cert.MidSampleIdeal.cfg0.N,
    fun c => MiS.window (m ((c.tc : Thread Cert.MidSampleIdeal.nD Cert.MidSampleIdeal.τ).loc Cert.MidSampleIdeal.main_arg8)) ((Cert.MidSampleIdeal.Gen.dats m 0 c).arrAt 12 Cert.MidSampleIdeal.cfg0.N),
    fun c => MiS.window (m ((c.tc : Thread Cert.MidSampleIdeal.nD Cert.MidSampleIdeal.τ).loc Cert.MidSampleIdeal.main_arg9)) ((Cert.MidSampleIdeal.Gen.dats m 0 c).arrAt 13 Cert.MidSampleIdeal.cfg0.N), ?_, ?_⟩
  · refine (θ_run Cert.MidSampleIdeal.defs _ _).mono (fun r h c => ?_) (θ_run_and (MiS.run m ρ) (Cert.MidSampleIdeal.Gen.unchanged m ρ))
    obtain ⟨p0, p1, p2, p3, p4, p5, p6, p7, p8⟩ := h.1 c
    exact ⟨p0, p1, p2, p3, p4, p5, p6, p7, p8, h.2 c⟩
  refine (θ_run Cert.MidSampleRefIdeal.defs _ _).mono (fun r h c => ?_) (Cert.MidSampleRefIdeal.Value.run (F := Ideal) m' ρ')
  obtain ⟨r0, r1, r2, r3, r4, r5, r6, r7, r8, rest⟩ := h c
  obtain ⟨a0, a1, a2, a3, a4, a5, a6, a7, a8, a9⟩ := hag c
  obtain ⟨hg, hw⟩ := @MiS.reals MiS.preFacts _ _ _ _ _ _ _ _ _ _ (hpre c)
  rw [Cert.MidSampleRefIdeal.Read.val_main_v52_eq, a0, a1, a2, a3] at r0
  rw [Cert.MidSampleRefIdeal.Read.val_main_v57_eq, a0, a1, a2, a3, a4, a5, a6] at r1
  rw [Cert.MidSampleRefIdeal.Read.val_main_v54_eq, a0, a1, a2, a3, a4, a5, a7] at r2
  rw [Cert.MidSampleRefIdeal.Read.val_main_v55_eq, a0, a1, a2, a3, a4, a5] at r3
  rw [Cert.MidSampleRefIdeal.Read.val_main_v56_eq, a0, a1, a2, a3, a4, a5] at r4
  rw [Cert.MidSampleRefIdeal.Read.val_main_v58_eq, a0, a1, a2, a3, a4, a5, a7] at r5
  rw [Cert.MidSampleRefIdeal.Read.val_main_v59_eq, a0, a1, a2, a3, a4, a5] at r6
  rw [Cert.MidSampleRefIdeal.Read.val_main_v63_eq, a0, a1, a2, a3, a4, a5, a7, a8] at r7
  rw [Cert.MidSampleRefIdeal.Read.val_main_v65_eq, a0, a1, a2, a3, a4, a5, a9] at r8
  have e12 := MiS.eq12 m c _ _ _ _ _ _ _ rfl rfl rfl rfl rfl rfl hg hw rfl
  have e13 := MiS.eq13 m c _ _ _ _ _ _ rfl rfl rfl rfl rfl rfl
  exact ⟨r0.trans (MiS.eq10 m c _ _ _ _ rfl rfl rfl rfl).symm, r1.trans (MiS.eq11 m c _ _ _ _ _ _ _ rfl rfl rfl rfl rfl rfl hg hw rfl).symm,
    r2.trans e12.symm, r3.trans e13.symm,
    r4.trans (MiS.eq14 m c _ _ _ _ _ _ rfl rfl rfl rfl rfl rfl).symm, r5.trans (MiS.eq15 m c _ _ _ _ _ _ _ rfl rfl rfl rfl rfl rfl hg hw rfl).symm,
    r6.trans (MiS.eq16 m c _ _ _ _ _ _ rfl rfl rfl rfl rfl rfl).symm,
    r7.trans ((congrArg (MiS.window _) e12).trans (MiS.ref_k_window _ _ _ _ _ _ _ _)).symm,
    r8.trans ((congrArg (MiS.window _) e13).trans (MiS.ref_v_window _ _ _ _ _ _ _)).symm, rest⟩

/-- The claims together. -/
theorem claim : Cert.Claim :=
  ⟨Cert.Kernel.Gen.facts, Cert.KernelIdeal.Gen.facts, Cert.ReferenceIdeal.Gen.facts,
    Cert.Inproj.Gen.facts, Cert.InprojIdeal.Gen.facts, Cert.InprojRefIdeal.Gen.facts,
    Cert.Outproj.Gen.facts, Cert.OutprojIdeal.Gen.facts, Cert.OutprojRefIdeal.Gen.facts,
    Cert.Mid.Gen.facts, Cert.MidIdeal.Gen.facts, Cert.MidRefIdeal.Gen.facts,
    Cert.InprojSample.Gen.facts, Cert.InprojSampleIdeal.Gen.facts, Cert.InprojSampleRefIdeal.Gen.facts,
    Cert.OutprojSample.Gen.facts, Cert.OutprojSampleIdeal.Gen.facts, Cert.OutprojSampleRefIdeal.Gen.facts,
    Cert.MidSample.Gen.facts, Cert.MidSampleIdeal.Gen.facts, Cert.MidSampleRefIdeal.Gen.facts,
    Sb.preFacts, In.preFacts, Mi.preFacts, InS.preFacts, MiS.preFacts,
    frame_kernel, frame_kernelIdeal, fun m ρ _ => frame_kernelIdeal m ρ trivial, frame_referenceIdeal,
    fun m ρ _ => frame_referenceIdeal m ρ trivial,
    frame_inproj, frame_inprojIdeal, fun m ρ _ => frame_inprojIdeal m ρ trivial, frame_inprojRefIdeal,
    fun m ρ _ => frame_inprojRefIdeal m ρ trivial,
    frame_outproj, frame_outprojIdeal, frame_outprojRefIdeal,
    frame_mid, frame_midIdeal, fun m ρ _ => frame_midIdeal m ρ trivial, frame_midRefIdeal,
    fun m ρ _ => frame_midRefIdeal m ρ trivial,
    frame_inprojSample, frame_inprojSampleIdeal, fun m ρ _ => frame_inprojSampleIdeal m ρ trivial, frame_inprojSampleRefIdeal,
    fun m ρ _ => frame_inprojSampleRefIdeal m ρ trivial,
    frame_outprojSample, frame_outprojSampleIdeal, frame_outprojSampleRefIdeal,
    frame_midSample, frame_midSampleIdeal, fun m ρ _ => frame_midSampleIdeal m ρ trivial, frame_midSampleRefIdeal,
    fun m ρ _ => frame_midSampleRefIdeal m ρ trivial, constants, value,
    trivial, value_inproj, trivial, value_outproj, trivial, value_mid,
    trivial, value_inprojSample, trivial, value_outprojSample, trivial, value_midSample⟩

end Cert.Proof

end
